-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_counts_of_choices [hPre_counts_of_choices : Cert.Pre_counts_of_choices.Facts] (m : (ℓ : Loc Cert.KernelIdeal.nD Cert.KernelIdeal.τ Cert.KernelIdeal.sig) → Buf (Elt Ideal) ℓ) : Prop :=
  ∀ c : Dev Cert.KernelIdeal.nD,
    (Cert.Pre_counts_of_choices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_of_choices [hPre_counts_of_choices : Cert.Pre_counts_of_choices.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_of_choices.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_rows_of_experts : Cert.Pre_rows_of_experts.Facts] (m : (ℓ : Loc Cert.Kernel3.nD Cert.Kernel3.τ Cert.Kernel3.sig) → Buf (Elt Bits) ℓ) : Prop :=
  ∀ c : Dev Cert.Kernel3.nD,
    (Cert.Pre_rows_of_experts.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3))) = (fun _ => 1#1)

def Pre_Kernel3Ideal [hPre_rows_of_experts : Cert.Pre_rows_of_experts.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_rows_of_experts.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_rows_of_experts [hPre_rows_of_experts : Cert.Pre_rows_of_experts.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_rows_of_experts.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_counts_of_choices [hKernelIdeal : Cert.KernelIdeal.Facts] [hPre_counts_of_choices : Cert.Pre_counts_of_choices.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counts_of_choices m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_counts_of_choices [hReferenceIdeal : Cert.ReferenceIdeal.Facts] [hPre_counts_of_choices : Cert.Pre_counts_of_choices.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_of_choices m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] [hPre_rows_of_experts : Cert.Pre_rows_of_experts.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] [hPre_rows_of_experts : Cert.Pre_rows_of_experts.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_rows_of_experts [hReference3Ideal : Cert.Reference3Ideal.Facts] [hPre_rows_of_experts : Cert.Pre_rows_of_experts.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_rows_of_experts m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def preserves_Kernel_KernelIdeal : Prop :=
  True

def algebraic_KernelIdeal_ReferenceIdeal_pre_counts_of_choices [hKernelIdeal : Cert.KernelIdeal.Facts] [hReferenceIdeal : Cert.ReferenceIdeal.Facts] [hPre_counts_of_choices : Cert.Pre_counts_of_choices.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_counts_of_choices m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v27_0)) (v1 : (c : Dev Cert.Kernel2Ideal.nD) → Buf (Elt Ideal) ((c.tc : Thread Cert.Kernel2Ideal.nD Cert.Kernel2Ideal.τ).loc Cert.Kernel2Ideal.main_v27_1)) (v2 : (c : Dev Cert.Kernel2Ideal.nD) → Buf (Elt Ideal) ((c.tc : Thread Cert.Kernel2Ideal.nD Cert.Kernel2Ideal.τ).loc Cert.Kernel2Ideal.main_v27_2)) (v3 : (c : Dev Cert.Kernel2Ideal.nD) → Buf (Elt Ideal) ((c.tc : Thread Cert.Kernel2Ideal.nD Cert.Kernel2Ideal.τ).loc Cert.Kernel2Ideal.main_v27_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27_0) = v0 c
          ∧ r.2.mem ((c.tc : Thread Cert.Kernel2Ideal.nD Cert.Kernel2Ideal.τ).loc Cert.Kernel2Ideal.main_v27_1) = v1 c
          ∧ r.2.mem ((c.tc : Thread Cert.Kernel2Ideal.nD Cert.Kernel2Ideal.τ).loc Cert.Kernel2Ideal.main_v27_2) = v2 c
          ∧ r.2.mem ((c.tc : Thread Cert.Kernel2Ideal.nD Cert.Kernel2Ideal.τ).loc Cert.Kernel2Ideal.main_v27_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v72) = v1 c
          ∧ r.2.mem ((c.tc : Thread Cert.Reference2Ideal.nD Cert.Reference2Ideal.τ).loc Cert.Reference2Ideal.main_v75) = v2 c
          ∧ r.2.mem ((c.tc : Thread Cert.Reference2Ideal.nD Cert.Reference2Ideal.τ).loc Cert.Reference2Ideal.main_v78) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] [hPre_rows_of_experts : Cert.Pre_rows_of_experts.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_counts_of_choices : Cert.Pre_counts_of_choices.Facts) (hPre_rows_of_experts : Cert.Pre_rows_of_experts.Facts),
    quiescent_Kernel (hKernel := hKernel)
    ∧ quiescent_KernelIdeal (hKernelIdeal := hKernelIdeal)
    ∧ quiescent_KernelIdeal_pre_counts_of_choices (hKernelIdeal := hKernelIdeal) (hPre_counts_of_choices := hPre_counts_of_choices)
    ∧ quiescent_ReferenceIdeal (hReferenceIdeal := hReferenceIdeal)
    ∧ quiescent_ReferenceIdeal_pre_counts_of_choices (hReferenceIdeal := hReferenceIdeal) (hPre_counts_of_choices := hPre_counts_of_choices)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_rows_of_experts := hPre_rows_of_experts)
    ∧ quiescent_Kernel3Ideal (hKernel3Ideal := hKernel3Ideal) (hPre_rows_of_experts := hPre_rows_of_experts)
    ∧ quiescent_Reference3Ideal (hReference3Ideal := hReference3Ideal)
    ∧ quiescent_Reference3Ideal_pre_rows_of_experts (hReference3Ideal := hReference3Ideal) (hPre_rows_of_experts := hPre_rows_of_experts)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_counts_of_choices (hKernelIdeal := hKernelIdeal) (hReferenceIdeal := hReferenceIdeal) (hPre_counts_of_choices := hPre_counts_of_choices)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_rows_of_experts := hPre_rows_of_experts)
    ∧ preserves_Kernel4_Kernel4Ideal
    ∧ algebraic_Kernel4Ideal_Reference4Ideal (hKernel4Ideal := hKernel4Ideal) (hReference4Ideal := hReference4Ideal)
-- ==== Pre_counts_of_choices.lean ====
abbrev S1081344x128 : Shape := ⟨2, ![1081344, 128]⟩
abbrev S8 : Shape := ⟨1, ![8]⟩
abbrev S1x8x1024x3584 : Shape := ⟨4, ![1, 8, 1024, 3584]⟩
abbrev S1x8x3584x1024 : Shape := ⟨4, ![1, 8, 3584, 1024]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1081344x128 .f32) (main_arg1 : IVec S8 32) (main_arg2 : FVec F S1x8x1024x3584 .f32) (main_arg3 : FVec F S1x8x1024x3584 .f32) (main_arg4 : FVec F S1x8x3584x1024 .f32) : IVec S8 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 131072#32
  let main_v2 : IVec S8 32 := broadcastInDim S8 ![] bcast_S_S8 main_c_0
  let main_v3 : IVec S8 1 := cmpi .sle main_arg1 main_v2
  let main_v4 : IVec S8 1 := andi main_v1 main_v3
  main_v4
-- ==== Pre_rows_of_experts.lean ====
abbrev S65536x1024 : Shape := ⟨2, ![65536, 1024]⟩
abbrev S65536x8 : Shape := ⟨2, ![65536, 8]⟩
abbrev S2x65536 : Shape := ⟨2, ![2, 65536]⟩
abbrev S1081344x128 : Shape := ⟨2, ![1081344, 128]⟩
abbrev S_ : Shape := ⟨0, ![]⟩

class Facts : Prop where
  bcast_S_S2x65536 : S_.BroadcastsInDim S2x65536 (![] : Fin 0 → Fin S2x65536.rank)

variable [Facts]

def fn {F : FTy → Type} [FloatOps F] (main_arg0 : FVec F S65536x1024 .f32) (main_arg1 : FVec F S65536x8 .f32) (main_arg2 : IVec S2x65536 32) (main_arg3 : FVec F S1081344x128 .f32) : IVec S2x65536 1 :=
  let main_c : IVec S_ 32 := constantI S_ 32 0#32
  let main_v0 : IVec S2x65536 32 := broadcastInDim S2x65536 ![] bcast_S_S2x65536 main_c
  let main_v1 : IVec S2x65536 1 := cmpi .sge main_arg2 main_v0
  let main_c_0 : IVec S_ 32 := constantI S_ 32 135168#32
  let main_v2 : IVec S2x65536 32 := broadcastInDim S2x65536 ![] bcast_S_S2x65536 main_c_0
  let main_v3 : IVec S2x65536 1 := cmpi .slt main_arg2 main_v2
  let main_v4 : IVec S2x65536 1 := andi main_v1 main_v3
  main_v4
-- ==== Kernel.lean ====
abbrev S1081344x128 : Shape := ⟨2, ![1081344, 128]⟩
abbrev S8 : Shape := ⟨1, ![8]⟩
abbrev S1x8x1024x3584 : Shape := ⟨4, ![1, 8, 1024, 3584]⟩
abbrev S1x8x3584x1024 : Shape := ⟨4, ![1, 8, 3584, 1024]⟩
abbrev S_ : Shape := ⟨0, ![]⟩
abbrev S264 : Shape := ⟨1, ![264]⟩
abbrev S1 : Shape := ⟨1, ![1]⟩
abbrev S264x1 : Shape := ⟨2, ![264, 1]⟩
abbrev S1x8 : Shape := ⟨2, ![1, 8]⟩
abbrev S264x8 : Shape := ⟨2, ![264, 8]⟩
abbrev S8x1024x3584 : Shape := ⟨3, ![8, 1024, 3584]⟩
abbrev S8x3584x1024 : Shape := ⟨3, ![8, 3584, 1024]⟩
abbrev S4096x128 : Shape := ⟨2, ![4096, 128]⟩
abbrev S1x1024x3584 : Shape := ⟨3, ![1, 1024, 3584]⟩
abbrev S1x3584x1024 : Shape := ⟨3, ![1, 3584, 1024]⟩
abbrev S512x128 : Shape := ⟨2, ![512, 128]⟩
abbrev S512x1024 : Shape := ⟨2, ![512, 1024]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩

abbrev nBuf : Space → Nat
  | .hbm => 62
  | .vmem => 7
  | .smem => 2
  | _ => 0

abbrev bufTy : (tb : Table) → Fin (tcTables nBuf tb) → BufTy
  | .hbm, ⟨0, _⟩ => ⟨S1081344x128, .f32⟩
  | .hbm, ⟨1, _⟩ => ⟨S8, .i32⟩
  | .hbm, ⟨2, _⟩ => ⟨S1x8x1024x3584, .f32⟩
  | .hbm, ⟨3, _⟩ => ⟨S1x8x1024x3584, .f32⟩
  | .hbm, ⟨4, _⟩ => ⟨S1x8x3584x1024, .f32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S_, .i32⟩
  | .hbm, ⟨31, _⟩ => ⟨S8, .i32⟩
  | .hbm, ⟨32, _⟩ => ⟨S264, .i32⟩
  | .hbm, ⟨33, _⟩ => ⟨S1, .i32⟩
  | .hbm, ⟨34, _⟩ => ⟨S_, .i32⟩
  | .hbm, ⟨35, _⟩ => ⟨S264, .i32⟩
  | .hbm, ⟨36, _⟩ => ⟨S264, .i1⟩
  | .hbm, ⟨37, _⟩ => ⟨S1, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S264, .i32⟩
  | .hbm, ⟨44, _⟩ => ⟨S264, .i32⟩
  | .hbm, ⟨45, _⟩ => ⟨S264x1, .i32⟩
  | .hbm, ⟨46, _⟩ => ⟨S1x8, .i32⟩
  | .hbm, ⟨47, _⟩ => ⟨S264x8, .i32⟩
  | .hbm, ⟨48, _⟩ => ⟨S264x8, .i32⟩
  | .hbm, ⟨49, _⟩ => ⟨S264x8, .i1⟩
  | .hbm, ⟨50, _⟩ => ⟨S264x8, .i32⟩
  | .hbm, ⟨51, _⟩ => ⟨S_, .i32⟩
  | .hbm, ⟨52, _⟩ => ⟨S264, .i32⟩
  | .hbm, ⟨53, _⟩ => ⟨S_, .i32⟩
  | .hbm, ⟨54, _⟩ => ⟨S264, .i32⟩
  | .hbm, ⟨55, _⟩ => ⟨S8x1024x3584, .f32⟩
  | .hbm, ⟨56, _⟩ => ⟨S8x1024x3584, .bf16⟩
  | .hbm, ⟨57, _⟩ => ⟨S8x1024x3584, .f32⟩
  | .hbm, ⟨58, _⟩ => ⟨S8x1024x3584, .bf16⟩
  | .hbm, ⟨59, _⟩ => ⟨S8x3584x1024, .f32⟩
  | .hbm, ⟨60, _⟩ => ⟨S8x3584x1024, .bf16⟩
  | .hbm, ⟨61, _⟩ => ⟨S1081344x128, .f32⟩
  | .local _ .vmem, ⟨0, _⟩ => ⟨S4096x128, .f32⟩
  | .local _ .vmem, ⟨1, _⟩ => ⟨S4096x128, .f32⟩
  | .local _ .vmem, ⟨2, _⟩ => ⟨S1x1024x3584, .bf16⟩
  | .local _ .vmem, ⟨3, _⟩ => ⟨S1x1024x3584, .bf16⟩
  | .local _ .vmem, ⟨4, _⟩ => ⟨S1x3584x1024, .bf16⟩
  | .local _ .vmem, ⟨5, _⟩ => ⟨S4096x128, .f32⟩
  | .local _ .vmem, ⟨6, _⟩ => ⟨S4096x128, .f32⟩
  | .local _ .smem, ⟨0, _⟩ => ⟨S264, .i32⟩
  | .local _ .smem, ⟨1, _⟩ => ⟨S264, .i32⟩
  | _, _ => ⟨S1081344x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v12 : Ref sig .tc := ⟨.hbm, 37, rfl⟩
abbrev main_v13 : Ref sig .tc := ⟨.hbm, 38, rfl⟩
abbrev main_c_2 : Ref sig .tc := ⟨.hbm, 39, rfl⟩
abbrev main_v14 : Ref sig .tc := ⟨.hbm, 40, rfl⟩
abbrev main_c_3 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_4 : Ref sig .tc := ⟨.hbm, 51, rfl⟩
abbrev main_v24 : Ref sig .tc := ⟨.hbm, 52, rfl⟩
abbrev main_c_5 : Ref sig .tc := ⟨.hbm, 53, rfl⟩
abbrev main_v25 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v26 : Ref sig .tc := ⟨.smem, 0, rfl⟩
abbrev main_v11 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![264], ![false]⟩

abbrev pre0 : Pipeline.Prefetch sig := ⟨2, ![main_v26.idx, main_v11.idx], fun | 0 => main_v26.names | 1 => main_v11.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (v1 : BitVec 32) : BitVec 1 :=
  let c1_i32 : BitVec 32 := 1#32
  let v2 : BitVec 1 := Scalar.cmpi .eq v1 c1_i32
  let v_true : BitVec 1 := 1#1
  let v5 : BitVec 1 := Scalar.xori v2 v_true
  let v6 : BitVec 32 := Scalar.extui v5
  let c0_i32_0 : BitVec 32 := 0#32
  let v7 : BitVec 1 := Scalar.cmpi .ne v6 c0_i32_0
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x3584x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1081344x128 : Shape := ⟨2, ![1081344, 128]⟩
abbrev S8 : Shape := ⟨1, ![8]⟩
abbrev S1x8x1024x3584 : Shape := ⟨4, ![1, 8, 1024, 3584]⟩
abbrev S1x8x3584x1024 : Shape := ⟨4, ![1, 8, 3584, 1024]⟩
abbrev S8x1024x3584 : Shape := ⟨3, ![8, 1024, 3584]⟩
abbrev S8x3584x1024 : Shape := ⟨3, ![8, 3584, 1024]⟩
abbrev S_ : Shape := ⟨0, ![]⟩
abbrev S264 : Shape := ⟨1, ![264]⟩
abbrev S1x8 : Shape := ⟨2, ![1, 8]⟩
abbrev S264x1 : Shape := ⟨2, ![264, 1]⟩
abbrev S264x8 : Shape := ⟨2, ![264, 8]⟩
abbrev S264x512x1024 : Shape := ⟨3, ![264, 512, 1024]⟩
abbrev S264x1024x3584 : Shape := ⟨3, ![264, 1024, 3584]⟩
abbrev S264x512x3584 : Shape := ⟨3, ![264, 512, 3584]⟩
abbrev S264x3584x1024 : Shape := ⟨3, ![264, 3584, 1024]⟩
abbrev S1 : Shape := ⟨1, ![1]⟩
abbrev S264x1x1 : Shape := ⟨3, ![264, 1, 1]⟩

abbrev nBuf : Space → Nat
  | .hbm => 105
  | .vmem => 0
  | .smem => 0
  | _ => 0

abbrev bufTy : (tb : Table) → Fin (tcTables nBuf tb) → BufTy
  | .hbm, ⟨0, _⟩ => ⟨S1081344x128, .f32⟩
  | .hbm, ⟨1, _⟩ => ⟨S8, .i32⟩
  | .hbm, ⟨2, _⟩ => ⟨S1x8x1024x3584, .f32⟩
  | .hbm, ⟨3, _⟩ => ⟨S1x8x1024x3584, .f32⟩
  | .hbm, ⟨4, _⟩ => ⟨S1x8x3584x1024, .f32⟩
  | .hbm, ⟨5, _⟩ => ⟨S8x1024x3584, .f32⟩
  | .hbm, ⟨6, _⟩ => ⟨S8x1024x3584, .f32⟩
  | .hbm, ⟨7, _⟩ => ⟨S8x3584x1024, .f32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S_, .i32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S8, .i32⟩
  | .hbm, ⟨23, _⟩ => ⟨S8, .i32⟩
  | .hbm, ⟨24, _⟩ => ⟨S_, .i32⟩
  | .hbm, ⟨25, _⟩ => ⟨S8, .i32⟩
  | .hbm, ⟨26, _⟩ => ⟨S8, .i1⟩
  | .hbm, ⟨27, _⟩ => ⟨S8, .i1⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S8, .i32⟩
  | .hbm, ⟨34, _⟩ => ⟨S8, .i32⟩
  | .hbm, ⟨35, _⟩ => ⟨S_, .i32⟩
  | .hbm, ⟨36, _⟩ => ⟨S_, .i32⟩
  | .hbm, ⟨37, _⟩ => ⟨S8, .i32⟩
  | .hbm, ⟨38, _⟩ => ⟨S264, .i32⟩
  | .hbm, ⟨39, _⟩ => ⟨S_, .i32⟩
  | .hbm, ⟨40, _⟩ => ⟨S264, .i32⟩
  | .hbm, ⟨41, _⟩ => ⟨S264, .i32⟩
  | .hbm, ⟨42, _⟩ => ⟨S1x8, .i32⟩
  | .hbm, ⟨43, _⟩ => ⟨S264x1, .i32⟩
  | .hbm, ⟨44, _⟩ => ⟨S264x8, .i32⟩
  | .hbm, ⟨45, _⟩ => ⟨S264x8, .i32⟩
  | .hbm, ⟨46, _⟩ => ⟨S264x8, .i1⟩
  | .hbm, ⟨47, _⟩ => ⟨S264x8, .i32⟩
  | .hbm, ⟨48, _⟩ => ⟨S_, .i32⟩
  | .hbm, ⟨49, _⟩ => ⟨S264, .i32⟩
  | .hbm, ⟨50, _⟩ => ⟨S_, .i32⟩
  | .hbm, ⟨51, _⟩ => ⟨S264, .i32⟩
  | .hbm, ⟨52, _⟩ => ⟨S264, .i32⟩
  | .hbm, ⟨53, _⟩ => ⟨S264x512x1024, .f32⟩
  | .hbm, ⟨54, _⟩ => ⟨S_, .i32⟩
  | .hbm, ⟨55, _⟩ => ⟨S264, .i32⟩
  | .hbm, ⟨56, _⟩ => ⟨S264, .i1⟩
  | .hbm, ⟨57, _⟩ => ⟨S_, .i32⟩
  | .hbm, ⟨58, _⟩ => ⟨S264, .i32⟩
  | .hbm, ⟨59, _⟩ => ⟨S264, .i32⟩
  | .hbm, ⟨60, _⟩ => ⟨S264, .i32⟩
  | .hbm, ⟨61, _⟩ => ⟨S264x1, .i32⟩
  | .hbm, ⟨62, _⟩ => ⟨S264x1024x3584, .f32⟩
  | .hbm, ⟨63, _⟩ => ⟨S264x512x3584, .f32⟩
  | .hbm, ⟨64, _⟩ => ⟨S264x512x3584, .f32⟩
  | .hbm, ⟨65, _⟩ => ⟨S264x512x3584, .f32⟩
  | .hbm, ⟨66, _⟩ => ⟨S_, .f32⟩
  | .hbm, ⟨67, _⟩ => ⟨S264x512x3584, .f32⟩
  | .hbm, ⟨68, _⟩ => ⟨S264x512x3584, .f32⟩
  | .hbm, ⟨69, _⟩ => ⟨S_, .f32⟩
  | .hbm, ⟨70, _⟩ => ⟨S264x512x3584, .f32⟩
  | .hbm, ⟨71, _⟩ => ⟨S264x512x3584, .f32⟩
  | .hbm, ⟨72, _⟩ => ⟨S264x512x3584, .f32⟩
  | .hbm, ⟨73, _⟩ => ⟨S_, .i32⟩
  | .hbm, ⟨74, _⟩ => ⟨S264, .i32⟩
  | .hbm, ⟨75, _⟩ => ⟨S264, .i1⟩
  | .hbm, ⟨76, _⟩ => ⟨S_, .i32⟩
  | .hbm, ⟨77, _⟩ => ⟨S264, .i32⟩
  | .hbm, ⟨78, _⟩ => ⟨S264, .i32⟩
  | .hbm, ⟨79, _⟩ => ⟨S264, .i32⟩
  | .hbm, ⟨80, _⟩ => ⟨S264x1, .i32⟩
  | .hbm, ⟨81, _⟩ => ⟨S264x1024x3584, .f32⟩
  | .hbm, ⟨82, _⟩ => ⟨S264x512x3584, .f32⟩
  | .hbm, ⟨83, _⟩ => ⟨S264x512x3584, .f32⟩
  | .hbm, ⟨84, _⟩ => ⟨S_, .i32⟩
  | .hbm, ⟨85, _⟩ => ⟨S264, .i32⟩
  | .hbm, ⟨86, _⟩ => ⟨S264, .i1⟩
  | .hbm, ⟨87, _⟩ => ⟨S_, .i32⟩
  | .hbm, ⟨88, _⟩ => ⟨S264, .i32⟩
  | .hbm, ⟨89, _⟩ => ⟨S264, .i32⟩
  | .hbm, ⟨90, _⟩ => ⟨S264, .i32⟩
  | .hbm, ⟨91, _⟩ => ⟨S264x1, .i32⟩
  | .hbm, ⟨92, _⟩ => ⟨S264x3584x1024, .f32⟩
  | .hbm, ⟨93, _⟩ => ⟨S264x512x1024, .f32⟩
  | .hbm, ⟨94, _⟩ => ⟨S1, .i32⟩
  | .hbm, ⟨95, _⟩ => ⟨S_, .i32⟩
  | .hbm, ⟨96, _⟩ => ⟨S264, .i32⟩
  | .hbm, ⟨97, _⟩ => ⟨S264, .i1⟩
  | .hbm, ⟨98, _⟩ => ⟨S264x1x1, .i1⟩
  | .hbm, ⟨99, _⟩ => ⟨S_, .f32⟩
  | .hbm, ⟨100, _⟩ => ⟨S_, .f32⟩
  | .hbm, ⟨101, _⟩ => ⟨S264x512x1024, .i1⟩
  | .hbm, ⟨102, _⟩ => ⟨S264x512x1024, .f32⟩
  | .hbm, ⟨103, _⟩ => ⟨S264x512x1024, .f32⟩
  | .hbm, ⟨104, _⟩ => ⟨S1081344x128, .f32⟩
  | _, _ => ⟨S1081344x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v7 : Ref sig .tc := ⟨.hbm, 31, rfl⟩
abbrev main_c_2 : Ref sig .tc := ⟨.hbm, 32, rfl⟩
abbrev main_v8 : Ref sig .tc := ⟨.hbm, 33, rfl⟩
abbrev main_v9 : Ref sig .tc := ⟨.hbm, 34, rfl⟩
abbrev main_call1_call0_c : Ref sig .tc := ⟨.hbm, 35, rfl⟩
abbrev main_call1_call0_v0 : Ref sig .tc := ⟨.hbm, 36, rfl⟩
abbrev main_v10 : Ref sig .tc := ⟨.hbm, 37, rfl⟩
abbrev main_v11 : Ref sig .tc := ⟨.hbm, 38, rfl⟩
abbrev main_c_3 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_c_5 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_6 : Ref sig .tc := ⟨.hbm, 54, rfl⟩
abbrev main_v24 : Ref sig .tc := ⟨.hbm, 55, rfl⟩
abbrev main_v25 : Ref sig .tc := ⟨.hbm, 56, rfl⟩
abbrev main_c_7 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_call2_v0 : Ref sig .tc := ⟨.hbm, 64, rfl⟩
abbrev main_call2_v1 : Ref sig .tc := ⟨.hbm, 65, rfl⟩
abbrev main_call2_cst : Ref sig .tc := ⟨.hbm, 66, rfl⟩
abbrev main_call2_v2 : Ref sig .tc := ⟨.hbm, 67, rfl⟩
abbrev main_call2_v3 : Ref sig .tc := ⟨.hbm, 68, rfl⟩
abbrev main_call2_cst_0 : Ref sig .tc := ⟨.hbm, 69, rfl⟩
abbrev main_call2_v4 : Ref sig .tc := ⟨.hbm, 70, rfl⟩
abbrev main_call2_v5 : Ref sig .tc := ⟨.hbm, 71, rfl⟩
abbrev main_v32 : Ref sig .tc := ⟨.hbm, 72, rfl⟩
abbrev main_c_8 : Ref sig .tc := ⟨.hbm, 73, rfl⟩
abbrev main_v33 : Ref sig .tc := ⟨.hbm, 74, rfl⟩
abbrev main_v34 : Ref sig .tc := ⟨.hbm, 75, rfl⟩
abbrev main_c_9 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_c_10 : Ref sig .tc := ⟨.hbm, 84, rfl⟩
abbrev main_v42 : Ref sig .tc := ⟨.hbm, 85, rfl⟩
abbrev main_v43 : Ref sig .tc := ⟨.hbm, 86, rfl⟩
abbrev main_c_11 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_v55 : Ref sig .tc := ⟨.hbm, 103, rfl⟩
abbrev main_v56 : Ref sig .tc := ⟨.hbm, 104, rfl⟩

abbrev nD : Nat := 1
abbrev τ : Topo := Topo.v7x

variable {F : FTy → Type} [FloatOps F]
-- ==== Kernel2.lean ====
abbrev S65536x1024 : Shape := ⟨2, ![65536, 1024]⟩
abbrev S2x1024 : Shape := ⟨2, ![2, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x512 : Shape := ⟨2, ![1024, 512]⟩
abbrev S64 : Shape := ⟨1, ![64]⟩
abbrev S1x1024x1024 : Shape := ⟨3, ![1, 1024, 1024]⟩
abbrev S1x1024 : Shape := ⟨2, ![1, 1024]⟩
abbrev S1024x2816 : Shape := ⟨2, ![1024, 2816]⟩
abbrev S2816x1024 : Shape := ⟨2, ![2816, 1024]⟩
abbrev S1024x1024 : Shape := ⟨2, ![1024, 1024]⟩
abbrev S1024x256 : Shape := ⟨2, ![1024, 256]⟩
abbrev S1024x4x1x64 : Shape := ⟨4, ![1024, 4, 1, 64]⟩
abbrev S1024x4x2x64 : Shape := ⟨4, ![1024, 4, 2, 64]⟩
abbrev S128 : Shape := ⟨1, ![128]⟩
abbrev S1x128 : Shape := ⟨2, ![1, 128]⟩
abbrev S65536x512 : Shape := ⟨2, ![65536, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩
abbrev S512x128 : Shape := ⟨2, ![512, 128]⟩

abbrev nBuf : Space → Nat
  | .hbm => 41
  | .vmem => 19
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024x512, .f32⟩
  | .hbm, ⟨7, _⟩ => ⟨S64, .f32⟩
  | .hbm, ⟨8, _⟩ => ⟨S2x1024, .f32⟩
  | .hbm, ⟨9, _⟩ => ⟨S1x1024x1024, .f32⟩
  | .hbm, ⟨10, _⟩ => ⟨S1x1024, .f32⟩
  | .hbm, ⟨11, _⟩ => ⟨S1024, .f32⟩
  | .hbm, ⟨12, _⟩ => ⟨S1024x2816, .f32⟩
  | .hbm, ⟨13, _⟩ => ⟨S1024x2816, .bf16⟩
  | .hbm, ⟨14, _⟩ => ⟨S1024x2816, .f32⟩
  | .hbm, ⟨15, _⟩ => ⟨S1024x2816, .bf16⟩
  | .hbm, ⟨16, _⟩ => ⟨S2816x1024, .f32⟩
  | .hbm, ⟨17, _⟩ => ⟨S2816x1024, .bf16⟩
  | .hbm, ⟨18, _⟩ => ⟨S1x1024, .f32⟩
  | .hbm, ⟨19, _⟩ => ⟨S1024, .f32⟩
  | .hbm, ⟨20, _⟩ => ⟨S1024x1024, .f32⟩
  | .hbm, ⟨21, _⟩ => ⟨S1024x1024, .bf16⟩
  | .hbm, ⟨22, _⟩ => ⟨S1024x256, .f32⟩
  | .hbm, ⟨23, _⟩ => ⟨S1024x4x1x64, .f32⟩
  | .hbm, ⟨24, _⟩ => ⟨S1024x4x2x64, .f32⟩
  | .hbm, ⟨25, _⟩ => ⟨S1024x512, .f32⟩
  | .hbm, ⟨26, _⟩ => ⟨S1024x256, .f32⟩
  | .hbm, ⟨27, _⟩ => ⟨S1024x4x1x64, .f32⟩
  | .hbm, ⟨28, _⟩ => ⟨S1024x4x2x64, .f32⟩
  | .hbm, ⟨29, _⟩ => ⟨S1024x512, .f32⟩
  | .hbm, ⟨30, _⟩ => ⟨S1024x1024, .f32⟩
  | .hbm, ⟨31, _⟩ => ⟨S1024x1024, .bf16⟩
  | .hbm, ⟨32, _⟩ => ⟨S128, .f32⟩
  | .hbm, ⟨33, _⟩ => ⟨S1x128, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S65536x1024, .f32⟩
  | .hbm, ⟨38, _⟩ => ⟨S65536x1024, .bf16⟩
  | .hbm, ⟨39, _⟩ => ⟨S65536x512, .bf16⟩
  | .hbm, ⟨40, _⟩ => ⟨S65536x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .bf16⟩
  | .local _ .vmem, ⟨8, _⟩ => ⟨S1x128, .f32⟩
  | .local _ .vmem, ⟨9, _⟩ => ⟨S1x1024, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27_0 : Ref sig .tc := ⟨.hbm, 37, rfl⟩
abbrev main_v27_1 : Ref sig .tc := ⟨.hbm, 38, rfl⟩
abbrev main_v27_2 : Ref sig .tc := ⟨.hbm, 39, rfl⟩
abbrev main_v27_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S65536x1024 : Shape := ⟨2, ![65536, 1024]⟩
abbrev S2x1024 : Shape := ⟨2, ![2, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x512 : Shape := ⟨2, ![1024, 512]⟩
abbrev S64 : Shape := ⟨1, ![64]⟩
abbrev S1x1024x1024 : Shape := ⟨3, ![1, 1024, 1024]⟩
abbrev S1x1024 : Shape := ⟨2, ![1, 1024]⟩
abbrev S_ : Shape := ⟨0, ![]⟩
abbrev S65536 : Shape := ⟨1, ![65536]⟩
abbrev S65536x1 : Shape := ⟨2, ![65536, 1]⟩
abbrev S1024x2816 : Shape := ⟨2, ![1024, 2816]⟩
abbrev S65536x2816 : Shape := ⟨2, ![65536, 2816]⟩
abbrev S2816x1024 : Shape := ⟨2, ![2816, 1024]⟩
abbrev S65536x512 : Shape := ⟨2, ![65536, 512]⟩
abbrev S65536x256 : Shape := ⟨2, ![65536, 256]⟩
abbrev S65536x4x64 : Shape := ⟨3, ![65536, 4, 64]⟩
abbrev S65536x4 : Shape := ⟨2, ![65536, 4]⟩
abbrev S65536x4x1 : Shape := ⟨3, ![65536, 4, 1]⟩
abbrev S1x1x64 : Shape := ⟨3, ![1, 1, 64]⟩
abbrev S1024x1024 : Shape := ⟨2, ![1024, 1024]⟩
abbrev S65536x4x128 : Shape := ⟨3, ![65536, 4, 128]⟩

abbrev nBuf : Space → Nat
  | .hbm => 109
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024x512, .f32⟩
  | .hbm, ⟨7, _⟩ => ⟨S64, .f32⟩
  | .hbm, ⟨8, _⟩ => ⟨S2x1024, .f32⟩
  | .hbm, ⟨9, _⟩ => ⟨S1x1024x1024, .f32⟩
  | .hbm, ⟨10, _⟩ => ⟨S1x1024, .f32⟩
  | .hbm, ⟨11, _⟩ => ⟨S1024, .f32⟩
  | .hbm, ⟨12, _⟩ => ⟨S65536x1024, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S65536x1, .f32⟩
  | .hbm, ⟨23, _⟩ => ⟨S65536x1024, .f32⟩
  | .hbm, ⟨24, _⟩ => ⟨S65536x1024, .f32⟩
  | .hbm, ⟨25, _⟩ => ⟨S1x1024, .f32⟩
  | .hbm, ⟨26, _⟩ => ⟨S65536x1024, .f32⟩
  | .hbm, ⟨27, _⟩ => ⟨S65536x1024, .f32⟩
  | .hbm, ⟨28, _⟩ => ⟨S1024x2816, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S_, .f32⟩
  | .hbm, ⟨33, _⟩ => ⟨S65536x2816, .f32⟩
  | .hbm, ⟨34, _⟩ => ⟨S65536x2816, .f32⟩
  | .hbm, ⟨35, _⟩ => ⟨S_, .f32⟩
  | .hbm, ⟨36, _⟩ => ⟨S65536x2816, .f32⟩
  | .hbm, ⟨37, _⟩ => ⟨S65536x2816, .f32⟩
  | .hbm, ⟨38, _⟩ => ⟨S65536x2816, .f32⟩
  | .hbm, ⟨39, _⟩ => ⟨S1024x2816, .f32⟩
  | .hbm, ⟨40, _⟩ => ⟨S65536x2816, .f32⟩
  | .hbm, ⟨41, _⟩ => ⟨S65536x2816, .f32⟩
  | .hbm, ⟨42, _⟩ => ⟨S2816x1024, .f32⟩
  | .hbm, ⟨43, _⟩ => ⟨S65536x1024, .f32⟩
  | .hbm, ⟨44, _⟩ => ⟨S65536x1024, .f32⟩
  | .hbm, ⟨45, _⟩ => ⟨S65536x1024, .f32⟩
  | .hbm, ⟨46, _⟩ => ⟨S_, .f32⟩
  | .hbm, ⟨47, _⟩ => ⟨S65536, .f32⟩
  | .hbm, ⟨48, _⟩ => ⟨S65536x1, .f32⟩
  | .hbm, ⟨49, _⟩ => ⟨S_, .f32⟩
  | .hbm, ⟨50, _⟩ => ⟨S65536x1, .f32⟩
  | .hbm, ⟨51, _⟩ => ⟨S65536x1, .f32⟩
  | .hbm, ⟨52, _⟩ => ⟨S_, .f32⟩
  | .hbm, ⟨53, _⟩ => ⟨S65536x1, .f32⟩
  | .hbm, ⟨54, _⟩ => ⟨S65536x1, .f32⟩
  | .hbm, ⟨55, _⟩ => ⟨S65536x1, .f32⟩
  | .hbm, ⟨56, _⟩ => ⟨S65536x1024, .f32⟩
  | .hbm, ⟨57, _⟩ => ⟨S65536x1024, .f32⟩
  | .hbm, ⟨58, _⟩ => ⟨S1x1024, .f32⟩
  | .hbm, ⟨59, _⟩ => ⟨S65536x1024, .f32⟩
  | .hbm, ⟨60, _⟩ => ⟨S65536x1024, .f32⟩
  | .hbm, ⟨61, _⟩ => ⟨S65536x512, .f32⟩
  | .hbm, ⟨62, _⟩ => ⟨S65536x256, .f32⟩
  | .hbm, ⟨63, _⟩ => ⟨S65536x256, .f32⟩
  | .hbm, ⟨64, _⟩ => ⟨S65536x4x64, .f32⟩
  | .hbm, ⟨65, _⟩ => ⟨S65536x4x64, .f32⟩
  | .hbm, ⟨66, _⟩ => ⟨S_, .f32⟩
  | .hbm, ⟨67, _⟩ => ⟨S65536x4, .f32⟩
  | .hbm, ⟨68, _⟩ => ⟨S65536x4x1, .f32⟩
  | .hbm, ⟨69, _⟩ => ⟨S_, .f32⟩
  | .hbm, ⟨70, _⟩ => ⟨S65536x4x1, .f32⟩
  | .hbm, ⟨71, _⟩ => ⟨S65536x4x1, .f32⟩
  | .hbm, ⟨72, _⟩ => ⟨S_, .f32⟩
  | .hbm, ⟨73, _⟩ => ⟨S65536x4x1, .f32⟩
  | .hbm, ⟨74, _⟩ => ⟨S65536x4x1, .f32⟩
  | .hbm, ⟨75, _⟩ => ⟨S65536x4x1, .f32⟩
  | .hbm, ⟨76, _⟩ => ⟨S65536x4x64, .f32⟩
  | .hbm, ⟨77, _⟩ => ⟨S65536x4x64, .f32⟩
  | .hbm, ⟨78, _⟩ => ⟨S1x1x64, .f32⟩
  | .hbm, ⟨79, _⟩ => ⟨S65536x4x64, .f32⟩
  | .hbm, ⟨80, _⟩ => ⟨S65536x4x64, .f32⟩
  | .hbm, ⟨81, _⟩ => ⟨S65536x4x64, .f32⟩
  | .hbm, ⟨82, _⟩ => ⟨S1x1024, .f32⟩
  | .hbm, ⟨83, _⟩ => ⟨S1024, .f32⟩
  | .hbm, ⟨84, _⟩ => ⟨S65536x1024, .f32⟩
  | .hbm, ⟨85, _⟩ => ⟨S_, .f32⟩
  | .hbm, ⟨86, _⟩ => ⟨S65536, .f32⟩
  | .hbm, ⟨87, _⟩ => ⟨S65536x1, .f32⟩
  | .hbm, ⟨88, _⟩ => ⟨S_, .f32⟩
  | .hbm, ⟨89, _⟩ => ⟨S65536x1, .f32⟩
  | .hbm, ⟨90, _⟩ => ⟨S65536x1, .f32⟩
  | .hbm, ⟨91, _⟩ => ⟨S_, .f32⟩
  | .hbm, ⟨92, _⟩ => ⟨S65536x1, .f32⟩
  | .hbm, ⟨93, _⟩ => ⟨S65536x1, .f32⟩
  | .hbm, ⟨94, _⟩ => ⟨S65536x1, .f32⟩
  | .hbm, ⟨95, _⟩ => ⟨S65536x1024, .f32⟩
  | .hbm, ⟨96, _⟩ => ⟨S65536x1024, .f32⟩
  | .hbm, ⟨97, _⟩ => ⟨S1x1024, .f32⟩
  | .hbm, ⟨98, _⟩ => ⟨S65536x1024, .f32⟩
  | .hbm, ⟨99, _⟩ => ⟨S65536x1024, .f32⟩
  | .hbm, ⟨100, _⟩ => ⟨S1024x1024, .f32⟩
  | .hbm, ⟨101, _⟩ => ⟨S65536x1024, .f32⟩
  | .hbm, ⟨102, _⟩ => ⟨S65536x1024, .bf16⟩
  | .hbm, ⟨103, _⟩ => ⟨S65536x4x128, .f32⟩
  | .hbm, ⟨104, _⟩ => ⟨S65536x512, .f32⟩
  | .hbm, ⟨105, _⟩ => ⟨S65536x512, .bf16⟩
  | .hbm, ⟨106, _⟩ => ⟨S65536x4x128, .f32⟩
  | .hbm, ⟨107, _⟩ => ⟨S65536x512, .f32⟩
  | .hbm, ⟨108, _⟩ => ⟨S65536x512, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_8 : Ref sig .tc := ⟨.hbm, 85, rfl⟩
abbrev main_v58 : Ref sig .tc := ⟨.hbm, 86, rfl⟩
abbrev main_v59 : Ref sig .tc := ⟨.hbm, 87, rfl⟩
abbrev main_cst_9 : Ref sig .tc := ⟨.hbm, 88, rfl⟩
abbrev main_v60 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]
-- ==== Kernel3.lean ====
abbrev S65536x1024 : Shape := ⟨2, ![65536, 1024]⟩
abbrev S65536x8 : Shape := ⟨2, ![65536, 8]⟩
abbrev S2x65536 : Shape := ⟨2, ![2, 65536]⟩
abbrev S1081344x128 : Shape := ⟨2, ![1081344, 128]⟩
abbrev S1024x1024 : Shape := ⟨2, ![1024, 1024]⟩
abbrev S1024x8 : Shape := ⟨2, ![1024, 8]⟩
abbrev S2x1024 : Shape := ⟨2, ![2, 1024]⟩
abbrev S2x2x1024 : Shape := ⟨3, ![2, 2, 1024]⟩
abbrev S2x2x8192x128 : Shape := ⟨4, ![2, 2, 8192, 128]⟩
abbrev S_ : Shape := ⟨0, ![]⟩
abbrev S2 : Shape := ⟨1, ![2]⟩
abbrev S1x2x1024 : Shape := ⟨3, ![1, 2, 1024]⟩
abbrev S1x1x1 : Shape := ⟨3, ![1, 1, 1]⟩
abbrev S1 : Shape := ⟨1, ![1]⟩
abbrev S1x1x8192x128 : Shape := ⟨4, ![1, 1, 8192, 128]⟩
abbrev S8192x128 : Shape := ⟨2, ![8192, 128]⟩
abbrev S8x128 : Shape := ⟨2, ![8, 128]⟩
abbrev S1x1x1024x128 : Shape := ⟨4, ![1, 1, 1024, 128]⟩
abbrev S1024x128 : Shape := ⟨2, ![1024, 128]⟩
abbrev S1024x1 : Shape := ⟨2, ![1024, 1]⟩

abbrev nBuf : Space → Nat
  | .hbm => 5
  | .vmem => 11
  | .smem => 1
  | _ => 0

abbrev bufTy : (tb : Table) → Fin (tcTables nBuf tb) → BufTy
  | .hbm, ⟨0, _⟩ => ⟨S65536x1024, .f32⟩
  | .hbm, ⟨1, _⟩ => ⟨S65536x8, .f32⟩
  | .hbm, ⟨2, _⟩ => ⟨S2x65536, .i32⟩
  | .hbm, ⟨3, _⟩ => ⟨S1081344x128, .f32⟩
  | .hbm, ⟨4, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x8, .f32⟩
  | .local _ .vmem, ⟨3, _⟩ => ⟨S1024x8, .f32⟩
  | .local _ .vmem, ⟨4, _⟩ => ⟨S2x1024, .i32⟩
  | .local _ .vmem, ⟨5, _⟩ => ⟨S2x1024, .i32⟩
  | .local _ .vmem, ⟨6, _⟩ => ⟨S2x1024, .i32⟩
  | .local _ .vmem, ⟨7, _⟩ => ⟨S2x1024, .i32⟩
  | .local _ .vmem, ⟨8, _⟩ => ⟨S1024x1024, .f32⟩
  | .local _ .vmem, ⟨9, _⟩ => ⟨S1024x1024, .f32⟩
  | .local _ .vmem, ⟨10, _⟩ => ⟨S2x2x8192x128, .f32⟩
  | .local _ .smem, ⟨0, _⟩ => ⟨S2x2x1024, .i32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch1 : Ref sig .tc := ⟨.vmem, 10, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_69 : BitVec 32 := 0#32
  let c1024_i32 : BitVec 32 := 1024#32
  let v92 : BitVec 32 := Scalar.addi c0_i32_69 c1024_i32
  let c1_i32_70 : BitVec 32 := 1#32
  ⟨c0_i32_69, v92, c1_i32_70⟩
def k0_off1 (k0_t1 : Fin k0_t1_loop.trips) : Fin 3 → Nat :=
  let c0_72 : Index := 0#32
  let c0_73 : Index := 0#32
  let c0_i32_69 : BitVec 32 := 0#32
  let c1_i32_70 : BitVec 32 := 1#32
  let arg11 : BitVec 32 := Scf.iv c0_i32_69 c1_i32_70 k0_t1
  let v93 : Index := Scalar.indexCast arg11
  ![0, 0, v93.toNat]
def k0_mult1 (v94 : BitVec 32) : BitVec 32 :=
  let c8_i32 : BitVec 32 := 8#32
  let v95 : BitVec 32 := Scalar.muli v94 c8_i32
  v95

def k0_mult2 (k0_t1 : Fin k0_t1_loop.trips) : BitVec 32 :=
  let c0_i32_69 : BitVec 32 := 0#32
  let c1_i32_70 : BitVec 32 := 1#32
  let arg11 : BitVec 32 := Scf.iv c0_i32_69 c1_i32_70 k0_t1
  let c8_i32_74 : BitVec 32 := 8#32
  let v97 : BitVec 32 := Scalar.muli arg11 c8_i32_74
  v97
def k0_off2 (k0_t1 : Fin k0_t1_loop.trips) : Fin 2 → Nat :=
  let c0_i32_69 : BitVec 32 := 0#32
  let c1_i32_70 : BitVec 32 := 1#32
  let arg11 : BitVec 32 := Scf.iv c0_i32_69 c1_i32_70 k0_t1
  let c8_i32_74 : BitVec 32 := 8#32
  let v97 : BitVec 32 := Scalar.muli arg11 c8_i32_74
  let v98 : BitVec 32 := v97
  let c0_i32_80 : BitVec 32 := 0#32
  ![v98.toNat, 0]
def k0_off3 (v94 : BitVec 32) : Fin 2 → Nat :=
  let c8_i32 : BitVec 32 := 8#32
  let v95 : BitVec 32 := Scalar.muli v94 c8_i32
  let v96 : BitVec 32 := v95
  let c0_i32_81 : BitVec 32 := 0#32
  ![v96.toNat, 0]

def k0_chk1 (i : grid0.Coords) (v94 : BitVec 32) : Prop :=
  (∀ (k0_h1 : k0_cond1 i = 1#1), 8 ∣ (k0_mult1 v94).toNat) ∧
  (∀ (k0_h1 : k0_cond1 i = 1#1), ∀ a, (k0_off3 v94) a + S8x128.size a ≤ S1081344x128.size a)
theorem k0_mult1_dvd : ∀ (i : grid0.Coords) (v94 : BitVec 32) (k0_hw1 : k0_chk1 i v94), ∀ (k0_h1 : k0_cond1 i = 1#1), 8 ∣ (k0_mult1 v94).toNat := fun i v94 k0_hw1 k0_h1 => k0_hw1.1 k0_h1
theorem k0_off3_inb : ∀ (i : grid0.Coords) (v94 : BitVec 32) (k0_hw1 : k0_chk1 i v94), ∀ (k0_h1 : k0_cond1 i = 1#1), ∀ a, (k0_off3 v94) a + S8x128.size a ≤ S1081344x128.size a := fun i v94 k0_hw1 k0_h1 => k0_hw1.2 k0_h1

def k0_off4 (k0_t1 : Fin k0_t1_loop.trips) : Fin 3 → Nat :=
  let c0_82 : Index := 0#32
  let c1_83 : Index := 1#32
  let c0_i32_69 : BitVec 32 := 0#32
  let c1_i32_70 : BitVec 32 := 1#32
  let arg11 : BitVec 32 := Scf.iv c0_i32_69 c1_i32_70 k0_t1
  let v105 : Index := Scalar.indexCast arg11
  ![0, 1, v105.toNat]
def k0_mult3 (v106 : BitVec 32) : BitVec 32 :=
  let c8_i32_84 : BitVec 32 := 8#32
  let v107 : BitVec 32 := Scalar.muli v106 c8_i32_84
  v107

def k0_mult4 (k0_t1 : Fin k0_t1_loop.trips) : BitVec 32 :=
  let c0_i32_69 : BitVec 32 := 0#32
  let c1_i32_70 : BitVec 32 := 1#32
  let arg11 : BitVec 32 := Scf.iv c0_i32_69 c1_i32_70 k0_t1
  let c8_i32_85 : BitVec 32 := 8#32
  let v109 : BitVec 32 := Scalar.muli arg11 c8_i32_85
  v109
def k0_off5 (k0_t1 : Fin k0_t1_loop.trips) : Fin 2 → Nat :=
  let c0_i32_69 : BitVec 32 := 0#32
  let c1_i32_70 : BitVec 32 := 1#32
  let arg11 : BitVec 32 := Scf.iv c0_i32_69 c1_i32_70 k0_t1
  let c8_i32_85 : BitVec 32 := 8#32
  let v109 : BitVec 32 := Scalar.muli arg11 c8_i32_85
  let v110 : BitVec 32 := v109
  let c0_i32_91 : BitVec 32 := 0#32
  ![v110.toNat, 0]
def k0_off6 (v106 : BitVec 32) : Fin 2 → Nat :=
  let c8_i32_84 : BitVec 32 := 8#32
  let v107 : BitVec 32 := Scalar.muli v106 c8_i32_84
  let v108 : BitVec 32 := v107
  let c0_i32_92 : BitVec 32 := 0#32
  ![v108.toNat, 0]

def k0_chk2 (i : grid0.Coords) (v106 : BitVec 32) : Prop :=
  (∀ (k0_h1 : k0_cond1 i = 1#1), 8 ∣ (k0_mult3 v106).toNat) ∧
  (∀ (k0_h1 : k0_cond1 i = 1#1), ∀ a, (k0_off6 v106) a + S8x128.size a ≤ S1081344x128.size a)
theorem k0_mult3_dvd : ∀ (i : grid0.Coords) (v106 : BitVec 32) (k0_hw2 : k0_chk2 i v106), ∀ (k0_h1 : k0_cond1 i = 1#1), 8 ∣ (k0_mult3 v106).toNat := fun i v106 k0_hw2 k0_h1 => k0_hw2.1 k0_h1
theorem k0_off6_inb : ∀ (i : grid0.Coords) (v106 : BitVec 32) (k0_hw2 : k0_chk2 i v106), ∀ (k0_h1 : k0_cond1 i = 1#1), ∀ a, (k0_off6 v106) a + S8x128.size a ≤ S1081344x128.size a := fun i v106 k0_hw2 k0_h1 => k0_hw2.2 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c64_i32 : BitVec 32 := 64#32
  let v14 : BitVec 1 := Scalar.cmpi .slt v13 c64_i32
  let v15 : BitVec 32 := Scalar.extui v14
  let c0_i32_6 : BitVec 32 := 0#32
  let v16 : BitVec 1 := Scalar.cmpi .ne v15 c0_i32_6
  v16

def k0_off7 (i : grid0.Coords) : Fin 3 → Nat :=
  let c1_i32_63 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v88 : BitVec 32 := Scalar.subi c1_i32_63 v9
  let c0_i32_64 : BitVec 32 := 0#32
  let c0_i32_65 : BitVec 32 := 0#32
  ![v88.toNat, 0, 0]
@[reducible] def k0_t2_loop : Scf.Loop 32 :=
  let c0_i32_68 : BitVec 32 := 0#32
  let c1024_i32 : BitVec 32 := 1024#32
  let v93 : BitVec 32 := Scalar.addi c0_i32_68 c1024_i32
  let c1_i32_69 : BitVec 32 := 1#32
  ⟨c0_i32_68, v93, c1_i32_69⟩
def k0_off8 (i : grid0.Coords) (k0_t2 : Fin k0_t2_loop.trips) : Fin 3 → Nat :=
  let c1_i32_63 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v88 : BitVec 32 := Scalar.subi c1_i32_63 v9
  let v94 : Index := Scalar.indexCast v88
  let c0_71 : Index := 0#32
  let c0_i32_68 : BitVec 32 := 0#32
  let c1_i32_69 : BitVec 32 := 1#32
  let arg11 : BitVec 32 := Scf.iv c0_i32_68 c1_i32_69 k0_t2
  let v95 : Index := Scalar.indexCast arg11
  ![v94.toNat, 0, v95.toNat]
def k0_mult5 (v96 : BitVec 32) : BitVec 32 :=
  let c8_i32 : BitVec 32 := 8#32
  let v97 : BitVec 32 := Scalar.muli v96 c8_i32
  v97

def k0_mult6 (k0_t2 : Fin k0_t2_loop.trips) : BitVec 32 :=
  let c0_i32_68 : BitVec 32 := 0#32
  let c1_i32_69 : BitVec 32 := 1#32
  let arg11 : BitVec 32 := Scf.iv c0_i32_68 c1_i32_69 k0_t2
  let c8_i32_72 : BitVec 32 := 8#32
  let v99 : BitVec 32 := Scalar.muli arg11 c8_i32_72
  v99
def k0_off9 (i : grid0.Coords) : Fin 1 → Nat :=
  let c1_i32_63 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v88 : BitVec 32 := Scalar.subi c1_i32_63 v9
  ![v88.toNat]
def k0_off10 (i : grid0.Coords) : Fin 4 → Nat :=
  let c1_i32_63 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v88 : BitVec 32 := Scalar.subi c1_i32_63 v9
  let c0_i32_73 : BitVec 32 := 0#32
  let c0_i32_74 : BitVec 32 := 0#32
  let c0_i32_75 : BitVec 32 := 0#32
  ![v88.toNat, 0, 0, 0]
def k0_off11 (k0_t2 : Fin k0_t2_loop.trips) : Fin 2 → Nat :=
  let c0_i32_68 : BitVec 32 := 0#32
  let c1_i32_69 : BitVec 32 := 1#32
  let arg11 : BitVec 32 := Scf.iv c0_i32_68 c1_i32_69 k0_t2
  let c8_i32_72 : BitVec 32 := 8#32
  let v99 : BitVec 32 := Scalar.muli arg11 c8_i32_72
  let v100 : BitVec 32 := v99
  let c0_i32_76 : BitVec 32 := 0#32
  ![v100.toNat, 0]
def k0_off12 (v96 : BitVec 32) : Fin 2 → Nat :=
  let c8_i32 : BitVec 32 := 8#32
  let v97 : BitVec 32 := Scalar.muli v96 c8_i32
  let v98 : BitVec 32 := v97
  let c0_i32_77 : BitVec 32 := 0#32
  ![v98.toNat, 0]

def k0_chk3 (i : grid0.Coords) (v96 : BitVec 32) : Prop :=
  (∀ (k0_h2 : k0_cond2 i = 1#1), 8 ∣ (k0_mult5 v96).toNat) ∧
  (∀ (k0_h2 : k0_cond2 i = 1#1), ∀ a, (k0_off12 v96) a + S8x128.size a ≤ S1081344x128.size a)
theorem k0_mult5_dvd : ∀ (i : grid0.Coords) (v96 : BitVec 32) (k0_hw3 : k0_chk3 i v96), ∀ (k0_h2 : k0_cond2 i = 1#1), 8 ∣ (k0_mult5 v96).toNat := fun i v96 k0_hw3 k0_h2 => k0_hw3.1 k0_h2
theorem k0_off12_inb : ∀ (i : grid0.Coords) (v96 : BitVec 32) (k0_hw3 : k0_chk3 i v96), ∀ (k0_h2 : k0_cond2 i = 1#1), ∀ a, (k0_off12 v96) a + S8x128.size a ≤ S1081344x128.size a := fun i v96 k0_hw3 k0_h2 => k0_hw3.2 k0_h2

def k0_off13 (i : grid0.Coords) (k0_t2 : Fin k0_t2_loop.trips) : Fin 3 → Nat :=
  let c1_i32_63 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v88 : BitVec 32 := Scalar.subi c1_i32_63 v9
  let v107 : Index := Scalar.indexCast v88
  let c1_78 : Index := 1#32
  let c0_i32_68 : BitVec 32 := 0#32
  let c1_i32_69 : BitVec 32 := 1#32
  let arg11 : BitVec 32 := Scf.iv c0_i32_68 c1_i32_69 k0_t2
  let v108 : Index := Scalar.indexCast arg11
  ![v107.toNat, 1, v108.toNat]
def k0_mult7 (v109 : BitVec 32) : BitVec 32 :=
  let c8_i32_79 : BitVec 32 := 8#32
  let v110 : BitVec 32 := Scalar.muli v109 c8_i32_79
  v110

def k0_mult8 (k0_t2 : Fin k0_t2_loop.trips) : BitVec 32 :=
  let c0_i32_68 : BitVec 32 := 0#32
  let c1_i32_69 : BitVec 32 := 1#32
  let arg11 : BitVec 32 := Scf.iv c0_i32_68 c1_i32_69 k0_t2
  let c8_i32_80 : BitVec 32 := 8#32
  let v112 : BitVec 32 := Scalar.muli arg11 c8_i32_80
  v112
def k0_off14 (i : grid0.Coords) : Fin 1 → Nat :=
  let c1_i32_63 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v88 : BitVec 32 := Scalar.subi c1_i32_63 v9
  ![v88.toNat]
def k0_off15 (i : grid0.Coords) : Fin 4 → Nat :=
  let c1_i32_63 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v88 : BitVec 32 := Scalar.subi c1_i32_63 v9
  let c1_i32_81 : BitVec 32 := 1#32
  let c0_i32_82 : BitVec 32 := 0#32
  let c0_i32_83 : BitVec 32 := 0#32
  ![v88.toNat, 1, 0, 0]
def k0_off16 (k0_t2 : Fin k0_t2_loop.trips) : Fin 2 → Nat :=
  let c0_i32_68 : BitVec 32 := 0#32
  let c1_i32_69 : BitVec 32 := 1#32
  let arg11 : BitVec 32 := Scf.iv c0_i32_68 c1_i32_69 k0_t2
  let c8_i32_80 : BitVec 32 := 8#32
  let v112 : BitVec 32 := Scalar.muli arg11 c8_i32_80
  let v113 : BitVec 32 := v112
  let c0_i32_84 : BitVec 32 := 0#32
  ![v113.toNat, 0]
def k0_off17 (v109 : BitVec 32) : Fin 2 → Nat :=
  let c8_i32_79 : BitVec 32 := 8#32
  let v110 : BitVec 32 := Scalar.muli v109 c8_i32_79
  let v111 : BitVec 32 := v110
  let c0_i32_85 : BitVec 32 := 0#32
  ![v111.toNat, 0]

def k0_chk4 (i : grid0.Coords) (v109 : BitVec 32) : Prop :=
  (∀ (k0_h2 : k0_cond2 i = 1#1), 8 ∣ (k0_mult7 v109).toNat) ∧
  (∀ (k0_h2 : k0_cond2 i = 1#1), ∀ a, (k0_off17 v109) a + S8x128.size a ≤ S1081344x128.size a)
theorem k0_mult7_dvd : ∀ (i : grid0.Coords) (v109 : BitVec 32) (k0_hw4 : k0_chk4 i v109), ∀ (k0_h2 : k0_cond2 i = 1#1), 8 ∣ (k0_mult7 v109).toNat := fun i v109 k0_hw4 k0_h2 => k0_hw4.1 k0_h2
theorem k0_off17_inb : ∀ (i : grid0.Coords) (v109 : BitVec 32) (k0_hw4 : k0_chk4 i v109), ∀ (k0_h2 : k0_cond2 i = 1#1), ∀ a, (k0_off17 v109) a + S8x128.size a ≤ S1081344x128.size a := fun i v109 k0_hw4 k0_h2 => k0_hw4.2 k0_h2

def k0_off18 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off19 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let c0_i32_8 : BitVec 32 := 0#32
  let c0_i32_9 : BitVec 32 := 0#32
  ![v9.toNat, 0, 0, 0]
def k0_off20 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_12 : BitVec 32 := 1#32
  let c0_i32_13 : BitVec 32 := 0#32
  let c0_i32_14 : BitVec 32 := 0#32
  ![v9.toNat, 1, 0, 0]
def k0_off21 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v28 : Index := Scalar.indexCast v9
  let c0_18 : Index := 0#32
  let c0_19 : Index := 0#32
  let c0_20 : Index := 0#32
  ![v28.toNat, 0, 0, 0]
def k0_off22 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v31 : Index := Scalar.indexCast v9
  let c0_21 : Index := 0#32
  let c1 : Index := 1#32
  let c0_22 : Index := 0#32
  ![v31.toNat, 0, 1, 0]
def k0_off23 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v34 : Index := Scalar.indexCast v9
  let c0_23 : Index := 0#32
  let c2 : Index := 2#32
  let c0_24 : Index := 0#32
  ![v34.toNat, 0, 2, 0]
def k0_off24 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v37 : Index := Scalar.indexCast v9
  let c0_25 : Index := 0#32
  let c3 : Index := 3#32
  let c0_26 : Index := 0#32
  ![v37.toNat, 0, 3, 0]
def k0_off25 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v40 : Index := Scalar.indexCast v9
  let c0_27 : Index := 0#32
  let c4 : Index := 4#32
  let c0_28 : Index := 0#32
  ![v40.toNat, 0, 4, 0]
def k0_off26 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : Index := Scalar.indexCast v9
  let c0_29 : Index := 0#32
  let c5 : Index := 5#32
  let c0_30 : Index := 0#32
  ![v43.toNat, 0, 5, 0]
def k0_off27 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v46 : Index := Scalar.indexCast v9
  let c0_31 : Index := 0#32
  let c6 : Index := 6#32
  let c0_32 : Index := 0#32
  ![v46.toNat, 0, 6, 0]
def k0_off28 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v49 : Index := Scalar.indexCast v9
  let c0_33 : Index := 0#32
  let c7 : Index := 7#32
  let c0_34 : Index := 0#32
  ![v49.toNat, 0, 7, 0]
def k0_off29 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : Index := Scalar.indexCast v9
  let c1_35 : Index := 1#32
  let c0_36 : Index := 0#32
  let c0_37 : Index := 0#32
  ![v53.toNat, 1, 0, 0]
def k0_off30 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : Index := Scalar.indexCast v9
  let c1_38 : Index := 1#32
  let c1_39 : Index := 1#32
  let c0_40 : Index := 0#32
  ![v56.toNat, 1, 1, 0]
def k0_off31 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v59 : Index := Scalar.indexCast v9
  let c1_41 : Index := 1#32
  let c2_42 : Index := 2#32
  let c0_43 : Index := 0#32
  ![v59.toNat, 1, 2, 0]
def k0_off32 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v62 : Index := Scalar.indexCast v9
  let c1_44 : Index := 1#32
  let c3_45 : Index := 3#32
  let c0_46 : Index := 0#32
  ![v62.toNat, 1, 3, 0]
def k0_off33 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v65 : Index := Scalar.indexCast v9
  let c1_47 : Index := 1#32
  let c4_48 : Index := 4#32
  let c0_49 : Index := 0#32
  ![v65.toNat, 1, 4, 0]
def k0_off34 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v68 : Index := Scalar.indexCast v9
  let c1_50 : Index := 1#32
  let c5_51 : Index := 5#32
  let c0_52 : Index := 0#32
  ![v68.toNat, 1, 5, 0]
def k0_off35 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v71 : Index := Scalar.indexCast v9
  let c1_53 : Index := 1#32
  let c6_54 : Index := 6#32
  let c0_55 : Index := 0#32
  ![v71.toNat, 1, 6, 0]
def k0_off36 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v74 : Index := Scalar.indexCast v9
  let c1_56 : Index := 1#32
  let c7_57 : Index := 7#32
  let c0_58 : Index := 0#32
  ![v74.toNat, 1, 7, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S65536x1024 : Shape := ⟨2, ![65536, 1024]⟩
abbrev S65536x8 : Shape := ⟨2, ![65536, 8]⟩
abbrev S2x65536 : Shape := ⟨2, ![2, 65536]⟩
abbrev S1081344x128 : Shape := ⟨2, ![1081344, 128]⟩
abbrev S135168x1024 : Shape := ⟨2, ![135168, 1024]⟩
abbrev S65536x1 : Shape := ⟨2, ![65536, 1]⟩
abbrev S1x65536 : Shape := ⟨2, ![1, 65536]⟩
abbrev S65536 : Shape := ⟨1, ![65536]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x8, .f32⟩
  | .hbm, ⟨2, _⟩ => ⟨S2x65536, .i32⟩
  | .hbm, ⟨3, _⟩ => ⟨S1081344x128, .f32⟩
  | .hbm, ⟨4, _⟩ => ⟨S135168x1024, .f32⟩
  | .hbm, ⟨5, _⟩ => ⟨S65536x1, .f32⟩
  | .hbm, ⟨6, _⟩ => ⟨S1x65536, .i32⟩
  | .hbm, ⟨7, _⟩ => ⟨S65536, .i32⟩
  | .hbm, ⟨8, _⟩ => ⟨S_, .i32⟩
  | .hbm, ⟨9, _⟩ => ⟨S65536, .i32⟩
  | .hbm, ⟨10, _⟩ => ⟨S65536, .i1⟩
  | .hbm, ⟨11, _⟩ => ⟨S_, .i32⟩
  | .hbm, ⟨12, _⟩ => ⟨S65536, .i32⟩
  | .hbm, ⟨13, _⟩ => ⟨S65536, .i32⟩
  | .hbm, ⟨14, _⟩ => ⟨S65536, .i32⟩
  | .hbm, ⟨15, _⟩ => ⟨S65536x1, .i32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S65536x1, .f32⟩
  | .hbm, ⟨20, _⟩ => ⟨S1x65536, .i32⟩
  | .hbm, ⟨21, _⟩ => ⟨S65536, .i32⟩
  | .hbm, ⟨22, _⟩ => ⟨S_, .i32⟩
  | .hbm, ⟨23, _⟩ => ⟨S65536, .i32⟩
  | .hbm, ⟨24, _⟩ => ⟨S65536, .i1⟩
  | .hbm, ⟨25, _⟩ => ⟨S_, .i32⟩
  | .hbm, ⟨26, _⟩ => ⟨S65536, .i32⟩
  | .hbm, ⟨27, _⟩ => ⟨S65536, .i32⟩
  | .hbm, ⟨28, _⟩ => ⟨S65536, .i32⟩
  | .hbm, ⟨29, _⟩ => ⟨S65536x1, .i32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel4.lean ====
abbrev S2x65536 : Shape := ⟨2, ![2, 65536]⟩
abbrev S_ : Shape := ⟨0, ![]⟩
abbrev S1024x1024 : Shape := ⟨2, ![1024, 1024]⟩
abbrev S16x128 : Shape := ⟨2, ![16, 128]⟩
abbrev S2x1024 : Shape := ⟨2, ![2, 1024]⟩
abbrev S16x1024 : Shape := ⟨2, ![16, 1024]⟩
abbrev S1x1024 : Shape := ⟨2, ![1, 1024]⟩
abbrev S16x1 : Shape := ⟨2, ![16, 1]⟩
abbrev S1024 : Shape := ⟨1, ![1024]⟩
abbrev S16 : Shape := ⟨1, ![16]⟩

abbrev nBuf : Space → Nat
  | .hbm => 15
  | .vmem => 7
  | .smem => 0
  | _ => 0

abbrev bufTy : (tb : Table) → Fin (tcTables nBuf tb) → BufTy
  | .hbm, ⟨0, _⟩ => ⟨S2x65536, .i32⟩
  | .hbm, ⟨1, _⟩ => ⟨S_, .f32⟩
  | .hbm, ⟨2, _⟩ => ⟨S1024x1024, .f32⟩
  | .hbm, ⟨3, _⟩ => ⟨S1024x1024, .i32⟩
  | .hbm, ⟨4, _⟩ => ⟨S_, .i32⟩
  | .hbm, ⟨5, _⟩ => ⟨S1024x1024, .i32⟩
  | .hbm, ⟨6, _⟩ => ⟨S1024x1024, .i32⟩
  | .hbm, ⟨7, _⟩ => ⟨S1024x1024, .i32⟩
  | .hbm, ⟨8, _⟩ => ⟨S1024x1024, .i1⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S2x65536, .i32⟩
  | .hbm, ⟨14, _⟩ => ⟨S16x128, .f32⟩
  | .local _ .vmem, ⟨0, _⟩ => ⟨S2x1024, .i32⟩
  | .local _ .vmem, ⟨1, _⟩ => ⟨S2x1024, .i32⟩
  | .local _ .vmem, ⟨2, _⟩ => ⟨S1024x1024, .bf16⟩
  | .local _ .vmem, ⟨3, _⟩ => ⟨S2x1024, .i32⟩
  | .local _ .vmem, ⟨4, _⟩ => ⟨S2x1024, .i32⟩
  | .local _ .vmem, ⟨5, _⟩ => ⟨S16x128, .f32⟩
  | .local _ .vmem, ⟨6, _⟩ => ⟨S16x128, .f32⟩
  | _, _ => ⟨S2x65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference4Ideal.lean ====
abbrev S2x65536 : Shape := ⟨2, ![2, 65536]⟩
abbrev S2x1x65536 : Shape := ⟨3, ![2, 1, 65536]⟩
abbrev S16 : Shape := ⟨1, ![16]⟩
abbrev S1x16x1 : Shape := ⟨3, ![1, 16, 1]⟩
abbrev S2x16x65536 : Shape := ⟨3, ![2, 16, 65536]⟩
abbrev S_ : Shape := ⟨0, ![]⟩
abbrev S16x65536 : Shape := ⟨2, ![16, 65536]⟩
abbrev S1x16x65536 : Shape := ⟨3, ![1, 16, 65536]⟩
abbrev S16x1 : Shape := ⟨2, ![16, 1]⟩
abbrev S16x128 : Shape := ⟨2, ![16, 128]⟩

abbrev nBuf : Space → Nat
  | .hbm => 24
  | .vmem => 0
  | .smem => 0
  | _ => 0

abbrev bufTy : (tb : Table) → Fin (tcTables nBuf tb) → BufTy
  | .hbm, ⟨0, _⟩ => ⟨S2x65536, .i32⟩
  | .hbm, ⟨1, _⟩ => ⟨S2x1x65536, .i32⟩
  | .hbm, ⟨2, _⟩ => ⟨S16, .i32⟩
  | .hbm, ⟨3, _⟩ => ⟨S1x16x1, .i32⟩
  | .hbm, ⟨4, _⟩ => ⟨S2x16x65536, .i32⟩
  | .hbm, ⟨5, _⟩ => ⟨S2x16x65536, .i32⟩
  | .hbm, ⟨6, _⟩ => ⟨S2x16x65536, .i1⟩
  | .hbm, ⟨7, _⟩ => ⟨S2x16x65536, .i32⟩
  | .hbm, ⟨8, _⟩ => ⟨S_, .i32⟩
  | .hbm, ⟨9, _⟩ => ⟨S16x65536, .i32⟩
  | .hbm, ⟨10, _⟩ => ⟨S_, .i32⟩
  | .hbm, ⟨11, _⟩ => ⟨S_, .i32⟩
  | .hbm, ⟨12, _⟩ => ⟨S16x65536, .i32⟩
  | .hbm, ⟨13, _⟩ => ⟨S16x65536, .i32⟩
  | .hbm, ⟨14, _⟩ => ⟨S1x16x65536, .i32⟩
  | .hbm, ⟨15, _⟩ => ⟨S2x16x65536, .i32⟩
  | .hbm, ⟨16, _⟩ => ⟨S2x16x65536, .i32⟩
  | .hbm, ⟨17, _⟩ => ⟨S_, .i32⟩
  | .hbm, ⟨18, _⟩ => ⟨S2x65536, .i32⟩
  | .hbm, ⟨19, _⟩ => ⟨S_, .i32⟩
  | .hbm, ⟨20, _⟩ => ⟨S16, .i32⟩
  | .hbm, ⟨21, _⟩ => ⟨S16, .f32⟩
  | .hbm, ⟨22, _⟩ => ⟨S16x1, .f32⟩
  | .hbm, ⟨23, _⟩ => ⟨S16x128, .f32⟩
  | _, _ => ⟨S2x65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_call0_call0_c : Ref sig .tc := ⟨.hbm, 10, rfl⟩
abbrev main_call0_call0_v0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Kit.lean ====
/-
  The launch of the expert kernel, set up: what the host operations before the region leave in each array (`entry`), the two
  routing tables read off it (`tables`), the pipeline at those tables, each window's block at a grid point, and the input
  windows' staging buffers holding their blocks whenever the body runs. Everything is stated once, over any float values `F`.
-/
module

public import proofs.«01_k».proof.Proof.Gen.KernelIdeal.Launch
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The four stretches of host operations, in order. -/
abbrev stretches : List (List (HloOp τ sig (Elt F))) := [hostOps0, hostOps0_1, hostOps0_2, hostOps0_3]

/-- What core `c`'s buffers hold when the region is entered. -/
abbrev entry (c : Dev nD) (b : Ref sig .tc) : Buf (Elt F) ((c : Thread nD τ).loc b) :=
  StableHlo.after (List.flatten stretches) (fun b => m (c, b)) b

theorem fresh_0 : (hostOps0 : List (HloOp τ sig (Elt F))).Forall fun op => op.fresh = ∅ := by
  simp only [List.Forall]; repeat' constructor
theorem fresh_1 : (hostOps0_1 : List (HloOp τ sig (Elt F))).Forall fun op => op.fresh = ∅ := by
  simp only [List.Forall]; repeat' constructor
theorem fresh_2 : (hostOps0_2 : List (HloOp τ sig (Elt F))).Forall fun op => op.fresh = ∅ := by
  simp only [List.Forall]; repeat' constructor
theorem fresh_3 : (hostOps0_3 : List (HloOp τ sig (Elt F))).Forall fun op => op.fresh = ∅ := by
  simp only [List.Forall]; repeat' constructor

set_option maxHeartbeats 800000 in
/-- @main runs the four stretches, then the region. -/
theorem main_to_region (𝒱₀ : Variants) :
    Pipeline.HMainP (Ix := Unit) (Name := ℕ) (U := UR sig nD τ) (Lvl := ℕ) pcfgs 0 defs₀ 𝒱₀ m (main (F := F)) (entry m) :=
  Pipeline.hmainP_prefixes pcfgs 0 defs₀ 𝒱₀ m main stretches
    (by simp only [List.Forall]; exact ⟨hostOps0_sub, hostOps0_1_sub, hostOps0_2_sub, hostOps0_3_sub⟩)
    (by simp only [List.Forall]; exact ⟨fresh_0, fresh_1, fresh_2, fresh_3⟩) main_chain

/-- A buffer that no host operation writes is found as launched. -/
theorem entry_of_unwritten (c : Dev nD) (b : Ref sig .tc)
    (h : ∀ op ∈ (List.flatten stretches : List (HloOp τ sig (Elt F))), Proc.devRef .tc b ∉ op.writes) :
    entry m c b = m ((c : Thread nD τ).loc b) :=
  StableHlo.after_of_forall_not_mem (b := Proc.devRef .tc b) _ _ h

theorem entry_arg0 (c : Dev nD) : entry m c main_arg0 = m ((c : Thread nD τ).loc main_arg0) :=
  entry_of_unwritten m c main_arg0 (List.forall_iff_forall_mem.mp (by
    simp only [stretches, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem entry_arg1 (c : Dev nD) : entry m c main_arg1 = m ((c : Thread nD τ).loc main_arg1) :=
  entry_of_unwritten m c main_arg1 (List.forall_iff_forall_mem.mp (by
    simp only [stretches, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem entry_arg2 (c : Dev nD) : entry m c main_arg2 = m ((c : Thread nD τ).loc main_arg2) :=
  entry_of_unwritten m c main_arg2 (List.forall_iff_forall_mem.mp (by
    simp only [stretches, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem entry_arg3 (c : Dev nD) : entry m c main_arg3 = m ((c : Thread nD τ).loc main_arg3) :=
  entry_of_unwritten m c main_arg3 (List.forall_iff_forall_mem.mp (by
    simp only [stretches, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem entry_arg4 (c : Dev nD) : entry m c main_arg4 = m ((c : Thread nD τ).loc main_arg4) :=
  entry_of_unwritten m c main_arg4 (List.forall_iff_forall_mem.mp (by
    simp only [stretches, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

/-! ## The routing tables -/

/-- The tables' contents at the region's entry: the tiles' experts, and which tiles hold rows. -/
def tables : pre0.Contents (Elt F) := fun j => entry m (0 : Dev nD) (pre0.ref j)
theorem entry_tables (c : Dev nD) (j : Fin 2) : entry m c (pre0.ref j) = tables m j := by
  obtain rfl : c = 0 := Subsingleton.elim _ _; rfl

/-- The pipeline's side condition of the tables: every expert they name is one of the eight. -/
abbrev TablesOk : Prop := ok0 (F := F) (tables m)
abbrev adm (hO : TablesOk m) : (pcfg0 (F := F)).Adm := ⟨tables m, hO⟩
abbrev cfgT (hO : TablesOk m) : Pipeline.Cfg sig Λ₀ := cfg0 (adm m hO)

/-- The tables as the body is handed them: whole buffers in SMEM. -/
abbrev teM : Memref sig .tc .smem S264 .i32 := Memref.whole main_v26
abbrev teW : teM.IsWhole := Memref.isWhole_whole _
abbrev tvM : Memref sig .tc .smem S264 .i32 := Memref.whole main_v11
abbrev tvW : tvM.IsWhole := Memref.isWhole_whole _

/-- A table's buffer held at half the full share (the pipeline keeps the other half). -/
abbrev TblBuf (c : Dev nD) {S : Shape} {e : EltTy} (M : Memref sig .tc .smem S e) : Type := Buf (Elt F) (M.view.loc (c : Thread nD τ))
abbrev heldTbl (c : Dev nD) {S : Shape} {e : EltTy} (M : Memref sig .tc .smem S e) (f : TblBuf (F := F) c M) : sProp 𝕄 :=
  M.view.loc (c : Thread nD τ) ↦{fullShare.right} f

theorem tables_held (c : Dev nD) :
    (Pipeline.ΦT pre0 (tables m) c : sProp 𝕄) = iprop(heldTbl c teM (tables m 0) ∗ heldTbl c tvM (tables m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, of its array as the region finds it. -/
def blkAt (hO : TablesOk m) (c : Dev nD) (w : Fin (cfgT m hO).W) (t : Fin (cfgT m hO).N) :
    (((cfgT m hO).win w).xblock ((cfgT m hO).grid.coords t)).Idx → Elt F ((cfgT m hO).win w).elt :=
  (((cfgT m hO).win w).blk t).view.read (Elt F) (entry m c (Pipeline.arrRef spec0 w))

theorem before_in0 (hO : TablesOk m) {c : Dev nD} (dat : Dat τ (Elt F) Unit ℕ (UR sig nD τ) ℕ (cfgT m hO) c)
    (hA : dat.A 0 = entry m c (Pipeline.arrRef spec0 0)) (hafter : ∀ t, dat.after 0 t = blkAt m hO c 0 t)
    (t : Fin (cfgT m hO).N) (d) : dat.before 0 t d = blkAt m hO c 0 t :=
  (dat.before_in_eq_fetched 0 rfl (fun _ => rfl) (fun _ _ _ => rfl) (fun t => by rw [hafter]; unfold Dat.blockOf blkAt; rw [hA]; try rfl) t d).trans
    (by unfold Dat.fetched Dat.blockOf blkAt; rw [hA]; try rfl)
theorem before_in1 (hO : TablesOk m) {c : Dev nD} (dat : Dat τ (Elt F) Unit ℕ (UR sig nD τ) ℕ (cfgT m hO) c)
    (hA : dat.A 1 = entry m c (Pipeline.arrRef spec0 1)) (hafter : ∀ t, dat.after 1 t = blkAt m hO c 1 t)
    (t : Fin (cfgT m hO).N) (d) : dat.before 1 t d = blkAt m hO c 1 t :=
  (dat.before_in_eq_fetched 1 rfl (fun _ => rfl) (fun _ _ _ => rfl) (fun t => by rw [hafter]; unfold Dat.blockOf blkAt; rw [hA]; try rfl) t d).trans
    (by unfold Dat.fetched Dat.blockOf blkAt; rw [hA]; try rfl)
theorem before_in2 (hO : TablesOk m) {c : Dev nD} (dat : Dat τ (Elt F) Unit ℕ (UR sig nD τ) ℕ (cfgT m hO) c)
    (hA : dat.A 2 = entry m c (Pipeline.arrRef spec0 2)) (hafter : ∀ t, dat.after 2 t = blkAt m hO c 2 t)
    (t : Fin (cfgT m hO).N) (d) : dat.before 2 t d = blkAt m hO c 2 t :=
  (dat.before_in_eq_fetched 2 rfl (fun _ => rfl) (fun _ _ _ => rfl) (fun t => by rw [hafter]; unfold Dat.blockOf blkAt; rw [hA]; try rfl) t d).trans
    (by unfold Dat.fetched Dat.blockOf blkAt; rw [hA]; try rfl)
theorem before_in3 (hO : TablesOk m) {c : Dev nD} (dat : Dat τ (Elt F) Unit ℕ (UR sig nD τ) ℕ (cfgT m hO) c)
    (hA : dat.A 3 = entry m c (Pipeline.arrRef spec0 3)) (hafter : ∀ t, dat.after 3 t = blkAt m hO c 3 t)
    (t : Fin (cfgT m hO).N) (d) : dat.before 3 t d = blkAt m hO c 3 t :=
  (dat.before_in_eq_fetched 3 rfl (fun _ => rfl) (fun _ _ _ => rfl) (fun t => by rw [hafter]; unfold Dat.blockOf blkAt; rw [hA]; try rfl) t d).trans
    (by unfold Dat.fetched Dat.blockOf blkAt; rw [hA]; try rfl)

/-! ## The staging memrefs and the body at a point -/

abbrev stg0 (hO : TablesOk m) (t : Fin (cfgT m hO).N) : Memref sig .tc .vmem S4096x128 .f32 := spec0_0.stage ((cfgT m hO).slots t 0)
abbrev stgW0 (hO : TablesOk m) (t : Fin (cfgT m hO).N) : (stg0 m hO t).IsWhole := hstage0_0 (((cfgT m hO).slots t 0).cast nbuf0_0)
abbrev stg1 (hO : TablesOk m) (t : Fin (cfgT m hO).N) : Memref sig .tc .vmem S1x1024x3584 .bf16 := spec0_1.stage ((cfgT m hO).slots t 1)
abbrev stgW1 (hO : TablesOk m) (t : Fin (cfgT m hO).N) : (stg1 m hO t).IsWhole := hstage0_1 (((cfgT m hO).slots t 1).cast nbuf0_1)
abbrev stg2 (hO : TablesOk m) (t : Fin (cfgT m hO).N) : Memref sig .tc .vmem S1x1024x3584 .bf16 := spec0_2.stage ((cfgT m hO).slots t 2)
abbrev stgW2 (hO : TablesOk m) (t : Fin (cfgT m hO).N) : (stg2 m hO t).IsWhole := hstage0_2 (((cfgT m hO).slots t 2).cast nbuf0_2)
abbrev stg3 (hO : TablesOk m) (t : Fin (cfgT m hO).N) : Memref sig .tc .vmem S1x3584x1024 .bf16 := spec0_3.stage ((cfgT m hO).slots t 3)
abbrev stgW3 (hO : TablesOk m) (t : Fin (cfgT m hO).N) : (stg3 m hO t).IsWhole := hstage0_3 (((cfgT m hO).slots t 3).cast nbuf0_3)
abbrev stg4 (hO : TablesOk m) (t : Fin (cfgT m hO).N) : Memref sig .tc .vmem S4096x128 .f32 := spec0_4.stage ((cfgT m hO).slots t 4)
abbrev stgW4 (hO : TablesOk m) (t : Fin (cfgT m hO).N) : (stg4 m hO t).IsWhole := hstage0_4 (((cfgT m hO).slots t 4).cast nbuf0_4)

/-- The kernel's body at point `t`, on the staging memrefs of that point. -/
abbrev bodyAt (hO : TablesOk m) (t : Fin (cfgT m hO).N) : Prog (TpuEff nD τ sig (Elt F) Λ₀ .tc) PUnit :=
  cc0_moe_experts (grid0.coords t) teM teW tvM tvW (stg0 m hO t) (stgW0 m hO t) (stg1 m hO t) (stgW1 m hO t)
    (stg2 m hO t) (stgW2 m hO t) (stg3 m hO t) (stgW3 m hO t) (stg4 m hO t) (stgW4 m hO t)

theorem body_row (hO : TablesOk m) (t : Fin (cfgT m hO).N) :
    defs₀ (F := F) .tc (cfgT m hO).body ((cfgT m hO).bodyArgs t ((cfgT m hO).slots t)) = bodyAt m hO t := by
  unfold defs₀; rw [Defs.onTc_tc]

/-- The result's window is written back at every point. -/
theorem flush_out (a : (pcfg0 (F := F)).Adm) : ∀ t : Fin (cfg0 a).N, ((cfg0 a).win 4).flush t = true :=
  (fun t => (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _) :
    ∀ t : Fin grid0.N, Pipeline.Window.flushOf grid0 true cc0_transform_4 t = true)

end Cert.Experts

end
-- ==== Proof.Block.lean ====
/-
  What the expert kernel's body computes at one grid point, as a function of the four blocks it reads: the tile's rows put
  side by side and rounded, seven strips of 512 hidden columns, each added into the accumulator, and the accumulator's
  columns sent back to the rows of the output block. Stated over any float values `F`.
-/
module

public import proofs.«01_k».proof.Proof.Kit
public import proofs.«01_k».proof.Proof.Gen.KernelIdeal.Skeleton

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a load by the rectangle `R` reads of a block `x`. -/
abbrev got {s : Shape} {e : EltTy} (x : Vec F s e) (R : LoadRect s) : R.shape.Idx → Elt F e := fun y => x (R.idx y)

theorem lanes_inb (c : ℕ) (hc : c < 8) (a : Fin 2) :
    S512x128.size a = 0 ∨ (![c, 0] : Fin 2 → ℕ) a + (![8, 1] : Fin 2 → ℕ) a * (S512x128.size a - 1) < S4096x128.size a := by
  right
  fin_cases a
  · show c + 8 * (512 - 1) < 4096
    omega
  · show 0 + 1 * (128 - 1) < 128
    omega

/-- Every eighth row of a tile, from row `c`: the `c`-th 128 columns of its 512 rows of 1024. -/
abbrev lanes (c : ℕ) (hc : c < 8) : LoadRect S4096x128 := ⟨![c, 0], S512x128.size, ![8, 1], lanes_inb c hc⟩

theorem upCols_inb (n : ℕ) (hn : n < 7) (a : Fin 3) :
    (![0, 0, 512 * n] : Fin 3 → ℕ) a + S1x1024x512.size a ≤ S1x1024x3584.size a := by
  fin_cases a
  · show 0 + 1 ≤ 1
    omega
  · show 0 + 1024 ≤ 1024
    omega
  · show 512 * n + 512 ≤ 3584
    omega

/-- The `n`-th strip of 512 hidden columns of a gate or up matrix. -/
abbrev upCols (n : ℕ) (hn : n < 7) : LoadRect S1x1024x3584 :=
  (Rect.unit (s := S1x1024x3584) ![0, 0, 512 * n] S1x1024x512.size (upCols_inb n hn)).toLoadRect

theorem downRows_inb (n : ℕ) (hn : n < 7) (a : Fin 3) :
    (![0, 512 * n, 0] : Fin 3 → ℕ) a + S1x512x1024.size a ≤ S1x3584x1024.size a := by
  fin_cases a
  · show 0 + 1 ≤ 1
    omega
  · show 512 * n + 512 ≤ 3584
    omega
  · show 0 + 1024 ≤ 1024
    omega

/-- The `n`-th strip of 512 rows of a down matrix. -/
abbrev downRows (n : ℕ) (hn : n < 7) : LoadRect S1x3584x1024 :=
  (Rect.unit (s := S1x3584x1024) ![0, 512 * n, 0] S1x512x1024.size (downRows_inb n hn)).toLoadRect

/-- The tile's 512 rows of 1024, rounded to bfloat16. -/
def rowsOf (x0 : Vec F S4096x128 .f32) : FVec F S512x1024 .bf16 :=
  k0_pay4 (got x0 (lanes 0 (by omega))) (got x0 (lanes 1 (by omega))) (got x0 (lanes 2 (by omega))) (got x0 (lanes 3 (by omega))) (got x0 (lanes 4 (by omega))) (got x0 (lanes 5 (by omega))) (got x0 (lanes 6 (by omega))) (got x0 (lanes 7 (by omega)))

/-- One strip's product with the rows. -/
def upOf (xb : FVec F S512x1024 .bf16) (w : Vec F S1x1024x512 .bf16) : FVec F S512x512 .f32 :=
  matmul dot_S512x1024_S1024x512_S512x512_1_0_0_1_n_n none xb (shapeCast S1024x512 w shapeCasts_S1x1024x512_S1024x512)
    (constant S512x512 .f32 0x00000000#32)

/-- The gated hidden values: `g · (1 / (1 + exp (0 − g))) · u`, as the kernel computes them. -/
def gated (g u : FVec F S512x512 .f32) : FVec F S512x512 .f32 :=
  mulf (mulf g (divf (broadcast S512x512 (Scalar.ofBits .f32 0x3F800000#32))
    (addf (broadcast S512x512 (Scalar.ofBits .f32 0x3F800000#32))
      (exp (subf (broadcast S512x512 (Scalar.ofBits .f32 0x00000000#32)) g))))) u

/-- One strip's share of the result: the gated hidden values, rounded, times the strip of the down matrix. -/
def stripOf (xb : FVec F S512x1024 .bf16) (g u : Vec F S1x1024x512 .bf16) (d : Vec F S1x512x1024 .bf16) :
    FVec F S512x1024 .f32 :=
  matmul dot_S512x512_S512x1024_S512x1024_1_0_0_1_n_n none
    (truncf .bf16 (gated (upOf xb g) (upOf xb u)) bitsLt_bf16_f32)
    (shapeCast S512x1024 d shapeCasts_S1x512x1024_S512x1024) (constant S512x1024 .f32 0x00000000#32)

/-- The accumulator after the first `n` strips. -/
def accUpTo (x0 : Vec F S4096x128 .f32) (x1 x2 : Vec F S1x1024x3584 .bf16) (x3 : Vec F S1x3584x1024 .bf16) :
    (n : ℕ) → n ≤ 7 → FVec F S512x1024 .f32
  | 0, _ => broadcast S512x1024 (Scalar.ofBits .f32 0x00000000#32)
  | n + 1, h => addf (accUpTo x0 x1 x2 x3 n (by omega))
      (stripOf (rowsOf x0) (got x1 (upCols n (by omega))) (got x2 (upCols n (by omega))) (got x3 (downRows n (by omega))))

/-- The tile's 512 rows of 1024 results. -/
abbrev accOf (x0 : Vec F S4096x128 .f32) (x1 x2 : Vec F S1x1024x3584 .bf16) (x3 : Vec F S1x3584x1024 .bf16) :
    FVec F S512x1024 .f32 := accUpTo x0 x1 x2 x3 7 le_rfl

theorem fold_row_lt (y : S4096x128.Idx) : (y 0).val / 8 < 512 := by
  have h : (y 0).val < 4096 := (y 0).isLt
  omega

theorem fold_col_lt (y : S4096x128.Idx) : (y 0).val % 8 * 128 + (y 1).val < 1024 := by
  have h : (y 1).val < 128 := (y 1).isLt
  omega

/-- Where an entry of the 4096 × 128 layout of a tile lies in its 512 × 1024 layout. -/
def foldIdx (y : S4096x128.Idx) : S512x1024.Idx :=
  Fin.cons ⟨(y 0).val / 8, fold_row_lt y⟩ (Fin.cons ⟨(y 0).val % 8 * 128 + (y 1).val, fold_col_lt y⟩ fun a => a.elim0)

/-- What the body leaves in the output block, the tile's entry of the valid table being `w`: the results of the tile in the
row layout, or zeros. -/
def blockOf (w : BitVec 32) (x0 : Vec F S4096x128 .f32) (x1 x2 : Vec F S1x1024x3584 .bf16) (x3 : Vec F S1x3584x1024 .bf16) :
    Vec F S4096x128 .f32 :=
  if w = 1#32 then fun y => accOf x0 x1 x2 x3 (foldIdx y) else fun _ => Scalar.ofBits .f32 0x00000000#32

/-- The branch that computes is taken where the table says 1. -/
theorem computes_iff (w : BitVec 32) : k0_cond1 w = 1#1 ↔ w = 1#32 := by
  have key : k0_cond1 w = IntOp.cmpi .ne (BitVec.setWidth 32 (IntOp.cmpi .eq w 1#32)) 0#32 := rfl
  rw [key, WordCmp.cmpi_eq_eq]
  by_cases h : w = 1#32 <;> simp [h] <;> decide

/-- The branch that zeroes is taken everywhere else. -/
theorem zeroes_iff (w : BitVec 32) : k0_cond2 w = 1#1 ↔ ¬ w = 1#32 := by
  have key : k0_cond2 w = IntOp.cmpi .ne (BitVec.setWidth 32 (IntOp.xori (IntOp.cmpi .eq w 1#32) 1#1)) 0#32 := rfl
  rw [key, WordCmp.cmpi_eq_eq]
  by_cases h : w = 1#32 <;> simp [h] <;> decide

end Cert.Experts

end
-- ==== Proof.Body.lean ====
/-
  The body of the expert kernel at one grid point: holding its four input blocks, the two tables and the output block, it
  ends with the output block at `blockOf`, everything else unchanged.
-/
module

public import proofs.«01_k».proof.Proof.Block
public import Idealize.ShloMosaic.Lib.WholeRead

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The valid table's entry for the grid point `i`. -/
abbrev tileWord (c : Dev nD) (i : grid0.Coords) (t1 : TblBuf (F := F) c tvM) : BitVec 32 :=
  View.readAt (Elt F) tvM.view (Rect.unit (s := S264) (k0_off1 i) S1.size (k0_off1_inb i)).toLoadRect t1 (Shape.Idx.first (Nat.lt_of_lt_of_eq Nat.one_pos numel1_S1.symm))

theorem slices_lanes (c : ℕ) (hc : c < 8) : S512x1024.Slices ![0, 128 * c] S512x128 :=
  ⟨rfl, fun a => by
    fin_cases a
    · show 0 + 512 ≤ 512
      omega
    · show 128 * c + 128 ≤ 1024
      omega⟩

/-- The store of the `c`-th 128 columns of a tile's results to every eighth row of the output block, from row `c`. -/
abbrev lanePiece (A : FVec F S512x1024 .f32) (c : ℕ) (hc : c < 8) : View.Piece (Elt F) S4096x128 .f32 :=
  ⟨⟨lanes c hc, spos_8_1⟩, extractStridedSlice S512x128 ![0, 128 * c] A (slices_lanes c hc)⟩

/-- Each store agrees with the row layout of the results. -/
theorem lanePiece_agrees (A : FVec F S512x1024 .f32) (c : ℕ) (hc : c < 8) (x : S512x128.Idx) :
    (lanePiece A c hc).2 x = A (foldIdx ((lanePiece A c hc).1.emb x)) := by
  refine extractStridedSlice_apply _ A (slices_lanes c hc) x _ fun a => ?_
  have h1 : (x 1).val < 128 := (x 1).isLt
  fin_cases a
  · show (c + 8 * (x 0).val) / 8 = 0 + (x 0).val
    omega
  · show (c + 8 * (x 0).val) % 8 * 128 + (0 + 1 * (x 1).val) = 128 * c + (x 1).val
    omega

theorem mem_lanePiece (A : FVec F S512x1024 .f32) (c : ℕ) (hc : c < 8) (y : S4096x128.Idx) (h : (y 0).val % 8 = c) :
    y ∈ (lanePiece A c hc).1.set := by
  rw [LoadRect.mem_set]
  have h0 : (y 0).val < 4096 := (y 0).isLt
  have h1 : (y 1).val < 128 := (y 1).isLt
  intro a
  fin_cases a
  · exact ⟨(y 0).val / 8, by show (y 0).val / 8 < 512; omega, by show (y 0).val = c + 8 * ((y 0).val / 8); omega⟩
  · exact ⟨(y 1).val, h1, by show (y 1).val = 0 + 1 * (y 1).val; omega⟩

/-- The eight stores leave the row layout of the results, whatever the block held. -/
theorem read_lanes {sp : Space} (a7 : Memref sig .tc sp S4096x128 .f32) (f4 : a7.view.ty.Contents (Elt F))
    (A : FVec F S512x1024 .f32) :
    a7.view.read (Elt F) (a7.view.writes (Elt F) f4
      [lanePiece A 7 (by omega), lanePiece A 6 (by omega), lanePiece A 5 (by omega), lanePiece A 4 (by omega),
        lanePiece A 3 (by omega), lanePiece A 2 (by omega), lanePiece A 1 (by omega), lanePiece A 0 (by omega)])
      = fun y => A (foldIdx y) := by
  funext y
  refine View.read_writes_apply_of_pieces (Val := Elt F) (e := .f32) _ _ (fun y => A (foldIdx y)) _ ?_ y ?_
  · intro p hp
    simp only [List.mem_cons, List.not_mem_nil, or_false] at hp
    rcases hp with rfl | rfl | rfl | rfl | rfl | rfl | rfl | rfl <;> exact lanePiece_agrees A _ _
  · have h : (y 0).val % 8 < 8 := Nat.mod_lt _ (by decide)
    have hy := fun c hc => mem_lanePiece A c hc y
    refine ⟨lanePiece A ((y 0).val % 8) h, ?_, hy _ h rfl⟩
    generalize (y 0).val % 8 = c at h ⊢
    have hc : c = 0 ∨ c = 1 ∨ c = 2 ∨ c = 3 ∨ c = 4 ∨ c = 5 ∨ c = 6 ∨ c = 7 := by omega
    rcases hc with rfl | rfl | rfl | rfl | rfl | rfl | rfl | rfl <;> simp only [List.mem_cons, true_or, or_true]

/-- Through a whole memref held at the contents that read `x`, a load reads `x`. -/
theorem readAt_got {sp : Space} {s : Shape} {e : EltTy} {a : Memref sig .tc sp s e} (h : a.IsWhole) (x : Vec F s e)
    (R : LoadRect s) : View.readAt (Elt F) a.view R (h.unread x) = got x R :=
  funext fun y => h.readAt_unread x R y

/-- The store of zeros to the whole block leaves zeros. -/
theorem read_zeros {sp : Space} (a7 : Memref sig .tc sp S4096x128 .f32) (f4 : a7.view.ty.Contents (Elt F)) :
    a7.view.read (Elt F) (a7.view.writes (Elt F) f4
      [⟨Rect.unit ![0, 0] ![4096, 128] inb_S4096x128_S4096x128_0_0, k0_pay3⟩])
      = fun _ => (Scalar.ofBits .f32 0x00000000#32 : F .f32) := by
  funext y
  refine View.read_writes_apply_of_pieces (Val := Elt F) (e := .f32) _ _ (fun _ => (Scalar.ofBits .f32 0x00000000#32 : F .f32)) _ ?_ y ?_
  · intro p hp
    simp only [List.mem_cons, List.not_mem_nil, or_false] at hp
    subst hp
    exact fun _ => rfl
  · refine ⟨_, List.mem_cons_self, ?_⟩
    rw [Rect.mem_set_unit]
    intro a
    fin_cases a
    · exact ⟨Nat.zero_le _, by show (y 0).val < 0 + 4096; have := (y 0).isLt; simpa using this⟩
    · exact ⟨Nat.zero_le _, by show (y 1).val < 0 + 128; have := (y 1).isLt; simpa using this⟩

set_option maxHeartbeats 2000000 in
/-- The body's run. -/
theorem body_run (c : Dev nD) (i : grid0.Coords) (a3 : Memref sig .tc .vmem S4096x128 .f32) (h3 : a3.IsWhole) (a4 : Memref sig .tc .vmem S1x1024x3584 .bf16) (h4 : a4.IsWhole) (a5 : Memref sig .tc .vmem S1x1024x3584 .bf16) (h5 : a5.IsWhole) (a6 : Memref sig .tc .vmem S1x3584x1024 .bf16) (h6 : a6.IsWhole) (a7 : Memref sig .tc .vmem S4096x128 .f32) (h7 : a7.IsWhole)
    (x0 : Vec F S4096x128 .f32) (x1 : Vec F S1x1024x3584 .bf16) (x2 : Vec F S1x1024x3584 .bf16) (x3 : Vec F S1x3584x1024 .bf16)
    (t0 : TblBuf (F := F) c teM) (t1 : TblBuf (F := F) c tvM) (E : Set ℕ) (K : PUnit → sProp 𝕄) :
    iprop(owns (c : Thread nD τ) a3 fullShare x0 ∗ owns (c : Thread nD τ) a4 fullShare x1
        ∗ owns (c : Thread nD τ) a5 fullShare x2 ∗ owns (c : Thread nD τ) a6 fullShare x3
        ∗ (∃ d, owns (c : Thread nD τ) a7 fullShare d) ∗ heldTbl c teM t0 ∗ heldTbl c tvM t1
        ∗ (iprop(owns (c : Thread nD τ) a3 fullShare x0 ∗ owns (c : Thread nD τ) a4 fullShare x1
            ∗ owns (c : Thread nD τ) a5 fullShare x2 ∗ owns (c : Thread nD τ) a6 fullShare x3
            ∗ owns (c : Thread nD τ) a7 fullShare (blockOf (tileWord c i t1) x0 x1 x2 x3)
            ∗ heldTbl c teM t0 ∗ heldTbl c tvM t1) -∗ K ⟨⟩))
      ⊢ wp frame (wpE (defs₀ (F := F)) Variants.none c none) E
          (cc0_moe_experts i teM teW tvM tvW a3 h3 a4 h4 a5 h5 a6 h6 a7 h7) K := by
  simp only [cc0_moe_experts_eq_skeleton]; unfold cc0_moe_experts_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := h3.eq_unread hf0; obtain rfl := h4.eq_unread hf1; obtain rfl := h5.eq_unread hf2; obtain rfl := h6.eq_unread hf3
  sl_exec
  sl_step
  iapply Hk
  isplitl [H0]
  · iexists _; isplitr
    · ipureintro; exact h3.read_unread _
    · iexact H0
  isplitl [H1]
  · iexists _; isplitr
    · ipureintro; exact h4.read_unread _
    · iexact H1
  isplitl [H2]
  · iexists _; isplitr
    · ipureintro; exact h5.read_unread _
    · iexact H2
  isplitl [H3]
  · iexists _; isplitr
    · ipureintro; exact h6.read_unread _
    · iexact H3
  isplitl [H4]
  · iexists _; isplitr
    rotate_left
    · iexact H4
    ipureintro
    by_cases hw : tileWord c i t1 = 1#32
    · have hc1 : k0_cond1 (body_run.sl.r c i t1) = 1#1 := (computes_iff _).mpr hw
      have hc2 : ¬ k0_cond2 (body_run.sl.r c i t1) = 1#1 := fun h => (zeroes_iff _).mp h hw
      rw [dif_neg hc2, dif_pos hc1]
      refine (read_lanes a7 f4 _).trans ?_
      refine Eq.trans ?_ (if_pos hw).symm
      refine congrArg (fun A : FVec F S512x1024 .f32 => fun y => A (foldIdx y)) ?_
      delta body_run.sl.r_12 body_run.sl.r_11 body_run.sl.r_10 body_run.sl.r_9 body_run.sl.r_8 body_run.sl.r_7 body_run.sl.r_6 body_run.sl.r_5 body_run.sl.r_4 body_run.sl.r_3 body_run.sl.r_2 body_run.sl.r_1
      simp only [readAt_got]
      rfl
    · have hc2 : k0_cond2 (body_run.sl.r c i t1) = 1#1 := (zeroes_iff _).mpr hw
      rw [dif_pos hc2]
      refine (read_zeros a7 _).trans ?_
      exact (if_neg hw).symm
  isplitl [HT0]
  · iexact HT0
  · iexact HT1

end Cert.Experts

end
-- ==== Proof.Run.lean ====
/-
  The run of the expert kernel: the pipeline's proof data (each input buffer at its block, the output buffer at `blockOf` of
  the point's blocks), the body's obligation at every point, and the launch. Stated over any float values `F`, under the
  pipeline's side condition of the tables (`TablesOk`), which another module proves of every memory.
-/
module

public import proofs.«01_k».proof.Proof.Body
public import Idealize.ShloMosaic.Lib.Claim

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the output's buffer at point `t`. -/
def outAt (hO : TablesOk m) (c : Dev nD) (t : Fin (cfgT m hO).N) : Vec F S4096x128 .f32 :=
  blockOf (tileWord c (grid0.coords t) (tables m 1)) (blkAt m hO c 0 t) (blkAt m hO c 1 t) (blkAt m hO c 2 t) (blkAt m hO c 3 t)

/-- The pipeline's proof data. -/
def data (hO : TablesOk m) (_ : Fin 1) (c : Dev nD) : Dat τ (Elt F) Unit ℕ (UR sig nD τ) ℕ (cfgT m hO) c where
  A w := entry m c (Pipeline.arrRef spec0 w)
  after w t := match w with
    | ⟨0, _⟩ => blkAt m hO c 0 t
    | ⟨1, _⟩ => blkAt m hO c 1 t
    | ⟨2, _⟩ => blkAt m hO c 2 t
    | ⟨3, _⟩ => blkAt m hO c 3 t
    | ⟨4, _⟩ => outAt m hO c t
  Φ _ := iprop(Pipeline.ΦA spec0 c ∗ Pipeline.ΦT pre0 (tables m) c)
  q _ := fullShare
  owed _ := 0

theorem data_A (hO : TablesOk m) (c : Dev nD) (w : Fin (cfgT m hO).W) :
    (data m hO 0 c).A w = entry m c (Pipeline.arrRef spec0 w) := by dsimp only [data]

section Leaves
variable (hO : TablesOk m) (c : Dev nD) (t : Fin (cfgT m hO).N)

theorem leaves0 : (data m hO 0 c).after 0 t = blkAt m hO c 0 t := by dsimp only [data]; try rfl
theorem leaves1 : (data m hO 0 c).after 1 t = blkAt m hO c 1 t := by dsimp only [data]; try rfl
theorem leaves2 : (data m hO 0 c).after 2 t = blkAt m hO c 2 t := by dsimp only [data]; try rfl
theorem leaves3 : (data m hO 0 c).after 3 t = blkAt m hO c 3 t := by dsimp only [data]; try rfl
theorem leaves4 : (data m hO 0 c).after 4 t = outAt m hO c t := by dsimp only [data]; try rfl

theorem finds0 (d) : (data m hO 0 c).before 0 t d = blkAt m hO c 0 t :=
  before_in0 m hO (data m hO 0 c) (data_A m hO c 0) (leaves0 m hO c) t d
theorem finds1 (d) : (data m hO 0 c).before 1 t d = blkAt m hO c 1 t :=
  before_in1 m hO (data m hO 0 c) (data_A m hO c 1) (leaves1 m hO c) t d
theorem finds2 (d) : (data m hO 0 c).before 2 t d = blkAt m hO c 2 t :=
  before_in2 m hO (data m hO 0 c) (data_A m hO c 2) (leaves2 m hO c) t d
theorem finds3 (d) : (data m hO 0 c).before 3 t d = blkAt m hO c 3 t :=
  before_in3 m hO (data m hO 0 c) (data_A m hO c 3) (leaves3 m hO c) t d

/-- The buffers as the body finds them, with the invariant and what is owed. -/
def startOf : sProp 𝕄 :=
  iprop((data m hO 0 c).Φ t.castSucc ∗ (data m hO 0 c).owesAt () t.castSucc
    ∗ (∃ d, owns (c : Thread nD τ) (stg0 m hO t) fullShare ((data m hO 0 c).before 0 t d))
    ∗ (∃ d, owns (c : Thread nD τ) (stg1 m hO t) fullShare ((data m hO 0 c).before 1 t d))
    ∗ (∃ d, owns (c : Thread nD τ) (stg2 m hO t) fullShare ((data m hO 0 c).before 2 t d))
    ∗ (∃ d, owns (c : Thread nD τ) (stg3 m hO t) fullShare ((data m hO 0 c).before 3 t d))
    ∗ (∃ d, owns (c : Thread nD τ) (stg4 m hO t) fullShare ((data m hO 0 c).before 4 t d)))

/-- The buffers as the body leaves them. -/
def finishOf : sProp 𝕄 :=
  iprop((data m hO 0 c).Φ t.succ ∗ (data m hO 0 c).owesAt () t.succ
    ∗ owns (c : Thread nD τ) (stg0 m hO t) fullShare ((data m hO 0 c).after 0 t)
    ∗ owns (c : Thread nD τ) (stg1 m hO t) fullShare ((data m hO 0 c).after 1 t)
    ∗ owns (c : Thread nD τ) (stg2 m hO t) fullShare ((data m hO 0 c).after 2 t)
    ∗ owns (c : Thread nD τ) (stg3 m hO t) fullShare ((data m hO 0 c).after 3 t)
    ∗ owns (c : Thread nD τ) (stg4 m hO t) fullShare ((data m hO 0 c).after 4 t))

/-- The body takes the one to the other. -/
theorem body_sound : startOf m hO c t
    ⊢ wp frame (wpE (defs₀ (F := F)) Variants.none c none) Set.univ (bodyAt m hO t) (fun _ => finishOf m hO c t) := by
  unfold startOf finishOf
  simp only [finds0, finds1, finds2, finds3]
  rw [show (data m hO 0 c).Φ t.succ = (data m hO 0 c).Φ t.castSucc from rfl,
    show (data m hO 0 c).owesAt () t.succ = (data m hO 0 c).owesAt () t.castSucc from rfl,
    leaves0, leaves1, leaves2, leaves3, leaves4]
  rw [show (data m hO 0 c).Φ t.castSucc = iprop(Pipeline.ΦA spec0 c ∗ Pipeline.ΦT pre0 (tables m) c) from rfl, tables_held]
  iintro ⟨⟨HΦ, ⟨HT0, HT1⟩⟩, Ho, ⟨%d0, H0⟩, ⟨%d1, H1⟩, ⟨%d2, H2⟩, ⟨%d3, H3⟩, ⟨%d4, H4⟩⟩
  iapply (body_run c (grid0.coords t) _ _ _ _ _ _ _ _ _ _ (blkAt m hO c 0 t) (blkAt m hO c 1 t) (blkAt m hO c 2 t)
    (blkAt m hO c 3 t) (tables m 0) (tables m 1) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]; · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- At every point the body writes the output's buffer: one of its two branches is taken. -/
theorem out_never_idle : (cfgT m hO).idle (4 : Fin 5) ((cfgT m hO).grid.coords t) = false := by
  show (!(k0_cond1 ((tables m).atD 1 (k0_off1 (grid0.coords t))) == 1#1)
    && !(k0_cond2 ((tables m).atD 1 (k0_off1 (grid0.coords t))) == 1#1)) = false
  generalize (tables m).atD 1 (k0_off1 (grid0.coords t)) = w
  by_cases hw : w = 1#32
  · rw [(computes_iff w).mpr hw]; rfl
  · rw [(zeroes_iff w).mpr hw]; simp

end Leaves

theorem body_obligation (hO : TablesOk m) (c : Dev nD) :
    BodyObligation (data (F := F) m hO 0 c) (defs₀ (F := F)) Variants.none () Set.univ := fun t => by
  rw [bigSep_W0, bigSep_W0, body_row m hO, out_never_idle m hO t]
  exact triple_restated (body_sound m hO c t) rfl .rfl fun _ => .rfl

-- the implicit arguments of the launch rule are found by unfolding plain definitions in their types
set_option backward.isDefEq.respectTransparency.types false in
/-- Every execution of the program ends, with every array of the pipeline at what its proof data say, every other buffer as
the region found it, and every semaphore at zero. -/
theorem run_launch (hO : TablesOk m) : θ_run defs (onTc (τ := τ) (main (F := F))) (s₀ m ρ)
    (fun r => (Pipeline.FramePost (Pipeline.pin pcfgs fun _ => adm m hO) (data m hO) 0 (entry m)) r ∧ r.2.sem = fun _ => 0) :=
  Pipeline.θ_run_frameP (Q' := _) pcfgs (fun _ => adm m hO) (data m hO) (0 : Fin 1) launch0 defs₀ Variants.none m ρ main
    (hbody := fun c => (body_obligation m hO c).loose) (hshare := fun c => (data m hO 0 c).share_full fun _ => rfl)
    (howed := fun _ _ => rfl) (V := entry m) (hmain := main_to_region m Variants.none) (hA := data_A m hO)
    (hpf := entry_tables m) (hΦ := fun _ _ => rfl)

/-- What a run leaves: the five arguments as launched, the result at what the pipeline's last write-back leaves, and no
semaphore raised. -/
theorem run_main (hO : TablesOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v33) = (data m hO 0 c).arrAt 4 (cfgT m hO).N)
      ∧ r.2.sem = fun _ => 0) := by
  refine (θ_run defs _ _).mono (fun r h => ⟨fun c => ⟨?_, ?_, ?_, ?_, ?_, ?_⟩, h.2⟩) (run_launch m ρ hO)
  · exact ((h.1 c).1 0).trans (((data m hO 0 c).arrAt_in 0 rfl _).trans ((data_A m hO c 0).trans (entry_arg0 m c)))
  · exact ((h.1 c).2 main_arg1 (by decide : main_arg1 ∈ Pipeline.restRefs sig spec0)).trans (entry_arg1 m c)
  · exact ((h.1 c).2 main_arg2 (by decide : main_arg2 ∈ Pipeline.restRefs sig spec0)).trans (entry_arg2 m c)
  · exact ((h.1 c).2 main_arg3 (by decide : main_arg3 ∈ Pipeline.restRefs sig spec0)).trans (entry_arg3 m c)
  · exact ((h.1 c).2 main_arg4 (by decide : main_arg4 ∈ Pipeline.restRefs sig spec0)).trans (entry_arg4 m c)
  · exact (h.1 c).1 4

end Cert.Experts

end
-- ==== Proof.Tables.lean ====
/-
  The routing tables that the host computes before the region, as functions of the counts: how many tiles each
  expert takes, where each expert's tiles end, which tiles hold rows, and which expert each tile belongs to.
  The tables always name one of the eight experts, whatever the counts are.
-/
module

public import proofs.«01_k».proof.Proof.Kit
public import Idealize.ShloMosaic.Lib.Routing.Ops
public import Idealize.ShloMosaic.Lib.StableHlo.ReadAt
public import Idealize.ShloMosaic.Lib.WordCmp

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ)

/-! ## The tables as functions of the counts -/

/-- The word 512 in every lane. -/
def tileRows : IVec S8 32 := broadcastInDim S8 ![] bcast_S_S8 (constantI S_ 32 512#32)
/-- The counts, plus the rows of a tile, less one. -/
def bumped (n : IVec S8 32) : IVec S8 32 := subi (addi n tileRows) (broadcastInDim S8 ![] bcast_S_S8 (constantI S_ 32 1#32))
/-- How many tiles each expert takes: the floor of the bumped counts by the rows of a tile. -/
def tilesOf (n : IVec S8 32) : IVec S8 32 :=
  select
    (andi (cmpi .ne (signi (bumped n)) (broadcastInDim S8 ![] bcast_S_S8 (signi (constantI S_ 32 512#32))))
      (cmpi .ne (Host.remsi (bumped n) tileRows) (broadcastInDim S8 ![] bcast_S_S8 (constantI S_ 32 0#32))))
    (subi (Host.divsi (bumped n) tileRows) (broadcastInDim S8 ![] bcast_S_S8 (constantI S_ 32 1#32)))
    (Host.divsi (bumped n) tileRows)
/-- Where each expert's tiles end: the running sums. -/
def endsOf (n : IVec S8 32) : IVec S8 32 :=
  Host.reduceWindow IntOp.addi ![8] ![1] ![7] ![0] (tilesOf n) (broadcastInDim S_ ![] bcast_S_S_ (constantI S_ 32 0#32))
    reduceWindows_S8_S8_w8s1p7_0 h_S_
/-- The number of tiles that hold rows. -/
def usedOf (n : IVec S8 32) : IVec S_ 32 := shapeCast S_ (extractStridedSlice S1 ![7] (endsOf n) slices_S8_S1_7) shapeCasts_S1_S_
/-- One for a tile that holds rows, else zero. -/
def validOf (n : IVec S8 32) : IVec S264 32 :=
  extui 32 (cmpi .slt (iotaInDim S264 32 0) (broadcastInDim S264 ![] bcast_S_S264 (usedOf n))) natLt_1_32
/-- A tile's number, held at that of the last tile that holds rows. -/
def clampedOf (n : IVec S8 32) : IVec S264 32 :=
  minsi (iotaInDim S264 32 0) (broadcastInDim S264 ![] bcast_S_S264 (maxsi (subi (usedOf n) (constantI S_ 32 1#32)) (constantI S_ 32 0#32)))
/-- Whether expert `e`'s tiles end at or before tile `i`. -/
def pastOf (n : IVec S8 32) : IVec S264x8 1 :=
  cmpi .sge (broadcastInDim S264x8 ![0, 1] bcast_S264x1_S264x8_0_1 (broadcastInDim S264x1 ![0] bcast_S264_S264x1_0 (clampedOf n)))
    (broadcastInDim S264x8 ![0, 1] bcast_S1x8_S264x8_0_1 (broadcastInDim S1x8 ![1] bcast_S8_S1x8_1 (endsOf n)))
/-- Each tile's expert: how many experts end at or before it, at most 7. -/
def expertOf (n : IVec S8 32) : IVec S264 32 :=
  minsi (Host.reduce IntOp.addi (extui 32 (pastOf n) natLt_1_32) (constantI S_ 32 0#32) reducesTo_S264x8_S264_d1 h_S_)
    (broadcastInDim S264 ![] bcast_S_S264 (constantI S_ 32 7#32))

/-! ## What the region finds -/

/-- The counts on core `c`. -/
abbrev counts (c : Dev nD) : IVec S8 32 := m ((c.tc : Thread nD τ).loc main_arg1)

set_option maxHeartbeats 4000000 in
/-- The tiles' experts, as the region finds them. -/
theorem entry_experts (c : Dev nD) : entry m c main_v26 = expertOf (counts m c) := by
  unfold entry stretches
  simp only [hostOps0, hostOps0_1, hostOps0_2, hostOps0_3, List.flatten_cons, List.flatten_nil, List.append_nil, List.cons_append,
    List.nil_append, StableHlo.TRef.binary, StableHlo.TRef.nullary, StableHlo.TRef.ternary, StableHlo.TRef.unary, StableHlo.TRef.toBuf,
    StableHlo.TRef.ofBuf, cast_eq]
  after_results_simp <;> rfl

set_option maxHeartbeats 4000000 in
/-- The tiles' flags, as the region finds them. -/
theorem entry_flags (c : Dev nD) : entry m c main_v11 = validOf (counts m c) := by
  unfold entry stretches
  simp only [hostOps0, hostOps0_1, hostOps0_2, hostOps0_3, List.flatten_cons, List.flatten_nil, List.append_nil, List.cons_append,
    List.nil_append, StableHlo.TRef.binary, StableHlo.TRef.nullary, StableHlo.TRef.ternary, StableHlo.TRef.unary, StableHlo.TRef.toBuf,
    StableHlo.TRef.ofBuf, cast_eq]
  after_results_simp <;> rfl

set_option maxHeartbeats 4000000 in
/-- The gate weights, as the region finds them. -/
theorem entry_gate (c : Dev nD) : entry m c main_v28 =
    truncf .bf16 (shapeCast S8x1024x3584 (m ((c.tc : Thread nD τ).loc main_arg2) : FVec F S1x8x1024x3584 .f32) shapeCasts_S1x8x1024x3584_S8x1024x3584) bitsLt_bf16_f32 := by
  unfold entry stretches
  simp only [hostOps0, hostOps0_1, hostOps0_2, hostOps0_3, List.flatten_cons, List.flatten_nil, List.append_nil, List.cons_append,
    List.nil_append, StableHlo.TRef.binary, StableHlo.TRef.nullary, StableHlo.TRef.ternary, StableHlo.TRef.unary, StableHlo.TRef.toBuf,
    StableHlo.TRef.ofBuf, cast_eq]
  after_results_simp <;> rfl

set_option maxHeartbeats 4000000 in
/-- The up weights, as the region finds them. -/
theorem entry_up (c : Dev nD) : entry m c main_v30 =
    truncf .bf16 (shapeCast S8x1024x3584 (m ((c.tc : Thread nD τ).loc main_arg3) : FVec F S1x8x1024x3584 .f32) shapeCasts_S1x8x1024x3584_S8x1024x3584) bitsLt_bf16_f32 := by
  unfold entry stretches
  simp only [hostOps0, hostOps0_1, hostOps0_2, hostOps0_3, List.flatten_cons, List.flatten_nil, List.append_nil, List.cons_append,
    List.nil_append, StableHlo.TRef.binary, StableHlo.TRef.nullary, StableHlo.TRef.ternary, StableHlo.TRef.unary, StableHlo.TRef.toBuf,
    StableHlo.TRef.ofBuf, cast_eq]
  after_results_simp <;> rfl

set_option maxHeartbeats 4000000 in
/-- The down weights, as the region finds them. -/
theorem entry_down (c : Dev nD) : entry m c main_v32 =
    truncf .bf16 (shapeCast S8x3584x1024 (m ((c.tc : Thread nD τ).loc main_arg4) : FVec F S1x8x3584x1024 .f32) shapeCasts_S1x8x3584x1024_S8x3584x1024) bitsLt_bf16_f32 := by
  unfold entry stretches
  simp only [hostOps0, hostOps0_1, hostOps0_2, hostOps0_3, List.flatten_cons, List.flatten_nil, List.append_nil, List.cons_append,
    List.nil_append, StableHlo.TRef.binary, StableHlo.TRef.nullary, StableHlo.TRef.ternary, StableHlo.TRef.unary, StableHlo.TRef.toBuf,
    StableHlo.TRef.ofBuf, cast_eq]
  after_results_simp <;> rfl

/-! ## The experts named are experts -/

/-- How many experts end at or before tile `i`. -/
def passed (n : IVec S8 32) (i : Fin 264) : Nat :=
  Nat.count (fun q => ∃ h : q < 8, pastOf n (ValueIdx.ix2 i (⟨q, h⟩ : Fin 8)) = 1#1) 8

theorem passed_le (n : IVec S8 32) (i : Fin 264) : passed n i ≤ 8 := Nat.count_le _

/-- A tile's expert is the number of experts passed, at most 7. -/
theorem expertOf_toNat (n : IVec S8 32) (i : Fin 264) : (expertOf n (ValueIdx.ix1 i)).toNat = min (passed n i) 7 := by
  classical
  have h := Routing.reduce_count (n := 264) (m := 8) (by norm_num) (pastOf n) natLt_1_32 reducesTo_S264x8_S264_d1 h_S_ i
    (fun q => ∃ h : q < 8, pastOf n (ValueIdx.ix2 i (⟨q, h⟩ : Fin 8)) = 1#1)
    (fun q => ⟨fun h => ⟨q.isLt, h⟩, fun ⟨_, h⟩ => h⟩)
  have hp : passed n i ≤ 8 := passed_le n i
  have hv : expertOf n (ValueIdx.ix1 i) = IntOp.minsi (BitVec.ofNat 32 (passed n i)) 7#32 := by
    refine congrArg₂ IntOp.minsi ?_ rfl
    refine h.trans ?_
    unfold passed
    congr
  rw [hv]
  generalize passed n i = k at hp
  have key : ∀ k : Fin 9, (IntOp.minsi (BitVec.ofNat 32 k.val) 7#32).toNat = min k.val 7 := by decide +kernel
  exact key ⟨k, by omega⟩

theorem expertOf_lt (n : IVec S8 32) (i : Fin 264) : (expertOf n (ValueIdx.ix1 i)).toNat < 8 := by
  rw [expertOf_toNat]; omega

end Cert.Experts

end
-- ==== Proof.TablesOk.lean ====
/-
  The pipeline's side condition of the routing tables holds of every memory: each window's block lies in its array.
-/
module

public import proofs.«01_k».proof.Proof.Tables
public import Idealize.ShloMosaic.Lib.Affine

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ)

/-- A grid point's tile. -/
def tileAt (i : grid0.Coords) : Fin 264 := ⟨(i 0).val, (i 0).isLt⟩

/-- The rectangle that a table's read at a point names holds the tile's own entry. -/
theorem offset_eq (i : grid0.Coords) : k0_off1 i 0 = (i 0).val := by
  have h : (i 0).val < 264 := (i 0).isLt
  show (Scalar.indexCast (BitVec.ofNat 32 (i 0).val)).toNat = (i 0).val
  show (BitVec.ofNat 32 (i 0).val).toNat = (i 0).val
  rw [BitVec.toNat_ofNat, Nat.mod_eq_of_lt (by omega)]

/-- The entry that a table's read at a point names. -/
theorem entry_idx (i : grid0.Coords) (h1 : 0 < (Rect.unit (s := S264) (k0_off1 i) S1.size (k0_off1_inb i)).shape.numel) :
    (Rect.unit (s := S264) (k0_off1 i) S1.size (k0_off1_inb i)).emb (Shape.Idx.first h1) = ValueIdx.ix1 (tileAt i) := by
  funext a
  obtain rfl : a = 0 := Subsingleton.elim _ _
  refine Fin.ext ?_
  have h0 : (Shape.Idx.first h1 0).val = 0 := by
    have : (Shape.Idx.first h1 0).val < 1 := (Shape.Idx.first h1 0).isLt
    omega
  show k0_off1 i 0 + 1 * (Shape.Idx.first h1 0).val = (i 0).val
  rw [h0, offset_eq]; omega

/-- The expert that the index maps read at a point. -/
theorem expert_read (i : grid0.Coords) :
    cc0_transform_1 k0_off1_inb numel1_S1 (tables m) i = ![(expertOf (counts m 0) (ValueIdx.ix1 (tileAt i))).toNat, 0, 0] := by
  have h : (tables m).at 0 (Rect.unit (s := S264) (k0_off1 i) S1.size (k0_off1_inb i)) numel1_S1
      = expertOf (counts m 0) (ValueIdx.ix1 (tileAt i)) := by
    have e : tables m 0 = expertOf (counts m 0) := entry_experts m 0
    exact (congrFun e _).trans (congrArg _ (entry_idx i _))
  exact congrArg (fun w : BitVec 32 => ![w.toNat, 0, 0]) h

theorem expert_read2 (i : grid0.Coords) :
    cc0_transform_2 k0_off1_inb numel1_S1 (tables m) i = ![(expertOf (counts m 0) (ValueIdx.ix1 (tileAt i))).toNat, 0, 0] :=
  (show cc0_transform_2 k0_off1_inb numel1_S1 (tables m) i = cc0_transform_1 k0_off1_inb numel1_S1 (tables m) i from rfl).trans (expert_read m i)
theorem expert_read3 (i : grid0.Coords) :
    cc0_transform_3 k0_off1_inb numel1_S1 (tables m) i = ![(expertOf (counts m 0) (ValueIdx.ix1 (tileAt i))).toNat, 0, 0] :=
  (show cc0_transform_3 k0_off1_inb numel1_S1 (tables m) i = cc0_transform_1 k0_off1_inb numel1_S1 (tables m) i from rfl).trans (expert_read m i)

/-- The tables name experts, whatever the counts are. -/
theorem tables_ok : TablesOk m := by
  have inUp : ∀ k : Nat, k < 8 → ∀ a, ((![k, 0, 0] : Fin 3 → Nat) a + 1) * S1x1024x3584.size a ≤ S8x1024x3584.size a := by
    intro k hk a
    fin_cases a
    · show (k + 1) * 1 ≤ 8; omega
    · show (0 + 1) * 1024 ≤ 1024; omega
    · show (0 + 1) * 3584 ≤ 3584; omega
  have inDown : ∀ k : Nat, k < 8 → ∀ a, ((![k, 0, 0] : Fin 3 → Nat) a + 1) * S1x3584x1024.size a ≤ S8x3584x1024.size a := by
    intro k hk a
    fin_cases a
    · show (k + 1) * 1 ≤ 8; omega
    · show (0 + 1) * 3584 ≤ 3584; omega
    · show (0 + 1) * 1024 ≤ 1024; omega
  refine ⟨fun i => ?_, fun i => ?_, fun i => ?_⟩
  · have e := expert_read m i
    have hl := expertOf_lt (counts m 0) (tileAt i)
    generalize cc0_transform_1 k0_off1_inb numel1_S1 (tables m) i = f at e
    subst e
    exact ⟨inUp _ hl, .inr (Affine.block_words_rows (by decide) rfl)⟩
  · have e := expert_read2 m i
    have hl := expertOf_lt (counts m 0) (tileAt i)
    generalize cc0_transform_2 k0_off1_inb numel1_S1 (tables m) i = f at e
    subst e
    exact ⟨inUp _ hl, .inr (Affine.block_words_rows (by decide) rfl)⟩
  · have e := expert_read3 m i
    have hl := expertOf_lt (counts m 0) (tileAt i)
    generalize cc0_transform_3 k0_off1_inb numel1_S1 (tables m) i = f at e
    subst e
    exact ⟨inDown _ hl, .inr (Affine.block_words_rows (by decide) rfl)⟩

end Cert.Experts

end
-- ==== Proof.Frames.lean ====
/-
  The three programs run: they end, their arguments are unchanged, and every semaphore is back at zero.
-/
module

public import proofs.«01_k».proof.Defs
public import proofs.«01_k».proof.Proof.Run
public import proofs.«01_k».proof.Proof.TablesOk
public import proofs.«01_k».proof.Proof.Gen.Kernel
public import proofs.«01_k».proof.Proof.Gen.ReferenceIdeal.Run

@[expose] public section

set_option maxRecDepth 16384

noncomputable section

namespace Cert.Experts

open Idealize.ShloMosaic Idealize.ShloMosaic.TcCoe Idealize.ShloMosaic.Tactic
open Idealize.SL.Sem

instance preFacts : Cert.Pre_counts_of_choices.Facts := ⟨by decide⟩

/-- The idealised kernel runs. -/
theorem frame_kernelIdeal : Cert.quiescent_KernelIdeal (hKernelIdeal := Cert.KernelIdeal.Gen.facts) := fun m ρ _ =>
  (θ_run Cert.KernelIdeal.defs _ _).mono
    (fun r h => ⟨fun c => ⟨(h.1 c).1, (h.1 c).2.1, (h.1 c).2.2.1, (h.1 c).2.2.2.1, (h.1 c).2.2.2.2.1⟩, h.2⟩)
    (run_main (F := Ideal) m ρ (tables_ok m))

end Cert.Experts

end
-- ==== Proof.Same.lean ====
/-
  The kernel's text is the idealised kernel's, so what the one does over the float words the other does too.
-/
module

public import proofs.«01_k».proof.Proof.Frames

@[expose] public section

set_option maxRecDepth 16384

noncomputable section

namespace Cert.Experts

open Idealize.ShloMosaic Idealize.ShloMosaic.TcCoe Idealize.ShloMosaic.Tactic
open Idealize.SL.Sem

/-- The idealised kernel's text runs over the float words. -/
def RunsOverWords : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem runs_over_words : RunsOverWords := fun m ρ _ =>
  (θ_run Cert.KernelIdeal.defs _ _).mono
    (fun r h => ⟨fun c => ⟨(h.1 c).1, (h.1 c).2.1, (h.1 c).2.2.1, (h.1 c).2.2.2.1, (h.1 c).2.2.2.2.1⟩, h.2⟩)
    (run_main (F := Bits) m ρ (tables_ok m))

/-- The two statements are one: the programs differ in nothing but the names of their modules. -/
theorem kernel_frame_eq : RunsOverWords = Cert.quiescent_Kernel (hKernel := Cert.Kernel.Gen.facts) := by sl_kernel_rfl

/-- The kernel runs. -/
theorem frame_kernel : Cert.quiescent_Kernel (hKernel := Cert.Kernel.Gen.facts) := kernel_frame_eq ▸ runs_over_words

end Cert.Experts

end
-- ==== Proof.RefFrame.lean ====
/-
  The reference runs: it ends, its arguments are unchanged, and every semaphore is at zero.
-/
module

public import proofs.«01_k».proof.Defs
public import proofs.«01_k».proof.Proof.Gen.ReferenceIdeal.Run
public import Idealize.ShloMosaic.Lib.Quiescent

@[expose] public section

set_option maxRecDepth 16384

noncomputable section

namespace Cert.Experts

open Idealize.ShloMosaic Idealize.ShloMosaic.TcCoe Idealize.ShloMosaic.Tactic
open Idealize.SL.Sem

/-- The reference runs: its own run, and it has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Experts

end
-- ==== Proof.Layer.lean ====
/-
  The experts' layer in extended reals: a row `x` and an expert's three matrices give, in column `c`,
  `Σ f, silu (Σ k, x k · gate k f) · (Σ k, x k · up k f) · down f c`, with `silu g = g · (1 / (1 + exp (−g)))`.
-/
module

public import Idealize.ShloMosaic.PureOps.Ideal
public import Idealize.ShloMosaic.PureOps.Ideal.Laws
public import Idealize.ShloMosaic.Lib.ValueIdx
public import Mathlib.Algebra.BigOperators.Fin

@[expose] public section

noncomputable section

namespace Cert.Experts

open Idealize.ShloMosaic
open scoped BigOperators

/-- One hidden value: `silu g · u`. -/
def hid (g u : EReal) : EReal := g * Ideal.div 1 (1 + Ideal.exp (-g)) * u

/-- One entry of the layer: a row through an expert's gate, up and down matrices. -/
def layer (x : Fin 1024 → EReal) (wg wu : Fin 1024 → Fin 3584 → EReal) (wd : Fin 3584 → EReal) : EReal :=
  ∑ f : Fin 3584, hid (∑ k : Fin 1024, x k * wg k f) (∑ k : Fin 1024, x k * wu k f) * wd f

theorem layer_congr {x x' : Fin 1024 → EReal} {wg wg' wu wu' : Fin 1024 → Fin 3584 → EReal} {wd wd' : Fin 3584 → EReal}
    (hx : ∀ k, x k = x' k) (hg : ∀ k f, wg k f = wg' k f) (hu : ∀ k f, wu k f = wu' k f) (hd : ∀ f, wd f = wd' f) :
    layer x wg wu wd = layer x' wg' wu' wd' := by
  rw [funext hx, funext fun k => funext (hg k), funext fun k => funext (hu k), funext hd]

end Cert.Experts

end
-- ==== Proof.BlockValue.lean ====
/-
  What the body leaves in the output block of a tile that holds rows, entry by entry over the extended reals: the layer's
  value of the tile's row. The seven strips of 512 hidden columns add up to the one sum over 3584.
-/
module

public import proofs.«01_k».proof.Proof.Block
public import proofs.«01_k».proof.Proof.Layer
public import Idealize.ShloMosaic.Lib.MatmulPlain
public import Idealize.ShloMosaic.Lib.IdealHost
public import Idealize.ShloMosaic.Lib.Pointwise.SelectCore

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL.Sem
open scoped BigOperators

/-- Where entry `(r, k)` of a tile's 512 rows of 1024 lies in its 4096 × 128 layout. -/
def spread (r : Fin 512) (k : Fin 1024) : S4096x128.Idx :=
  ValueIdx.ix2 (⟨8 * r.val + k.val / 128, by have := r.isLt; have := k.isLt; omega⟩ : Fin 4096)
    (⟨k.val % 128, Nat.mod_lt _ (by omega)⟩ : Fin 128)

/-- Pieces of 128 columns set side by side: column `c` is column `c % 128` of piece `c / 128`. -/
theorem pieces_apply {α : Type} (j : S512x1024.Idx) : ∀ (xs : List (S512x128.Idx → α))
    (hs : ∀ s' ∈ (xs.map fun x => (⟨S512x128, x⟩ : (s : Shape) × (s.Idx → α))).map (·.1), s'.FitsOff S512x1024 1) (c : ℕ)
    (hc : c < (axisSizes S512x1024 1 (xs.map fun x => (⟨S512x128, x⟩ : (s : Shape) × (s.Idx → α)))).sum)
    (n : ℕ) (hn : n < xs.length), c / 128 = n →
    concatenateAt S512x1024 1 j (xs.map fun x => (⟨S512x128, x⟩ : (s : Shape) × (s.Idx → α))) hs c hc
      = xs[n] (ValueIdx.ix2 (⟨(j 0).val, (j 0).isLt⟩ : Fin 512) (⟨c % 128, Nat.mod_lt _ (by omega)⟩ : Fin 128))
  | [], _, _, _, n, hn, _ => absurd hn (Nat.not_lt_zero n)
  | [x], hs, c, hc, n, hn, hcn => by
    have h0 : n = 0 := by simpa using hn
    subst h0
    refine (concatenateAt_singleton 1 j x hs c hc).trans (congrArg x (funext fun a => Fin.ext ?_))
    match a with
    | ⟨0, _⟩ => rfl
    | ⟨1, _⟩ =>
      show c = c % 128
      omega
  | x :: y :: ys, hs, c, hc, n, hn, hcn => by
    refine (concatenateAt_cons 1 j x _ _ hs c hc).trans ?_
    by_cases hlt : c < 128
    · refine (dif_pos (show c < S512x128.size 1 from hlt)).trans ?_
      have h0 : n = 0 := by omega
      subst h0
      refine congrArg x (funext fun a => Fin.ext ?_)
      match a with
      | ⟨0, _⟩ => rfl
      | ⟨1, _⟩ =>
        show c = c % 128
        omega
    · refine (dif_neg (show ¬ c < S512x128.size 1 from hlt)).trans ?_
      obtain ⟨n', rfl⟩ : ∃ n', n = n' + 1 := ⟨n - 1, by omega⟩
      refine (pieces_apply j (y :: ys) _ (c - 128) _ n' (by simpa using hn) (by omega)).trans ?_
      refine congrArg ((y :: ys)[n']'(by simpa using hn)) (funext fun a => Fin.ext ?_)
      match a with
      | ⟨0, _⟩ => rfl
      | ⟨1, _⟩ =>
        show (c - 128) % 128 = c % 128
        omega

/-- The rows put side by side, at an entry. -/
theorem rowsOf_apply (x0 : Vec Ideal S4096x128 .f32) (r : Fin 512) (k : Fin 1024) :
    rowsOf (F := Ideal) x0 (ValueIdx.ix2 r k) = x0 (spread r k) := by
  have hr := r.isLt
  have hk := k.isLt
  have hn : k.val / 128 < 8 := by omega
  have key : ∀ c : Fin 8, k.val / 128 = c.val →
      got x0 (lanes c.val c.isLt) (ValueIdx.ix2 r (⟨k.val % 128, Nat.mod_lt _ (by omega)⟩ : Fin 128)) = x0 (spread r k) := by
    intro c hkc
    show x0 _ = x0 _
    refine congrArg x0 (funext fun a => Fin.ext ?_)
    match a with
    | ⟨0, _⟩ =>
      show c.val + 8 * r.val = 8 * r.val + k.val / 128
      omega
    | ⟨1, _⟩ =>
      show 0 + 1 * (k.val % 128) = k.val % 128
      omega
  refine Eq.trans ?_ (key ⟨k.val / 128, hn⟩ rfl)
  refine (concatenate_apply S512x1024 1 ([got x0 (lanes 0 (by omega)), got x0 (lanes 1 (by omega)), got x0 (lanes 2 (by omega)), got x0 (lanes 3 (by omega)), got x0 (lanes 4 (by omega)), got x0 (lanes 5 (by omega)), got x0 (lanes 6 (by omega)), got x0 (lanes 7 (by omega))].map fun x => (⟨S512x128, x⟩ : (s : Shape) × (s.Idx → EReal)))
    concatenates_S512x128_S512x128_S512x128_S512x128_S512x128_S512x128_S512x128_S512x128_S512x1024_d1
    (ValueIdx.ix2 r k)).trans ?_
  refine (pieces_apply (ValueIdx.ix2 r k) [got x0 (lanes 0 (by omega)), got x0 (lanes 1 (by omega)), got x0 (lanes 2 (by omega)),
    got x0 (lanes 3 (by omega)), got x0 (lanes 4 (by omega)), got x0 (lanes 5 (by omega)), got x0 (lanes 6 (by omega)),
    got x0 (lanes 7 (by omega))] _ k.val _ (k.val / 128) hn rfl).trans ?_
  have pick : ∀ (c : Fin 8), [got x0 (lanes 0 (by omega)), got x0 (lanes 1 (by omega)), got x0 (lanes 2 (by omega)),
    got x0 (lanes 3 (by omega)), got x0 (lanes 4 (by omega)), got x0 (lanes 5 (by omega)), got x0 (lanes 6 (by omega)),
    got x0 (lanes 7 (by omega))][c.val]'c.isLt = got x0 (lanes c.val c.isLt) := by
    intro c
    match c with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
  exact congrFun (pick ⟨k.val / 128, hn⟩) _

/-- A row's product with one strip of a gate or up matrix. -/
theorem upOf_apply (xb : FVec Ideal S512x1024 .bf16) (w : Vec Ideal S1x1024x512 .bf16) (r f : Fin 512) :
    upOf xb w (ValueIdx.ix2 r f) = ∑ k : Fin 1024, (xb (ValueIdx.ix2 r k) : EReal) * w (ValueIdx.ix3 (0 : Fin 1) k f) := by
  refine (Ideal.matmul_plain_apply (M := 512) (K := 1024) (N := 512) none xb _ _ r f).trans ?_
  have hz : (constant (F := Ideal) S512x512 .f32 0x00000000#32 : S512x512.Idx → EReal) (ValueIdx.ix2 r f) = 0 := Ideal.ofBits_zero_f32
  rw [hz, zero_add]
  refine Finset.sum_congr rfl fun k _ => ?_
  refine congrArg (xb (ValueIdx.ix2 r k) * ·) ?_
  exact shapeCast_apply w shapeCasts_S1x1024x512_S1024x512 (ValueIdx.ix2 k f) (ValueIdx.ix3 (0 : Fin 1) k f) (by
    rewrite [Shape.rowMajor_val_three, Shape.rowMajor_val_two]
    show (0 * 1024 + k.val) * 512 + f.val = k.val * 512 + f.val
    omega)

/-- The gated hidden values at an entry. -/
theorem gated_apply (g u : FVec Ideal S512x512 .f32) (i : S512x512.Idx) : gated g u i = hid (g i) (u i) := by
  have h : gated g u i = (g i : EReal) * Ideal.div (Ideal.ofBits .f32 0x3F800000#32)
      (Ideal.ofBits .f32 0x3F800000#32 + Ideal.exp (Ideal.ofBits .f32 0x00000000#32 - g i)) * u i := rfl
  rw [h, Ideal.ofBits_one_f32, Ideal.ofBits_zero_f32, zero_sub]
  rfl

/-- One strip's share of a result. -/
theorem stripOf_apply (xb : FVec Ideal S512x1024 .bf16) (g u : Vec Ideal S1x1024x512 .bf16) (d : Vec Ideal S1x512x1024 .bf16)
    (r : Fin 512) (c : Fin 1024) :
    stripOf xb g u d (ValueIdx.ix2 r c)
      = ∑ f : Fin 512, hid (∑ k : Fin 1024, (xb (ValueIdx.ix2 r k) : EReal) * g (ValueIdx.ix3 (0 : Fin 1) k f))
          (∑ k : Fin 1024, (xb (ValueIdx.ix2 r k) : EReal) * u (ValueIdx.ix3 (0 : Fin 1) k f)) * d (ValueIdx.ix3 (0 : Fin 1) f c) := by
  refine (Ideal.matmul_plain_apply (M := 512) (K := 512) (N := 1024) none _ _ _ r c).trans ?_
  have hz : (constant (F := Ideal) S512x1024 .f32 0x00000000#32 : S512x1024.Idx → EReal) (ValueIdx.ix2 r c) = 0 := Ideal.ofBits_zero_f32
  rw [hz, zero_add]
  refine Finset.sum_congr rfl fun f _ => ?_
  refine congrArg₂ (· * ·) ?_ ?_
  · show gated (upOf xb g) (upOf xb u) (ValueIdx.ix2 r f) = _
    rw [gated_apply, upOf_apply, upOf_apply]
  · exact shapeCast_apply d shapeCasts_S1x512x1024_S512x1024 (ValueIdx.ix2 f c) (ValueIdx.ix3 (0 : Fin 1) f c) (by
      rewrite [Shape.rowMajor_val_three, Shape.rowMajor_val_two]
      show (0 * 512 + f.val) * 1024 + c.val = f.val * 1024 + c.val
      omega)

/-- The layer's summand of hidden column `j` for row `r`, result column `c`; zero past the last column. -/
def term (x0 : Vec Ideal S4096x128 .f32) (x1 x2 : Vec Ideal S1x1024x3584 .bf16) (x3 : Vec Ideal S1x3584x1024 .bf16)
    (r : Fin 512) (c : Fin 1024) (j : ℕ) : EReal :=
  if h : j < 3584 then
    hid (∑ k : Fin 1024, (x0 (spread r k) : EReal) * x1 (ValueIdx.ix3 (0 : Fin 1) k (⟨j, h⟩ : Fin 3584)))
      (∑ k : Fin 1024, (x0 (spread r k) : EReal) * x2 (ValueIdx.ix3 (0 : Fin 1) k (⟨j, h⟩ : Fin 3584)))
      * x3 (ValueIdx.ix3 (0 : Fin 1) (⟨j, h⟩ : Fin 3584) c)
  else 0

/-- The accumulator after `n` strips is the sum over the first `512 n` hidden columns. -/
theorem accUpTo_apply (x0 : Vec Ideal S4096x128 .f32) (x1 x2 : Vec Ideal S1x1024x3584 .bf16) (x3 : Vec Ideal S1x3584x1024 .bf16)
    (r : Fin 512) (c : Fin 1024) : ∀ (n : ℕ) (hn : n ≤ 7),
    accUpTo (F := Ideal) x0 x1 x2 x3 n hn (ValueIdx.ix2 r c) = ∑ j ∈ Finset.range (512 * n), term x0 x1 x2 x3 r c j
  | 0, hn => by
    show (Ideal.ofBits .f32 0x00000000#32 : EReal) = _
    rw [Ideal.ofBits_zero_f32]
    rfl
  | n + 1, hn => by
    show (accUpTo (F := Ideal) x0 x1 x2 x3 n (by omega) (ValueIdx.ix2 r c) : EReal) + stripOf (F := Ideal) _ _ _ _ (ValueIdx.ix2 r c) = _
    rw [accUpTo_apply x0 x1 x2 x3 r c n (by omega), stripOf_apply, show 512 * (n + 1) = 512 * n + 512 by omega, Finset.sum_range_add]
    refine congrArg (_ + ·) ?_
    rw [← Fin.sum_univ_eq_sum_range (fun j => term x0 x1 x2 x3 r c (512 * n + j)) 512]
    refine Finset.sum_congr rfl fun f _ => ?_
    have hf := f.isLt
    have hj : 512 * n + f.val < 3584 := by omega
    show _ = term x0 x1 x2 x3 r c (512 * n + f.val)
    unfold term
    rw [dif_pos hj]
    have ew : ∀ (x : Vec Ideal S1x1024x3584 .bf16) (k : Fin 1024), got x (upCols n (by omega)) (ValueIdx.ix3 (0 : Fin 1) k f)
        = x (ValueIdx.ix3 (0 : Fin 1) k (⟨512 * n + f.val, hj⟩ : Fin 3584)) := by
      intro x k
      refine congrArg x (funext fun a => Fin.ext ?_)
      match a with
      | ⟨0, _⟩ => rfl
      | ⟨1, _⟩ =>
        show 0 + 1 * k.val = k.val
        omega
      | ⟨2, _⟩ =>
        show 512 * n + 1 * f.val = 512 * n + f.val
        omega
    have ed : got x3 (downRows n (by omega)) (ValueIdx.ix3 (0 : Fin 1) f c)
        = x3 (ValueIdx.ix3 (0 : Fin 1) (⟨512 * n + f.val, hj⟩ : Fin 3584) c) := by
      refine congrArg x3 (funext fun a => Fin.ext ?_)
      match a with
      | ⟨0, _⟩ => rfl
      | ⟨1, _⟩ =>
        show 512 * n + 1 * f.val = 512 * n + f.val
        omega
      | ⟨2, _⟩ =>
        show 0 + 1 * c.val = c.val
        omega
    refine congrArg₂ (· * ·) (congrArg₂ hid (Finset.sum_congr rfl fun k _ => ?_) (Finset.sum_congr rfl fun k _ => ?_)) ed
    · exact congrArg₂ (· * ·) (rowsOf_apply x0 r k) (ew x1 k)
    · exact congrArg₂ (· * ·) (rowsOf_apply x0 r k) (ew x2 k)

/-- A tile's result at an entry is the layer's value of its row. -/
theorem accOf_apply (x0 : Vec Ideal S4096x128 .f32) (x1 x2 : Vec Ideal S1x1024x3584 .bf16) (x3 : Vec Ideal S1x3584x1024 .bf16)
    (r : Fin 512) (c : Fin 1024) :
    accOf (F := Ideal) x0 x1 x2 x3 (ValueIdx.ix2 r c)
      = layer (fun k => x0 (spread r k)) (fun k f => x1 (ValueIdx.ix3 (0 : Fin 1) k f)) (fun k f => x2 (ValueIdx.ix3 (0 : Fin 1) k f))
          (fun f => x3 (ValueIdx.ix3 (0 : Fin 1) f c)) := by
  refine (accUpTo_apply x0 x1 x2 x3 r c 7 le_rfl).trans ?_
  rw [show 512 * 7 = 3584 by norm_num, ← Fin.sum_univ_eq_sum_range (term x0 x1 x2 x3 r c) 3584]
  unfold layer
  refine Finset.sum_congr rfl fun f _ => ?_
  unfold term
  rw [dif_pos f.isLt]

end Cert.Experts

end
-- ==== Proof.Words.lean ====
/-
  The kernel's routing tables in natural numbers. Where no expert has more than 131072 rows, an expert takes as many
  tiles of 512 rows as its rows need, rounded up; the running sums say where its tiles end; a tile holds rows where
  it lies before the last of these ends; and a tile that holds rows belongs to the expert whose tiles it lies among.
-/
module

public import proofs.«01_k».proof.Proof.Tables

@[expose] public section

set_option maxRecDepth 16384

noncomputable section

namespace Cert.Experts

open Cert.KernelIdeal Cert.KernelIdeal.Gen
open Idealize.ShloMosaic Idealize.ShloMosaic.TcCoe Idealize.ShloMosaic.Tactic Idealize.ShloMosaic.WordCmp
open Idealize.SL.Sem

/-- No count is negative or above 131072. -/
def InRange (n : IVec S8 32) : Prop := ∀ e : Fin 8, (n (ValueIdx.ix1 e)).toNat ≤ 131072

/-- The tiles that expert `k` takes. -/
def takes (n : IVec S8 32) (k : Nat) : Nat := if h : k < 8 then ((n (ValueIdx.ix1 (⟨k, h⟩ : Fin 8))).toNat + 511) / 512 else 0
/-- The tile at which expert `j`'s tiles end. -/
def ends (n : IVec S8 32) (j : Nat) : Nat := ((List.range (j + 1)).map (takes n)).sum

variable {n : IVec S8 32}

theorem takes_le (hn : InRange n) (k : Nat) : takes n k ≤ 256 := by
  unfold takes
  split
  · next h => have := hn ⟨k, h⟩; omega
  · omega

theorem sum_takes_le (hn : InRange n) (j : Nat) : ((List.range j).map (takes n)).sum ≤ 256 * j := by
  induction j with
  | zero => simp
  | succ j ih =>
    rw [List.range_succ, List.map_append, List.sum_append]
    have := takes_le hn j
    simp only [List.map_singleton, List.sum_singleton]
    omega

theorem ends_le (hn : InRange n) (j : Fin 8) : ends n j.val ≤ 2048 := by
  have := sum_takes_le hn (j.val + 1)
  have := j.isLt
  unfold ends
  omega

/-- A word's sign. -/
def signWord (b : BitVec 32) : BitVec 32 := if b = 0 then 0 else if b.msb then -1 else 1

/-- The floor of a word between 511 and 131583 by 512, as the host spells it. -/
theorem floor_word (b : BitVec 32) (h1 : 1 ≤ b.toNat) (h2 : b.toNat ≤ 131583) :
    Scalar.select (IntOp.andi (IntOp.cmpi .ne (signWord b) (signWord 512#32))
        (IntOp.cmpi .ne (IntOp.remsi .host b 512#32) 0#32))
      (IntOp.subi (IntOp.divsi .host b 512#32) 1#32) (IntOp.divsi .host b 512#32) = BitVec.ofNat 32 (b.toNat / 512) := by
  have hm : b.msb = false := by rw [BitVec.msb_eq_false_iff_two_mul_lt]; omega
  have hz : b ≠ 0 := fun e => by rw [e] at h1; exact absurd h1 (by decide)
  have hs : signWord b = 1#32 := by
    unfold signWord
    rw [if_neg hz, hm]
    decide
  have hs' : signWord 512#32 = 1#32 := by decide
  rw [hs, hs']
  have hc : IntOp.cmpi .ne 1#32 1#32 = 0#1 := by decide
  rw [hc]
  have ha : ∀ d : BitVec 1, IntOp.andi 0#1 d = 0#1 := by decide
  rw [ha, select_zero]
  have hd : IntOp.divsi .host b 512#32 = b.sdiv 512#32 := if_neg (IntOp.not_corner_of_pos (by decide))
  rw [hd, BitVec.sdiv_eq, hm, show (512#32 : BitVec 32).msb = false from by decide]
  apply BitVec.eq_of_toNat_eq
  show (b / 512#32).toNat = _
  rw [BitVec.toNat_udiv, BitVec.toNat_ofNat, BitVec.toNat_ofNat, show 512 % 2 ^ 32 = 512 from by decide]
  omega

/-- A count of at most 131072, bumped. -/
theorem bump_word (w : BitVec 32) (h : w.toNat ≤ 131072) :
    (IntOp.subi (IntOp.addi w 512#32) 1#32).toNat = w.toNat + 511 := by
  show (w + 512#32 - 1#32).toNat = _
  rw [BitVec.toNat_sub, BitVec.toNat_add]
  simp only [BitVec.toNat_ofNat]
  omega

/-- The number of tiles an expert takes, as the host computes it. -/
theorem tilesOf_apply (hn : InRange n) (e : Fin 8) : tilesOf n (ValueIdx.ix1 e) = BitVec.ofNat 32 (takes n e.val) := by
  have hb := bump_word _ (hn e)
  have h := floor_word (IntOp.subi (IntOp.addi (n (ValueIdx.ix1 e)) 512#32) 1#32) (by omega) (by have := hn e; omega)
  rw [hb] at h
  unfold takes
  rw [dif_pos e.isLt]
  exact h

/-- Where an expert's tiles end, as the host computes it. -/
theorem endsOf_apply (hn : InRange n) (e : Fin 8) : endsOf n (ValueIdx.ix1 e) = BitVec.ofNat 32 (ends n e.val) := by
  unfold endsOf ends
  exact Routing.cumsum1 (N := 8) (Nm1 := 7) rfl (tilesOf n) (takes n) (tilesOf_apply hn) _ rfl _ _ e

theorem usedOf_apply (hn : InRange n) (i : S_.Idx) : usedOf n i = BitVec.ofNat 32 (ends n 7) := by
  refine Eq.trans ?_ (endsOf_apply hn 7)
  unfold usedOf
  rw [shapeCast_apply _ _ i (ValueIdx.ix1 (0 : Fin 1)) (by
    have h1 : ∀ k : Fin S1.numel, k.val = 0 := by decide
    have h2 : ∀ k : Fin S_.numel, k.val = 0 := by decide
    exact (h1 _).trans (h2 _).symm)]
  generalize endsOf n = x
  show x _ = x _
  refine congrArg x ?_
  funext a
  match a with
  | ⟨0, _⟩ => rfl

/-- A tile's flag is one exactly where the tile lies before the last end. -/
theorem validOf_apply (hn : InRange n) (i : Fin 264) :
    validOf n (ValueIdx.ix1 i) = if i.val < ends n 7 then 1#32 else 0#32 := by
  have hE := ends_le hn 7
  have hE' : ends n 7 ≤ 2048 := hE
  have hi := i.isLt
  have h : IntOp.cmpi .slt (BitVec.ofNat 32 i.val) (BitVec.ofNat 32 (ends n 7)) = BitVec.ofBool (decide (i.val < ends n 7)) :=
    cmpi_slt_ofNat (by omega) (by omega)
  have hu : validOf n (ValueIdx.ix1 i)
      = (IntOp.cmpi .slt (BitVec.ofNat 32 i.val) (usedOf n (fun a => a.elim0))).setWidth 32 := by
    refine congrArg (fun z => BitVec.setWidth 32 (IntOp.cmpi .slt (BitVec.ofNat 32 i.val) z)) ?_
    show usedOf n _ = usedOf n _
    exact congrArg (usedOf n) (funext fun a => a.elim0)
  rw [hu, usedOf_apply hn, h]
  split
  · next hh => rw [decide_eq_true hh]; rfl
  · next hh => rw [decide_eq_false hh]; rfl

/-- A tile that holds rows is not held back. -/
theorem clampedOf_apply (hn : InRange n) (i : Fin 264) (hi : i.val < ends n 7) :
    clampedOf n (ValueIdx.ix1 i) = BitVec.ofNat 32 i.val := by
  have hE : ends n 7 ≤ 2048 := ends_le hn 7
  have hl := i.isLt
  have hu : clampedOf n (ValueIdx.ix1 i)
      = IntOp.minsi (BitVec.ofNat 32 i.val) (IntOp.maxsi (IntOp.subi (usedOf n (fun a => a.elim0)) 1#32) 0#32) := by
    refine congrArg (fun z => IntOp.minsi (BitVec.ofNat 32 i.val) (IntOp.maxsi (IntOp.subi z 1#32) 0#32)) ?_
    show usedOf n _ = usedOf n _
    exact congrArg (usedOf n) (funext fun a => a.elim0)
  rw [hu, usedOf_apply hn]
  have hs : IntOp.subi (BitVec.ofNat 32 (ends n 7)) 1#32 = BitVec.ofNat 32 (ends n 7 - 1) := by
    apply BitVec.eq_of_toNat_eq
    show (BitVec.ofNat 32 (ends n 7) - 1#32).toNat = _
    rw [BitVec.toNat_sub]
    simp only [BitVec.toNat_ofNat]
    omega
  rw [hs]
  have t : ∀ k : Nat, k ≤ 2048 → (BitVec.ofNat 32 k).toInt = (k : Int) := fun k hk => toInt_ofNat_of_lt (by omega)
  have t0 : (0#32 : BitVec 32).toInt = 0 := by decide
  have hmax : IntOp.maxsi (BitVec.ofNat 32 (ends n 7 - 1)) 0#32 = BitVec.ofNat 32 (ends n 7 - 1) := by
    unfold IntOp.maxsi
    by_cases h0 : 0 < ends n 7 - 1
    · rw [if_pos]
      rw [BitVec.slt_iff_toInt_lt, t (ends n 7 - 1) (by omega), t0]
      omega
    · rw [show ends n 7 - 1 = 0 by omega]
      rfl
  rw [hmax]
  unfold IntOp.minsi
  by_cases hlt : i.val < ends n 7 - 1
  · rw [if_pos]
    rw [BitVec.slt_iff_toInt_lt, t _ (by omega), t _ (by omega)]
    omega
  · rw [if_neg]
    · rw [show ends n 7 - 1 = i.val by omega]
    · rw [BitVec.slt_iff_toInt_lt, t _ (by omega), t _ (by omega)]
      omega

/-- A table of comparisons of a column with a row, at an entry. -/
theorem sge_table (x : IVec S264 32) (y : IVec S8 32) (i : Fin 264) (e : Fin 8) :
    cmpi .sge (broadcastInDim S264x8 ![0, 1] bcast_S264x1_S264x8_0_1 (broadcastInDim S264x1 ![0] bcast_S264_S264x1_0 x))
      (broadcastInDim S264x8 ![0, 1] bcast_S1x8_S264x8_0_1 (broadcastInDim S1x8 ![1] bcast_S8_S1x8_1 y)) (ValueIdx.ix2 i e)
      = IntOp.cmpi .sge (x (ValueIdx.ix1 i)) (y (ValueIdx.ix1 e)) := by
  rw [cmpi_at]
  refine congrArg₂ (IntOp.cmpi .sge) ?_ ?_
  · rw [broadcastInDim_apply _ _ _ _ (ValueIdx.ix2 i (0 : Fin 1)) (fun a => match a with | ⟨0, _⟩ => rfl | ⟨1, _⟩ => rfl),
      broadcastInDim_apply _ _ _ _ (ValueIdx.ix1 i) (fun a => match a with | ⟨0, _⟩ => rfl)]
  · rw [broadcastInDim_apply _ _ _ _ (ValueIdx.ix2 (0 : Fin 1) e) (fun a => match a with | ⟨0, _⟩ => rfl | ⟨1, _⟩ => rfl),
      broadcastInDim_apply _ _ _ _ (ValueIdx.ix1 e) (fun a => match a with | ⟨0, _⟩ => rfl)]

/-- Where a tile holds rows: whether an expert's tiles end at or before it. -/
theorem pastOf_apply (hn : InRange n) (i : Fin 264) (hi : i.val < ends n 7) (e : Fin 8) :
    pastOf n (ValueIdx.ix2 i e) = 1#1 ↔ ends n e.val ≤ i.val := by
  have hE : ends n e.val ≤ 2048 := ends_le hn e
  have hl := i.isLt
  have hu : pastOf n (ValueIdx.ix2 i e)
      = IntOp.cmpi .sge (clampedOf n (ValueIdx.ix1 i)) (endsOf n (ValueIdx.ix1 e)) := by
    unfold pastOf
    exact sge_table _ _ i e
  rw [hu, clampedOf_apply hn i hi, endsOf_apply hn e]
  rw [cmpi_sge_ofNat_eq_one_iff (by omega) (by omega)]

/-- How many experts' tiles end at or before tile `i`. -/
def ended (n : IVec S8 32) (i : Nat) : Nat := Nat.count (fun q => ends n q ≤ i) 8

theorem ended_le (n : IVec S8 32) (i : Nat) : ended n i ≤ 8 := Nat.count_le _

/-- A tile that holds rows belongs to the expert numbered by how many experts' tiles end at or before it, at most 7. -/
theorem expertOf_valid (hn : InRange n) (i : Fin 264) (hi : i.val < ends n 7) :
    (expertOf n (ValueIdx.ix1 i)).toNat = min (ended n i.val) 7 := by
  classical
  rw [expertOf_toNat]
  have h : passed n i = ended n i.val := by
    unfold passed ended
    rw [Nat.count_eq_card_filter_range, Nat.count_eq_card_filter_range]
    refine congrArg Finset.card (Finset.filter_congr fun q hq => ?_)
    have hq' : q < 8 := Finset.mem_range.1 hq
    exact ⟨fun ⟨h, hp⟩ => (pastOf_apply hn i hi ⟨q, h⟩).1 hp, fun hp => ⟨hq', (pastOf_apply hn i hi ⟨q, hq'⟩).2 hp⟩⟩
  rw [h]

end Cert.Experts

end
-- ==== Proof.RefWords.lean ====
/-
  The reference's expert lookup in natural numbers: its padded group ends are 512 times the kernel's tile ends, so it
  masks the same tiles and looks up the same experts.
-/
module

public import proofs.«01_k».proof.Proof.Words
public import proofs.«01_k».proof.Proof.Gen.ReferenceIdeal.Read

@[expose] public section

set_option maxRecDepth 16384

noncomputable section

namespace Cert.Experts

open Cert.ReferenceIdeal Cert.ReferenceIdeal.Gen Cert.ReferenceIdeal.Read
open Idealize.ShloMosaic Idealize.ShloMosaic.TcCoe Idealize.ShloMosaic.WordCmp
open Idealize.SL.Sem

variable {n : IVec S8 32}

/-- A group's padded length: its tiles. -/
theorem ref_tiles_apply (hn : InRange n) (e : Fin 8) :
    val_main_v7 (F := Ideal) n (ValueIdx.ix1 e) = BitVec.ofNat 32 (takes n e.val) := by
  have hb := bump_word _ (hn e)
  have h := floor_word (IntOp.subi (IntOp.addi (n (ValueIdx.ix1 e)) 512#32) 1#32) (by omega) (by have := hn e; omega)
  rw [hb] at h
  unfold takes
  rw [dif_pos e.isLt]
  exact h

/-- A group's padded length, in rows. -/
theorem ref_rows_apply (hn : InRange n) (e : Fin 8) :
    val_main_v9 (F := Ideal) n (ValueIdx.ix1 e) = BitVec.ofNat 32 (takes n e.val * 512) := by
  rw [val_main_v9_apply, ref_tiles_apply hn]
  exact muli_ofNat _ _

theorem sum_takes_mul (j : Nat) : ((List.range j).map fun k => takes n k * 512).sum = ((List.range j).map (takes n)).sum * 512 := by
  induction j with
  | zero => rfl
  | succ j ih =>
    rw [List.range_succ, List.map_append, List.sum_append, List.map_append, List.sum_append, ih]
    simp only [List.map_singleton, List.sum_singleton]
    omega

/-- Where a group's rows end. -/
theorem ref_ends_apply (hn : InRange n) (e : Fin 8) :
    val_main_v10 (F := Ideal) n (ValueIdx.ix1 e) = BitVec.ofNat 32 (ends n e.val * 512) := by
  unfold ends
  rw [← sum_takes_mul]
  unfold val_main_v10
  exact Routing.cumsum1 (N := 8) (Nm1 := 7) rfl (val_main_v9 (F := Ideal) n) (fun k => takes n k * 512) (ref_rows_apply hn) _ rfl _ _ e

/-- Where a tile's rows start. -/
theorem ref_start_apply (i : Fin 264) : val_main_v13 (F := Ideal) (ValueIdx.ix1 i) = BitVec.ofNat 32 (i.val * 512) := by
  rw [val_main_v13_apply]
  exact muli_ofNat _ _

/-- Whether a group ends at or before a tile's start. -/
theorem ref_past_apply (hn : InRange n) (i : Fin 264) (e : Fin 8) :
    val_main_v18 (F := Ideal) n (ValueIdx.ix2 i e) = 1#1 ↔ ends n e.val ≤ i.val := by
  have hE := ends_le hn e
  have hl := i.isLt
  rw [val_main_v18_apply, val_main_v16_apply, val_main_v17_apply, val_main_v14_apply, val_main_v15_apply]
  have h1 : idx_main_v14 (idx_main_v16 (ValueIdx.ix2 i e)) = ValueIdx.ix1 e := funext fun a => match a with | ⟨0, _⟩ => rfl
  have h2 : idx_main_v15 (idx_main_v17 (ValueIdx.ix2 i e)) = ValueIdx.ix1 i := funext fun a => match a with | ⟨0, _⟩ => rfl
  rw [h1, h2, ref_ends_apply hn, ref_start_apply, cmpi_sle_ofNat_eq_one_iff (by omega) (by omega)]
  omega

/-- The group that a tile's rows belong to: how many groups end at or before it, at most 7. -/
theorem ref_expert_apply (hn : InRange n) (i : Fin 264) :
    val_main_v22 (F := Ideal) n (ValueIdx.ix1 i) = BitVec.ofNat 32 (min (ended n i.val) 7) := by
  have h := Routing.reduce_count (n := 264) (m := 8) (by norm_num) (val_main_v18 (F := Ideal) n) natLt_1_32 reducesTo_S264x8_S264_d1 h_S_ i
    (fun q => ends n q ≤ i.val) (fun q => ref_past_apply hn i q)
  have hp := ended_le n i.val
  have hv : val_main_v22 (F := Ideal) n (ValueIdx.ix1 i) = IntOp.minsi (BitVec.ofNat 32 (ended n i.val)) 7#32 := by
    rw [val_main_v22_apply]
    refine congrArg₂ IntOp.minsi ?_ rfl
    exact h
  rw [hv]
  generalize ended n i.val = k at hp
  have key : ∀ k : Fin 9, IntOp.minsi (BitVec.ofNat 32 k.val) 7#32 = BitVec.ofNat 32 (min k.val 7) := by decide +kernel
  exact key ⟨k, by omega⟩

/-- The start index of a lookup: an expert's number is not negative, so it is left alone. -/
theorem not_negative (k : Nat) (hk : k ≤ 7) :
    Scalar.select (IntOp.cmpi .slt (BitVec.ofNat 32 k) 0#32) (IntOp.addi (BitVec.ofNat 32 k) 8#32) (BitVec.ofNat 32 k) = BitVec.ofNat 32 k := by
  have key : ∀ k : Fin 8, Scalar.select (IntOp.cmpi .slt (BitVec.ofNat 32 k.val) 0#32) (IntOp.addi (BitVec.ofNat 32 k.val) 8#32) (BitVec.ofNat 32 k.val) = BitVec.ofNat 32 k.val := by
    decide +kernel
  exact key ⟨k, by omega⟩

theorem ref_gate_index (hn : InRange n) (i : Fin 264) :
    val_main_v29 (F := Ideal) n (ValueIdx.ix2 i (0 : Fin 1)) = BitVec.ofNat 32 (min (ended n i.val) 7) := by
  have h1 : idx_main_v29 (ValueIdx.ix2 i (0 : Fin 1)) = ValueIdx.ix1 i := funext fun a => match a with | ⟨0, _⟩ => rfl
  rw [val_main_v29_apply, h1, val_main_v28_apply, val_main_v25_apply, val_main_v27_apply, ref_expert_apply hn]
  exact not_negative _ (by omega)

theorem ref_up_index (hn : InRange n) (i : Fin 264) :
    val_main_v38 (F := Ideal) n (ValueIdx.ix2 i (0 : Fin 1)) = BitVec.ofNat 32 (min (ended n i.val) 7) := by
  have h1 : idx_main_v38 (ValueIdx.ix2 i (0 : Fin 1)) = ValueIdx.ix1 i := funext fun a => match a with | ⟨0, _⟩ => rfl
  rw [val_main_v38_apply, h1, val_main_v37_apply, val_main_v34_apply, val_main_v36_apply, ref_expert_apply hn]
  exact not_negative _ (by omega)

theorem ref_down_index (hn : InRange n) (i : Fin 264) :
    val_main_v47 (F := Ideal) n (ValueIdx.ix2 i (0 : Fin 1)) = BitVec.ofNat 32 (min (ended n i.val) 7) := by
  have h1 : idx_main_v47 (ValueIdx.ix2 i (0 : Fin 1)) = ValueIdx.ix1 i := funext fun a => match a with | ⟨0, _⟩ => rfl
  rw [val_main_v47_apply, h1, val_main_v46_apply, val_main_v43_apply, val_main_v45_apply, ref_expert_apply hn]
  exact not_negative _ (by omega)

/-- The tiles that the reference does not mask: those before the last group's end. -/
theorem ref_mask_apply (hn : InRange n) (i : Fin 264) (r : Fin 512) (c : Fin 1024) :
    val_main_call3_v1 (F := Ideal) n (ValueIdx.ix3 i r c) = 1#1 ↔ i.val < ends n 7 := by
  have hE : ends n 7 ≤ 2048 := ends_le hn 7
  have hl := i.isLt
  have h1 : idx_main_v54 (idx_main_call3_v1 (ValueIdx.ix3 i r c)) = ValueIdx.ix1 i := funext fun a => match a with | ⟨0, _⟩ => rfl
  have h51 : ∀ j : S_.Idx, val_main_v51 (F := Ideal) n j = BitVec.ofNat 32 (ends n 7 * 512) := by
    intro j
    unfold val_main_v51
    rw [shapeCast_apply _ _ j (ValueIdx.ix1 (0 : Fin 1)) (by
      have h1 : ∀ k : Fin S1.numel, k.val = 0 := by decide
      have h2 : ∀ k : Fin S_.numel, k.val = 0 := by decide
      exact (h1 _).trans (h2 _).symm), val_main_v50_apply]
    have h2 : idx_main_v50 (ValueIdx.ix1 (0 : Fin 1)) = ValueIdx.ix1 (7 : Fin 8) := funext fun a => match a with | ⟨0, _⟩ => rfl
    rw [h2]
    exact ref_ends_apply hn 7
  rw [val_main_call3_v1_apply, val_main_v54_apply, h1, val_main_v53_apply, val_main_v52_apply, h51, ref_start_apply,
    cmpi_slt_ofNat_eq_one_iff (by omega) (by omega)]
  omega

end Cert.Experts

end
-- ==== Proof.RefValue.lean ====
/-
  What the reference's result holds, entry by entry over the extended reals: in a tile before the last group's end the
  layer's value of the row under its group's matrices, elsewhere zero.
-/
module

public import proofs.«01_k».proof.Proof.RefWords
public import proofs.«01_k».proof.Proof.Layer
public import Idealize.ShloMosaic.Lib.IdealHost

@[expose] public section

set_option maxRecDepth 16384

noncomputable section

namespace Cert.Experts

open Idealize.ShloMosaic
open scoped BigOperators

/-! ## Looking matrices up in a stack -/

section Pick
variable {α : Type}

/-- The dimension numbers of `stack[idx]` for a stack of `N` matrices and `n` indices. -/
abbrev pickDims (N A B n : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- `stack[idx]` at `(i, a, b)`: where `idx` holds the number `e` of a matrix at `i`, that matrix's entry `(a, b)`. -/
theorem pick_apply {N A B n : Nat} (hN : N < 2 ^ 31)
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (i : Fin n) (a : Fin A) (b : Fin B) (e : Fin N)
    (he : idx (ValueIdx.ix2 i (0 : Fin 1)) = BitVec.ofNat 32 e.val) :
    Host.gather (pickDims N A B n wf) x idx (ValueIdx.ix3 i a b) = x (ValueIdx.ix3 e a b) := by
  have hel := e.isLt
  unfold Host.gather
  refine congrArg x (funext fun d => Fin.ext ?_)
  show (pickDims N A B n wf).start (ValueIdx.ix3 i a b) idx d + (pickDims N A B n wf).batchCoord (ValueIdx.ix3 i a b) d
      + (pickDims N A B n wf).offCoord (ValueIdx.ix3 i a b) d = _
  rw [GatherDims.batchCoord_eq_zero _ _ _ List.not_mem_nil]
  have hd : d = 0 ∨ d = 1 ∨ d = 2 := by
    match d with
    | ⟨0, _⟩ => exact Or.inl rfl
    | ⟨1, _⟩ => exact Or.inr (Or.inl rfl)
    | ⟨2, _⟩ => exact Or.inr (Or.inr rfl)
  rcases hd with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (pickDims N A B n wf).startIndexMap from List.mem_singleton.mpr rfl)]
    have hsi : (pickDims N A B n wf).siIdx (ValueIdx.ix3 i a b) ⟨List.idxOf (0 : Fin 3) (pickDims N A B n wf).startIndexMap,
        List.idxOf_lt_length_iff.2 (List.mem_singleton.mpr rfl)⟩ = ValueIdx.ix2 i (0 : Fin 1) := by
      funext q
      refine Fin.ext ?_
      match q with
      | ⟨0, _⟩ => rfl
      | ⟨1, _⟩ => rfl
    rw [hsi, he, StableHlo.Predicate.toInt_ofNat_small _ (by omega)]
    show min ((e.val : Int)).toNat (N - 1) = e.val
    omega
  · have hs : (pickDims N A B n wf).start (ValueIdx.ix3 i a b) idx 1 = 0 := by
      unfold GatherDims.start
      exact dif_neg (by show ¬ (1 : Fin 3) ∈ [(0 : Fin 3)]; decide)
    rw [hs]
    simp only [Nat.zero_add, Nat.add_zero]
    rfl
  · have hs : (pickDims N A B n wf).start (ValueIdx.ix3 i a b) idx 2 = 0 := by
      unfold GatherDims.start
      exact dif_neg (by show ¬ (2 : Fin 3) ∈ [(0 : Fin 3)]; decide)
    rw [hs]
    simp only [Nat.zero_add, Nat.add_zero]
    rfl

end Pick

open Cert.ReferenceIdeal Cert.ReferenceIdeal.Gen Cert.ReferenceIdeal.Read
open Idealize.ShloMosaic.TcCoe Idealize.ShloMosaic.WordCmp
open Idealize.SL.Sem

variable {n : IVec S8 32}

/-- The group of tile `i`. -/
def groupOf (n : IVec S8 32) (i : Fin 264) : Fin 8 := ⟨min (ended n i.val) 7, by omega⟩

/-- Where entry `(r, k)` of tile `i` lies in the rows' layout of 128 columns. -/
def place (i : Fin 264) (r : Fin 512) (k : Fin 1024) : S1081344x128.Idx :=
  ValueIdx.ix2 (⟨4096 * i.val + (8 * r.val + k.val / 128), by have := i.isLt; have := r.isLt; have := k.isLt; omega⟩ : Fin 1081344)
    (⟨k.val % 128, Nat.mod_lt _ (by omega)⟩ : Fin 128)

variable (x0 : FVec Ideal S1081344x128 .f32) (x2 x3 : FVec Ideal S1x8x1024x3584 .f32) (x4 : FVec Ideal S1x8x3584x1024 .f32)

theorem ref_rows (i : Fin 264) (r : Fin 512) (k : Fin 1024) :
    val_main_v23 (F := Ideal) x0 (ValueIdx.ix3 i r k) = x0 (place i r k) := by
  rw [val_main_v23_apply]
  have hi := i.isLt; have hr := r.isLt; have hk := k.isLt
  refine congrArg x0 (funext fun a => Fin.ext ?_)
  match a with
  | ⟨0, _⟩ =>
    show ((i.val * 512 + r.val) * 1024 + k.val) / 128 = 4096 * i.val + (8 * r.val + k.val / 128)
    omega
  | ⟨1, _⟩ =>
    show ((i.val * 512 + r.val) * 1024 + k.val) % 128 = k.val % 128
    omega

theorem ref_gate (hn : InRange n) (i : Fin 264) (k : Fin 1024) (f : Fin 3584) :
    val_main_v30 (F := Ideal) n x2 (ValueIdx.ix3 i k f) = x2 (ValueIdx.ix4 (0 : Fin 1) (groupOf n i) k f) := by
  have h := pick_apply (N := 8) (A := 1024) (B := 3584) (n := 264) (by norm_num)
    gather_S8x1024x3584_S264x1_S264x1024x3584_12_0_n_n_0_1_110243584_wf (val_main_v0 (F := Ideal) x2) (val_main_v29 (F := Ideal) n) i k f
    (groupOf n i) (ref_gate_index hn i)
  refine Eq.trans h ?_
  rw [val_main_v0_apply]
  have he := (groupOf n i).isLt; have hk := k.isLt; have hf := f.isLt
  refine congrArg x2 (funext fun a => Fin.ext ?_)
  match a with
  | ⟨0, _⟩ => rfl
  | ⟨1, _⟩ =>
    show (((groupOf n i).val * 1024 + k.val) * 3584 + f.val) / 3670016 % 8 = (groupOf n i).val
    omega
  | ⟨2, _⟩ =>
    show (((groupOf n i).val * 1024 + k.val) * 3584 + f.val) / 3584 % 1024 = k.val
    omega
  | ⟨3, _⟩ =>
    show (((groupOf n i).val * 1024 + k.val) * 3584 + f.val) % 3584 = f.val
    omega

theorem ref_up (hn : InRange n) (i : Fin 264) (k : Fin 1024) (f : Fin 3584) :
    val_main_v39 (F := Ideal) n x3 (ValueIdx.ix3 i k f) = x3 (ValueIdx.ix4 (0 : Fin 1) (groupOf n i) k f) := by
  have h := pick_apply (N := 8) (A := 1024) (B := 3584) (n := 264) (by norm_num)
    gather_S8x1024x3584_S264x1_S264x1024x3584_12_0_n_n_0_1_110243584_wf (val_main_v1 (F := Ideal) x3) (val_main_v38 (F := Ideal) n) i k f
    (groupOf n i) (ref_up_index hn i)
  refine Eq.trans h ?_
  rw [val_main_v1_apply]
  have he := (groupOf n i).isLt; have hk := k.isLt; have hf := f.isLt
  refine congrArg x3 (funext fun a => Fin.ext ?_)
  match a with
  | ⟨0, _⟩ => rfl
  | ⟨1, _⟩ =>
    show (((groupOf n i).val * 1024 + k.val) * 3584 + f.val) / 3670016 % 8 = (groupOf n i).val
    omega
  | ⟨2, _⟩ =>
    show (((groupOf n i).val * 1024 + k.val) * 3584 + f.val) / 3584 % 1024 = k.val
    omega
  | ⟨3, _⟩ =>
    show (((groupOf n i).val * 1024 + k.val) * 3584 + f.val) % 3584 = f.val
    omega

theorem ref_down (hn : InRange n) (i : Fin 264) (f : Fin 3584) (c : Fin 1024) :
    val_main_v48 (F := Ideal) n x4 (ValueIdx.ix3 i f c) = x4 (ValueIdx.ix4 (0 : Fin 1) (groupOf n i) f c) := by
  have h := pick_apply (N := 8) (A := 3584) (B := 1024) (n := 264) (by norm_num)
    gather_S8x3584x1024_S264x1_S264x3584x1024_12_0_n_n_0_1_135841024_wf (val_main_v2 (F := Ideal) x4) (val_main_v47 (F := Ideal) n) i f c
    (groupOf n i) (ref_down_index hn i)
  refine Eq.trans h ?_
  rw [val_main_v2_apply]
  have he := (groupOf n i).isLt; have hk := f.isLt; have hf := c.isLt
  refine congrArg x4 (funext fun a => Fin.ext ?_)
  match a with
  | ⟨0, _⟩ => rfl
  | ⟨1, _⟩ =>
    show (((groupOf n i).val * 3584 + f.val) * 1024 + c.val) / 3670016 % 8 = (groupOf n i).val
    omega
  | ⟨2, _⟩ =>
    show (((groupOf n i).val * 3584 + f.val) * 1024 + c.val) / 1024 % 3584 = f.val
    omega
  | ⟨3, _⟩ =>
    show (((groupOf n i).val * 3584 + f.val) * 1024 + c.val) % 1024 = c.val
    omega

/-- The products with the gate matrices. -/
theorem ref_gate_product (hn : InRange n) (i : Fin 264) (r : Fin 512) (f : Fin 3584) :
    val_main_v31 (F := Ideal) x0 n x2 (ValueIdx.ix3 i r f)
      = ∑ k : Fin 1024, (x0 (place i r k) : EReal) * x2 (ValueIdx.ix4 (0 : Fin 1) (groupOf n i) k f) := by
  rw [val_main_v31_apply]
  refine Finset.sum_congr rfl fun k _ => ?_
  have hl : lidx_main_v31 (ValueIdx.ix3 i r f) k = ValueIdx.ix3 i r k :=
    funext fun a => match a with | ⟨0, _⟩ => rfl | ⟨1, _⟩ => rfl | ⟨2, _⟩ => rfl
  have hr : ridx_main_v31 (ValueIdx.ix3 i r f) k = ValueIdx.ix3 i k f :=
    funext fun a => match a with | ⟨0, _⟩ => rfl | ⟨1, _⟩ => rfl | ⟨2, _⟩ => rfl
  rw [hl, hr, ref_rows, ref_gate x2 hn]

/-- The products with the up matrices. -/
theorem ref_up_product (hn : InRange n) (i : Fin 264) (r : Fin 512) (f : Fin 3584) :
    val_main_v40 (F := Ideal) x0 n x3 (ValueIdx.ix3 i r f)
      = ∑ k : Fin 1024, (x0 (place i r k) : EReal) * x3 (ValueIdx.ix4 (0 : Fin 1) (groupOf n i) k f) := by
  rw [val_main_v40_apply]
  refine Finset.sum_congr rfl fun k _ => ?_
  have hl : lidx_main_v40 (ValueIdx.ix3 i r f) k = ValueIdx.ix3 i r k :=
    funext fun a => match a with | ⟨0, _⟩ => rfl | ⟨1, _⟩ => rfl | ⟨2, _⟩ => rfl
  have hr : ridx_main_v40 (ValueIdx.ix3 i r f) k = ValueIdx.ix3 i k f :=
    funext fun a => match a with | ⟨0, _⟩ => rfl | ⟨1, _⟩ => rfl | ⟨2, _⟩ => rfl
  rw [hl, hr, ref_rows, ref_up x3 hn]

/-- The hidden values. -/
theorem ref_hidden (i : S264x512x3584.Idx) :
    val_main_v41 (F := Ideal) x0 n x2 x3 i = hid (val_main_v31 (F := Ideal) x0 n x2 i) (val_main_v40 (F := Ideal) x0 n x3 i) := by
  rw [val_main_v41_apply, val_main_v32_apply, val_main_call2_v5_apply, val_main_call2_v4_apply, val_main_call2_cst_0_apply,
    val_main_call2_v3_apply, val_main_call2_v2_apply, val_main_call2_cst_apply, val_main_call2_v1_apply, val_main_call2_v0_apply]
  generalize val_main_v31 (F := Ideal) x0 n x2 i = g
  generalize val_main_v40 (F := Ideal) x0 n x3 i = u
  have h : FloatOps.mulf (F := Ideal) (φ := .f32) (FloatOps.mulf g (FloatOps.hostDivf (FloatOps.ofBits .f32 0x3F800000#32)
      (FloatOps.addf (FloatOps.ofBits .f32 0x3F800000#32) (FloatOps.hostUnary .exp (FloatOps.hostNegf g))))) u
      = (g : EReal) * Ideal.div (Ideal.ofBits .f32 0x3F800000#32) (Ideal.ofBits .f32 0x3F800000#32 + Ideal.exp (-g)) * u := rfl
  rw [h, Ideal.ofBits_one_f32]
  rfl

/-- The experts' layer, before the mask. -/
theorem ref_layer (hn : InRange n) (i : Fin 264) (r : Fin 512) (c : Fin 1024) :
    val_main_v49 (F := Ideal) x0 n x2 x3 x4 (ValueIdx.ix3 i r c)
      = layer (fun k => x0 (place i r k)) (fun k f => x2 (ValueIdx.ix4 (0 : Fin 1) (groupOf n i) k f))
          (fun k f => x3 (ValueIdx.ix4 (0 : Fin 1) (groupOf n i) k f)) (fun f => x4 (ValueIdx.ix4 (0 : Fin 1) (groupOf n i) f c)) := by
  rw [val_main_v49_apply]
  unfold layer
  refine Finset.sum_congr rfl fun f _ => ?_
  have hl : lidx_main_v49 (ValueIdx.ix3 i r c) f = ValueIdx.ix3 i r f :=
    funext fun a => match a with | ⟨0, _⟩ => rfl | ⟨1, _⟩ => rfl | ⟨2, _⟩ => rfl
  have hr : ridx_main_v49 (ValueIdx.ix3 i r c) f = ValueIdx.ix3 i f c :=
    funext fun a => match a with | ⟨0, _⟩ => rfl | ⟨1, _⟩ => rfl | ⟨2, _⟩ => rfl
  rw [hl, hr, ref_hidden, ref_gate_product x0 x2 hn, ref_up_product x0 x3 hn, ref_down x4 hn]

/-- What the result holds at entry `(r, c)` of tile `i`. -/
def tileValue (n : IVec S8 32) (i : Fin 264) (r : Fin 512) (c : Fin 1024) : EReal :=
  if i.val < ends n 7 then
    layer (fun k => x0 (place i r k)) (fun k f => x2 (ValueIdx.ix4 (0 : Fin 1) (groupOf n i) k f))
      (fun k f => x3 (ValueIdx.ix4 (0 : Fin 1) (groupOf n i) k f)) (fun f => x4 (ValueIdx.ix4 (0 : Fin 1) (groupOf n i) f c))
  else 0

/-- The masked layer. -/
theorem ref_masked (hn : InRange n) (i : Fin 264) (r : Fin 512) (c : Fin 1024) :
    val_main_v55 (F := Ideal) x0 n x2 x3 x4 (ValueIdx.ix3 i r c) = tileValue x0 x2 x3 x4 n i r c := by
  rw [val_main_v55_apply]
  unfold tileValue
  by_cases h : i.val < ends n 7
  · rw [if_pos h, (ref_mask_apply hn i r c).2 h, select_one, ref_layer x0 x2 x3 x4 hn]
  · rw [if_neg h]
    have h0 : val_main_call3_v1 (F := Ideal) n (ValueIdx.ix3 i r c) = 0#1 := by
      have := mt (ref_mask_apply hn i r c).1 h
      revert this
      generalize val_main_call3_v1 (F := Ideal) n (ValueIdx.ix3 i r c) = b
      revert b
      decide
    rw [h0, select_zero, val_main_call3_v2_apply]
    exact Ideal.ofBits_zero_f32

/-- The tile, row and column of an entry of the result's layout of 128 columns. -/
def tileIn (j : S1081344x128.Idx) : Fin 264 := ⟨(j 0).val / 4096, by have h : (j 0).val < 1081344 := (j 0).isLt; omega⟩
def rowIn (j : S1081344x128.Idx) : Fin 512 := ⟨(j 0).val % 4096 / 8, by omega⟩
def colIn (j : S1081344x128.Idx) : Fin 1024 := ⟨(j 0).val % 8 * 128 + (j 1).val, by have h : (j 1).val < 128 := (j 1).isLt; omega⟩

/-- The reference's result at an entry. -/
theorem ref_value (hn : InRange n) (j : S1081344x128.Idx) :
    val_main_v56 (F := Ideal) x0 n x2 x3 x4 j = tileValue x0 x2 x3 x4 n (tileIn j) (rowIn j) (colIn j) := by
  rw [val_main_v56_apply]
  have h0 : (j 0).val < 1081344 := (j 0).isLt
  have h1 : (j 1).val < 128 := (j 1).isLt
  have hj : idx_main_v56 j = ValueIdx.ix3 (tileIn j) (rowIn j) (colIn j) := by
    funext a
    refine Fin.ext ?_
    match a with
    | ⟨0, _⟩ =>
      show ((j 0).val * 128 + (j 1).val) / 524288 = (j 0).val / 4096
      omega
    | ⟨1, _⟩ =>
      show ((j 0).val * 128 + (j 1).val) / 1024 % 512 = (j 0).val % 4096 / 8
      omega
    | ⟨2, _⟩ =>
      show ((j 0).val * 128 + (j 1).val) % 1024 = (j 0).val % 8 * 128 + (j 1).val
      omega
  rw [hj, ref_masked x0 x2 x3 x4 hn]

end Cert.Experts

end
-- ==== Proof.ArrayValue.lean ====
/-
  What the kernel's result array holds after the run, over the extended reals: entry by entry the value of the tile, row and
  column that the entry stands for.
-/
module

public import proofs.«01_k».proof.Proof.TablesOk
public import proofs.«01_k».proof.Proof.Run
public import proofs.«01_k».proof.Proof.BlockValue
public import proofs.«01_k».proof.Proof.RefValue
public import Idealize.ShloMosaic.Lib.Pipeline.ValueKit

@[expose] public section

set_option maxRecDepth 16384

noncomputable section

namespace Cert.Experts

open Cert.KernelIdeal Cert.KernelIdeal.Gen
open Idealize.ShloMosaic Idealize.ShloMosaic.TcCoe
open Idealize.SL.Sem

variable (m : (ℓ : Loc nD τ sig) → Buf (Elt Ideal) ℓ) (hO : TablesOk m) (c : Dev nD) (t : Fin (cfgT m hO).N)

/-! ## Where the blocks lie -/

/-- The tile of a grid point. -/
abbrev tileOf : Fin 264 := tileAt (grid0.coords t)

theorem tileOf_val : (tileOf m hO t).val = t.val := by
  have h := Pipeline.Grid.coords_val (G := grid0) t 0 (S := 1) (B := 264) rfl rfl
  have ht : t.val < 264 := t.isLt
  show (grid0.coords t 0).val = t.val
  rw [h]; omega

/-- Row `y₀` of tile `i` in the layout of 128 columns. -/
def rowPlace (i : Fin 264) (y : S4096x128.Idx) : S1081344x128.Idx :=
  ValueIdx.ix2 (⟨4096 * i.val + (y 0).val, by have h : (y 0).val < 4096 := (y 0).isLt; have := i.isLt; omega⟩ : Fin 1081344) (y 1)

theorem emb_out (y : S4096x128.Idx) : (((cfgT m hO).win 4).blk t).view.emb y = rowPlace (tileOf m hO t) y := by
  funext a
  refine Fin.ext ?_
  refine (Pipeline.Window.rect_emb_val ((cfgT m hO).win 4) t y a).trans ?_
  have h : (tileOf m hO t).val < 264 := (tileOf m hO t).isLt
  match a with
  | ⟨0, _⟩ =>
    show (BitVec.ofNat 32 (tileOf m hO t).val).toNat * 4096 + (y 0).val = 4096 * (tileOf m hO t).val + (y 0).val
    rw [BitVec.toNat_ofNat, Nat.mod_eq_of_lt (by omega)]
    omega
  | ⟨1, _⟩ =>
    show (0#32 : BitVec 32).toNat * 128 + (y 1).val = (y 1).val
    rw [BitVec.toNat_zero]
    omega

theorem emb_rows (y : S4096x128.Idx) : (((cfgT m hO).win 0).blk t).view.emb y = rowPlace (tileOf m hO t) y := by
  funext a
  refine Fin.ext ?_
  refine (Pipeline.Window.rect_emb_val ((cfgT m hO).win 0) t y a).trans ?_
  have h : (tileOf m hO t).val < 264 := (tileOf m hO t).isLt
  match a with
  | ⟨0, _⟩ =>
    show (BitVec.ofNat 32 (tileOf m hO t).val).toNat * 4096 + (y 0).val = 4096 * (tileOf m hO t).val + (y 0).val
    rw [BitVec.toNat_ofNat, Nat.mod_eq_of_lt (by omega)]
    omega
  | ⟨1, _⟩ =>
    show (0#32 : BitVec 32).toNat * 128 + (y 1).val = (y 1).val
    rw [BitVec.toNat_zero]
    omega

/-- The expert that the tables name for a tile. -/
def namedExpert (i : Fin 264) : Fin 8 := ⟨(expertOf (counts m 0) (ValueIdx.ix1 i)).toNat, expertOf_lt _ i⟩

theorem emb_gate (k : Fin 1024) (f : Fin 3584) : (((cfgT m hO).win 1).blk t).view.emb (ValueIdx.ix3 (0 : Fin 1) k f)
    = (ValueIdx.ix3 (namedExpert m (tileOf m hO t)) k f : S8x1024x3584.Idx) := by
  funext a
  refine Fin.ext ?_
  refine (Pipeline.Window.rect_emb_val ((cfgT m hO).win 1) t _ a).trans ?_
  have e : ((cfgT m hO).win 1).index t = ![(expertOf (counts m 0) (ValueIdx.ix1 (tileOf m hO t))).toNat, 0, 0] := expert_read m (grid0.coords t)
  rw [congrFun e a]
  match a with
  | ⟨0, _⟩ => show _ * 1 + 0 = _; rw [Nat.mul_one, Nat.add_zero]; rfl
  | ⟨1, _⟩ => show 0 * 1024 + k.val = k.val; omega
  | ⟨2, _⟩ => show 0 * 3584 + f.val = f.val; omega

theorem emb_up (k : Fin 1024) (f : Fin 3584) : (((cfgT m hO).win 2).blk t).view.emb (ValueIdx.ix3 (0 : Fin 1) k f)
    = (ValueIdx.ix3 (namedExpert m (tileOf m hO t)) k f : S8x1024x3584.Idx) := by
  funext a
  refine Fin.ext ?_
  refine (Pipeline.Window.rect_emb_val ((cfgT m hO).win 2) t _ a).trans ?_
  have e : ((cfgT m hO).win 2).index t = ![(expertOf (counts m 0) (ValueIdx.ix1 (tileOf m hO t))).toNat, 0, 0] := expert_read2 m (grid0.coords t)
  rw [congrFun e a]
  match a with
  | ⟨0, _⟩ => show _ * 1 + 0 = _; rw [Nat.mul_one, Nat.add_zero]; rfl
  | ⟨1, _⟩ => show 0 * 1024 + k.val = k.val; omega
  | ⟨2, _⟩ => show 0 * 3584 + f.val = f.val; omega

theorem emb_down (f : Fin 3584) (k : Fin 1024) : (((cfgT m hO).win 3).blk t).view.emb (ValueIdx.ix3 (0 : Fin 1) f k)
    = (ValueIdx.ix3 (namedExpert m (tileOf m hO t)) f k : S8x3584x1024.Idx) := by
  funext a
  refine Fin.ext ?_
  refine (Pipeline.Window.rect_emb_val ((cfgT m hO).win 3) t _ a).trans ?_
  have e : ((cfgT m hO).win 3).index t = ![(expertOf (counts m 0) (ValueIdx.ix1 (tileOf m hO t))).toNat, 0, 0] := expert_read3 m (grid0.coords t)
  rw [congrFun e a]
  match a with
  | ⟨0, _⟩ => show _ * 1 + 0 = _; rw [Nat.mul_one, Nat.add_zero]; rfl
  | ⟨1, _⟩ => show 0 * 3584 + f.val = f.val; omega
  | ⟨2, _⟩ => show 0 * 1024 + k.val = k.val; omega

/-! ## What the blocks hold -/

abbrev rowsArg : FVec Ideal S1081344x128 .f32 := m ((c.tc : Thread nD τ).loc main_arg0)
abbrev gateArg : FVec Ideal S1x8x1024x3584 .f32 := m ((c.tc : Thread nD τ).loc main_arg2)
abbrev upArg : FVec Ideal S1x8x1024x3584 .f32 := m ((c.tc : Thread nD τ).loc main_arg3)
abbrev downArg : FVec Ideal S1x8x3584x1024 .f32 := m ((c.tc : Thread nD τ).loc main_arg4)

/-- Dropping the leading axis of a stack of up-projections keeps its entries. -/
theorem dropped_up (x : FVec Ideal S1x8x1024x3584 .f32) (h) (e : Fin 8) (k : Fin 1024) (f : Fin 3584) :
    shapeCast S8x1024x3584 x h (ValueIdx.ix3 e k f) = x (ValueIdx.ix4 (0 : Fin 1) e k f) := by
  refine shapeCast_apply x h _ _ ?_
  have he := e.isLt; have hk := k.isLt; have hf := f.isLt
  rewrite [Shape.rowMajor_val_four, Shape.rowMajor_val_three]
  show ((0 * 8 + e.val) * 1024 + k.val) * 3584 + f.val = (e.val * 1024 + k.val) * 3584 + f.val
  omega

theorem dropped_down (x : FVec Ideal S1x8x3584x1024 .f32) (h) (e : Fin 8) (f : Fin 3584) (k : Fin 1024) :
    shapeCast S8x3584x1024 x h (ValueIdx.ix3 e f k) = x (ValueIdx.ix4 (0 : Fin 1) e f k) := by
  refine shapeCast_apply x h _ _ ?_
  have he := e.isLt; have hk := k.isLt; have hf := f.isLt
  rewrite [Shape.rowMajor_val_four, Shape.rowMajor_val_three]
  show ((0 * 8 + e.val) * 3584 + f.val) * 1024 + k.val = (e.val * 3584 + f.val) * 1024 + k.val
  omega

theorem blk_rows (y : S4096x128.Idx) : (blkAt m hO c 0 t : Vec Ideal S4096x128 .f32) y = rowsArg m c (rowPlace (tileOf m hO t) y) := by
  have e : entry m c (Pipeline.arrRef spec0 0) = rowsArg m c := entry_arg0 m c
  exact (congrFun e ((((cfgT m hO).win 0).blk t).view.emb y)).trans (congrArg (rowsArg m c) (emb_rows m hO t y))

theorem blk_gate (k : Fin 1024) (f : Fin 3584) : (blkAt m hO c 1 t : Vec Ideal S1x1024x3584 .bf16) (ValueIdx.ix3 (0 : Fin 1) k f)
    = gateArg m c (ValueIdx.ix4 (0 : Fin 1) (namedExpert m (tileOf m hO t)) k f) := by
  have e : entry m c (Pipeline.arrRef spec0 1) = shapeCast S8x1024x3584 (gateArg m c) shapeCasts_S1x8x1024x3584_S8x1024x3584 := entry_gate m c
  exact (congrFun e ((((cfgT m hO).win 1).blk t).view.emb (ValueIdx.ix3 (0 : Fin 1) k f))).trans
    ((congrArg (shapeCast S8x1024x3584 (gateArg m c) shapeCasts_S1x8x1024x3584_S8x1024x3584) (emb_gate m hO t k f)).trans
      (dropped_up _ _ _ _ _))

theorem blk_up (k : Fin 1024) (f : Fin 3584) : (blkAt m hO c 2 t : Vec Ideal S1x1024x3584 .bf16) (ValueIdx.ix3 (0 : Fin 1) k f)
    = upArg m c (ValueIdx.ix4 (0 : Fin 1) (namedExpert m (tileOf m hO t)) k f) := by
  have e : entry m c (Pipeline.arrRef spec0 2) = shapeCast S8x1024x3584 (upArg m c) shapeCasts_S1x8x1024x3584_S8x1024x3584 := entry_up m c
  exact (congrFun e ((((cfgT m hO).win 2).blk t).view.emb (ValueIdx.ix3 (0 : Fin 1) k f))).trans
    ((congrArg (shapeCast S8x1024x3584 (upArg m c) shapeCasts_S1x8x1024x3584_S8x1024x3584) (emb_up m hO t k f)).trans
      (dropped_up _ _ _ _ _))

theorem blk_down (f : Fin 3584) (k : Fin 1024) : (blkAt m hO c 3 t : Vec Ideal S1x3584x1024 .bf16) (ValueIdx.ix3 (0 : Fin 1) f k)
    = downArg m c (ValueIdx.ix4 (0 : Fin 1) (namedExpert m (tileOf m hO t)) f k) := by
  have e : entry m c (Pipeline.arrRef spec0 3) = shapeCast S8x3584x1024 (downArg m c) shapeCasts_S1x8x3584x1024_S8x3584x1024 := entry_down m c
  exact (congrFun e ((((cfgT m hO).win 3).blk t).view.emb (ValueIdx.ix3 (0 : Fin 1) f k))).trans
    ((congrArg (shapeCast S8x3584x1024 (downArg m c) shapeCasts_S1x8x3584x1024_S8x3584x1024) (emb_down m hO t f k)).trans
      (dropped_down _ _ _ _ _))

/-- The valid table's entry for a point. -/
theorem word_read : tileWord c (grid0.coords t) (tables m 1) = validOf (counts m 0) (ValueIdx.ix1 (tileOf m hO t)) := by
  have e : tables m 1 = validOf (counts m 0) := entry_flags m 0
  exact (congrFun e _).trans (congrArg _ (entry_idx (grid0.coords t) _))

/-! ## What a point writes -/

/-- The result, as an array: each entry the value of its tile, row and column. -/
def answer : FVec Ideal S1081344x128 .f32 := fun j =>
  tileValue (rowsArg m c) (gateArg m c) (upArg m c) (downArg m c) (counts m 0) (tileIn j) (rowIn j) (colIn j)

theorem written (hn : InRange (counts m 0)) (y : S4096x128.Idx) :
    outAt m hO c t y = answer m c (rowPlace (tileOf m hO t) y) := by
  have h0 : (y 0).val < 4096 := (y 0).isLt
  have h1 : (y 1).val < 128 := (y 1).isLt
  have hi := (tileOf m hO t).isLt
  have ht : tileIn (rowPlace (tileOf m hO t) y) = tileOf m hO t := Fin.ext (by
    show (4096 * (tileOf m hO t).val + (y 0).val) / 4096 = (tileOf m hO t).val
    omega)
  have hr : rowIn (rowPlace (tileOf m hO t) y) = ⟨(y 0).val / 8, fold_row_lt y⟩ := Fin.ext (by
    show (4096 * (tileOf m hO t).val + (y 0).val) % 4096 / 8 = (y 0).val / 8
    omega)
  have hc : colIn (rowPlace (tileOf m hO t) y) = ⟨(y 0).val % 8 * 128 + (y 1).val, fold_col_lt y⟩ := Fin.ext (by
    show (4096 * (tileOf m hO t).val + (y 0).val) % 8 * 128 + (y 1).val = (y 0).val % 8 * 128 + (y 1).val
    omega)
  unfold answer tileValue
  rw [ht, hr, hc]
  unfold outAt
  rw [word_read, validOf_apply hn]
  by_cases hv : (tileOf m hO t).val < ends (counts m 0) 7
  · rw [if_pos hv, if_pos hv]
    unfold blockOf
    rw [if_pos rfl]
    have hf : foldIdx y = ValueIdx.ix2 (⟨(y 0).val / 8, fold_row_lt y⟩ : Fin 512) (⟨(y 0).val % 8 * 128 + (y 1).val, fold_col_lt y⟩ : Fin 1024) := by
      funext a
      match a with
      | ⟨0, _⟩ => rfl
      | ⟨1, _⟩ => rfl
    have hg : namedExpert m (tileOf m hO t) = groupOf (counts m 0) (tileOf m hO t) := Fin.ext (expertOf_valid hn _ hv)
    rw [hf]
    refine (accOf_apply _ _ _ _ _ _).trans ?_
    refine layer_congr (fun k => ?_) (fun k f => ?_) (fun k f => ?_) (fun f => ?_)
    · refine (blk_rows m hO c t _).trans (congrArg (rowsArg m c) ?_)
      funext a
      match a with
      | ⟨0, _⟩ => rfl
      | ⟨1, _⟩ => rfl
    · rw [← hg]; exact blk_gate m hO c t k f
    · rw [← hg]; exact blk_up m hO c t k f
    · rw [← hg]; exact blk_down m hO c t f _
  · rw [if_neg hv, if_neg hv]
    unfold blockOf
    rw [if_neg (by decide)]
    exact Ideal.ofBits_zero_f32

/-- An entry lies in the block of its own tile. -/
theorem in_block (i : S1081344x128.Idx) (hv : (tileOf m hO t).val = (i 0).val / 4096) :
    i ∈ (((cfgT m hO).win 4).blk t).view.set := by
  have h0 : (i 0).val < 1081344 := (i 0).isLt
  have hy : (((cfgT m hO).win 4).blk t).view.emb (ValueIdx.ix2 (⟨(i 0).val % 4096, by omega⟩ : Fin 4096) (i 1)) = i := by
    refine (emb_out m hO t _).trans ?_
    funext a
    refine Fin.ext ?_
    match a with
    | ⟨0, _⟩ =>
      show 4096 * (tileOf m hO t).val + (i 0).val % 4096 = (i 0).val
      rw [hv]; omega
    | ⟨1, _⟩ => rfl
  exact hy ▸ View.emb_mem_set _ _

/-- Every tile has a grid point. -/
theorem point_of (q : Nat) (hq : q < 264) : ∃ t : Fin (cfgT m hO).N, (tileOf m hO t).val = q := by
  have hN : q < (cfgT m hO).N := hq
  exact ⟨⟨q, hN⟩, tileOf_val m hO _⟩

/-- Every entry of the result is in a block written back. -/
theorem covered (i : S1081344x128.Idx) :
    ∃ t : Fin (cfgT m hO).N, ((cfgT m hO).win 4).flush t = true ∧ i ∈ (((cfgT m hO).win 4).blk t).view.set := by
  have h0 : (i 0).val < 1081344 := (i 0).isLt
  obtain ⟨t, ht⟩ := point_of m hO ((i 0).val / 4096) (by omega)
  exact ⟨t, flush_out (adm m hO) t, in_block m hO t i ht⟩

/-- What a point leaves in the output's buffer, at the array's entries. -/
theorem leaves_answer (hn : InRange (counts m 0)) (y : S4096x128.Idx) :
    (show Vec Ideal S4096x128 .f32 from (data m hO 0 c).after (4 : Fin 5) t) y = answer m c ((((cfgT m hO).win 4).blk t).view.emb y) :=
  (congrFun (leaves4 m hO c t) y).trans ((written m hO c t hn y).trans (congrArg (answer m c) (emb_out m hO t y).symm))

/-- The result array after the run. -/
theorem array_value (hn : InRange (counts m 0)) : (data m hO 0 c).arrAt (4 : Fin 5) (cfgT m hO).N = answer m c := by
  refine Pipeline.Dat.arrAt_eq_of_emb (data m hO 0 c) (4 : Fin 5) (answer m c) (fun t _ y => ?_) ?_
  · exact leaves_answer m hO c t hn y
  · exact covered m hO

end Cert.Experts

end
-- ==== Proof.Algebraic.lean ====
/-
  The equation: from counts that the routing can give, the kernel's result and the reference's are the same array over the
  extended reals.
-/
module

public import proofs.«01_k».proof.Defs
public import proofs.«01_k».proof.Proof.Frames
public import proofs.«01_k».proof.Proof.ArrayValue

@[expose] public section

set_option maxRecDepth 16384

noncomputable section

namespace Cert.Experts

open Idealize.ShloMosaic Idealize.ShloMosaic.TcCoe
open Idealize.SL.Sem

/-- The precondition bounds every count. -/
theorem in_range (x0 : FVec Ideal Cert.KernelIdeal.S1081344x128 .f32) (n : IVec Cert.KernelIdeal.S8 32)
    (x2 x3 : FVec Ideal Cert.KernelIdeal.S1x8x1024x3584 .f32) (x4 : FVec Ideal Cert.KernelIdeal.S1x8x3584x1024 .f32)
    (h : Cert.Pre_counts_of_choices.fn (F := Ideal) x0 n x2 x3 x4 = fun _ => 1#1) : InRange n := by
  intro e
  have he := congrFun h (ValueIdx.ix1 e)
  have hb : IntOp.andi (IntOp.cmpi .sge (n (ValueIdx.ix1 e)) 0#32) (IntOp.cmpi .sle (n (ValueIdx.ix1 e)) 131072#32) = 1#1 := he
  generalize n (ValueIdx.ix1 e) = w at hb ⊢
  rw [WordCmp.cmpi_sge_eq, WordCmp.cmpi_sle_eq, WordCmp.andi_ofBool] at hb
  have hz : (0#32 : BitVec 32).toInt = 0 := by decide
  have hm : (131072#32 : BitVec 32).toInt = 131072 := by decide
  rw [hz, hm] at hb
  have h2 : (decide (0 ≤ w.toInt) && decide (w.toInt ≤ 131072)) = true := by
    cases hd : (decide (0 ≤ w.toInt) && decide (w.toInt ≤ 131072))
    · rw [hd] at hb; exact absurd hb (by decide)
    · rfl
  rw [Bool.and_eq_true, decide_eq_true_eq, decide_eq_true_eq] at h2
  have hw := w.isLt
  rw [BitVec.toInt_eq_toNat_cond] at h2
  split at h2 <;> omega

/-- Both runs end with the same result. -/
theorem algebraic : Cert.algebraic_KernelIdeal_ReferenceIdeal_pre_counts_of_choices (hKernelIdeal := Cert.KernelIdeal.Gen.facts)
    (hReferenceIdeal := Cert.ReferenceIdeal.Gen.facts) (hPre_counts_of_choices := preFacts) := by
  intro m g m' g' hpre hargs
  have hn : InRange (counts m 0) := in_range _ _ _ _ _ (hpre 0)
  refine ⟨fun c => answer m c, ?_, ?_⟩
  · refine (θ_run Cert.KernelIdeal.defs _ _).mono (fun r h c => ?_) (run_main m g (tables_ok m))
    obtain ⟨h0, h1, h2, h3, h4, hr⟩ := h.1 c
    exact ⟨hr.trans (array_value m (tables_ok m) c hn), h0, h1, h2, h3, h4⟩
  · refine (θ_run Cert.ReferenceIdeal.defs _ _).mono (fun r h c => ?_) (Cert.ReferenceIdeal.Value.run (F := Ideal) m' g')
    obtain ⟨hr, h0⟩ := h c
    refine ⟨?_, h0⟩
    obtain ⟨e0, e1, e2, e3, e4⟩ := hargs c
    refine hr.trans ((Cert.ReferenceIdeal.Read.val_main_v56_eq m' c).trans ?_)
    obtain rfl : c = 0 := Subsingleton.elim _ _
    rw [e0, e1, e2, e3, e4]
    funext j
    exact ref_value _ _ _ _ hn j

end Cert.Experts

end
-- ==== Proof.FfnMath.lean ====
/-
  The dense layer in extended reals, a token's row at a time: the row's root mean square norm, the gated hidden layer added
  to the row, the queries, and the keys and values of four heads of 64 lanes.
-/
module

public import proofs.«01_k».proof.Proof.Layer
public import Idealize.ShloMosaic.Lib.IdealHost

@[expose] public section

noncomputable section

namespace Cert.Ffn

open Idealize.ShloMosaic
open scoped BigOperators

/-- The number added to a mean square. -/
def eps : EReal := Ideal.ofBits .f32 0x358637BD#32
/-- The row's width, 1024. -/
def width : EReal := Ideal.ofBits .f32 0x44800000#32
/-- A head's width, 64. -/
def headWidth : EReal := Ideal.ofBits .f32 0x42800000#32
/-- A head's width with its lanes written twice, 128. -/
def headWidth2 : EReal := Ideal.ofBits .f32 0x43000000#32

/-- A row divided by its root mean square, times the gain: `x · rsqrt (Σ x² / n + ε) · g`. -/
def rms {N : ℕ} (n : EReal) (x g : Fin N → EReal) (k : Fin N) : EReal :=
  x k * Ideal.rsqrt (Ideal.div (∑ j, x j * x j) n + eps) * g k

/-- The summand of hidden column `j`, for a normed row `x` and a column `wd` of the down matrix; zero past the last column. -/
def term (x : Fin 1024 → EReal) (wg wu : Fin 1024 → Fin 2816 → EReal) (wd : Fin 2816 → EReal) (j : ℕ) : EReal :=
  if h : j < 2816 then
    Experts.hid (∑ k, x k * wg k ⟨j, h⟩) (∑ k, x k * wu k ⟨j, h⟩) * wd ⟨j, h⟩
  else 0

/-- The row after the dense layer: the row plus the gated hidden layer of its norm. -/
def ffn (x g : Fin 1024 → EReal) (wg wu : Fin 1024 → Fin 2816 → EReal) (wd : Fin 2816 → Fin 1024 → EReal) (c : Fin 1024) : EReal :=
  x c + ∑ f : Fin 2816, Experts.hid (∑ k, rms width x g k * wg k f) (∑ k, rms width x g k * wu k f) * wd f c

/-- A row's norm through a matrix. -/
def proj {N : ℕ} (h g : Fin 1024 → EReal) (w : Fin 1024 → Fin N → EReal) (c : Fin N) : EReal := ∑ k, rms width h g k * w k c

/-- Column `c` of the four heads' 64 lanes, each head written twice: the head's number. -/
def headOf (c : Fin 512) : Fin 4 := ⟨c.val / 128, by have := c.isLt; omega⟩
/-- The lane of the head. -/
def laneOf (c : Fin 512) : Fin 64 := ⟨c.val % 64, Nat.mod_lt _ (by omega)⟩
/-- Where a key's lane lies among the 512 columns of keys and values. -/
def keyCol (h : Fin 4) (l : Fin 64) : Fin 512 := ⟨64 * h.val + l.val, by have := h.isLt; have := l.isLt; omega⟩
/-- Where a value's lane lies among the 512 columns of keys and values. -/
def valCol (h : Fin 4) (l : Fin 64) : Fin 512 := ⟨256 + (64 * h.val + l.val), by have := h.isLt; have := l.isLt; omega⟩

/-- The strips of 768, 768, 768 and 512 hidden columns add up to the one sum. -/
theorem strips (T : ℕ → EReal) (x : EReal) :
    x + ∑ f : Fin 768, T f.val + ∑ f : Fin 768, T (768 + f.val) + ∑ f : Fin 768, T (1536 + f.val) + ∑ f : Fin 512, T (2304 + f.val)
      = x + ∑ f : Fin 2816, T f.val := by
  rw [Fin.sum_univ_eq_sum_range T 768, Fin.sum_univ_eq_sum_range (fun j => T (768 + j)) 768,
    Fin.sum_univ_eq_sum_range (fun j => T (1536 + j)) 768, Fin.sum_univ_eq_sum_range (fun j => T (2304 + j)) 512,
    Fin.sum_univ_eq_sum_range T 2816, show 2816 = 2304 + 512 from rfl, Finset.sum_range_add, show 2304 = 1536 + 768 from rfl,
    Finset.sum_range_add, show 1536 = 768 + 768 from rfl, Finset.sum_range_add]
  simp only [add_assoc]

/-- The row after the layer, as the row plus the sum of the summands. -/
theorem ffn_eq (x g : Fin 1024 → EReal) (wg wu : Fin 1024 → Fin 2816 → EReal) (wd : Fin 2816 → Fin 1024 → EReal) (c : Fin 1024) :
    ffn x g wg wu wd c = x c + ∑ f : Fin 2816, term (rms width x g) wg wu (fun f => wd f c) f.val := by
  unfold ffn
  refine congrArg (_ + ·) (Finset.sum_congr rfl fun f _ => ?_)
  unfold term
  rw [dif_pos f.isLt]

theorem headWidth_val : headWidth = ((64 : ℝ) : EReal) := by
  unfold headWidth
  simp [Ideal.ofBits, Ideal.ieee, -EReal.coe_mul, -EReal.coe_add]
  norm_num

theorem headWidth2_val : headWidth2 = ((128 : ℝ) : EReal) := by
  unfold headWidth2
  simp [Ideal.ofBits, Ideal.ieee, -EReal.coe_mul, -EReal.coe_add]
  norm_num

/-- The mean over lanes written twice is the mean over the lanes. -/
theorem mean_twice (s : EReal) : Ideal.div (s + s) headWidth2 = Ideal.div s headWidth := by
  rw [headWidth_val, headWidth2_val]
  have h1 : ((128 : ℝ) : EReal) ≠ 0 := by norm_num
  have h2 : ((64 : ℝ) : EReal) ≠ 0 := by norm_num
  unfold Ideal.div
  rw [if_neg h1, if_neg h2, ← EReal.coe_inv, ← EReal.coe_inv]
  induction s with
  | bot => rw [EReal.bot_add, EReal.bot_mul_coe_of_pos (by norm_num), EReal.bot_mul_coe_of_pos (by norm_num)]
  | top => rw [EReal.top_add_top, EReal.top_mul_coe_of_pos (by norm_num), EReal.top_mul_coe_of_pos (by norm_num)]
  | coe r =>
    rw [← EReal.coe_add, ← EReal.coe_mul, ← EReal.coe_mul]
    refine congrArg _ ?_
    ring

/-- A sum over 128 lanes that repeat after 64 is twice the sum over 64. -/
theorem sum_twice (T : Fin 64 → EReal) : (∑ l : Fin 128, T ⟨l.val % 64, Nat.mod_lt _ (by omega)⟩) = (∑ l, T l) + ∑ l, T l := by
  refine (Fin.sum_univ_add (a := 64) (b := 64) fun l : Fin (64 + 64) => T ⟨l.val % 64, Nat.mod_lt _ (by omega)⟩).trans ?_
  refine congrArg₂ (· + ·) (Finset.sum_congr rfl fun l _ => congrArg T (Fin.ext ?_)) (Finset.sum_congr rfl fun l _ => congrArg T (Fin.ext ?_))
  · show l.val % 64 = l.val
    exact Nat.mod_eq_of_lt l.isLt
  · show (64 + l.val) % 64 = l.val
    have := l.isLt
    omega

/-- A head's norm over its lanes written twice is its norm over its lanes. -/
theorem rms_twice (x g : Fin 64 → EReal) (l : Fin 128) :
    rms headWidth2 (fun l : Fin 128 => x ⟨l.val % 64, Nat.mod_lt _ (by omega)⟩) (fun l : Fin 128 => g ⟨l.val % 64, Nat.mod_lt _ (by omega)⟩) l
      = rms headWidth x g ⟨l.val % 64, Nat.mod_lt _ (by omega)⟩ := by
  unfold rms
  rw [sum_twice fun l => x l * x l, mean_twice]

theorem ffn_congr {x x' g g' : Fin 1024 → EReal} {wg wg' wu wu' : Fin 1024 → Fin 2816 → EReal} {wd wd' : Fin 2816 → Fin 1024 → EReal}
    (hx : ∀ k, x k = x' k) (hgn : ∀ k, g k = g' k) (hg : ∀ k f, wg k f = wg' k f) (hu : ∀ k f, wu k f = wu' k f)
    (hd : ∀ f k, wd f k = wd' f k) (c : Fin 1024) : ffn x g wg wu wd c = ffn x' g' wg' wu' wd' c := by
  rw [funext hx, funext hgn, funext fun k => funext (hg k), funext fun k => funext (hu k), funext fun f => funext (hd f)]

end Cert.Ffn

end
-- ==== Proof.FfnBlock.lean ====
/-
  What the dense layer's body computes from one block of 512 rows, entry by entry over the extended reals: the norm of a row,
  a strip of hidden columns, and the row after the layer.
-/
module

public import proofs.«01_k».proof.Proof.FfnMath
public import proofs.«01_k».proof.Proof.Gen.Kernel2Ideal.Frame
public import Idealize.ShloMosaic.Lib.MatmulPlain
public import Idealize.ShloMosaic.Lib.Pipeline.Value
public import Idealize.ShloMosaic.Lib.Pipeline.ValueKit
public import Idealize.ShloMosaic.Lib.Pointwise.SelectCore

@[expose] public section

set_option maxRecDepth 16384

noncomputable section

namespace Cert.Ffn

open Cert.Kernel2Ideal Cert.Kernel2Ideal.Gen
open Idealize.ShloMosaic Idealize.ShloMosaic.TcCoe
open Idealize.SL.Sem
open scoped BigOperators

/-! ## The norm of a row -/

/-- The sum of a row's squares, written as one column. -/
theorem squares_apply (v : FVec Ideal S512x1024 .f32) (r : Fin 512) :
    shapeCast S512x1 (multiReduction (F := Ideal) .add [1] S512 (mulf v v) 0x00000000#32 reduces_S512x1024_S512 (.inl rfl) rfl)
      shapeCasts_S512_S512x1 (ValueIdx.ix2 r (0 : Fin 1)) = ∑ k : Fin 1024, (v (ValueIdx.ix2 r k) : EReal) * v (ValueIdx.ix2 r k) := by
  refine (shapeCast_apply _ shapeCasts_S512_S512x1 (ValueIdx.ix2 r (0 : Fin 1)) (ValueIdx.ix1 r) (by
    rewrite [Shape.rowMajor_val_one, Shape.rowMajor_val_two]
    show r.val = r.val * 1 + 0
    omega)).trans ?_
  refine (Ideal.multiReduction_add_single (mulf v v) _ reduces_S512x1024_S512 (.inl rfl) rfl (ValueIdx.ix1 r)).trans ?_
  refine Finset.sum_congr rfl fun k _ => ?_
  have e : reduces_S512x1024_S512.lift (ValueIdx.ix1 r) k = ValueIdx.ix2 r k := funext fun a => Fin.ext (by
    match a with
    | ⟨0, _⟩ => rfl
    | ⟨1, _⟩ => rfl)
  rw [e]
  rfl

/-- A block of rows divided by their root mean squares, as the body writes it. -/
def scaled (v : FVec Ideal S512x1024 .f32) : FVec Ideal S512x1024 .f32 :=
  mulf v (broadcastTo S512x1024 (rsqrt (addf (divf (shapeCast S512x1 (multiReduction (F := Ideal) .add [1] S512 (mulf v v) 0x00000000#32
    reduces_S512x1024_S512 (.inl rfl) rfl) shapeCasts_S512_S512x1) (broadcast S512x1 (Scalar.ofBits (F := Ideal) .f32 0x44800000#32)))
    (broadcast S512x1 (Scalar.ofBits (F := Ideal) .f32 0x358637BD#32)))) broadcasts_S512x1_S512x1024)

theorem scaled_apply (v : FVec Ideal S512x1024 .f32) (r : Fin 512) (k : Fin 1024) :
    scaled v (ValueIdx.ix2 r k)
      = (v (ValueIdx.ix2 r k) : EReal) * Ideal.rsqrt (Ideal.div (∑ j : Fin 1024, (v (ValueIdx.ix2 r j) : EReal) * v (ValueIdx.ix2 r j)) width + eps) := by
  unfold scaled
  refine congrArg (v (ValueIdx.ix2 r k) * ·) ?_
  refine (broadcastTo_apply _ broadcasts_S512x1_S512x1024 (ValueIdx.ix2 r k) (ValueIdx.ix2 r (0 : Fin 1)) (fun a => by
    match a with
    | ⟨0, _⟩ =>
      show r.val = (if (512 : Nat) = 1 then 0 else r.val)
      rw [if_neg (by decide)]
    | ⟨1, _⟩ =>
      show 0 = (if (1 : Nat) = 1 then 0 else k.val)
      rw [if_pos rfl])).trans ?_
  exact congrArg (fun s => Ideal.rsqrt (Ideal.div s width + eps)) (squares_apply v r)

/-- A gain written along the columns. -/
theorem gain_apply (g : Vec Ideal S1x1024 .f32) (r : Fin 512) (k : Fin 1024) :
    broadcastTo S512x1024 (shapeCast S1x1024 g shapeCasts_S1x1024_S1x1024) broadcasts_S1x1024_S512x1024 (ValueIdx.ix2 r k)
      = g (ValueIdx.ix2 (0 : Fin 1) k) := by
  refine (broadcastTo_apply _ broadcasts_S1x1024_S512x1024 (ValueIdx.ix2 r k) (ValueIdx.ix2 (0 : Fin 1) k) (fun a => by
    match a with
    | ⟨0, _⟩ =>
      show 0 = (if (1 : Nat) = 1 then 0 else r.val)
      rw [if_pos rfl]
    | ⟨1, _⟩ =>
      show k.val = (if (1024 : Nat) = 1 then 0 else k.val)
      rw [if_neg (by decide)])).trans ?_
  exact shapeCast_apply g shapeCasts_S1x1024_S1x1024 _ _ rfl

/-- A block of rows normed with a gain, as the body writes it. -/
def normed (v : FVec Ideal S512x1024 .f32) (g : Vec Ideal S1x1024 .f32) : FVec Ideal S512x1024 .bf16 :=
  truncf .bf16 (mulf (scaled v) (broadcastTo S512x1024 (shapeCast S1x1024 g shapeCasts_S1x1024_S1x1024) broadcasts_S1x1024_S512x1024)) bitsLt_bf16_f32

theorem normed_apply (v : FVec Ideal S512x1024 .f32) (g : Vec Ideal S1x1024 .f32) (r : Fin 512) (k : Fin 1024) :
    normed v g (ValueIdx.ix2 r k) = rms width (fun j => v (ValueIdx.ix2 r j)) (fun j => g (ValueIdx.ix2 (0 : Fin 1) j)) k :=
  congrArg₂ (· * ·) (scaled_apply v r k) (gain_apply g r k)

/-! ## A strip of hidden columns -/

/-- The gated hidden values, as the body writes them. -/
def gatedOf {s : Shape} (g u : FVec Ideal s .f32) : FVec Ideal s .bf16 :=
  truncf .bf16 (mulf (mulf g (divf (broadcast s (Scalar.ofBits (F := Ideal) .f32 0x3F800000#32)) (addf (broadcast s (Scalar.ofBits (F := Ideal) .f32 0x3F800000#32))
    (exp (subf (broadcast s (Scalar.ofBits (F := Ideal) .f32 0x00000000#32)) g))))) u) bitsLt_bf16_f32

theorem gatedOf_apply {s : Shape} (g u : FVec Ideal s .f32) (i : s.Idx) : gatedOf g u i = Experts.hid (g i) (u i) := by
  have h : gatedOf g u i = (g i : EReal) * Ideal.div (Ideal.ofBits .f32 0x3F800000#32)
      (Ideal.ofBits .f32 0x3F800000#32 + Ideal.exp (Ideal.ofBits .f32 0x00000000#32 - g i)) * u i := rfl
  rw [h, Ideal.ofBits_one_f32, Ideal.ofBits_zero_f32, zero_sub]
  rfl

/-- A block of rows through a strip of 768 columns. -/
def up768 (x : FVec Ideal S512x1024 .bf16) (w : Vec Ideal S1024x768 .bf16) : FVec Ideal S512x768 .f32 :=
  matmul dot_S512x1024_S1024x768_S512x768_1_0_0_1_n_n none x (shapeCast S1024x768 w shapeCasts_S1024x768_S1024x768 : FVec Ideal S1024x768 .bf16)
    (constant S512x768 .f32 0x00000000#32)

/-- A block of rows through the last strip, of 512 columns. -/
def up512 (x : FVec Ideal S512x1024 .bf16) (w : Vec Ideal S1024x512 .bf16) : FVec Ideal S512x512 .f32 :=
  matmul dot_S512x1024_S1024x512_S512x512_1_0_0_1_n_n none x (shapeCast S1024x512 w shapeCasts_S1024x512_S1024x512 : FVec Ideal S1024x512 .bf16)
    (constant S512x512 .f32 0x00000000#32)

/-- A strip of 768 hidden columns. -/
def strip768 (x : FVec Ideal S512x1024 .bf16) (g u : Vec Ideal S1024x768 .bf16) (d : Vec Ideal S768x1024 .bf16) : FVec Ideal S512x1024 .f32 :=
  matmul dot_S512x768_S768x1024_S512x1024_1_0_0_1_n_n none (gatedOf (up768 x g) (up768 x u))
    (shapeCast S768x1024 d shapeCasts_S768x1024_S768x1024 : FVec Ideal S768x1024 .bf16) (constant S512x1024 .f32 0x00000000#32)

/-- The last strip, of 512 hidden columns. -/
def strip512 (x : FVec Ideal S512x1024 .bf16) (g u : Vec Ideal S1024x512 .bf16) (d : Vec Ideal S512x1024 .bf16) : FVec Ideal S512x1024 .f32 :=
  matmul dot_S512x512_S512x1024_S512x1024_1_0_0_1_n_n none (gatedOf (up512 x g) (up512 x u))
    (shapeCast S512x1024 d shapeCasts_S512x1024_S512x1024 : FVec Ideal S512x1024 .bf16) (constant S512x1024 .f32 0x00000000#32)

/-- A block of rows through a square matrix. -/
def through (x : FVec Ideal S512x1024 .bf16) (w : Vec Ideal S1024x1024 .bf16) : FVec Ideal S512x1024 .f32 :=
  matmul dot_S512x1024_S1024x1024_S512x1024_1_0_0_1_n_n none x (shapeCast S1024x1024 w shapeCasts_S1024x1024_S1024x1024 : FVec Ideal S1024x1024 .bf16)
    (constant S512x1024 .f32 0x00000000#32)

/-- A vector cast to its own shape is itself. -/
theorem cast_self {s : Shape} {α : Type} (x : s.Idx → α) (h : s.ShapeCasts s) : shapeCast s x h = x :=
  funext fun j => shapeCast_apply x h j j rfl

theorem up768_apply (x : FVec Ideal S512x1024 .bf16) (w : Vec Ideal S1024x768 .bf16) (r : Fin 512) (c : Fin 768) :
    up768 x w (ValueIdx.ix2 r c) = ∑ k : Fin 1024, (x (ValueIdx.ix2 r k) : EReal) * w (ValueIdx.ix2 k c) := by
  unfold up768
  rw [cast_self]
  refine (Ideal.matmul_plain_apply (M := 512) (K := 1024) (N := 768) none x _ _ r c).trans ?_
  have hz : (constant (F := Ideal) S512x768 .f32 0x00000000#32 : S512x768.Idx → EReal) (ValueIdx.ix2 r c) = 0 := Ideal.ofBits_zero_f32
  rw [hz, zero_add]

theorem up512_apply (x : FVec Ideal S512x1024 .bf16) (w : Vec Ideal S1024x512 .bf16) (r : Fin 512) (c : Fin 512) :
    up512 x w (ValueIdx.ix2 r c) = ∑ k : Fin 1024, (x (ValueIdx.ix2 r k) : EReal) * w (ValueIdx.ix2 k c) := by
  unfold up512
  rw [cast_self]
  refine (Ideal.matmul_plain_apply (M := 512) (K := 1024) (N := 512) none x _ _ r c).trans ?_
  have hz : (constant (F := Ideal) S512x512 .f32 0x00000000#32 : S512x512.Idx → EReal) (ValueIdx.ix2 r c) = 0 := Ideal.ofBits_zero_f32
  rw [hz, zero_add]

theorem through_apply (x : FVec Ideal S512x1024 .bf16) (w : Vec Ideal S1024x1024 .bf16) (r : Fin 512) (c : Fin 1024) :
    through x w (ValueIdx.ix2 r c) = ∑ k : Fin 1024, (x (ValueIdx.ix2 r k) : EReal) * w (ValueIdx.ix2 k c) := by
  unfold through
  rw [cast_self]
  refine (Ideal.matmul_plain_apply (M := 512) (K := 1024) (N := 1024) none x _ _ r c).trans ?_
  have hz : (constant (F := Ideal) S512x1024 .f32 0x00000000#32 : S512x1024.Idx → EReal) (ValueIdx.ix2 r c) = 0 := Ideal.ofBits_zero_f32
  rw [hz, zero_add]

theorem strip768_apply (x : FVec Ideal S512x1024 .bf16) (g u : Vec Ideal S1024x768 .bf16) (d : Vec Ideal S768x1024 .bf16) (r : Fin 512) (c : Fin 1024) :
    strip768 x g u d (ValueIdx.ix2 r c)
      = ∑ f : Fin 768, Experts.hid (∑ k : Fin 1024, (x (ValueIdx.ix2 r k) : EReal) * g (ValueIdx.ix2 k f))
          (∑ k : Fin 1024, (x (ValueIdx.ix2 r k) : EReal) * u (ValueIdx.ix2 k f)) * d (ValueIdx.ix2 f c) := by
  unfold strip768
  rw [cast_self]
  refine (Ideal.matmul_plain_apply (M := 512) (K := 768) (N := 1024) none _ _ _ r c).trans ?_
  have hz : (constant (F := Ideal) S512x1024 .f32 0x00000000#32 : S512x1024.Idx → EReal) (ValueIdx.ix2 r c) = 0 := Ideal.ofBits_zero_f32
  rw [hz, zero_add]
  refine Finset.sum_congr rfl fun f _ => congrArg (· * _) ?_
  exact (gatedOf_apply _ _ _).trans (congrArg₂ Experts.hid (up768_apply x g r f) (up768_apply x u r f))

theorem strip512_apply (x : FVec Ideal S512x1024 .bf16) (g u : Vec Ideal S1024x512 .bf16) (d : Vec Ideal S512x1024 .bf16) (r : Fin 512) (c : Fin 1024) :
    strip512 x g u d (ValueIdx.ix2 r c)
      = ∑ f : Fin 512, Experts.hid (∑ k : Fin 1024, (x (ValueIdx.ix2 r k) : EReal) * g (ValueIdx.ix2 k f))
          (∑ k : Fin 1024, (x (ValueIdx.ix2 r k) : EReal) * u (ValueIdx.ix2 k f)) * d (ValueIdx.ix2 f c) := by
  unfold strip512
  rw [cast_self]
  refine (Ideal.matmul_plain_apply (M := 512) (K := 512) (N := 1024) none _ _ _ r c).trans ?_
  have hz : (constant (F := Ideal) S512x1024 .f32 0x00000000#32 : S512x1024.Idx → EReal) (ValueIdx.ix2 r c) = 0 := Ideal.ofBits_zero_f32
  rw [hz, zero_add]
  refine Finset.sum_congr rfl fun f _ => congrArg (· * _) ?_
  exact (gatedOf_apply _ _ _).trans (congrArg₂ Experts.hid (up512_apply x g r f) (up512_apply x u r f))

/-! ## The row after the layer -/

variable (x0 : Vec Ideal S512x1024 .f32) (x1 : Vec Ideal S1x1024 .f32) (x2 x3 : Vec Ideal S1024x2816 .bf16) (x4 : Vec Ideal S2816x1024 .bf16)

/-- The block of rows after the layer, as the body writes it. -/
def layered : FVec Ideal S512x1024 .f32 :=
  addf (addf (addf (addf x0
    (strip768 (normed x0 x1) (View.ld (e' := .bf16) x2 r0_2) (View.ld (e' := .bf16) x3 r0_2) (View.ld (e' := .bf16) x4 r0_3)))
    (strip768 (normed x0 x1) (View.ld (e' := .bf16) x2 r0_4) (View.ld (e' := .bf16) x3 r0_4) (View.ld (e' := .bf16) x4 r0_5)))
    (strip768 (normed x0 x1) (View.ld (e' := .bf16) x2 r0_6) (View.ld (e' := .bf16) x3 r0_6) (View.ld (e' := .bf16) x4 r0_7)))
    (strip512 (normed x0 x1) (View.ld (e' := .bf16) x2 r0_8) (View.ld (e' := .bf16) x3 r0_8) (View.ld (e' := .bf16) x4 r0_9))

/-- A strip's summand is the layer's at the hidden column it stands for. -/
theorem summand_eq (r : Fin 512) (c : Fin 1024) (j : Fin 2816) (G U : Fin 1024 → EReal) (D : EReal)
    (hg : ∀ k, G k = x2 (ValueIdx.ix2 k j)) (hu : ∀ k, U k = x3 (ValueIdx.ix2 k j)) (hd : D = x4 (ValueIdx.ix2 j c)) :
    Experts.hid (∑ k : Fin 1024, (normed x0 x1 (ValueIdx.ix2 r k) : EReal) * G k) (∑ k : Fin 1024, (normed x0 x1 (ValueIdx.ix2 r k) : EReal) * U k) * D
      = term (rms width (fun k => x0 (ValueIdx.ix2 r k)) (fun k => x1 (ValueIdx.ix2 (0 : Fin 1) k))) (fun k f => x2 (ValueIdx.ix2 k f))
          (fun k f => x3 (ValueIdx.ix2 k f)) (fun f => x4 (ValueIdx.ix2 f c)) j.val := by
  unfold term
  rw [dif_pos j.isLt, hd]
  refine congrArg (· * _) (congrArg₂ Experts.hid (Finset.sum_congr rfl fun k _ => ?_) (Finset.sum_congr rfl fun k _ => ?_))
  · exact congrArg₂ (· * ·) (normed_apply x0 x1 r k) (hg k)
  · exact congrArg₂ (· * ·) (normed_apply x0 x1 r k) (hu k)

theorem layered_apply (r : Fin 512) (c : Fin 1024) :
    layered x0 x1 x2 x3 x4 (ValueIdx.ix2 r c)
      = ffn (fun k => x0 (ValueIdx.ix2 r k)) (fun k => x1 (ValueIdx.ix2 (0 : Fin 1) k)) (fun k f => x2 (ValueIdx.ix2 k f))
          (fun k f => x3 (ValueIdx.ix2 k f)) (fun f k => x4 (ValueIdx.ix2 f k)) c := by
  rw [ffn_eq, ← strips]
  refine congrArg₂ (· + ·) (congrArg₂ (· + ·) (congrArg₂ (· + ·) (congrArg (x0 (ValueIdx.ix2 r c) + ·) ?_) ?_) ?_) ?_
  · refine (strip768_apply _ _ _ _ r c).trans (Finset.sum_congr rfl fun f _ => ?_)
    have hf := f.isLt
    refine summand_eq x0 x1 x2 x3 x4 r c (⟨f.val, by omega⟩ : Fin 2816) _ _ _ (fun k => ?_) (fun k => ?_) ?_
    · exact View.ld_unit_apply_of x2 _ _ _ _ _ (fun a => by match a with | ⟨0, _⟩ => exact (Nat.zero_add _).symm | ⟨1, _⟩ => exact (Nat.zero_add _).symm)
    · exact View.ld_unit_apply_of x3 _ _ _ _ _ (fun a => by match a with | ⟨0, _⟩ => exact (Nat.zero_add _).symm | ⟨1, _⟩ => exact (Nat.zero_add _).symm)
    · exact View.ld_unit_apply_of x4 _ _ _ _ _ (fun a => by match a with | ⟨0, _⟩ => exact (Nat.zero_add _).symm | ⟨1, _⟩ => exact (Nat.zero_add _).symm)
  · refine (strip768_apply _ _ _ _ r c).trans (Finset.sum_congr rfl fun f _ => ?_)
    have hf := f.isLt
    refine summand_eq x0 x1 x2 x3 x4 r c (⟨768 + f.val, by omega⟩ : Fin 2816) _ _ _ (fun k => ?_) (fun k => ?_) ?_
    · exact View.ld_unit_apply_of x2 _ _ _ _ _ (fun a => by match a with | ⟨0, _⟩ => exact (Nat.zero_add _).symm | ⟨1, _⟩ => rfl)
    · exact View.ld_unit_apply_of x3 _ _ _ _ _ (fun a => by match a with | ⟨0, _⟩ => exact (Nat.zero_add _).symm | ⟨1, _⟩ => rfl)
    · exact View.ld_unit_apply_of x4 _ _ _ _ _ (fun a => by match a with | ⟨0, _⟩ => rfl | ⟨1, _⟩ => exact (Nat.zero_add _).symm)
  · refine (strip768_apply _ _ _ _ r c).trans (Finset.sum_congr rfl fun f _ => ?_)
    have hf := f.isLt
    refine summand_eq x0 x1 x2 x3 x4 r c (⟨1536 + f.val, by omega⟩ : Fin 2816) _ _ _ (fun k => ?_) (fun k => ?_) ?_
    · exact View.ld_unit_apply_of x2 _ _ _ _ _ (fun a => by match a with | ⟨0, _⟩ => exact (Nat.zero_add _).symm | ⟨1, _⟩ => rfl)
    · exact View.ld_unit_apply_of x3 _ _ _ _ _ (fun a => by match a with | ⟨0, _⟩ => exact (Nat.zero_add _).symm | ⟨1, _⟩ => rfl)
    · exact View.ld_unit_apply_of x4 _ _ _ _ _ (fun a => by match a with | ⟨0, _⟩ => rfl | ⟨1, _⟩ => exact (Nat.zero_add _).symm)
  · refine (strip512_apply _ _ _ _ r c).trans (Finset.sum_congr rfl fun f _ => ?_)
    have hf := f.isLt
    refine summand_eq x0 x1 x2 x3 x4 r c (⟨2304 + f.val, by omega⟩ : Fin 2816) _ _ _ (fun k => ?_) (fun k => ?_) ?_
    · exact View.ld_unit_apply_of x2 _ _ _ _ _ (fun a => by match a with | ⟨0, _⟩ => exact (Nat.zero_add _).symm | ⟨1, _⟩ => rfl)
    · exact View.ld_unit_apply_of x3 _ _ _ _ _ (fun a => by match a with | ⟨0, _⟩ => exact (Nat.zero_add _).symm | ⟨1, _⟩ => rfl)
    · exact View.ld_unit_apply_of x4 _ _ _ _ _ (fun a => by match a with | ⟨0, _⟩ => rfl | ⟨1, _⟩ => exact (Nat.zero_add _).symm)

end Cert.Ffn

end
-- ==== Proof.FfnEntry.lean ====
/-
  What the host hands the dense layer's kernel: the weights with their leading axis dropped, the gains as one row, and the
  columns of keys and values with every head written twice; entry by entry over the extended reals.
-/
module

public import proofs.«01_k».proof.Proof.FfnBlock
public import Idealize.ShloMosaic.Lib.StableHlo.ReadAt

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL.Sem

/-! ## Layouts, for any array -/

section Layout
variable {α : Type}

/-- Dropping a leading axis of one. -/
theorem drop_one {a b : ℕ} (x : (⟨3, ![1, a, b]⟩ : Shape).Idx → α) (h) (i : Fin a) (j : Fin b) :
    shapeCast ⟨2, ![a, b]⟩ x h (ValueIdx.ix2 i j) = x (ValueIdx.ix3 (0 : Fin 1) i j) := by
  refine shapeCast_apply x h _ _ ?_
  rewrite [Shape.rowMajor_val_three, Shape.rowMajor_val_two]
  show (0 * a + i.val) * b + j.val = i.val * b + j.val
  rw [Nat.zero_mul, Nat.zero_add]

/-- A line written as one row. -/
theorem as_row {a : ℕ} (x : (⟨1, ![a]⟩ : Shape).Idx → α) (h) (j : Fin a) :
    shapeCast ⟨2, ![1, a]⟩ x h (ValueIdx.ix2 (0 : Fin 1) j) = x (ValueIdx.ix1 j) := by
  refine shapeCast_apply x h _ _ ?_
  rewrite [Shape.rowMajor_val_one, Shape.rowMajor_val_two]
  show j.val = 0 * a + j.val
  rw [Nat.zero_mul, Nat.zero_add]

/-- One row written as a line. -/
theorem as_line {a : ℕ} (x : (⟨2, ![1, a]⟩ : Shape).Idx → α) (h) (j : Fin a) :
    shapeCast ⟨1, ![a]⟩ x h (ValueIdx.ix1 j) = x (ValueIdx.ix2 (0 : Fin 1) j) := by
  refine shapeCast_apply x h _ _ ?_
  rewrite [Shape.rowMajor_val_one, Shape.rowMajor_val_two]
  show 0 * a + j.val = j.val
  rw [Nat.zero_mul, Nat.zero_add]

theorem row0 (x : S2x1024.Idx → α) (k : Fin 1024) :
    extractStridedSlice S1x1024 ![0, 0] x slices_S2x1024_S1x1024_0_0 (ValueIdx.ix2 (0 : Fin 1) k) = x (ValueIdx.ix2 (0 : Fin 2) k) :=
  extractStridedSlice_apply ![0, 0] x slices_S2x1024_S1x1024_0_0 _ _ (fun a => by
    match a with
    | ⟨0, _⟩ => rfl
    | ⟨1, _⟩ => exact (Nat.zero_add _).symm)

theorem row1 (x : S2x1024.Idx → α) (k : Fin 1024) :
    extractStridedSlice S1x1024 ![1, 0] x slices_S2x1024_S1x1024_1_0 (ValueIdx.ix2 (0 : Fin 1) k) = x (ValueIdx.ix2 (1 : Fin 2) k) :=
  extractStridedSlice_apply ![1, 0] x slices_S2x1024_S1x1024_1_0 _ _ (fun a => by
    match a with
    | ⟨0, _⟩ => rfl
    | ⟨1, _⟩ => exact (Nat.zero_add _).symm)

/-- Four heads of 64 columns, each written twice. -/
def twice (x : S1024x256.Idx → α) : S1024x512.Idx → α :=
  shapeCast S1024x512 (broadcastInDim S1024x4x2x64 ![0, 1, 2, 3] bcast_S1024x4x1x64_S1024x4x2x64_0_1_2_3
    (shapeCast S1024x4x1x64 x shapeCasts_S1024x256_S1024x4x1x64)) shapeCasts_S1024x4x2x64_S1024x512

theorem twice_apply (x : S1024x256.Idx → α) (k : Fin 1024) (c : Fin 512) :
    twice x (ValueIdx.ix2 k c) = x (ValueIdx.ix2 k (⟨64 * (c.val / 128) + c.val % 64, by have := c.isLt; omega⟩ : Fin 256)) := by
  have hc := c.isLt
  have hk := k.isLt
  unfold twice
  refine (shapeCast_apply _ shapeCasts_S1024x4x2x64_S1024x512 (ValueIdx.ix2 k c)
    (ValueIdx.ix4 k (⟨c.val / 128, by omega⟩ : Fin 4) (⟨c.val % 128 / 64, by omega⟩ : Fin 2) (⟨c.val % 64, by omega⟩ : Fin 64)) (by
      rewrite [Shape.rowMajor_val_four, Shape.rowMajor_val_two]
      show ((k.val * 4 + c.val / 128) * 2 + c.val % 128 / 64) * 64 + c.val % 64 = k.val * 512 + c.val
      omega)).trans ?_
  refine (broadcastInDim_apply _ bcast_S1024x4x1x64_S1024x4x2x64_0_1_2_3 _ _
    (ValueIdx.ix4 k (⟨c.val / 128, by omega⟩ : Fin 4) (0 : Fin 1) (⟨c.val % 64, by omega⟩ : Fin 64)) (fun a => by
      match a with
      | ⟨0, _⟩ => exact (if_neg (show ¬ (1024 : ℕ) = 1 by decide)).symm
      | ⟨1, _⟩ => exact (if_neg (show ¬ (4 : ℕ) = 1 by decide)).symm
      | ⟨2, _⟩ => exact (if_pos (show (1 : ℕ) = 1 from rfl)).symm
      | ⟨3, _⟩ => exact (if_neg (show ¬ (64 : ℕ) = 1 by decide)).symm)).trans ?_
  refine shapeCast_apply x shapeCasts_S1024x256_S1024x4x1x64 _ _ ?_
  rewrite [Shape.rowMajor_val_four, Shape.rowMajor_val_two]
  show k.val * 256 + (64 * (c.val / 128) + c.val % 64) = ((k.val * 4 + c.val / 128) * 1 + 0) * 64 + c.val % 64
  omega

/-- The keys' columns and then the values' columns, each head written twice. -/
def laidOut (x : S1024x512.Idx → α) : S1024x1024.Idx → α :=
  concatenate S1024x1024 1
    [⟨S1024x512, twice (extractStridedSlice S1024x256 ![0, 0] x slices_S1024x512_S1024x256_0_0)⟩,
      ⟨S1024x512, twice (extractStridedSlice S1024x256 ![0, 256] x slices_S1024x512_S1024x256_0_256)⟩]
    concatenates_S1024x512_S1024x512_S1024x1024_d1

theorem left256 (x : S1024x512.Idx → α) (k : Fin 1024) (c : Fin 256) (d : Fin 512) (hd : d.val = c.val) :
    extractStridedSlice S1024x256 ![0, 0] x slices_S1024x512_S1024x256_0_0 (ValueIdx.ix2 k c) = x (ValueIdx.ix2 k d) :=
  extractStridedSlice_apply ![0, 0] x slices_S1024x512_S1024x256_0_0 _ _ (fun a => by
    match a with
    | ⟨0, _⟩ => exact (Nat.zero_add _).symm
    | ⟨1, _⟩ => exact hd.trans (Nat.zero_add _).symm)

theorem right256 (x : S1024x512.Idx → α) (k : Fin 1024) (c : Fin 256) (d : Fin 512) (hd : d.val = 256 + c.val) :
    extractStridedSlice S1024x256 ![0, 256] x slices_S1024x512_S1024x256_0_256 (ValueIdx.ix2 k c) = x (ValueIdx.ix2 k d) :=
  extractStridedSlice_apply ![0, 256] x slices_S1024x512_S1024x256_0_256 _ _ (fun a => by
    match a with
    | ⟨0, _⟩ => exact (Nat.zero_add _).symm
    | ⟨1, _⟩ => exact hd)

/-- A key's column. -/
theorem laidOut_key (x : S1024x512.Idx → α) (k : Fin 1024) (c : Fin 512) (d : Fin 1024) (hd : d.val = c.val) :
    laidOut x (ValueIdx.ix2 k d) = x (ValueIdx.ix2 k (keyCol (headOf c) (laneOf c))) := by
  refine (concatenate_apply_piece (t := S1024x1024) 1 [⟨S1024x512, twice (extractStridedSlice S1024x256 ![0, 0] x slices_S1024x512_S1024x256_0_0)⟩,
    ⟨S1024x512, twice (extractStridedSlice S1024x256 ![0, 256] x slices_S1024x512_S1024x256_0_256)⟩] concatenates_S1024x512_S1024x512_S1024x1024_d1 (ValueIdx.ix2 k d) 0
    (show 0 < 2 by decide) S1024x512 _ rfl rfl 0 rfl (ValueIdx.ix2 k c) (fun b hb => ?_) ?_).trans ?_
  · match b with
    | ⟨0, _⟩ => rfl
    | ⟨1, _⟩ => exact absurd rfl hb
  · exact (Nat.zero_add _).trans hd.symm
  · refine (twice_apply _ k c).trans (left256 x k _ _ rfl)

/-- A value's column. -/
theorem laidOut_value (x : S1024x512.Idx → α) (k : Fin 1024) (c : Fin 512) (d : Fin 1024) (hd : d.val = 512 + c.val) :
    laidOut x (ValueIdx.ix2 k d) = x (ValueIdx.ix2 k (valCol (headOf c) (laneOf c))) := by
  refine (concatenate_apply_piece (t := S1024x1024) 1 [⟨S1024x512, twice (extractStridedSlice S1024x256 ![0, 0] x slices_S1024x512_S1024x256_0_0)⟩,
    ⟨S1024x512, twice (extractStridedSlice S1024x256 ![0, 256] x slices_S1024x512_S1024x256_0_256)⟩] concatenates_S1024x512_S1024x512_S1024x1024_d1 (ValueIdx.ix2 k d) 1
    (show 1 < 2 by decide) S1024x512 _ rfl rfl 512 rfl (ValueIdx.ix2 k c) (fun b hb => ?_) ?_).trans ?_
  · match b with
    | ⟨0, _⟩ => rfl
    | ⟨1, _⟩ => exact absurd rfl hb
  · exact hd.symm
  · refine (twice_apply _ k c).trans (right256 x k _ _ rfl)

/-- A head's gain, written twice as one row. -/
def gainTwice (x : S64.Idx → α) : S1x128.Idx → α :=
  shapeCast S1x128 (concatenate S128 0 [⟨S64, x⟩, ⟨S64, x⟩] concatenates_S64_S64_S128_d0) shapeCasts_S128_S1x128

theorem gainTwice_apply (x : S64.Idx → α) (l : Fin 128) :
    gainTwice x (ValueIdx.ix2 (0 : Fin 1) l) = x (ValueIdx.ix1 (⟨l.val % 64, Nat.mod_lt _ (by omega)⟩ : Fin 64)) := by
  have hl := l.isLt
  refine (as_row (a := 128) _ shapeCasts_S128_S1x128 l).trans ?_
  by_cases h : l.val < 64
  · refine concatenate_apply_piece (t := S128) 0 [⟨S64, x⟩, ⟨S64, x⟩] concatenates_S64_S64_S128_d0 (ValueIdx.ix1 l) 0 (show 0 < 2 by decide) S64 _ rfl rfl 0 rfl _
      (fun b hb => ?_) ?_
    · match b with
      | ⟨0, _⟩ => exact absurd rfl hb
    · show 0 + l.val % 64 = l.val
      omega
  · refine concatenate_apply_piece (t := S128) 0 [⟨S64, x⟩, ⟨S64, x⟩] concatenates_S64_S64_S128_d0 (ValueIdx.ix1 l) 1 (show 1 < 2 by decide) S64 _ rfl rfl 64 rfl _
      (fun b hb => ?_) ?_
    · match b with
      | ⟨0, _⟩ => exact absurd rfl hb
    · show 64 + l.val % 64 = l.val
      omega

end Layout

/-! ## What the region finds -/

variable {F : FTy → Type} [FloatOps F]
variable (m : (ℓ : Loc nD τ sig) → Buf (Elt F) ℓ) (c : Dev nD)

abbrev arg1v : FVec F S2x1024 .f32 := m ((c.tc : Thread nD τ).loc main_arg1)
abbrev arg2v : FVec F S1x1024x2816 .f32 := m ((c.tc : Thread nD τ).loc main_arg2)
abbrev arg3v : FVec F S1x1024x2816 .f32 := m ((c.tc : Thread nD τ).loc main_arg3)
abbrev arg4v : FVec F S1x2816x1024 .f32 := m ((c.tc : Thread nD τ).loc main_arg4)
abbrev arg5v : FVec F S1024 .f32 := m ((c.tc : Thread nD τ).loc main_arg5)
abbrev arg6v : FVec F S1024x512 .f32 := m ((c.tc : Thread nD τ).loc main_arg6)
abbrev arg7v : FVec F S64 .f32 := m ((c.tc : Thread nD τ).loc main_arg7)
abbrev arg8v : FVec F S2x1024 .f32 := m ((c.tc : Thread nD τ).loc main_arg8)
abbrev arg9v : FVec F S1x1024x1024 .f32 := m ((c.tc : Thread nD τ).loc main_arg9)

set_option maxHeartbeats 4000000 in
theorem host_gain : V m c main_v24 = shapeCast S1x1024 (shapeCast S1024 (extractStridedSlice S1x1024 ![0, 0] (arg1v m c) slices_S2x1024_S1x1024_0_0)
    shapeCasts_S1x1024_S1024) shapeCasts_S1024_S1x1024 := by
  unfold V
  simp only [hostOps0, StableHlo.TRef.binary, StableHlo.TRef.nullary, StableHlo.TRef.ternary, StableHlo.TRef.unary, StableHlo.TRef.toBuf,
    StableHlo.TRef.ofBuf, cast_eq]
  after_results_simp <;> rfl

set_option maxHeartbeats 4000000 in
theorem host_gate : V m c main_v3 = truncf .bf16 (shapeCast S1024x2816 (arg2v m c) shapeCasts_S1x1024x2816_S1024x2816) bitsLt_bf16_f32 := by
  unfold V
  simp only [hostOps0, StableHlo.TRef.binary, StableHlo.TRef.nullary, StableHlo.TRef.ternary, StableHlo.TRef.unary, StableHlo.TRef.toBuf,
    StableHlo.TRef.ofBuf, cast_eq]
  after_results_simp <;> rfl

set_option maxHeartbeats 4000000 in
theorem host_up : V m c main_v5 = truncf .bf16 (shapeCast S1024x2816 (arg3v m c) shapeCasts_S1x1024x2816_S1024x2816) bitsLt_bf16_f32 := by
  unfold V
  simp only [hostOps0, StableHlo.TRef.binary, StableHlo.TRef.nullary, StableHlo.TRef.ternary, StableHlo.TRef.unary, StableHlo.TRef.toBuf,
    StableHlo.TRef.ofBuf, cast_eq]
  after_results_simp <;> rfl

set_option maxHeartbeats 4000000 in
theorem host_down : V m c main_v7 = truncf .bf16 (shapeCast S2816x1024 (arg4v m c) shapeCasts_S1x2816x1024_S2816x1024) bitsLt_bf16_f32 := by
  unfold V
  simp only [hostOps0, StableHlo.TRef.binary, StableHlo.TRef.nullary, StableHlo.TRef.ternary, StableHlo.TRef.unary, StableHlo.TRef.toBuf,
    StableHlo.TRef.ofBuf, cast_eq]
  after_results_simp <;> rfl

set_option maxHeartbeats 4000000 in
theorem host_mixgain : V m c main_v25 = shapeCast S1x1024 (arg5v m c) shapeCasts_S1024_S1x1024 := by
  unfold V
  simp only [hostOps0, StableHlo.TRef.binary, StableHlo.TRef.nullary, StableHlo.TRef.ternary, StableHlo.TRef.unary, StableHlo.TRef.toBuf,
    StableHlo.TRef.ofBuf, cast_eq]
  after_results_simp <;> rfl

set_option maxHeartbeats 4000000 in
theorem host_mix : V m c main_v21 = truncf .bf16 (laidOut (arg6v m c) : FVec F S1024x1024 .f32) bitsLt_bf16_f32 := by
  unfold V
  simp only [hostOps0, StableHlo.TRef.binary, StableHlo.TRef.nullary, StableHlo.TRef.ternary, StableHlo.TRef.unary, StableHlo.TRef.toBuf,
    StableHlo.TRef.ofBuf, cast_eq]
  after_results_simp <;> rfl

set_option maxHeartbeats 4000000 in
theorem host_headgain : V m c main_v23 = gainTwice (arg7v m c) := by
  unfold V
  simp only [hostOps0, StableHlo.TRef.binary, StableHlo.TRef.nullary, StableHlo.TRef.ternary, StableHlo.TRef.unary, StableHlo.TRef.toBuf,
    StableHlo.TRef.ofBuf, cast_eq]
  after_results_simp <;> rfl

set_option maxHeartbeats 4000000 in
theorem host_querygain : V m c main_v26 = shapeCast S1x1024 (shapeCast S1024 (extractStridedSlice S1x1024 ![1, 0] (arg8v m c) slices_S2x1024_S1x1024_1_0)
    shapeCasts_S1x1024_S1024) shapeCasts_S1024_S1x1024 := by
  unfold V
  simp only [hostOps0, StableHlo.TRef.binary, StableHlo.TRef.nullary, StableHlo.TRef.ternary, StableHlo.TRef.unary, StableHlo.TRef.toBuf,
    StableHlo.TRef.ofBuf, cast_eq]
  after_results_simp <;> rfl

set_option maxHeartbeats 4000000 in
theorem host_query : V m c main_v11 = truncf .bf16 (shapeCast S1024x1024 (arg9v m c) shapeCasts_S1x1024x1024_S1024x1024) bitsLt_bf16_f32 := by
  unfold V
  simp only [hostOps0, StableHlo.TRef.binary, StableHlo.TRef.nullary, StableHlo.TRef.ternary, StableHlo.TRef.unary, StableHlo.TRef.toBuf,
    StableHlo.TRef.ofBuf, cast_eq]
  after_results_simp <;> rfl

end Cert.Ffn

end
-- ==== Proof.FfnAnswer.lean ====
/-
  The dense layer's four results as functions of its arguments, entry by entry: the rows after the layer, the queries, the
  heads' keys and the values.
-/
module

public import proofs.«01_k».proof.Proof.FfnMath
public import Idealize.ShloMosaic.Lib.ValueIdx

@[expose] public section

noncomputable section

namespace Cert.Ffn

open Idealize.ShloMosaic
open scoped BigOperators

/-- An array of extended reals of two axes. -/
abbrev Mat (a b : ℕ) : Type := (⟨2, ![a, b]⟩ : Shape).Idx → EReal
/-- A stack of one array of two axes. -/
abbrev One (a b : ℕ) : Type := (⟨3, ![1, a, b]⟩ : Shape).Idx → EReal
/-- An array of one axis. -/
abbrev Line (a : ℕ) : Type := (⟨1, ![a]⟩ : Shape).Idx → EReal

variable (x0 : Mat 65536 1024) (x1 : Mat 2 1024) (x2 x3 : One 1024 2816) (x4 : One 2816 1024) (x5 : Line 1024) (x6 : Mat 1024 512)
  (x7 : Line 64) (x8 : Mat 2 1024) (x9 : One 1024 1024)

/-- Token `t`'s row after the dense layer. -/
def rowAfter (t : Fin 65536) : Fin 1024 → EReal :=
  ffn (fun k => x0 (ValueIdx.ix2 t k)) (fun k => x1 (ValueIdx.ix2 (0 : Fin 2) k)) (fun k f => x2 (ValueIdx.ix3 (0 : Fin 1) k f))
    (fun k f => x3 (ValueIdx.ix3 (0 : Fin 1) k f)) (fun f k => x4 (ValueIdx.ix3 (0 : Fin 1) f k))

/-- Token `t`'s queries. -/
def queryAt (t : Fin 65536) (c : Fin 1024) : EReal :=
  proj (rowAfter x0 x1 x2 x3 x4 t) (fun k => x8 (ValueIdx.ix2 (1 : Fin 2) k)) (fun k c => x9 (ValueIdx.ix3 (0 : Fin 1) k c)) c

/-- Token `t`'s keys and values before the heads are laid out: column `c` of 512. -/
def mixedAt (t : Fin 65536) (c : Fin 512) : EReal :=
  proj (rowAfter x0 x1 x2 x3 x4 t) (fun k => x5 (ValueIdx.ix1 k)) (fun k c => x6 (ValueIdx.ix2 k c)) c

/-- Token `t`'s key, head `h`, lane `l`: the head's lanes normed. -/
def keyAt (t : Fin 65536) (h : Fin 4) (l : Fin 64) : EReal :=
  rms headWidth (fun l => mixedAt x0 x1 x2 x3 x4 x5 x6 t (keyCol h l)) (fun l => x7 (ValueIdx.ix1 l)) l

/-- Token `t`'s value, head `h`, lane `l`. -/
def valueAt (t : Fin 65536) (h : Fin 4) (l : Fin 64) : EReal := mixedAt x0 x1 x2 x3 x4 x5 x6 t (valCol h l)

def rowsAnswer : Mat 65536 1024 := fun j => rowAfter x0 x1 x2 x3 x4 (j 0) (j 1)
def queriesAnswer : Mat 65536 1024 := fun j => queryAt x0 x1 x2 x3 x4 x8 x9 (j 0) (j 1)
def keysAnswer : Mat 65536 512 := fun j => keyAt x0 x1 x2 x3 x4 x5 x6 x7 (j 0) (headOf (j 1)) (laneOf (j 1))
def valuesAnswer : Mat 65536 512 := fun j => valueAt x0 x1 x2 x3 x4 x5 x6 (j 0) (headOf (j 1)) (laneOf (j 1))

end Cert.Ffn

end
-- ==== Proof.FfnBlocks.lean ====
/-
  What the dense layer's blocks hold: the rows of a grid point, and the prepared weights whole at every point, each entry read
  from the call's arguments over the extended reals.
-/
module

public import proofs.«01_k».proof.Proof.FfnEntry
public import proofs.«01_k».proof.Proof.FfnAnswer

@[expose] public section

set_option maxRecDepth 16384

noncomputable section

namespace Cert.Ffn

open Cert.Kernel2Ideal Cert.Kernel2Ideal.Gen
open Idealize.ShloMosaic Idealize.ShloMosaic.TcCoe
open Idealize.SL.Sem

variable (m : (ℓ : Loc nD τ sig) → Buf (Elt Ideal) ℓ) (c : Dev nD) (t : Fin cfg0.N)

abbrev arg0v : FVec Ideal S65536x1024 .f32 := m ((c.tc : Thread nD τ).loc main_arg0)

/-! ## Where the blocks lie -/

theorem step_lt : t.val < 128 := t.isLt

theorem coords_step : (grid0.coords t 0).val = t.val := by
  have h := Pipeline.Grid.coords_val (G := grid0) t 0 (S := 1) (B := 128) rfl rfl
  have ht := step_lt t
  rw [h]; omega

/-- Row `r` of a grid point's 512 rows. -/
def rowIn (r : Fin 512) : Fin 65536 := ⟨512 * t.val + r.val, by have := step_lt t; have := r.isLt; omega⟩

/-- A grid point's number, as the index maps compute it. -/
theorem step_word : (BitVec.ofNat 32 (grid0.coords t 0).val).toNat = t.val := by
  rw [coords_step, BitVec.toNat_ofNat, Nat.mod_eq_of_lt (by have := step_lt t; omega)]

theorem emb_rows (r : Fin 512) (k : Fin 1024) : ((cfg0.win 0).blk t).view.emb (ValueIdx.ix2 r k)
    = (ValueIdx.ix2 (rowIn t r) k : S65536x1024.Idx) := by
  funext a
  refine Fin.ext ?_
  refine (Pipeline.Window.rect_emb_val (cfg0.win 0) t _ a).trans ?_
  match a with
  | ⟨0, _⟩ =>
    show (BitVec.ofNat 32 (grid0.coords t 0).val).toNat * 512 + r.val = 512 * t.val + r.val
    rw [step_word]; omega
  | ⟨1, _⟩ =>
    show (0#32 : BitVec 32).toNat * 1024 + k.val = k.val
    rw [BitVec.toNat_zero]; omega

theorem whole_axis (n k : ℕ) : (0#32 : BitVec 32).toNat * n + k = k := by
  rw [BitVec.toNat_zero, Nat.zero_mul, Nat.zero_add]

theorem emb_whole1 (y : S1x1024.Idx) : ((cfg0.win 1).blk t).view.emb y = y := by
  funext a
  refine Fin.ext ?_
  refine (Pipeline.Window.rect_emb_val (cfg0.win 1) t y a).trans ?_
  match a with
  | ⟨0, _⟩ => exact whole_axis 1 _
  | ⟨1, _⟩ => exact whole_axis 1024 _

theorem emb_whole2 (y : S1024x2816.Idx) : ((cfg0.win 2).blk t).view.emb y = y := by
  funext a
  refine Fin.ext ?_
  refine (Pipeline.Window.rect_emb_val (cfg0.win 2) t y a).trans ?_
  match a with
  | ⟨0, _⟩ => exact whole_axis 1024 _
  | ⟨1, _⟩ => exact whole_axis 2816 _

theorem emb_whole3 (y : S1024x2816.Idx) : ((cfg0.win 3).blk t).view.emb y = y := by
  funext a
  refine Fin.ext ?_
  refine (Pipeline.Window.rect_emb_val (cfg0.win 3) t y a).trans ?_
  match a with
  | ⟨0, _⟩ => exact whole_axis 1024 _
  | ⟨1, _⟩ => exact whole_axis 2816 _

theorem emb_whole4 (y : S2816x1024.Idx) : ((cfg0.win 4).blk t).view.emb y = y := by
  funext a
  refine Fin.ext ?_
  refine (Pipeline.Window.rect_emb_val (cfg0.win 4) t y a).trans ?_
  match a with
  | ⟨0, _⟩ => exact whole_axis 2816 _
  | ⟨1, _⟩ => exact whole_axis 1024 _

theorem emb_whole5 (y : S1x1024.Idx) : ((cfg0.win 5).blk t).view.emb y = y := by
  funext a
  refine Fin.ext ?_
  refine (Pipeline.Window.rect_emb_val (cfg0.win 5) t y a).trans ?_
  match a with
  | ⟨0, _⟩ => exact whole_axis 1 _
  | ⟨1, _⟩ => exact whole_axis 1024 _

theorem emb_whole6 (y : S1024x1024.Idx) : ((cfg0.win 6).blk t).view.emb y = y := by
  funext a
  refine Fin.ext ?_
  refine (Pipeline.Window.rect_emb_val (cfg0.win 6) t y a).trans ?_
  match a with
  | ⟨0, _⟩ => exact whole_axis 1024 _
  | ⟨1, _⟩ => exact whole_axis 1024 _

theorem emb_whole7 (y : S1x128.Idx) : ((cfg0.win 7).blk t).view.emb y = y := by
  funext a
  refine Fin.ext ?_
  refine (Pipeline.Window.rect_emb_val (cfg0.win 7) t y a).trans ?_
  match a with
  | ⟨0, _⟩ => exact whole_axis 1 _
  | ⟨1, _⟩ => exact whole_axis 128 _

theorem emb_whole8 (y : S1x1024.Idx) : ((cfg0.win 8).blk t).view.emb y = y := by
  funext a
  refine Fin.ext ?_
  refine (Pipeline.Window.rect_emb_val (cfg0.win 8) t y a).trans ?_
  match a with
  | ⟨0, _⟩ => exact whole_axis 1 _
  | ⟨1, _⟩ => exact whole_axis 1024 _

theorem emb_whole9 (y : S1024x1024.Idx) : ((cfg0.win 9).blk t).view.emb y = y := by
  funext a
  refine Fin.ext ?_
  refine (Pipeline.Window.rect_emb_val (cfg0.win 9) t y a).trans ?_
  match a with
  | ⟨0, _⟩ => exact whole_axis 1024 _
  | ⟨1, _⟩ => exact whole_axis 1024 _

/-! ## What the blocks hold -/

theorem blk_rows (r : Fin 512) (k : Fin 1024) :
    (iblk m c 0 t : Vec Ideal S512x1024 .f32) (ValueIdx.ix2 r k) = arg0v m c (ValueIdx.ix2 (rowIn t r) k) := by
  have e : V m c (Pipeline.arrRef spec0 0) = arg0v m c := V_main_arg0 m c
  exact (congrFun e (((cfg0.win 0).blk t).view.emb (ValueIdx.ix2 r k))).trans (congrArg (arg0v m c) (emb_rows t r k))

theorem blk_gain (k : Fin 1024) :
    (iblk m c 1 t : Vec Ideal S1x1024 .f32) (ValueIdx.ix2 (0 : Fin 1) k) = arg1v m c (ValueIdx.ix2 (0 : Fin 2) k) := by
  have e : V m c (Pipeline.arrRef spec0 1) = (shapeCast S1x1024 (shapeCast S1024 (extractStridedSlice S1x1024 ![0, 0] (arg1v m c) slices_S2x1024_S1x1024_0_0) shapeCasts_S1x1024_S1024) shapeCasts_S1024_S1x1024 : FVec Ideal S1x1024 .f32) := host_gain m c
  exact (congrFun e (((cfg0.win 1).blk t).view.emb (ValueIdx.ix2 (0 : Fin 1) k))).trans
    ((congrArg ((shapeCast S1x1024 (shapeCast S1024 (extractStridedSlice S1x1024 ![0, 0] (arg1v m c) slices_S2x1024_S1x1024_0_0) shapeCasts_S1x1024_S1024) shapeCasts_S1024_S1x1024 : FVec Ideal S1x1024 .f32)) (emb_whole1 t _)).trans ((as_row (a := 1024) _ _ k).trans ((as_line (a := 1024) _ _ k).trans (row0 (arg1v m c) k))))

theorem blk_gate (k : Fin 1024) (f : Fin 2816) :
    (iblk m c 2 t : Vec Ideal S1024x2816 .bf16) (ValueIdx.ix2 k f) = arg2v m c (ValueIdx.ix3 (0 : Fin 1) k f) := by
  have e : V m c (Pipeline.arrRef spec0 2) = (shapeCast S1024x2816 (arg2v m c) shapeCasts_S1x1024x2816_S1024x2816 : FVec Ideal S1024x2816 .f32) := host_gate m c
  exact (congrFun e (((cfg0.win 2).blk t).view.emb (ValueIdx.ix2 k f))).trans
    ((congrArg ((shapeCast S1024x2816 (arg2v m c) shapeCasts_S1x1024x2816_S1024x2816 : FVec Ideal S1024x2816 .f32)) (emb_whole2 t _)).trans (drop_one (a := 1024) (b := 2816) _ _ k f))

theorem blk_up (k : Fin 1024) (f : Fin 2816) :
    (iblk m c 3 t : Vec Ideal S1024x2816 .bf16) (ValueIdx.ix2 k f) = arg3v m c (ValueIdx.ix3 (0 : Fin 1) k f) := by
  have e : V m c (Pipeline.arrRef spec0 3) = (shapeCast S1024x2816 (arg3v m c) shapeCasts_S1x1024x2816_S1024x2816 : FVec Ideal S1024x2816 .f32) := host_up m c
  exact (congrFun e (((cfg0.win 3).blk t).view.emb (ValueIdx.ix2 k f))).trans
    ((congrArg ((shapeCast S1024x2816 (arg3v m c) shapeCasts_S1x1024x2816_S1024x2816 : FVec Ideal S1024x2816 .f32)) (emb_whole3 t _)).trans (drop_one (a := 1024) (b := 2816) _ _ k f))

theorem blk_down (f : Fin 2816) (k : Fin 1024) :
    (iblk m c 4 t : Vec Ideal S2816x1024 .bf16) (ValueIdx.ix2 f k) = arg4v m c (ValueIdx.ix3 (0 : Fin 1) f k) := by
  have e : V m c (Pipeline.arrRef spec0 4) = (shapeCast S2816x1024 (arg4v m c) shapeCasts_S1x2816x1024_S2816x1024 : FVec Ideal S2816x1024 .f32) := host_down m c
  exact (congrFun e (((cfg0.win 4).blk t).view.emb (ValueIdx.ix2 f k))).trans
    ((congrArg ((shapeCast S2816x1024 (arg4v m c) shapeCasts_S1x2816x1024_S2816x1024 : FVec Ideal S2816x1024 .f32)) (emb_whole4 t _)).trans (drop_one (a := 2816) (b := 1024) _ _ f k))

theorem blk_mixgain (k : Fin 1024) :
    (iblk m c 5 t : Vec Ideal S1x1024 .f32) (ValueIdx.ix2 (0 : Fin 1) k) = arg5v m c (ValueIdx.ix1 k) := by
  have e : V m c (Pipeline.arrRef spec0 5) = (shapeCast S1x1024 (arg5v m c) shapeCasts_S1024_S1x1024 : FVec Ideal S1x1024 .f32) := host_mixgain m c
  exact (congrFun e (((cfg0.win 5).blk t).view.emb (ValueIdx.ix2 (0 : Fin 1) k))).trans
    ((congrArg ((shapeCast S1x1024 (arg5v m c) shapeCasts_S1024_S1x1024 : FVec Ideal S1x1024 .f32)) (emb_whole5 t _)).trans (as_row (a := 1024) _ _ k))

theorem blk_mix (k d : Fin 1024) :
    (iblk m c 6 t : Vec Ideal S1024x1024 .bf16) (ValueIdx.ix2 k d) = laidOut (arg6v m c) (ValueIdx.ix2 k d) := by
  have e : V m c (Pipeline.arrRef spec0 6) = (laidOut (arg6v m c) : FVec Ideal S1024x1024 .f32) := host_mix m c
  exact (congrFun e (((cfg0.win 6).blk t).view.emb (ValueIdx.ix2 k d))).trans
    ((congrArg ((laidOut (arg6v m c) : FVec Ideal S1024x1024 .f32)) (emb_whole6 t _)).trans (rfl))

theorem blk_headgain (l : Fin 128) :
    (iblk m c 7 t : Vec Ideal S1x128 .f32) (ValueIdx.ix2 (0 : Fin 1) l) = arg7v m c (ValueIdx.ix1 (⟨l.val % 64, Nat.mod_lt _ (by omega)⟩ : Fin 64)) := by
  have e : V m c (Pipeline.arrRef spec0 7) = (gainTwice (arg7v m c) : FVec Ideal S1x128 .f32) := host_headgain m c
  exact (congrFun e (((cfg0.win 7).blk t).view.emb (ValueIdx.ix2 (0 : Fin 1) l))).trans
    ((congrArg ((gainTwice (arg7v m c) : FVec Ideal S1x128 .f32)) (emb_whole7 t _)).trans (gainTwice_apply _ l))

theorem blk_querygain (k : Fin 1024) :
    (iblk m c 8 t : Vec Ideal S1x1024 .f32) (ValueIdx.ix2 (0 : Fin 1) k) = arg8v m c (ValueIdx.ix2 (1 : Fin 2) k) := by
  have e : V m c (Pipeline.arrRef spec0 8) = (shapeCast S1x1024 (shapeCast S1024 (extractStridedSlice S1x1024 ![1, 0] (arg8v m c) slices_S2x1024_S1x1024_1_0) shapeCasts_S1x1024_S1024) shapeCasts_S1024_S1x1024 : FVec Ideal S1x1024 .f32) := host_querygain m c
  exact (congrFun e (((cfg0.win 8).blk t).view.emb (ValueIdx.ix2 (0 : Fin 1) k))).trans
    ((congrArg ((shapeCast S1x1024 (shapeCast S1024 (extractStridedSlice S1x1024 ![1, 0] (arg8v m c) slices_S2x1024_S1x1024_1_0) shapeCasts_S1x1024_S1024) shapeCasts_S1024_S1x1024 : FVec Ideal S1x1024 .f32)) (emb_whole8 t _)).trans ((as_row (a := 1024) _ _ k).trans ((as_line (a := 1024) _ _ k).trans (row1 (arg8v m c) k))))

theorem blk_query (k d : Fin 1024) :
    (iblk m c 9 t : Vec Ideal S1024x1024 .bf16) (ValueIdx.ix2 k d) = arg9v m c (ValueIdx.ix3 (0 : Fin 1) k d) := by
  have e : V m c (Pipeline.arrRef spec0 9) = (shapeCast S1024x1024 (arg9v m c) shapeCasts_S1x1024x1024_S1024x1024 : FVec Ideal S1024x1024 .f32) := host_query m c
  exact (congrFun e (((cfg0.win 9).blk t).view.emb (ValueIdx.ix2 k d))).trans
    ((congrArg ((shapeCast S1024x1024 (arg9v m c) shapeCasts_S1x1024x1024_S1024x1024 : FVec Ideal S1024x1024 .f32)) (emb_whole9 t _)).trans (drop_one (a := 1024) (b := 1024) _ _ k d))

end Cert.Ffn

end
-- ==== Proof.FfnOut.lean ====
/-
  What the dense layer's body leaves in its four output blocks, entry by entry over the extended reals: the rows after the
  layer, the queries, the heads' keys and the values.
-/
module

public import proofs.«01_k».proof.Proof.FfnBlock

@[expose] public section

set_option maxRecDepth 16384

noncomputable section

namespace Cert.Ffn

open Cert.Kernel2Ideal Cert.Kernel2Ideal.Gen
open Idealize.ShloMosaic Idealize.ShloMosaic.TcCoe
open Idealize.SL.Sem
open scoped BigOperators

/-! ## A head's keys -/

/-- A block of a head's lanes, written twice, normed with a gain, as the body writes it. -/
def headNormed (s : FVec Ideal S512x128 .f32) (g : Vec Ideal S1x128 .f32) : FVec Ideal S512x128 .bf16 :=
  truncf .bf16 (mulf (mulf s (broadcastTo S512x128 (rsqrt (addf (divf (shapeCast S512x1 (multiReduction (F := Ideal) .add [1] S512 (mulf s s) 0x00000000#32
    reduces_S512x128_S512 (.inl rfl) rfl) shapeCasts_S512_S512x1) (broadcast S512x1 (Scalar.ofBits (F := Ideal) .f32 0x43000000#32)))
    (broadcast S512x1 (Scalar.ofBits (F := Ideal) .f32 0x358637BD#32)))) broadcasts_S512x1_S512x128))
    (broadcastTo S512x128 (shapeCast S1x128 g shapeCasts_S1x128_S1x128) broadcasts_S1x128_S512x128)) bitsLt_bf16_f32

/-- The sum of a head's squares, written as one column. -/
theorem head_squares_apply (v : FVec Ideal S512x128 .f32) (r : Fin 512) :
    shapeCast S512x1 (multiReduction (F := Ideal) .add [1] S512 (mulf v v) 0x00000000#32 reduces_S512x128_S512 (.inl rfl) rfl)
      shapeCasts_S512_S512x1 (ValueIdx.ix2 r (0 : Fin 1)) = ∑ k : Fin 128, (v (ValueIdx.ix2 r k) : EReal) * v (ValueIdx.ix2 r k) := by
  refine (shapeCast_apply _ shapeCasts_S512_S512x1 (ValueIdx.ix2 r (0 : Fin 1)) (ValueIdx.ix1 r) (by
    rewrite [Shape.rowMajor_val_one, Shape.rowMajor_val_two]
    show r.val = r.val * 1 + 0
    omega)).trans ?_
  refine (Ideal.multiReduction_add_single (mulf v v) _ reduces_S512x128_S512 (.inl rfl) rfl (ValueIdx.ix1 r)).trans ?_
  refine Finset.sum_congr rfl fun k _ => ?_
  have e : reduces_S512x128_S512.lift (ValueIdx.ix1 r) k = ValueIdx.ix2 r k := funext fun a => Fin.ext (by
    match a with
    | ⟨0, _⟩ => rfl
    | ⟨1, _⟩ => rfl)
  rw [e]
  rfl

theorem headNormed_apply (s : FVec Ideal S512x128 .f32) (g : Vec Ideal S1x128 .f32) (r : Fin 512) (l : Fin 128) :
    headNormed s g (ValueIdx.ix2 r l) = rms headWidth2 (fun j => s (ValueIdx.ix2 r j)) (fun j => g (ValueIdx.ix2 (0 : Fin 1) j)) l := by
  refine congrArg₂ (· * ·) (congrArg (s (ValueIdx.ix2 r l) * ·) ?_) ?_
  · refine (broadcastTo_apply _ broadcasts_S512x1_S512x128 (ValueIdx.ix2 r l) (ValueIdx.ix2 r (0 : Fin 1)) (fun a => by
      match a with
      | ⟨0, _⟩ =>
        show r.val = (if (512 : Nat) = 1 then 0 else r.val)
        rw [if_neg (by decide)]
      | ⟨1, _⟩ =>
        show 0 = (if (1 : Nat) = 1 then 0 else l.val)
        rw [if_pos rfl])).trans ?_
    exact congrArg (fun t => Ideal.rsqrt (Ideal.div t headWidth2 + eps)) (head_squares_apply s r)
  · refine (broadcastTo_apply _ broadcasts_S1x128_S512x128 (ValueIdx.ix2 r l) (ValueIdx.ix2 (0 : Fin 1) l) (fun a => by
      match a with
      | ⟨0, _⟩ =>
        show 0 = (if (1 : Nat) = 1 then 0 else r.val)
        rw [if_pos rfl]
      | ⟨1, _⟩ =>
        show l.val = (if (128 : Nat) = 1 then 0 else l.val)
        rw [if_neg (by decide)])).trans ?_
    exact shapeCast_apply g shapeCasts_S1x128_S1x128 _ _ rfl

/-! ## The output blocks -/

variable (x0 : Vec Ideal S512x1024 .f32) (x1 : Vec Ideal S1x1024 .f32) (x2 x3 : Vec Ideal S1024x2816 .bf16) (x4 : Vec Ideal S2816x1024 .bf16)
  (x5 : Vec Ideal S1x1024 .f32) (x6 : Vec Ideal S1024x1024 .bf16) (x7 : Vec Ideal S1x128 .f32) (x8 : Vec Ideal S1x1024 .f32) (x9 : Vec Ideal S1024x1024 .bf16)

theorem zeros2 : (![0, 0] : Fin 2 → Nat) = fun _ => 0 := by
  funext a
  match a with
  | ⟨0, _⟩ => rfl
  | ⟨1, _⟩ => rfl

theorem ld_rows (x : Vec Ideal S512x1024 .f32) : View.ld (e' := .f32) x r0_0 = x := View.ld_unit_zero zeros2 _ x
theorem ld_gain (x : Vec Ideal S1x1024 .f32) : View.ld (e' := .f32) x r0_1 = x := View.ld_unit_zero zeros2 _ x
theorem ld_square (x : Vec Ideal S1024x1024 .bf16) : View.ld (e' := .bf16) x r0_10 = x := View.ld_unit_zero zeros2 _ x
theorem ld_lanes (x : Vec Ideal S1x128 .f32) : View.ld (e' := .f32) x r0_11 = x := View.ld_unit_zero zeros2 _ x

/-- The rows after the layer. -/
theorem rows_eq : k0_pay6 (F := Ideal) (k0_pay20 x0 x1 x2 x3 x4 x5 x6 x7 x8 x9) (k0_pay21 x0 x1 x2 x3 x4 x5 x6 x7 x8 x9)
    (View.ld (e' := .bf16) x2 r0_8) (View.ld (e' := .bf16) x3 r0_8) (View.ld (e' := .bf16) x4 r0_9) = layered x0 x1 x2 x3 x4 := by
  unfold k0_pay21 k0_pay20
  rw [ld_rows, ld_gain]
  rfl

/-- The heads' keys and the values, twice over, of the rows after the layer. -/
def keysValues : FVec Ideal S512x1024 .f32 := through (normed (layered x0 x1 x2 x3 x4) x5) x6

theorem keysValues_eq : k0_pay24 (F := Ideal) x0 x1 x2 x3 x4 x5 x6 x7 x8 x9 = keysValues x0 x1 x2 x3 x4 x5 x6 := by
  unfold k0_pay24 k0_pay23 k0_pay22 k0_pay8 k0_pay7
  rw [rows_eq, ld_gain, ld_square]
  rfl

theorem keysValues_apply (r : Fin 512) (c : Fin 1024) :
    keysValues x0 x1 x2 x3 x4 x5 x6 (ValueIdx.ix2 r c)
      = proj (fun k => layered x0 x1 x2 x3 x4 (ValueIdx.ix2 r k)) (fun k => x5 (ValueIdx.ix2 (0 : Fin 1) k)) (fun k c => x6 (ValueIdx.ix2 k c)) c := by
  refine (through_apply _ _ r c).trans (Finset.sum_congr rfl fun k _ => congrArg (· * _) ?_)
  exact normed_apply _ _ r k

theorem out10_eq : out0_10 (F := Ideal) x0 x1 x2 x3 x4 x5 x6 x7 x8 x9 = layered x0 x1 x2 x3 x4 := by
  unfold out0_10
  rw [rows_eq]
  exact View.canon_cons_unit_zero zeros2 _ _ _

theorem out11_apply (r : Fin 512) (c : Fin 1024) :
    out0_11 (F := Ideal) x0 x1 x2 x3 x4 x5 x6 x7 x8 x9 (ValueIdx.ix2 r c)
      = proj (fun k => layered x0 x1 x2 x3 x4 (ValueIdx.ix2 r k)) (fun k => x8 (ValueIdx.ix2 (0 : Fin 1) k)) (fun k c => x9 (ValueIdx.ix2 k c)) c := by
  have e : out0_11 (F := Ideal) x0 x1 x2 x3 x4 x5 x6 x7 x8 x9 = through (normed (layered x0 x1 x2 x3 x4) x8) x9 := by
    unfold out0_11 k0_pay7
    rw [rows_eq, ld_gain, ld_square]
    exact View.canon_cons_unit_zero zeros2 _ _ _
  rw [e]
  refine (through_apply _ _ r c).trans (Finset.sum_congr rfl fun k _ => congrArg (· * _) ?_)
  exact normed_apply _ _ r k

/-- The values' columns of the array of keys and values. -/
theorem right_half (v : FVec Ideal S512x1024 .f32) (r : Fin 512) (c : Fin 512) :
    k0_pay17 (F := Ideal) v (ValueIdx.ix2 r c) = v (ValueIdx.ix2 r (⟨512 + c.val, by have := c.isLt; omega⟩ : Fin 1024)) := by
  refine extractStridedSlice_apply ![0, 512] v slices_S512x1024_o0_512_S512x512 _ _ (fun a => ?_)
  match a with
  | ⟨0, _⟩ => exact (Nat.zero_add _).symm
  | ⟨1, _⟩ => rfl

theorem out13_apply (r : Fin 512) (c : Fin 512) :
    out0_13 (F := Ideal) x0 x1 x2 x3 x4 x5 x6 x7 x8 x9 (ValueIdx.ix2 r c)
      = keysValues x0 x1 x2 x3 x4 x5 x6 (ValueIdx.ix2 r (⟨512 + c.val, by have := c.isLt; omega⟩ : Fin 1024)) := by
  have e : out0_13 (F := Ideal) x0 x1 x2 x3 x4 x5 x6 x7 x8 x9 = k0_pay17 (keysValues x0 x1 x2 x3 x4 x5 x6) := by
    unfold out0_13
    rw [keysValues_eq]
    exact View.canon_cons_unit_zero zeros2 _ _ _
  rw [e]
  exact right_half _ r c

/-- The columns of the `n`-th head's keys. -/
def headSlice (v : FVec Ideal S512x1024 .f32) (n : Fin 4) (r : Fin 512) (l : Fin 128) : EReal :=
  v (ValueIdx.ix2 r (⟨128 * n.val + l.val, by have := n.isLt; have := l.isLt; omega⟩ : Fin 1024))

/-- What the keys' output block holds: each head's norm. -/
def keysOut : Vec Ideal S512x512 .bf16 := fun y =>
  rms headWidth2 (headSlice (keysValues x0 x1 x2 x3 x4 x5 x6) (headOf (y 1)) (y 0)) (fun l => x7 (ValueIdx.ix2 (0 : Fin 1) l))
    (⟨(y 1).val % 128, Nat.mod_lt _ (by omega)⟩ : Fin 128)

/-- One head's store agrees with the block it is part of. -/
theorem head_piece (v : FVec Ideal S512x1024 .f32) (n : Fin 4) (s : FVec Ideal S512x128 .f32)
    (hs : ∀ (r : Fin 512) (l : Fin 128), s (ValueIdx.ix2 r l) = headSlice v n r l) (hv : v = keysValues x0 x1 x2 x3 x4 x5 x6)
    (x : S512x128.Idx) (y : S512x512.Idx) (h0 : (y 0).val = (x 0).val) (h1 : (y 1).val = 128 * n.val + (x 1).val) :
    headNormed s x7 x = keysOut x0 x1 x2 x3 x4 x5 x6 x7 y := by
  subst hv
  have hx1 : (x 1).val < 128 := (x 1).isLt
  have hx : x = ValueIdx.ix2 (x 0) (x 1) := ValueIdx.eq_ix2 x
  rw [hx]
  refine (headNormed_apply s x7 (x 0) (x 1)).trans ?_
  unfold keysOut
  have e0 : y 0 = x 0 := Fin.ext h0
  have e1 : headOf (y 1) = n := Fin.ext (by show (y 1).val / 128 = n.val; omega)
  have e2 : (⟨(y 1).val % 128, Nat.mod_lt _ (by omega)⟩ : Fin 128) = x 1 := Fin.ext (by show (y 1).val % 128 = (x 1).val; omega)
  rw [e0, e1, e2]
  exact congrArg (fun f => rms headWidth2 f _ (x 1)) (funext fun l => hs (x 0) l)

theorem slice0 (v : FVec Ideal S512x1024 .f32) (r : Fin 512) (l : Fin 128) :
    extractStridedSlice S512x128 ![0, 0] v slices_S512x1024_o0_0_S512x128 (ValueIdx.ix2 r l) = headSlice v 0 r l :=
  extractStridedSlice_apply ![0, 0] v slices_S512x1024_o0_0_S512x128 _ _ (fun a => by
    match a with
    | ⟨0, _⟩ => exact (Nat.zero_add _).symm
    | ⟨1, _⟩ => show 128 * 0 + l.val = 0 + l.val; omega)

theorem slice1 (v : FVec Ideal S512x1024 .f32) (r : Fin 512) (l : Fin 128) :
    extractStridedSlice S512x128 ![0, 128] v slices_S512x1024_o0_128_S512x128 (ValueIdx.ix2 r l) = headSlice v 1 r l :=
  extractStridedSlice_apply ![0, 128] v slices_S512x1024_o0_128_S512x128 _ _ (fun a => by
    match a with
    | ⟨0, _⟩ => exact (Nat.zero_add _).symm
    | ⟨1, _⟩ => show 128 * 1 + l.val = 128 + l.val; omega)

theorem slice2 (v : FVec Ideal S512x1024 .f32) (r : Fin 512) (l : Fin 128) :
    extractStridedSlice S512x128 ![0, 256] v slices_S512x1024_o0_256_S512x128 (ValueIdx.ix2 r l) = headSlice v 2 r l :=
  extractStridedSlice_apply ![0, 256] v slices_S512x1024_o0_256_S512x128 _ _ (fun a => by
    match a with
    | ⟨0, _⟩ => exact (Nat.zero_add _).symm
    | ⟨1, _⟩ => show 128 * 2 + l.val = 256 + l.val; omega)

theorem slice3 (v : FVec Ideal S512x1024 .f32) (r : Fin 512) (l : Fin 128) :
    extractStridedSlice S512x128 ![0, 384] v slices_S512x1024_o0_384_S512x128 (ValueIdx.ix2 r l) = headSlice v 3 r l :=
  extractStridedSlice_apply ![0, 384] v slices_S512x1024_o0_384_S512x128 _ _ (fun a => by
    match a with
    | ⟨0, _⟩ => exact (Nat.zero_add _).symm
    | ⟨1, _⟩ => show 128 * 3 + l.val = 384 + l.val; omega)

/-- The four heads' stores, each the norm of its columns. -/
theorem heads_eq (a : FVec Ideal S512x1024 .bf16) (b : FVec Ideal S1024x1024 .bf16) (g : Vec Ideal S1x128 .f32) :
    k0_pay11 a b g = headNormed (extractStridedSlice S512x128 ![0, 0] (k0_pay10 a b) slices_S512x1024_o0_0_S512x128) g
    ∧ k0_pay12 a b g = headNormed (extractStridedSlice S512x128 ![0, 128] (k0_pay10 a b) slices_S512x1024_o0_128_S512x128) g
    ∧ k0_pay15 (k0_pay13 a b) (k0_pay14 a b) g = headNormed (extractStridedSlice S512x128 ![0, 256] (k0_pay10 a b) slices_S512x1024_o0_256_S512x128) g :=
  ⟨rfl, rfl, rfl⟩

theorem head3_eq (v : FVec Ideal S512x1024 .f32) (g : Vec Ideal S1x128 .f32) :
    k0_pay16 v g = headNormed (extractStridedSlice S512x128 ![0, 384] v slices_S512x1024_o0_384_S512x128) g := rfl

theorem out12_apply (y : S512x512.Idx) :
    out0_12 (F := Ideal) x0 x1 x2 x3 x4 x5 x6 x7 x8 x9 y = keysOut x0 x1 x2 x3 x4 x5 x6 x7 y := by
  have e : k0_pay10 (F := Ideal) (k0_pay22 x0 x1 x2 x3 x4 x5 x6 x7 x8 x9) (k0_pay23 x0 x1 x2 x3 x4 x5 x6 x7 x8 x9)
      = keysValues x0 x1 x2 x3 x4 x5 x6 := keysValues_eq x0 x1 x2 x3 x4 x5 x6 x7 x8 x9
  unfold out0_12
  rw [keysValues_eq, (heads_eq _ _ _).1, (heads_eq _ _ _).2.1, (heads_eq _ _ _).2.2, head3_eq, e, ld_lanes]
  refine View.canon_apply_of_pieces (Val := Elt Ideal) (keysOut x0 x1 x2 x3 x4 x5 x6 x7) _ ?_ y (cover0_12 _ _ _ _ y)
  intro pc hpc
  rcases List.mem_cons.mp hpc with rfl | hpc
  · exact fun x => head_piece x0 x1 x2 x3 x4 x5 x6 x7 _ 3 _ (slice3 _) rfl x _ (by show 0 + 1 * (x 0).val = (x 0).val; omega) (by show 384 + 1 * (x 1).val = 128 * 3 + (x 1).val; omega)
  rcases List.mem_cons.mp hpc with rfl | hpc
  · exact fun x => head_piece x0 x1 x2 x3 x4 x5 x6 x7 _ 2 _ (slice2 _) rfl x _ (by show 0 + 1 * (x 0).val = (x 0).val; omega) (by show 256 + 1 * (x 1).val = 128 * 2 + (x 1).val; omega)
  rcases List.mem_cons.mp hpc with rfl | hpc
  · exact fun x => head_piece x0 x1 x2 x3 x4 x5 x6 x7 _ 1 _ (slice1 _) rfl x _ (by show 0 + 1 * (x 0).val = (x 0).val; omega) (by show 128 + 1 * (x 1).val = 128 * 1 + (x 1).val; omega)
  rcases List.mem_cons.mp hpc with rfl | hpc
  · exact fun x => head_piece x0 x1 x2 x3 x4 x5 x6 x7 _ 0 _ (slice0 _) rfl x _ (by show 0 + 1 * (x 0).val = (x 0).val; omega) (by show 0 + 1 * (x 1).val = 128 * 0 + (x 1).val; omega)
  nomatch hpc

end Cert.Ffn

end
-- ==== Proof.FfnArray.lean ====
/-
  What the dense layer's four arrays hold after the run: every entry lies in the block of its own grid point, and a block holds
  the layer's value of its rows.
-/
module

public import proofs.«01_k».proof.Proof.FfnBlocks
public import proofs.«01_k».proof.Proof.FfnOut

@[expose] public section

set_option maxRecDepth 16384

noncomputable section

namespace Cert.Ffn

open Cert.Kernel2Ideal Cert.Kernel2Ideal.Gen
open Idealize.ShloMosaic Idealize.ShloMosaic.TcCoe
open Idealize.SL.Sem
open scoped BigOperators

variable (m : (ℓ : Loc nD τ sig) → Buf (Elt Ideal) ℓ) (c : Dev nD) (t : Fin cfg0.N)

/-- What a product through a norm takes depends on the entries alone. -/
theorem proj_congr {N M : ℕ} {h h' g g' : Fin 1024 → EReal} {w : Fin 1024 → Fin N → EReal} {w' : Fin 1024 → Fin M → EReal}
    (hh : ∀ k, h k = h' k) (hg : ∀ k, g k = g' k) {d : Fin N} {e : Fin M} (hw : ∀ k, w k d = w' k e) : proj h g w d = proj h' g' w' e := by
  unfold proj
  rw [funext hh, funext hg]
  exact Finset.sum_congr rfl fun k _ => congrArg _ (hw k)

/-! ## A point's rows -/

/-- Row `r` of a point's block after the layer is its token's row. -/
theorem rows_block (r : Fin 512) (k : Fin 1024) :
    layered (iblk m c 0 t) (iblk m c 1 t) (iblk m c 2 t) (iblk m c 3 t) (iblk m c 4 t) (ValueIdx.ix2 r k)
      = rowAfter (arg0v m c) (arg1v m c) (arg2v m c) (arg3v m c) (arg4v m c) (rowIn t r) k :=
  (layered_apply (iblk m c 0 t) (iblk m c 1 t) (iblk m c 2 t) (iblk m c 3 t) (iblk m c 4 t) r k).trans
    (ffn_congr (blk_rows m c t r) (blk_gain m c t) (blk_gate m c t) (blk_up m c t) (blk_down m c t) k)

theorem queries_block (r : Fin 512) (k : Fin 1024) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ValueIdx.ix2 r k)
      = queryAt (arg0v m c) (arg1v m c) (arg2v m c) (arg3v m c) (arg4v m c) (arg8v m c) (arg9v m c) (rowIn t r) k :=
  (out11_apply (iblk m c 0 t) (iblk m c 1 t) (iblk m c 2 t) (iblk m c 3 t) (iblk m c 4 t) (iblk m c 5 t) (iblk m c 6 t) (iblk m c 7 t) (iblk m c 8 t) (iblk m c 9 t) r k).trans
    (proj_congr (rows_block m c t r) (blk_querygain m c t) (fun i => blk_query m c t i k))

/-- Column `d` of the product with the laid-out weights is the column of the plain weights that was laid there. -/
theorem mixed_block (r : Fin 512) (d : Fin 1024) (e : Fin 512)
    (he : ∀ k : Fin 1024, laidOut (arg6v m c) (ValueIdx.ix2 k d) = arg6v m c (ValueIdx.ix2 k e)) :
    keysValues (iblk m c 0 t) (iblk m c 1 t) (iblk m c 2 t) (iblk m c 3 t) (iblk m c 4 t) (iblk m c 5 t) (iblk m c 6 t) (ValueIdx.ix2 r d)
      = mixedAt (arg0v m c) (arg1v m c) (arg2v m c) (arg3v m c) (arg4v m c) (arg5v m c) (arg6v m c) (rowIn t r) e :=
  (keysValues_apply (iblk m c 0 t) (iblk m c 1 t) (iblk m c 2 t) (iblk m c 3 t) (iblk m c 4 t) (iblk m c 5 t) (iblk m c 6 t) r d).trans
    (proj_congr (rows_block m c t r) (blk_mixgain m c t) (fun k => (blk_mix m c t k d).trans (he k)))

theorem values_block (r e : Fin 512) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (ValueIdx.ix2 r e)
      = valueAt (arg0v m c) (arg1v m c) (arg2v m c) (arg3v m c) (arg4v m c) (arg5v m c) (arg6v m c) (rowIn t r) (headOf e) (laneOf e) :=
  (out13_apply (iblk m c 0 t) (iblk m c 1 t) (iblk m c 2 t) (iblk m c 3 t) (iblk m c 4 t) (iblk m c 5 t) (iblk m c 6 t) (iblk m c 7 t) (iblk m c 8 t) (iblk m c 9 t) r e).trans
    (mixed_block m c t r _ _ (fun k => laidOut_value (arg6v m c) k e _ rfl))

/-- Lane `l` of a head's 128 is lane `l mod 64` of its 64 keys. -/
theorem head_lane (r : Fin 512) (h : Fin 4) (l : Fin 128) :
    headSlice (keysValues (iblk m c 0 t) (iblk m c 1 t) (iblk m c 2 t) (iblk m c 3 t) (iblk m c 4 t) (iblk m c 5 t) (iblk m c 6 t)) h r l
      = mixedAt (arg0v m c) (arg1v m c) (arg2v m c) (arg3v m c) (arg4v m c) (arg5v m c) (arg6v m c) (rowIn t r) (keyCol h ⟨l.val % 64, Nat.mod_lt _ (by omega)⟩) := by
  have hl := l.isLt
  have hh := h.isLt
  refine mixed_block m c t r _ _ (fun k => ?_)
  refine (laidOut_key (arg6v m c) k (⟨128 * h.val + l.val, by omega⟩ : Fin 512) _ rfl).trans ?_
  have e1 : headOf ⟨128 * h.val + l.val, by omega⟩ = h := Fin.ext (by show (128 * h.val + l.val) / 128 = h.val; omega)
  have e2 : laneOf ⟨128 * h.val + l.val, by omega⟩ = ⟨l.val % 64, Nat.mod_lt _ (by omega)⟩ :=
    Fin.ext (by show (128 * h.val + l.val) % 64 = l.val % 64; omega)
  rw [e1, e2]

theorem keys_block (y : S512x512.Idx) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) y
      = keyAt (arg0v m c) (arg1v m c) (arg2v m c) (arg3v m c) (arg4v m c) (arg5v m c) (arg6v m c) (arg7v m c) (rowIn t (y 0)) (headOf (y 1)) (laneOf (y 1)) := by
  refine (out12_apply (iblk m c 0 t) (iblk m c 1 t) (iblk m c 2 t) (iblk m c 3 t) (iblk m c 4 t) (iblk m c 5 t) (iblk m c 6 t) (iblk m c 7 t) (iblk m c 8 t) (iblk m c 9 t) y).trans ?_
  have e1 := funext (head_lane m c t (y 0) (headOf (y 1)))
  have e2 := funext (blk_headgain m c t)
  have e3 : (⟨(y 1).val % 128 % 64, Nat.mod_lt _ (by omega)⟩ : Fin 64) = laneOf (y 1) :=
    Fin.ext (by show (y 1).val % 128 % 64 = (y 1).val % 64; omega)
  unfold keysOut keyAt
  rw [e1, e2, ← e3]
  exact rms_twice (fun l => mixedAt (arg0v m c) (arg1v m c) (arg2v m c) (arg3v m c) (arg4v m c) (arg5v m c) (arg6v m c) (rowIn t (y 0)) (keyCol (headOf (y 1)) l))
    (fun l => arg7v m c (ValueIdx.ix1 l)) _

/-! ## The four arrays -/

/-- Every row has a grid point. -/
theorem point_of (q : Nat) (hq : q < 128) : ∃ t : Fin cfg0.N, t.val = q := ⟨⟨q, hq⟩, rfl⟩

theorem emb_layer (y : S512x1024.Idx) : ((cfg0.win 10).blk t).view.emb y = (ValueIdx.ix2 (rowIn t (y 0)) (y 1) : S65536x1024.Idx) := by
  funext a
  refine Fin.ext ?_
  refine (Pipeline.Window.rect_emb_val (cfg0.win 10) t y a).trans ?_
  match a with
  | ⟨0, _⟩ =>
    show (BitVec.ofNat 32 (grid0.coords t 0).val).toNat * 512 + (y 0).val = 512 * t.val + (y 0).val
    rw [step_word]; omega
  | ⟨1, _⟩ => exact whole_axis 1024 _

theorem in_block_layer (i : S65536x1024.Idx) (hv : t.val = (i 0).val / 512) : i ∈ ((cfg0.win 10).blk t).view.set := by
  have h0 : (i 0).val < 65536 := (i 0).isLt
  have hy : ((cfg0.win 10).blk t).view.emb (ValueIdx.ix2 (⟨(i 0).val % 512, by omega⟩ : Fin 512) (i 1)) = i := by
    refine (emb_layer t _).trans ?_
    funext a
    refine Fin.ext ?_
    match a with
    | ⟨0, _⟩ =>
      show 512 * t.val + (i 0).val % 512 = (i 0).val
      rw [hv]; omega
    | ⟨1, _⟩ => rfl
  exact hy ▸ View.emb_mem_set _ _

theorem covered_layer (i : S65536x1024.Idx) : ∃ t : Fin cfg0.N, (cfg0.win 10).flush t = true ∧ i ∈ ((cfg0.win 10).blk t).view.set := by
  have h0 : (i 0).val < 65536 := (i 0).isLt
  obtain ⟨t, ht⟩ := point_of ((i 0).val / 512) (by omega)
  exact ⟨t, flush0_10 t, in_block_layer t i ht⟩

theorem written_layer (y : S512x1024.Idx) : out0_10 (F := Ideal) (iblk m c 0 t) (iblk m c 1 t) (iblk m c 2 t) (iblk m c 3 t) (iblk m c 4 t) (iblk m c 5 t) (iblk m c 6 t) (iblk m c 7 t) (iblk m c 8 t) (iblk m c 9 t) y
    = rowsAnswer (arg0v m c) (arg1v m c) (arg2v m c) (arg3v m c) (arg4v m c) (ValueIdx.ix2 (rowIn t (y 0)) (y 1)) :=
  (congrFun (out10_eq (iblk m c 0 t) (iblk m c 1 t) (iblk m c 2 t) (iblk m c 3 t) (iblk m c 4 t) (iblk m c 5 t) (iblk m c 6 t) (iblk m c 7 t) (iblk m c 8 t) (iblk m c 9 t)) y).trans
    ((congrArg (layered (iblk m c 0 t) (iblk m c 1 t) (iblk m c 2 t) (iblk m c 3 t) (iblk m c 4 t)) (ValueIdx.eq_ix2 y)).trans (rows_block m c t (y 0) (y 1)))

theorem leaves_layer (y : S512x1024.Idx) : (show Vec Ideal S512x1024 .f32 from (dats m 0 c).after (10 : Fin 14) t) y
    = rowsAnswer (arg0v m c) (arg1v m c) (arg2v m c) (arg3v m c) (arg4v m c) (((cfg0.win 10).blk t).view.emb y) :=
  (congrFun (after0_10 m c t) y).trans ((written_layer m c t y).trans
    (congrArg (rowsAnswer (arg0v m c) (arg1v m c) (arg2v m c) (arg3v m c) (arg4v m c)) (emb_layer t y).symm))

theorem layer_value : (dats m 0 c).arrAt (10 : Fin 14) cfg0.N = rowsAnswer (arg0v m c) (arg1v m c) (arg2v m c) (arg3v m c) (arg4v m c) := by
  refine Pipeline.Dat.arrAt_eq_of_emb (dats m 0 c) (10 : Fin 14) (rowsAnswer (arg0v m c) (arg1v m c) (arg2v m c) (arg3v m c) (arg4v m c)) (fun t _ y => ?_) ?_
  · exact leaves_layer m c t y
  · exact covered_layer

theorem emb_queries (y : S512x1024.Idx) : ((cfg0.win 11).blk t).view.emb y = (ValueIdx.ix2 (rowIn t (y 0)) (y 1) : S65536x1024.Idx) := by
  funext a
  refine Fin.ext ?_
  refine (Pipeline.Window.rect_emb_val (cfg0.win 11) t y a).trans ?_
  match a with
  | ⟨0, _⟩ =>
    show (BitVec.ofNat 32 (grid0.coords t 0).val).toNat * 512 + (y 0).val = 512 * t.val + (y 0).val
    rw [step_word]; omega
  | ⟨1, _⟩ => exact whole_axis 1024 _

theorem in_block_queries (i : S65536x1024.Idx) (hv : t.val = (i 0).val / 512) : i ∈ ((cfg0.win 11).blk t).view.set := by
  have h0 : (i 0).val < 65536 := (i 0).isLt
  have hy : ((cfg0.win 11).blk t).view.emb (ValueIdx.ix2 (⟨(i 0).val % 512, by omega⟩ : Fin 512) (i 1)) = i := by
    refine (emb_queries t _).trans ?_
    funext a
    refine Fin.ext ?_
    match a with
    | ⟨0, _⟩ =>
      show 512 * t.val + (i 0).val % 512 = (i 0).val
      rw [hv]; omega
    | ⟨1, _⟩ => rfl
  exact hy ▸ View.emb_mem_set _ _

theorem covered_queries (i : S65536x1024.Idx) : ∃ t : Fin cfg0.N, (cfg0.win 11).flush t = true ∧ i ∈ ((cfg0.win 11).blk t).view.set := by
  have h0 : (i 0).val < 65536 := (i 0).isLt
  obtain ⟨t, ht⟩ := point_of ((i 0).val / 512) (by omega)
  exact ⟨t, flush0_11 t, in_block_queries t i ht⟩

theorem written_queries (y : S512x1024.Idx) : out0_11 (F := Ideal) (iblk m c 0 t) (iblk m c 1 t) (iblk m c 2 t) (iblk m c 3 t) (iblk m c 4 t) (iblk m c 5 t) (iblk m c 6 t) (iblk m c 7 t) (iblk m c 8 t) (iblk m c 9 t) y
    = queriesAnswer (arg0v m c) (arg1v m c) (arg2v m c) (arg3v m c) (arg4v m c) (arg8v m c) (arg9v m c) (ValueIdx.ix2 (rowIn t (y 0)) (y 1)) :=
  (congrArg (out0_11 (F := Ideal) (iblk m c 0 t) (iblk m c 1 t) (iblk m c 2 t) (iblk m c 3 t) (iblk m c 4 t) (iblk m c 5 t) (iblk m c 6 t) (iblk m c 7 t) (iblk m c 8 t) (iblk m c 9 t)) (ValueIdx.eq_ix2 y)).trans (queries_block m c t (y 0) (y 1))

theorem leaves_queries (y : S512x1024.Idx) : (show Vec Ideal S512x1024 .bf16 from (dats m 0 c).after (11 : Fin 14) t) y
    = queriesAnswer (arg0v m c) (arg1v m c) (arg2v m c) (arg3v m c) (arg4v m c) (arg8v m c) (arg9v m c) (((cfg0.win 11).blk t).view.emb y) :=
  (congrFun (after0_11 m c t) y).trans ((written_queries m c t y).trans
    (congrArg (queriesAnswer (arg0v m c) (arg1v m c) (arg2v m c) (arg3v m c) (arg4v m c) (arg8v m c) (arg9v m c)) (emb_queries t y).symm))

theorem queries_value : (dats m 0 c).arrAt (11 : Fin 14) cfg0.N = queriesAnswer (arg0v m c) (arg1v m c) (arg2v m c) (arg3v m c) (arg4v m c) (arg8v m c) (arg9v m c) := by
  refine Pipeline.Dat.arrAt_eq_of_emb (dats m 0 c) (11 : Fin 14) (queriesAnswer (arg0v m c) (arg1v m c) (arg2v m c) (arg3v m c) (arg4v m c) (arg8v m c) (arg9v m c)) (fun t _ y => ?_) ?_
  · exact leaves_queries m c t y
  · exact covered_queries

theorem emb_keys (y : S512x512.Idx) : ((cfg0.win 12).blk t).view.emb y = (ValueIdx.ix2 (rowIn t (y 0)) (y 1) : S65536x512.Idx) := by
  funext a
  refine Fin.ext ?_
  refine (Pipeline.Window.rect_emb_val (cfg0.win 12) t y a).trans ?_
  match a with
  | ⟨0, _⟩ =>
    show (BitVec.ofNat 32 (grid0.coords t 0).val).toNat * 512 + (y 0).val = 512 * t.val + (y 0).val
    rw [step_word]; omega
  | ⟨1, _⟩ => exact whole_axis 512 _

theorem in_block_keys (i : S65536x512.Idx) (hv : t.val = (i 0).val / 512) : i ∈ ((cfg0.win 12).blk t).view.set := by
  have h0 : (i 0).val < 65536 := (i 0).isLt
  have hy : ((cfg0.win 12).blk t).view.emb (ValueIdx.ix2 (⟨(i 0).val % 512, by omega⟩ : Fin 512) (i 1)) = i := by
    refine (emb_keys t _).trans ?_
    funext a
    refine Fin.ext ?_
    match a with
    | ⟨0, _⟩ =>
      show 512 * t.val + (i 0).val % 512 = (i 0).val
      rw [hv]; omega
    | ⟨1, _⟩ => rfl
  exact hy ▸ View.emb_mem_set _ _

theorem covered_keys (i : S65536x512.Idx) : ∃ t : Fin cfg0.N, (cfg0.win 12).flush t = true ∧ i ∈ ((cfg0.win 12).blk t).view.set := by
  have h0 : (i 0).val < 65536 := (i 0).isLt
  obtain ⟨t, ht⟩ := point_of ((i 0).val / 512) (by omega)
  exact ⟨t, flush0_12 t, in_block_keys t i ht⟩

theorem written_keys (y : S512x512.Idx) : out0_12 (F := Ideal) (iblk m c 0 t) (iblk m c 1 t) (iblk m c 2 t) (iblk m c 3 t) (iblk m c 4 t) (iblk m c 5 t) (iblk m c 6 t) (iblk m c 7 t) (iblk m c 8 t) (iblk m c 9 t) y
    = keysAnswer (arg0v m c) (arg1v m c) (arg2v m c) (arg3v m c) (arg4v m c) (arg5v m c) (arg6v m c) (arg7v m c) (ValueIdx.ix2 (rowIn t (y 0)) (y 1)) :=
  keys_block m c t y

theorem leaves_keys (y : S512x512.Idx) : (show Vec Ideal S512x512 .bf16 from (dats m 0 c).after (12 : Fin 14) t) y
    = keysAnswer (arg0v m c) (arg1v m c) (arg2v m c) (arg3v m c) (arg4v m c) (arg5v m c) (arg6v m c) (arg7v m c) (((cfg0.win 12).blk t).view.emb y) :=
  (congrFun (after0_12 m c t) y).trans ((written_keys m c t y).trans
    (congrArg (keysAnswer (arg0v m c) (arg1v m c) (arg2v m c) (arg3v m c) (arg4v m c) (arg5v m c) (arg6v m c) (arg7v m c)) (emb_keys t y).symm))

theorem keys_value : (dats m 0 c).arrAt (12 : Fin 14) cfg0.N = keysAnswer (arg0v m c) (arg1v m c) (arg2v m c) (arg3v m c) (arg4v m c) (arg5v m c) (arg6v m c) (arg7v m c) := by
  refine Pipeline.Dat.arrAt_eq_of_emb (dats m 0 c) (12 : Fin 14) (keysAnswer (arg0v m c) (arg1v m c) (arg2v m c) (arg3v m c) (arg4v m c) (arg5v m c) (arg6v m c) (arg7v m c)) (fun t _ y => ?_) ?_
  · exact leaves_keys m c t y
  · exact covered_keys

theorem emb_values (y : S512x512.Idx) : ((cfg0.win 13).blk t).view.emb y = (ValueIdx.ix2 (rowIn t (y 0)) (y 1) : S65536x512.Idx) := by
  funext a
  refine Fin.ext ?_
  refine (Pipeline.Window.rect_emb_val (cfg0.win 13) t y a).trans ?_
  match a with
  | ⟨0, _⟩ =>
    show (BitVec.ofNat 32 (grid0.coords t 0).val).toNat * 512 + (y 0).val = 512 * t.val + (y 0).val
    rw [step_word]; omega
  | ⟨1, _⟩ => exact whole_axis 512 _

theorem in_block_values (i : S65536x512.Idx) (hv : t.val = (i 0).val / 512) : i ∈ ((cfg0.win 13).blk t).view.set := by
  have h0 : (i 0).val < 65536 := (i 0).isLt
  have hy : ((cfg0.win 13).blk t).view.emb (ValueIdx.ix2 (⟨(i 0).val % 512, by omega⟩ : Fin 512) (i 1)) = i := by
    refine (emb_values t _).trans ?_
    funext a
    refine Fin.ext ?_
    match a with
    | ⟨0, _⟩ =>
      show 512 * t.val + (i 0).val % 512 = (i 0).val
      rw [hv]; omega
    | ⟨1, _⟩ => rfl
  exact hy ▸ View.emb_mem_set _ _

theorem covered_values (i : S65536x512.Idx) : ∃ t : Fin cfg0.N, (cfg0.win 13).flush t = true ∧ i ∈ ((cfg0.win 13).blk t).view.set := by
  have h0 : (i 0).val < 65536 := (i 0).isLt
  obtain ⟨t, ht⟩ := point_of ((i 0).val / 512) (by omega)
  exact ⟨t, flush0_13 t, in_block_values t i ht⟩

theorem written_values (y : S512x512.Idx) : out0_13 (F := Ideal) (iblk m c 0 t) (iblk m c 1 t) (iblk m c 2 t) (iblk m c 3 t) (iblk m c 4 t) (iblk m c 5 t) (iblk m c 6 t) (iblk m c 7 t) (iblk m c 8 t) (iblk m c 9 t) y
    = valuesAnswer (arg0v m c) (arg1v m c) (arg2v m c) (arg3v m c) (arg4v m c) (arg5v m c) (arg6v m c) (ValueIdx.ix2 (rowIn t (y 0)) (y 1)) :=
  (congrArg (out0_13 (F := Ideal) (iblk m c 0 t) (iblk m c 1 t) (iblk m c 2 t) (iblk m c 3 t) (iblk m c 4 t) (iblk m c 5 t) (iblk m c 6 t) (iblk m c 7 t) (iblk m c 8 t) (iblk m c 9 t)) (ValueIdx.eq_ix2 y)).trans (values_block m c t (y 0) (y 1))

theorem leaves_values (y : S512x512.Idx) : (show Vec Ideal S512x512 .bf16 from (dats m 0 c).after (13 : Fin 14) t) y
    = valuesAnswer (arg0v m c) (arg1v m c) (arg2v m c) (arg3v m c) (arg4v m c) (arg5v m c) (arg6v m c) (((cfg0.win 13).blk t).view.emb y) :=
  (congrFun (after0_13 m c t) y).trans ((written_values m c t y).trans
    (congrArg (valuesAnswer (arg0v m c) (arg1v m c) (arg2v m c) (arg3v m c) (arg4v m c) (arg5v m c) (arg6v m c)) (emb_values t y).symm))

theorem values_value : (dats m 0 c).arrAt (13 : Fin 14) cfg0.N = valuesAnswer (arg0v m c) (arg1v m c) (arg2v m c) (arg3v m c) (arg4v m c) (arg5v m c) (arg6v m c) := by
  refine Pipeline.Dat.arrAt_eq_of_emb (dats m 0 c) (13 : Fin 14) (valuesAnswer (arg0v m c) (arg1v m c) (arg2v m c) (arg3v m c) (arg4v m c) (arg5v m c) (arg6v m c)) (fun t _ y => ?_) ?_
  · exact leaves_values m c t y
  · exact covered_values

end Cert.Ffn

end
-- ==== Proof.FfnRef.lean ====
/-
  What the dense layer's reference computes, entry by entry over the extended reals: its four results are the answers.
-/
module

public import proofs.«01_k».proof.Proof.FfnAnswer
public import proofs.«01_k».proof.Proof.Gen.Reference2Ideal.Read
public import Idealize.ShloMosaic.Lib.IdealHost

@[expose] public section

set_option maxRecDepth 16384

noncomputable section

namespace Cert.Ffn

open Cert.Reference2Ideal Cert.Reference2Ideal.Gen Cert.Reference2Ideal.Read
open Idealize.ShloMosaic Idealize.ShloMosaic.TcCoe
open scoped BigOperators

/-! ## The norm of every row -/

/-- Every row divided by its root mean square, times a gain, as the reference writes it. -/
def hostNorm (v : FVec Ideal S65536x1024 .f32) (g : FVec Ideal S1024 .f32) : FVec Ideal S65536x1024 .f32 :=
  mulf (mulf v (broadcastInDim S65536x1024 ![0, 1] bcast_S65536x1_S65536x1024_0_1 (Host.rsqrt (addf (Host.divf
    (broadcastInDim S65536x1 ![0] bcast_S65536_S65536x1_0 (Host.reduceAdd (mulf v v) (constant S_ .f32 0x00000000#32)
      reducesTo_S65536x1024_S65536_d1 h_S_))
    (broadcastInDim S65536x1 ![] bcast_S_S65536x1 (constant S_ .f32 0x44800000#32)))
    (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))

theorem host_squares (v : FVec Ideal S65536x1024 .f32) (t : Fin 65536) :
    Host.reduceAdd (F := Ideal) (mulf v v) (constant S_ .f32 0x00000000#32) reducesTo_S65536x1024_S65536_d1 h_S_ (ValueIdx.ix1 t)
      = ∑ k : Fin 1024, (v (ValueIdx.ix2 t k) : EReal) * v (ValueIdx.ix2 t k) := by
  have h := val_main_v3_apply v (ValueIdx.ix1 t)
  refine Eq.trans (b := _) (show _ = val_main_v3 (F := Ideal) v (ValueIdx.ix1 t) from rfl) (h.trans ?_)
  refine Eq.trans (congrArg (· + _) Ideal.ofBits_zero_f32) ((zero_add _).trans (Finset.sum_congr rfl fun k _ => ?_))
  have e : idx_main_v3 (ValueIdx.ix1 t) k = ValueIdx.ix2 t k := funext fun a => match a with | ⟨0, _⟩ => rfl | ⟨1, _⟩ => rfl
  rw [e]
  rfl

theorem hostNorm_apply (v : FVec Ideal S65536x1024 .f32) (g : FVec Ideal S1024 .f32) (t : Fin 65536) (k : Fin 1024) :
    hostNorm v g (ValueIdx.ix2 t k) = rms width (fun k => v (ValueIdx.ix2 t k)) (fun k => g (ValueIdx.ix1 k)) k := by
  refine congrArg₂ (· * ·) (congrArg (v (ValueIdx.ix2 t k) * ·) ?_) ?_
  · refine (broadcastInDim_apply _ bcast_S65536x1_S65536x1024_0_1 _ (ValueIdx.ix2 t k) (ValueIdx.ix2 t (0 : Fin 1)) (fun a => by
      match a with
      | ⟨0, _⟩ => exact (if_neg (show ¬ (65536 : ℕ) = 1 by decide)).symm
      | ⟨1, _⟩ => exact (if_pos (show (1 : ℕ) = 1 from rfl)).symm)).trans ?_
    refine congrArg (fun s => Ideal.rsqrt (Ideal.div s width + eps)) ?_
    refine (broadcastInDim_apply _ bcast_S65536_S65536x1_0 _ (ValueIdx.ix2 t (0 : Fin 1)) (ValueIdx.ix1 t) (fun a => by
      match a with
      | ⟨0, _⟩ => exact (if_neg (show ¬ (65536 : ℕ) = 1 by decide)).symm)).trans ?_
    exact host_squares v t
  · refine (broadcastInDim_apply _ bcast_S1x1024_S65536x1024_0_1 _ (ValueIdx.ix2 t k) (ValueIdx.ix2 (0 : Fin 1) k) (fun a => by
      match a with
      | ⟨0, _⟩ => exact (if_pos (show (1 : ℕ) = 1 from rfl)).symm
      | ⟨1, _⟩ => exact (if_neg (show ¬ (1024 : ℕ) = 1 by decide)).symm)).trans ?_
    exact broadcastInDim_apply _ bcast_S1024_S1x1024_1 g (ValueIdx.ix2 (0 : Fin 1) k) (ValueIdx.ix1 k) (fun a => by
      match a with
      | ⟨0, _⟩ => exact (if_neg (show ¬ (1024 : ℕ) = 1 by decide)).symm)

/-! ## The row after the layer -/

variable (x0 : FVec Ideal S65536x1024 .f32) (x1 : FVec Ideal S2x1024 .f32) (x2 x3 : FVec Ideal S1x1024x2816 .f32) (x4 : FVec Ideal S1x2816x1024 .f32)
  (x5 : FVec Ideal S1024 .f32) (x6 : FVec Ideal S1024x512 .f32) (x7 : FVec Ideal S64 .f32) (x8 : FVec Ideal S2x1024 .f32) (x9 : FVec Ideal S1x1024x1024 .f32)

theorem ref_gain (k : Fin 1024) : val_main_v1 (F := Ideal) x1 (ValueIdx.ix1 k) = x1 (ValueIdx.ix2 (0 : Fin 2) k) := by
  rw [val_main_v1_apply, val_main_v0_apply]
  have hk := k.isLt
  refine congrArg x1 (funext fun a => Fin.ext ?_)
  match a with
  | ⟨0, _⟩ => rfl
  | ⟨1, _⟩ => show k.val % 1024 = k.val; omega

theorem ref_normed (t : Fin 65536) (k : Fin 1024) : val_main_v14 (F := Ideal) x0 x1 (ValueIdx.ix2 t k)
    = rms width (fun k => x0 (ValueIdx.ix2 t k)) (fun k => x1 (ValueIdx.ix2 (0 : Fin 2) k)) k := by
  refine (hostNorm_apply x0 (val_main_v1 (F := Ideal) x1) t k).trans ?_
  exact congrArg (fun g => rms width _ g k) (funext fun k => ref_gain x1 k)

theorem ref_gate (k : Fin 1024) (f : Fin 2816) : val_main_v15 (F := Ideal) x2 (ValueIdx.ix2 k f) = x2 (ValueIdx.ix3 (0 : Fin 1) k f) := by
  rw [val_main_v15_apply]
  have hk := k.isLt; have hf := f.isLt
  refine congrArg x2 (funext fun a => Fin.ext ?_)
  match a with
  | ⟨0, _⟩ => rfl
  | ⟨1, _⟩ => show (k.val * 2816 + f.val) / 2816 % 1024 = k.val; omega
  | ⟨2, _⟩ => show (k.val * 2816 + f.val) % 2816 = f.val; omega

theorem ref_up (k : Fin 1024) (f : Fin 2816) : val_main_v18 (F := Ideal) x3 (ValueIdx.ix2 k f) = x3 (ValueIdx.ix3 (0 : Fin 1) k f) := by
  rw [val_main_v18_apply]
  have hk := k.isLt; have hf := f.isLt
  refine congrArg x3 (funext fun a => Fin.ext ?_)
  match a with
  | ⟨0, _⟩ => rfl
  | ⟨1, _⟩ => show (k.val * 2816 + f.val) / 2816 % 1024 = k.val; omega
  | ⟨2, _⟩ => show (k.val * 2816 + f.val) % 2816 = f.val; omega

theorem ref_down (f : Fin 2816) (k : Fin 1024) : val_main_v21 (F := Ideal) x4 (ValueIdx.ix2 f k) = x4 (ValueIdx.ix3 (0 : Fin 1) f k) := by
  rw [val_main_v21_apply]
  have hk := k.isLt; have hf := f.isLt
  refine congrArg x4 (funext fun a => Fin.ext ?_)
  match a with
  | ⟨0, _⟩ => rfl
  | ⟨1, _⟩ => show (f.val * 1024 + k.val) / 1024 % 2816 = f.val; omega
  | ⟨2, _⟩ => show (f.val * 1024 + k.val) % 1024 = k.val; omega

theorem ref_query (k c : Fin 1024) : val_main_v70 (F := Ideal) x9 (ValueIdx.ix2 k c) = x9 (ValueIdx.ix3 (0 : Fin 1) k c) := by
  rw [val_main_v70_apply]
  have hk := k.isLt; have hf := c.isLt
  refine congrArg x9 (funext fun a => Fin.ext ?_)
  match a with
  | ⟨0, _⟩ => rfl
  | ⟨1, _⟩ => show (k.val * 1024 + c.val) / 1024 % 1024 = k.val; omega
  | ⟨2, _⟩ => show (k.val * 1024 + c.val) % 1024 = c.val; omega

theorem ref_query_gain (k : Fin 1024) : val_main_v56 (F := Ideal) x8 (ValueIdx.ix1 k) = x8 (ValueIdx.ix2 (1 : Fin 2) k) := by
  rw [val_main_v56_apply, val_main_v55_apply]
  have hk := k.isLt
  refine congrArg x8 (funext fun a => Fin.ext ?_)
  match a with
  | ⟨0, _⟩ => rfl
  | ⟨1, _⟩ => show k.val % 1024 = k.val; omega

theorem ref_gate_product (t : Fin 65536) (f : Fin 2816) : val_main_v16 (F := Ideal) x0 x1 x2 (ValueIdx.ix2 t f)
    = ∑ k : Fin 1024, rms width (fun k => x0 (ValueIdx.ix2 t k)) (fun k => x1 (ValueIdx.ix2 (0 : Fin 2) k)) k * x2 (ValueIdx.ix3 (0 : Fin 1) k f) := by
  rw [val_main_v16_apply]
  refine Finset.sum_congr rfl fun k _ => ?_
  have hl : lidx_main_v16 (ValueIdx.ix2 t f) k = ValueIdx.ix2 t k := funext fun a => match a with | ⟨0, _⟩ => rfl | ⟨1, _⟩ => rfl
  have hr : ridx_main_v16 (ValueIdx.ix2 t f) k = ValueIdx.ix2 k f := funext fun a => match a with | ⟨0, _⟩ => rfl | ⟨1, _⟩ => rfl
  rw [hl, hr, ref_normed, ref_gate]

theorem ref_up_product (t : Fin 65536) (f : Fin 2816) : val_main_v19 (F := Ideal) x0 x1 x3 (ValueIdx.ix2 t f)
    = ∑ k : Fin 1024, rms width (fun k => x0 (ValueIdx.ix2 t k)) (fun k => x1 (ValueIdx.ix2 (0 : Fin 2) k)) k * x3 (ValueIdx.ix3 (0 : Fin 1) k f) := by
  rw [val_main_v19_apply]
  refine Finset.sum_congr rfl fun k _ => ?_
  have hl : lidx_main_v19 (ValueIdx.ix2 t f) k = ValueIdx.ix2 t k := funext fun a => match a with | ⟨0, _⟩ => rfl | ⟨1, _⟩ => rfl
  have hr : ridx_main_v19 (ValueIdx.ix2 t f) k = ValueIdx.ix2 k f := funext fun a => match a with | ⟨0, _⟩ => rfl | ⟨1, _⟩ => rfl
  rw [hl, hr, ref_normed, ref_up]

/-- The hidden values. -/
theorem ref_hidden (i : S65536x2816.Idx) :
    val_main_v20 (F := Ideal) x0 x1 x2 x3 i = Experts.hid (val_main_v16 (F := Ideal) x0 x1 x2 i) (val_main_v19 (F := Ideal) x0 x1 x3 i) := by
  rw [val_main_v20_apply, val_main_v17_apply, val_main_call0_v5_apply, val_main_call0_v4_apply, val_main_call0_cst_0_apply,
    val_main_call0_v3_apply, val_main_call0_v2_apply, val_main_call0_cst_apply, val_main_call0_v1_apply, val_main_call0_v0_apply]
  generalize val_main_v16 (F := Ideal) x0 x1 x2 i = g
  generalize val_main_v19 (F := Ideal) x0 x1 x3 i = u
  have h : FloatOps.mulf (F := Ideal) (φ := .f32) (FloatOps.mulf g (FloatOps.hostDivf (FloatOps.ofBits .f32 0x3F800000#32)
      (FloatOps.addf (FloatOps.ofBits .f32 0x3F800000#32) (FloatOps.hostUnary .exp (FloatOps.hostNegf g))))) u
      = (g : EReal) * Ideal.div (Ideal.ofBits .f32 0x3F800000#32) (Ideal.ofBits .f32 0x3F800000#32 + Ideal.exp (-g)) * u := rfl
  rw [h, Ideal.ofBits_one_f32]
  rfl

theorem ref_rows (t : Fin 65536) (c : Fin 1024) : val_main_v23 (F := Ideal) x0 x1 x2 x3 x4 (ValueIdx.ix2 t c) = rowAfter x0 x1 x2 x3 x4 t c := by
  rw [val_main_v23_apply]
  refine congrArg (x0 (ValueIdx.ix2 t c) + ·) ?_
  rw [val_main_v22_apply]
  refine Finset.sum_congr rfl fun f _ => ?_
  have hl : lidx_main_v22 (ValueIdx.ix2 t c) f = ValueIdx.ix2 t f := funext fun a => match a with | ⟨0, _⟩ => rfl | ⟨1, _⟩ => rfl
  have hr : ridx_main_v22 (ValueIdx.ix2 t c) f = ValueIdx.ix2 f c := funext fun a => match a with | ⟨0, _⟩ => rfl | ⟨1, _⟩ => rfl
  rw [hl, hr, ref_hidden, ref_gate_product, ref_up_product, ref_down]

/-! ## The queries -/

theorem ref_queries (t : Fin 65536) (c : Fin 1024) :
    val_main_v71 (F := Ideal) x0 x1 x2 x3 x4 x8 x9 (ValueIdx.ix2 t c) = queryAt x0 x1 x2 x3 x4 x8 x9 t c := by
  rw [val_main_v71_apply]
  unfold queryAt proj
  refine Finset.sum_congr rfl fun k _ => ?_
  have hl : lidx_main_v71 (ValueIdx.ix2 t c) k = ValueIdx.ix2 t k := funext fun a => match a with | ⟨0, _⟩ => rfl | ⟨1, _⟩ => rfl
  have hr : ridx_main_v71 (ValueIdx.ix2 t c) k = ValueIdx.ix2 k c := funext fun a => match a with | ⟨0, _⟩ => rfl | ⟨1, _⟩ => rfl
  rw [hl, hr, ref_query]
  refine congrArg (· * _) ?_
  refine (hostNorm_apply (val_main_v23 (F := Ideal) x0 x1 x2 x3 x4) (val_main_v56 (F := Ideal) x8) t k).trans ?_
  exact congrArg₂ (fun h g => rms width h g k) (funext fun k => ref_rows x0 x1 x2 x3 x4 t k) (funext fun k => ref_query_gain x8 k)

/-! ## The keys and values -/

theorem ref_mixed (t : Fin 65536) (c : Fin 512) :
    val_main_v37 (F := Ideal) x0 x1 x2 x3 x4 x5 x6 (ValueIdx.ix2 t c) = mixedAt x0 x1 x2 x3 x4 x5 x6 t c := by
  rw [val_main_v37_apply]
  unfold mixedAt proj
  refine Finset.sum_congr rfl fun k _ => ?_
  have hl : lidx_main_v37 (ValueIdx.ix2 t c) k = ValueIdx.ix2 t k := funext fun a => match a with | ⟨0, _⟩ => rfl | ⟨1, _⟩ => rfl
  have hr : ridx_main_v37 (ValueIdx.ix2 t c) k = ValueIdx.ix2 k c := funext fun a => match a with | ⟨0, _⟩ => rfl | ⟨1, _⟩ => rfl
  rw [hl, hr]
  refine congrArg (· * _) ?_
  refine (hostNorm_apply (val_main_v23 (F := Ideal) x0 x1 x2 x3 x4) x5 t k).trans ?_
  exact congrArg (fun h => rms width h _ k) (funext fun k => ref_rows x0 x1 x2 x3 x4 t k)

/-- A head's lanes of the keys, before their norm. -/
theorem ref_key_lane (t : Fin 65536) (h : Fin 4) (l : Fin 64) :
    val_main_v40 (F := Ideal) x0 x1 x2 x3 x4 x5 x6 (ValueIdx.ix3 t h l) = mixedAt x0 x1 x2 x3 x4 x5 x6 t (keyCol h l) := by
  rw [val_main_v40_apply, val_main_v38_apply]
  have ht := t.isLt; have hh := h.isLt; have hl := l.isLt
  refine (congrArg (val_main_v37 (F := Ideal) x0 x1 x2 x3 x4 x5 x6) (funext fun a => Fin.ext ?_)).trans (ref_mixed x0 x1 x2 x3 x4 x5 x6 t (keyCol h l))
  match a with
  | ⟨0, _⟩ => show ((t.val * 4 + h.val) * 64 + l.val) / 256 = t.val; omega
  | ⟨1, _⟩ => show ((t.val * 4 + h.val) * 64 + l.val) % 256 = 64 * h.val + l.val; omega

theorem ref_value_lane (t : Fin 65536) (h : Fin 4) (l : Fin 64) :
    val_main_v54 (F := Ideal) x0 x1 x2 x3 x4 x5 x6 (ValueIdx.ix3 t h l) = valueAt x0 x1 x2 x3 x4 x5 x6 t h l := by
  rw [val_main_v54_apply, val_main_v39_apply]
  have ht := t.isLt; have hh := h.isLt; have hl := l.isLt
  refine (congrArg (val_main_v37 (F := Ideal) x0 x1 x2 x3 x4 x5 x6) (funext fun a => Fin.ext ?_)).trans (ref_mixed x0 x1 x2 x3 x4 x5 x6 t (valCol h l))
  match a with
  | ⟨0, _⟩ => show ((t.val * 4 + h.val) * 64 + l.val) / 256 = t.val; omega
  | ⟨1, _⟩ => show 256 + ((t.val * 4 + h.val) * 64 + l.val) % 256 = 256 + (64 * h.val + l.val); omega

/-- A head's keys, normed. -/
theorem ref_key (t : Fin 65536) (h : Fin 4) (l : Fin 64) :
    val_main_v53 (F := Ideal) x0 x1 x2 x3 x4 x5 x6 x7 (ValueIdx.ix3 t h l) = keyAt x0 x1 x2 x3 x4 x5 x6 x7 t h l := by
  rw [val_main_v53_apply, val_main_v50_apply, val_main_v49_apply, val_main_v48_apply, val_main_v47_apply, val_main_v45_apply,
    val_main_v43_apply, val_main_v42_apply, val_main_v44_apply, val_main_v46_apply, val_main_v52_apply, val_main_v51_apply, ref_key_lane]
  refine congrArg₂ (· * ·) (congrArg (mixedAt x0 x1 x2 x3 x4 x5 x6 t (keyCol h l) * ·) ?_) ?_
  · refine congrArg (fun s => Ideal.rsqrt (Ideal.div s headWidth + eps)) ?_
    refine Eq.trans (congrArg (· + _) Ideal.ofBits_zero_f32) ((zero_add _).trans (Finset.sum_congr rfl fun j _ => ?_))
    have e : idx_main_v42 (idx_main_v43 (idx_main_v49 (ValueIdx.ix3 t h l))) j = ValueIdx.ix3 t h j :=
      funext fun a => match a with | ⟨0, _⟩ => rfl | ⟨1, _⟩ => rfl | ⟨2, _⟩ => rfl
    rw [e, val_main_v41_apply, ref_key_lane]
    rfl
  · refine congrArg x7 (funext fun a => ?_)
    match a with
    | ⟨0, _⟩ => rfl

/-- Two copies of a head's lanes side by side, laid out as 512 columns. -/
theorem pair_apply (y : FVec Ideal S65536x4x64 .f32) (t : Fin 65536) (c : Fin 512) :
    shapeCast S65536x512 (concatenate S65536x4x128 2 [⟨S65536x4x64, y⟩, ⟨S65536x4x64, y⟩] concatenates_S65536x4x64_S65536x4x64_S65536x4x128_d2)
      shapeCasts_S65536x4x128_S65536x512 (ValueIdx.ix2 t c) = y (ValueIdx.ix3 t (headOf c) (laneOf c)) := by
  have hc := c.isLt
  refine (shapeCast_apply _ shapeCasts_S65536x4x128_S65536x512 (ValueIdx.ix2 t c)
    (ValueIdx.ix3 t (headOf c) (⟨c.val % 128, Nat.mod_lt _ (by omega)⟩ : Fin 128)) (by
      rewrite [Shape.rowMajor_val_three, Shape.rowMajor_val_two]
      show (t.val * 4 + c.val / 128) * 128 + c.val % 128 = t.val * 512 + c.val
      omega)).trans ?_
  by_cases h : c.val % 128 < 64
  · refine concatenate_apply_piece (t := S65536x4x128) 2 [⟨S65536x4x64, y⟩, ⟨S65536x4x64, y⟩] concatenates_S65536x4x64_S65536x4x64_S65536x4x128_d2
      _ 0 (show 0 < 2 by decide) S65536x4x64 y rfl rfl 0 rfl _ (fun b hb => ?_) ?_
    · match b with
      | ⟨0, _⟩ => rfl
      | ⟨1, _⟩ => rfl
      | ⟨2, _⟩ => exact absurd rfl hb
    · show 0 + c.val % 64 = c.val % 128
      omega
  · refine concatenate_apply_piece (t := S65536x4x128) 2 [⟨S65536x4x64, y⟩, ⟨S65536x4x64, y⟩] concatenates_S65536x4x64_S65536x4x64_S65536x4x128_d2
      _ 1 (show 1 < 2 by decide) S65536x4x64 y rfl rfl 64 rfl _ (fun b hb => ?_) ?_
    · match b with
      | ⟨0, _⟩ => rfl
      | ⟨1, _⟩ => rfl
      | ⟨2, _⟩ => exact absurd rfl hb
    · show 64 + c.val % 64 = c.val % 128
      omega

/-! ## The four results -/

theorem ref_rows_answer : val_main_v23 (F := Ideal) x0 x1 x2 x3 x4 = rowsAnswer x0 x1 x2 x3 x4 := by
  funext j
  refine (congrArg (val_main_v23 (F := Ideal) x0 x1 x2 x3 x4) (ValueIdx.eq_ix2 j)).trans ?_
  exact ref_rows x0 x1 x2 x3 x4 (j 0) (j 1)

theorem ref_queries_answer : val_main_v72 (F := Ideal) x0 x1 x2 x3 x4 x8 x9 = queriesAnswer x0 x1 x2 x3 x4 x8 x9 := by
  funext j
  refine (congrArg (val_main_v72 (F := Ideal) x0 x1 x2 x3 x4 x8 x9) (ValueIdx.eq_ix2 j)).trans ?_
  exact ref_queries x0 x1 x2 x3 x4 x8 x9 (j 0) (j 1)

theorem ref_keys_answer : val_main_v75 (F := Ideal) x0 x1 x2 x3 x4 x5 x6 x7 = keysAnswer x0 x1 x2 x3 x4 x5 x6 x7 := by
  funext j
  refine (congrArg (val_main_v75 (F := Ideal) x0 x1 x2 x3 x4 x5 x6 x7) (ValueIdx.eq_ix2 j)).trans ?_
  exact (pair_apply (val_main_v53 (F := Ideal) x0 x1 x2 x3 x4 x5 x6 x7) (j 0) (j 1)).trans (ref_key x0 x1 x2 x3 x4 x5 x6 x7 (j 0) _ _)

theorem ref_values_answer : val_main_v78 (F := Ideal) x0 x1 x2 x3 x4 x5 x6 = valuesAnswer x0 x1 x2 x3 x4 x5 x6 := by
  funext j
  refine (congrArg (val_main_v78 (F := Ideal) x0 x1 x2 x3 x4 x5 x6) (ValueIdx.eq_ix2 j)).trans ?_
  exact (pair_apply (val_main_v54 (F := Ideal) x0 x1 x2 x3 x4 x5 x6) (j 0) (j 1)).trans (ref_value_lane x0 x1 x2 x3 x4 x5 x6 (j 0) _ _)

end Cert.Ffn

end
-- ==== Proof.FfnAlgebraic.lean ====
/-
  The dense layer's equation: the kernel's four results and the reference's are the same arrays over the extended reals; and the
  reference's own run.
-/
module

public import proofs.«01_k».proof.Defs
public import proofs.«01_k».proof.Proof.Gen.Kernel2Ideal.Value
public import proofs.«01_k».proof.Proof.Gen.Reference2Ideal.Run
public import proofs.«01_k».proof.Proof.FfnArray
public import proofs.«01_k».proof.Proof.FfnRef
public import Idealize.ShloMosaic.Lib.Quiescent

@[expose] public section

set_option maxRecDepth 16384

noncomputable section

namespace Cert.Ffn

open Idealize.ShloMosaic Idealize.ShloMosaic.TcCoe Idealize.ShloMosaic.Tactic
open Idealize.SL.Sem

/-- The reference runs, keeps its arguments and has no semaphore. -/
theorem frame_reference : Cert.quiescent_Reference2Ideal (hReference2Ideal := Cert.Reference2Ideal.Gen.facts) := fun m ρ _ =>
  (θ_run Cert.Reference2Ideal.defs _ _).mono
    (fun r h => ⟨fun c => (h c).2.2.2.2, sem_eq_zero_of_no_sems (by decide) r.2⟩)
    (Cert.Reference2Ideal.Value.run (F := Ideal) m ρ)

/-- Both runs end with the same four arrays. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => rowsAnswer (arg0v m c) (arg1v m c) (arg2v m c) (arg3v m c) (arg4v m c),
    fun c => queriesAnswer (arg0v m c) (arg1v m c) (arg2v m c) (arg3v m c) (arg4v m c) (arg8v m c) (arg9v m c),
    fun c => keysAnswer (arg0v m c) (arg1v m c) (arg2v m c) (arg3v m c) (arg4v m c) (arg5v m c) (arg6v m c) (arg7v m c),
    fun c => valuesAnswer (arg0v m c) (arg1v m c) (arg2v m c) (arg3v m c) (arg4v m c) (arg5v m c) (arg6v m c), ?_, ?_⟩
  · refine (θ_run Cert.Kernel2Ideal.defs _ _).mono (fun r h c => ?_) (Cert.Kernel2Ideal.Value.run_blocks m g)
    obtain ⟨h0, h1, h2, h3, hk⟩ := h c
    exact ⟨h0.trans (layer_value m c), h1.trans (queries_value m c), h2.trans (keys_value m c), h3.trans (values_value m c), hk⟩
  · refine (θ_run Cert.Reference2Ideal.defs _ _).mono (fun r h c => ?_) (Cert.Reference2Ideal.Value.run (F := Ideal) m' g')
    obtain ⟨h0, h1, h2, h3, hk⟩ := h c
    obtain ⟨e0, e1, e2, e3, e4, e5, e6, e7, e8, e9⟩ := hargs c
    refine ⟨?_, ?_, ?_, ?_, hk⟩
    · refine h0.trans ((Cert.Reference2Ideal.Read.val_main_v23_eq _ _ _ _ _).trans ?_)
      rw [e0, e1, e2, e3, e4]
      exact ref_rows_answer _ _ _ _ _
    · refine h1.trans ((Cert.Reference2Ideal.Read.val_main_v72_eq m' c).trans ?_)
      rw [e0, e1, e2, e3, e4, e8, e9]
      exact ref_queries_answer _ _ _ _ _ _ _
    · refine h2.trans ((Cert.Reference2Ideal.Read.val_main_v75_eq m' c).trans ?_)
      rw [e0, e1, e2, e3, e4, e5, e6, e7]
      exact ref_keys_answer _ _ _ _ _ _ _ _
    · refine h3.trans ((Cert.Reference2Ideal.Read.val_main_v78_eq m' c).trans ?_)
      rw [e0, e1, e2, e3, e4, e5, e6]
      exact ref_values_answer _ _ _ _ _ _ _

end Cert.Ffn

end
-- ==== Proof.CombineRows.lean ====
/-
  The kernel that adds the experts' rows to the layer's input fetches, for every token of a block and each of its two
  choices, the eight rows of 128 numbers that hold the chosen expert's answer. This module names the buffers, the rows one
  copy fills and reads, and what a copy delivers.
-/
module

public import proofs.«01_k».proof.Proof.Gen.Kernel3Ideal.Launch
public import Idealize.ShloMosaic.Lib.Pipeline.FrameBody
public import Idealize.ShloMosaic.Lib.Pipeline.Kit
public import Idealize.ShloMosaic.Lib.Ring
public import Idealize.ShloMosaic.Lib.Batch
public import Idealize.ShloMosaic.Lib.Tactic
public import Idealize.ShloMosaic.Lib.ValueLayout

@[expose] public section

set_option maxRecDepth 16384

noncomputable section

namespace Cert.Combine

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The buffers -/

/-- The experts' rows, each as eight rows of 128 numbers, left in HBM. -/
abbrev Yb : Memref sig .tc .hbm S1081344x128 .f32 := Memref.whole main_arg3
/-- The rows fetched: two blocks' worth (one being read while the other is filled), two choices each. -/
abbrev Ys : Memref sig .tc .vmem S2x2x8192x128 .f32 := Memref.whole cc0_scratch1
/-- The places of the choices, where the scalar unit reads them. -/
abbrev Tb : Memref sig .tc .smem S2x2x1024 .i32 := Memref.whole cc0_scratch0

/-- The eight rows of the fetched rows' buffer that one copy fills. -/
abbrev dstRow (o4 : Fin 4 → ℕ) (h4 : ∀ a, o4 a + S1x1x8192x128.size a ≤ S2x2x8192x128.size a) (o2 : Fin 2 → ℕ)
    (h2 : ∀ a, o2 a + S8x128.size a ≤ S8192x128.size a) : Memref sig .tc .vmem S8x128 .f32 :=
  ((Ys.slice (Rect.unit (s := S2x2x8192x128) o4 S1x1x8192x128.size h4) (fun _ => rfl)).squeeze S8192x128
    squeezes_S1x1x8192x128_S8192x128).slice (Rect.unit (s := S8192x128) o2 S8x128.size h2) (fun _ => rfl)

/-- The eight rows of the experts' rows that one copy reads. -/
abbrev srcRow (o2 : Fin 2 → ℕ) (h2 : ∀ a, o2 a + S8x128.size a ≤ S1081344x128.size a) : Memref sig .tc .hbm S8x128 .f32 :=
  Yb.slice (Rect.unit (s := S1081344x128) o2 S8x128.size h2) (fun _ => rfl)

/-- Where an element of the rows one copy fills lies. -/
theorem dstRow_emb (p s : Fin 2) (r : Fin 1024) (o4 : Fin 4 → ℕ) (h4) (o2 : Fin 2 → ℕ) (h2)
    (e4 : o4 = ![p.val, s.val, 0, 0]) (e2 : o2 = ![8 * r.val, 0]) (x : S8x128.Idx) :
    (dstRow o4 h4 o2 h2).view.emb x
      = ix4 p s (⟨8 * r.val + (x 0).val, by have := idx2_lt0 x; have := r.isLt; omega⟩ : Fin 8192) (⟨(x 1).val, (x 1).isLt⟩ : Fin 128) := by
  subst e4 e2
  have hx0 : (x 0).val < 8 := idx2_lt0 x
  have hx1 : (x 1).val < 128 := (x 1).isLt
  have hr := r.isLt
  have hi : ((Rect.unit (s := S8192x128) ![8 * r.val, 0] S8x128.size h2).emb x : S8192x128.Idx)
      = ix2 (⟨8 * r.val + (x 0).val, by omega⟩ : Fin 8192) (⟨(x 1).val, hx1⟩ : Fin 128) := by
    funext a
    fin_cases a
    · refine Fin.ext ?_
      show 8 * r.val + 1 * (x 0).val = 8 * r.val + (x 0).val
      omega
    · refine Fin.ext ?_
      show 0 + 1 * (x 1).val = (x 1).val
      omega
  have hq := (congrArg (Shape.reshapeEquiv (s := S1x1x8192x128) (s' := S8192x128) squeezes_S1x1x8192x128_S8192x128.numel_eq) hi).trans
    (reshapeEquiv_ix2_11ab squeezes_S1x1x8192x128_S8192x128.numel_eq _ _)
  refine (congrArg (fun z : S1x1x8192x128.Idx => (Rect.unit (s := S2x2x8192x128) ![p.val, s.val, 0, 0] S1x1x8192x128.size h4).emb z) hq).trans ?_
  funext a
  fin_cases a
  · refine Fin.ext ?_
    show p.val + 1 * 0 = p.val
    omega
  · refine Fin.ext ?_
    show s.val + 1 * 0 = s.val
    omega
  · refine Fin.ext ?_
    show 0 + 1 * (8 * r.val + (x 0).val) = 8 * r.val + (x 0).val
    omega
  · refine Fin.ext ?_
    show 0 + 1 * (x 1).val = (x 1).val
    omega

/-- Where an element of the rows one copy reads lies. -/
theorem srcRow_emb (w : ℕ) (hw : w < 135168) (o2 : Fin 2 → ℕ) (h2) (e2 : o2 = ![8 * w, 0]) (x : S8x128.Idx) :
    (srcRow o2 h2).view.emb x
      = ix2 (⟨8 * w + (x 0).val, by have := idx2_lt0 x; omega⟩ : Fin 1081344) (⟨(x 1).val, (x 1).isLt⟩ : Fin 128) := by
  subst e2
  funext a
  fin_cases a
  · refine Fin.ext ?_
    show 8 * w + 1 * (x 0).val = 8 * w + (x 0).val
    omega
  · refine Fin.ext ?_
    show 0 + 1 * (x 1).val = (x 1).val
    omega

/-! ## The rows by the number of their copy

Copy `2 r + s` of a block fetches choice `s` of token `r`. -/

/-- The elements of slot `p` that copy `j` fills. -/
def filled (p : Fin 2) (j : ℕ) : Finset S2x2x8192x128.Idx :=
  Finset.univ.filter fun y => (y 0).val = p.val ∧ 2 * ((y 2).val / 8) + (y 1).val = j

/-- The elements of slot `p`. -/
def slotSet (p : Fin 2) : Finset S2x2x8192x128.Idx := Finset.univ.filter fun y => (y 0).val = p.val

/-- The elements of the experts' rows that hold row `w`. -/
def rowSet (w : ℕ) : Finset S1081344x128.Idx := Finset.univ.filter fun y => (y 0).val / 8 = w

theorem mem_filled (p : Fin 2) (j : ℕ) (y : S2x2x8192x128.Idx) :
    y ∈ filled p j ↔ (y 0).val = p.val ∧ 2 * ((y 2).val / 8) + (y 1).val = j := by
  unfold filled; rw [Finset.mem_filter]; exact ⟨fun h => h.2, fun h => ⟨Finset.mem_univ _, h⟩⟩
theorem mem_slotSet (p : Fin 2) (y : S2x2x8192x128.Idx) : y ∈ slotSet p ↔ (y 0).val = p.val := by
  unfold slotSet; rw [Finset.mem_filter]; exact ⟨fun h => h.2, fun h => ⟨Finset.mem_univ _, h⟩⟩
theorem mem_rowSet (w : ℕ) (y : S1081344x128.Idx) : y ∈ rowSet w ↔ (y 0).val / 8 = w := by
  unfold rowSet; rw [Finset.mem_filter]; exact ⟨fun h => h.2, fun h => ⟨Finset.mem_univ _, h⟩⟩

theorem filled_disjoint (p : Fin 2) (j j' : Fin 2048) (h : j ≠ j') : Disjoint (filled p j.val) (filled p j'.val) := by
  rw [Finset.disjoint_left]
  intro y hy hy'
  rw [mem_filled] at hy hy'
  exact h (Fin.ext (hy.2.symm.trans hy'.2))

/-- A slot is what its 2048 copies fill. -/
theorem filled_cover (p : Fin 2) : (Finset.univ : Finset (Fin 2048)).biUnion (fun j => filled p j.val) = slotSet p := by
  ext y
  rw [Finset.mem_biUnion, mem_slotSet]
  have h1 : (y 1).val < 2 := (y 1).isLt
  have h2 : (y 2).val < 8192 := (y 2).isLt
  constructor
  · rintro ⟨j, -, hj⟩
    exact ((mem_filled _ _ _).mp hj).1
  · intro h
    exact ⟨⟨2 * ((y 2).val / 8) + (y 1).val, by omega⟩, Finset.mem_univ _, (mem_filled _ _ _).mpr ⟨h, rfl⟩⟩

theorem slots_disjoint : Disjoint (slotSet 0) (slotSet 1) := by
  rw [Finset.disjoint_left]
  intro y hy hy'
  rw [mem_slotSet] at hy hy'
  exact absurd (hy.symm.trans hy') (show ¬ (0 : ℕ) = 1 by decide)
theorem slots_cover : slotSet 0 ∪ slotSet 1 = Finset.univ := by
  ext y
  rw [Finset.mem_union, mem_slotSet, mem_slotSet]
  have h : (y 0).val < 2 := (y 0).isLt
  refine ⟨fun _ => Finset.mem_univ _, fun _ => ?_⟩
  rcases (by omega : (y 0).val = 0 ∨ (y 0).val = 1) with h | h
  · exact .inl h
  · exact .inr h

theorem dstRow_set (p s : Fin 2) (r : Fin 1024) (o4 : Fin 4 → ℕ) (h4) (o2 : Fin 2 → ℕ) (h2)
    (e4 : o4 = ![p.val, s.val, 0, 0]) (e2 : o2 = ![8 * r.val, 0]) :
    (dstRow o4 h4 o2 h2).view.set = filled p (2 * r.val + s.val) := by
  ext y
  rw [mem_filled]
  have hr := r.isLt; have hs := s.isLt
  constructor
  · intro hy
    obtain ⟨x, -, rfl⟩ := Finset.mem_map.mp hy
    rw [dstRow_emb p s r o4 h4 o2 h2 e4 e2 x]
    have hx0 : (x 0).val < 8 := idx2_lt0 x
    refine ⟨rfl, ?_⟩
    show 2 * ((8 * r.val + (x 0).val) / 8) + s.val = 2 * r.val + s.val
    omega
  · rintro ⟨hp, hj⟩
    have h1 : (y 1).val < 2 := (y 1).isLt
    have h2' : (y 2).val < 8192 := (y 2).isLt
    have h3 : (y 3).val < 128 := (y 3).isLt
    refine Finset.mem_map.mpr ⟨ix2 (⟨(y 2).val % 8, Nat.mod_lt _ (by decide)⟩ : Fin 8) (⟨(y 3).val, h3⟩ : Fin 128), Finset.mem_univ _, ?_⟩
    refine (dstRow_emb p s r o4 h4 o2 h2 e4 e2 _).trans ?_
    funext a
    fin_cases a
    · exact Fin.ext hp.symm
    · refine Fin.ext ?_
      show s.val = (y 1).val
      omega
    · refine Fin.ext ?_
      show 8 * r.val + (y 2).val % 8 = (y 2).val
      omega
    · rfl

theorem srcRow_set (w : ℕ) (hw : w < 135168) (o2 : Fin 2 → ℕ) (h2) (e2 : o2 = ![8 * w, 0]) :
    (srcRow o2 h2).view.set = rowSet w := by
  ext y
  rw [mem_rowSet]
  constructor
  · intro hy
    obtain ⟨x, -, rfl⟩ := Finset.mem_map.mp hy
    rw [srcRow_emb w hw o2 h2 e2 x]
    have hx0 : (x 0).val < 8 := idx2_lt0 x
    show (8 * w + (x 0).val) / 8 = w
    omega
  · intro hy
    have h1 : (y 1).val < 128 := (y 1).isLt
    refine Finset.mem_map.mpr ⟨ix2 (⟨(y 0).val % 8, Nat.mod_lt _ (by decide)⟩ : Fin 8) (⟨(y 1).val, h1⟩ : Fin 128), Finset.mem_univ _, ?_⟩
    refine (srcRow_emb w hw o2 h2 e2 _).trans ?_
    funext a
    fin_cases a
    · refine Fin.ext ?_
      show 8 * w + (y 0).val % 8 = (y 0).val
      omega
    · rfl

/-! ## What the copies deliver -/

/-- The places of one block's choices: choice, token. -/
abbrev Places : Type := Fin 2 → Fin 1024 → BitVec 32

/-- Every place is a row of the experts' answers. -/
def Places.Ok (T : Places) : Prop := ∀ s r, (T s r).toNat < 135168

/-- The row that copy `j` reads. -/
def placeOf (T : Places) (j : ℕ) : ℕ := (T (Fin.ofNat 2 j) (Fin.ofNat 1024 (j / 2))).toNat

theorem placeOf_eq (T : Places) (s : Fin 2) (r : Fin 1024) : placeOf T (2 * r.val + s.val) = (T s r).toNat := by
  have hr := r.isLt; have hs := s.isLt
  unfold placeOf
  rw [show Fin.ofNat 2 (2 * r.val + s.val) = s from Fin.ext (show (2 * r.val + s.val) % 2 = s.val by omega),
    show Fin.ofNat 1024 ((2 * r.val + s.val) / 2) = r from Fin.ext (show (2 * r.val + s.val) / 2 % 1024 = r.val by omega)]

/-- The buffer of fetched rows when every copy has landed: at token `r` of choice `s`, the eight rows at its place. -/
def fetchedRows (T : Places) (yb : S1081344x128.Idx → Elt F .f32) : S2x2x8192x128.Idx → Elt F .f32 := fun y =>
  yb (ix2 (Fin.ofNat 1081344 (8 * placeOf T (2 * ((y 2).val / 8) + (y 1).val) + (y 2).val % 8)) (⟨(y 3).val, (y 3).isLt⟩ : Fin 128))

/-- What one copy writes is the fetched rows there. -/
theorem copy_writes (T : Places) (hT : T.Ok) (yb : S1081344x128.Idx → Elt F .f32) (p s : Fin 2) (r : Fin 1024)
    (o4 : Fin 4 → ℕ) (h4) (o2 : Fin 2 → ℕ) (h2) (e4 : o4 = ![p.val, s.val, 0, 0]) (e2 : o2 = ![8 * r.val, 0])
    (o2' : Fin 2 → ℕ) (h2') (e2' : o2' = ![8 * (T s r).toNat, 0]) (fd : S2x2x8192x128.Idx → Elt F .f32) :
    ∀ y ∈ filled p (2 * r.val + s.val),
      (dstRow o4 h4 o2 h2).view.write (Elt F) fd ((srcRow o2' h2').view.read (Elt F) yb) Finset.univ y = fetchedRows T yb y := by
  intro y hy
  rw [← dstRow_set p s r o4 h4 o2 h2 e4 e2] at hy
  obtain ⟨x, -, rfl⟩ := Finset.mem_map.mp hy
  have hx0 : (x 0).val < 8 := idx2_lt0 x
  have hr := r.isLt; have hs := s.isLt
  refine (View.write_emb_of_mem (v := (dstRow o4 h4 o2 h2).view) fd _ (Finset.mem_univ x)).trans ?_
  show yb ((srcRow o2' h2').view.emb x) = fetchedRows T yb ((dstRow o4 h4 o2 h2).view.emb x)
  rw [srcRow_emb _ (hT s r) o2' h2' e2' x, dstRow_emb p s r o4 h4 o2 h2 e4 e2 x]
  have hw := hT s r
  refine congrArg yb ?_
  funext a
  fin_cases a
  · refine Fin.ext ?_
    show 8 * (T s r).toNat + (x 0).val
      = (8 * placeOf T (2 * ((8 * r.val + (x 0).val) / 8) + s.val) + (8 * r.val + (x 0).val) % 8) % 1081344
    rw [show (8 * r.val + (x 0).val) / 8 = r.val by omega, placeOf_eq]
    omega
  · rfl

end Cert.Combine

end
-- ==== Proof.CombineIssue.lean ====
/-
  Issuing the copies of one block: what the kernel holds before copy `j` of the 2048 of a slot, and one step, which reads the
  place of a choice, checks it and issues the copy of the eight rows there.
-/
module

public import proofs.«01_k».proof.Proof.CombineRows

@[expose] public section

set_option maxRecDepth 16384

noncomputable section

namespace Cert.Combine

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## What is held -/

section Held
variable (c : Dev nD)

/-- Some elements of the experts' rows, at a share. -/
abbrev heldYb (S : Finset S1081344x128.Idx) (q : PosShare TreeShare) (yb : S1081344x128.Idx → Elt F .f32) : sProp 𝕄 :=
  Yb.view.loc (c : Thread nD τ) ↦[S]{q} yb
/-- Some elements of the fetched rows. -/
abbrev heldYs (S : Finset S2x2x8192x128.Idx) (f : S2x2x8192x128.Idx → Elt F .f32) : sProp 𝕄 :=
  Ys.view.loc (c : Thread nD τ) ↦[S]{fullShare} f
/-- The places' buffer, whole. -/
abbrev heldTb (G : S2x2x1024.Idx → Elt F .i32) : sProp 𝕄 := Tb.view.loc (c : Thread nD τ) ↦{fullShare} G

/-- The semaphore of slot `p`'s copies. -/
def cell (p : Fin 2) : DmaSem sig := ⟨11 + p.val, show 11 + p.val < 13 by have := p.isLt; omega⟩
/-- The same as the kernel names it. -/
abbrev cellAt (o : Fin 1 → ℕ) (h : ∀ a, o a + S1.size a ≤ S2.size a) : DmaSem sig :=
  ((cc0_scratch3.slice (Rect.unit (s := S2) o S1.size h)).squeeze S_ squeezes_S1_S_).sem
theorem cellAt_eq (p : Fin 2) (o : Fin 1 → ℕ) (h) (e : o = ![p.val]) : cellAt o h = cell p := by
  subst e
  refine Fin.ext ?_
  refine congrArg (11 + ·) ((Shape.rowMajor_val_one _).trans ?_)
  have hz : ∀ z : S1.Idx, p.val + 1 * (z 0).val = p.val := fun z => by
    have h0 : (z 0).val < 1 := (z 0).isLt
    omega
  exact hz _

/-- The share of the experts' rows that slot `p`'s copies read. -/
def slotShare (p : Fin 2) : PosShare TreeShare := if p = 0 then fullShare.left else fullShare.right

/-- The units one copy credits. -/
abbrev units : ℕ := 128

/-- What copy `j` of slot `p` delivers: the rows it fills, at what they were to hold, and the rows it read back. -/
def delivered (p : Fin 2) (T : Places) (yb : S1081344x128.Idx → Elt F .f32) (j : Fin 2048) : sProp 𝕄 :=
  iprop(heldYs c (filled p j.val) (fetchedRows T yb) ∗ heldYb c (rowSet (placeOf T j.val)) (Transfers.shareTokN (slotShare p) j.val) yb)

instance (p : Fin 2) (T : Places) (yb : S1081344x128.Idx → Elt F .f32) (j : Fin 2048) :
    BI.Storable (upEmb : UEmb _ 𝕄) (delivered c p T yb j) := by
  unfold delivered; infer_instance

/-- Slot `p`'s copies: `j` issued, `u` units waited for. -/
abbrev copies (p : Fin 2) (T : Places) (yb : S1081344x128.Idx → Elt F .f32) (j u : ℕ) : sProp 𝕄 :=
  Transfers.Batch (countersEmb (U := Pipeline.UD sig nD τ)) (c : Thread nD τ) (.dma (cell p)) () units (delivered c p T yb) j u

/-- What a copy still to be issued needs. -/
def ready (p : Fin 2) (f : S2x2x8192x128.Idx → Elt F .f32) (yb : S1081344x128.Idx → Elt F .f32) (j : Fin 2048) : sProp 𝕄 :=
  iprop(heldYs c (filled p j.val) f ∗ heldYb c Finset.univ (Transfers.shareTokN (slotShare p) j.val) yb)

/-- The elements of the experts' rows outside row `w`. -/
def outside (w : ℕ) : Finset S1081344x128.Idx := Finset.univ.filter fun y => ¬ (y 0).val / 8 = w

/-- What a copy leaves of the share it reads with. -/
def left (p : Fin 2) (T : Places) (yb : S1081344x128.Idx → Elt F .f32) (j : Fin 2048) : sProp 𝕄 :=
  heldYb c (outside (placeOf T j.val)) (Transfers.shareTokN (slotShare p) j.val) yb

/-- A share of all the experts' rows is a share of one row and of the others. -/
theorem row_and_outside (w : ℕ) (q : PosShare TreeShare) (yb : S1081344x128.Idx → Elt F .f32) :
    (heldYb c Finset.univ q yb : sProp 𝕄) ⊣⊢ iprop(heldYb c (rowSet w) q yb ∗ heldYb c (outside w) q yb) := by
  have hd : Disjoint (rowSet w) (outside w) := Finset.disjoint_filter_filter_not _ _ _
  have hu : rowSet w ∪ outside w = Finset.univ := Finset.filter_union_filter_not_eq _ _
  have h := pointsTo_union (nD := nD) (τ := τ) (sig := sig) (Ix := Unit) (Val := Elt F) (Name := ℕ) (U := Pipeline.UD sig nD τ) (Lvl := ℕ)
    (ℓ := Yb.view.loc (c : Thread nD τ)) (q := q) (f := yb) hd
  rw [hu] at h
  exact h

/-- Before copy `j` of slot `p`. -/
def issuing (p : Fin 2) (T : Places) (f : S2x2x8192x128.Idx → Elt F .f32) (yb : S1081344x128.Idx → Elt F .f32) (j : ℕ) : sProp 𝕄 :=
  iprop(copies c p T yb j 0 ∗ bigSep (Ring.rangeSet 2048 j 2048) (ready c p f yb) ∗ bigSep (Ring.rangeSet 2048 0 j) (left c p T yb))

end Held

/-! ## One step -/

/-- The word the kernel reads at one place of the places' buffer. -/
theorem place_read (p s : Fin 2) (r : Fin 1024) (o : Fin 3 → ℕ) (h : ∀ a, o a + S1x1x1.size a ≤ S2x2x1024.size a)
    (e : o = ![p.val, s.val, r.val]) (G : S2x2x1024.Idx → Elt F .i32) (x : S1x1x1.Idx) :
    (Tb.access (Rect.unit (s := S2x2x1024) o S1x1x1.size h)).read (Elt F) G x = G (ix3 p s r) := by
  subst e
  have h0 : (x 0).val < 1 := (x 0).isLt
  have h1 : (x 1).val < 1 := (x 1).isLt
  have h2 : (x 2).val < 1 := (x 2).isLt
  refine congrArg G ?_
  funext a
  fin_cases a
  · refine Fin.ext ?_
    show p.val + 1 * (x 0).val = p.val
    omega
  · refine Fin.ext ?_
    show s.val + 1 * (x 1).val = s.val
    omega
  · refine Fin.ext ?_
    show r.val + 1 * (x 2).val = r.val
    omega

theorem units_eq (o4 : Fin 4 → ℕ) (h4) (o2 : Fin 2 → ℕ) (h2) (sm : DmaSem sig) : (dstRow o4 h4 o2 h2).view.amount (.dma sm) = units := by
  rfl

/-- The step's program, as the three effects one after another. -/
theorem step_program {α : Type} (o1 : Fin 3 → ℕ) (h1 : ∀ a, o1 a + S1x1x1.size a ≤ S2x2x1024.size a)
    (hn : (Rect.unit (s := S2x2x1024) o1 S1x1x1.size h1).shape.numel = 1) (hp : EltTy.i32.packing = 1)
    (g : Elt F .i32 → Prog (TpuEff nD τ sig (Elt F) Λ₀ .tc) α) :
    (smemLoad Tb (Rect.unit (s := S2x2x1024) o1 S1x1x1.size h1) hn hp >>= g)
      = smemLoadElt Tb (Rect.unit (s := S2x2x1024) o1 S1x1x1.size h1) (View.loads_smem_one hp hn) (Shape.Idx.first (hn.symm ▸ Nat.one_pos)) g := by
  unfold smemLoad smemLoadElt
  rw [Prog.bind_op]
  simp only [Prog.bind_ret]

set_option maxHeartbeats 1000000 in
/-- One step of the issue: read a place, check it, issue its copy. -/
theorem issue_one (c : Dev nD) (p s : Fin 2) (r : Fin 1024) (T : Places) (hT : T.Ok) (f : S2x2x8192x128.Idx → Elt F .f32)
    (yb : S1081344x128.Idx → Elt F .f32) (G : S2x2x1024.Idx → Elt F .i32) (hG : G (ix3 p s r) = T s r)
    (o1 : Fin 3 → ℕ) (h1 : ∀ a, o1 a + S1x1x1.size a ≤ S2x2x1024.size a) (e1 : o1 = ![p.val, s.val, r.val])
    (C : BitVec 32 → Prop) (dC : ∀ v, Decidable (C v)) (hC : C (T s r))
    (off : BitVec 32 → Fin 2 → ℕ) (inb : ∀ v, C v → ∀ a, off v a + S8x128.size a ≤ S1081344x128.size a)
    (hoff : off (T s r) = ![8 * (T s r).toNat, 0])
    (o4 : Fin 4 → ℕ) (h4) (e4 : o4 = ![p.val, s.val, 0, 0]) (o2 : Fin 2 → ℕ) (h2) (e2 : o2 = ![8 * r.val, 0])
    (o : Fin 1 → ℕ) (h) (e : o = ![p.val])
    (hn : (Rect.unit (s := S2x2x1024) o1 S1x1x1.size h1).shape.numel = 1) (hp : EltTy.i32.packing = 1)
    (hsrc : ∀ v hv, (srcRow (off v) (inb v hv)).view.WordExact) (hdst : (dstRow o4 h4 o2 h2).view.WordExact)
    (hsem : DmaTarget.Typed (nD := nD) (τ := τ) (p := .tc) .hbm (.dma (cellAt o h)) (.here (dstRow o4 h4 o2 h2)))
    {α : Type} (k : PUnit → Prog (TpuEff nD τ sig (Elt F) Λ₀ .tc) α) (Q : α → sProp 𝕄) :
    iprop(heldTb c G ∗ issuing c p T f yb (2 * r.val + s.val))
      ⊢ iprop((iprop(heldTb c G ∗ issuing c p T f yb (2 * r.val + s.val + 1)) -∗ wp frame (wpE (defs₀ (F := F)) Variants.none (c : Thread nD τ) none) Set.univ (k ⟨⟩) Q)
        -∗ wp frame (wpE (defs₀ (F := F)) Variants.none (c : Thread nD τ) none) Set.univ
          (do
            let v : Elt F .i32 ← smemLoad Tb (Rect.unit (s := S2x2x1024) o1 S1x1x1.size h1) hn hp
            let w ← Prog.lift (TpuEff.assume (C v) (dC v))
            let u ← Prog.lift (.enqueueDma (srcRow (off v) (inb v w.down)) (.here (dstRow o4 h4 o2 h2)) (.dma (cellAt o h)) (hsrc v w.down) hdst hsem)
            k u) Q) := by
  have hr := r.isLt; have hs := s.isLt
  have hj : 2 * r.val + s.val < 2048 := by omega
  have hcell : cellAt o h = cell p := cellAt_eq p o h e
  rw [step_program]
  simp only [Prog.bind_lift]
  have hload := wp_smemLoadElt (defs := defs₀ (F := F)) (Ix := Unit) (Name := ℕ) (U := Pipeline.UD sig nD τ) (Lvl := ℕ) (Γ := .empty) Variants.none (c : Thread nD τ) none Set.univ (m := Tb)
      (r := Rect.unit (s := S2x2x1024) o1 S1x1x1.size h1) (hw := View.loads_smem_one hp hn)
      (x := Shape.Idx.first (hn.symm ▸ Nat.one_pos))
      (k := fun v => .op (TpuEff.assume (C v) (dC v)) fun w =>
        .op (.enqueueDma (srcRow (off v) (inb v w.down)) (.here (dstRow o4 h4 o2 h2)) (.dma (cellAt o h)) (hsrc v w.down) hdst hsem) k)
      (q := fullShare) (f := G) (Q := Q) (S := Finset.univ) (Finset.subset_univ _)
  have hread : (Tb.access (Rect.unit (s := S2x2x1024) o1 S1x1x1.size h1)).read (Elt F) G (Shape.Idx.first (hn.symm ▸ Nat.one_pos)) = T s r :=
    (place_read p s r o1 h1 e1 G _).trans hG
  rw [hread] at hload
  unfold issuing copies
  rw [← hcell, Ring.bigSep_rangeSet_head (Φ := ready c p f yb) hj hj,
    Ring.bigSep_rangeSet_last (Φ := left c p T yb) (lo := 0) (hi := 2 * r.val + s.val + 1) (by omega) (by omega)]
  unfold ready
  iintro ⟨HT, HB, ⟨⟨Hd, Hy⟩, Hrd⟩, Hlf⟩ Hk
  ihave Hy := (row_and_outside c (placeOf T (2 * r.val + s.val)) _ yb).1 $$ Hy
  icases Hy with ⟨Hy, Ho⟩
  iapply hload $$ HT
  iintro HT
  iapply (wp_assume Variants.none (c : Thread nD τ) none Set.univ hC)
  have hsrcset := srcRow_set (T s r).toNat (hT s r) (off (T s r)) (inb (T s r) hC) hoff
  have hpl : placeOf T (2 * r.val + s.val) = (T s r).toNat := placeOf_eq T s r
  have hdma := Transfers.wp_dmaBatch (defs := defs₀ (F := F)) (countersEmb (U := Pipeline.UD sig nD τ)) Variants.none (c : Thread nD τ) none
    (src := srcRow (off (T s r)) (inb (T s r) hC)) (via := .same) (dst := dstRow o4 h4 o2 h2) (sm := .dma (cellAt o h))
    (hsrc := hsrc (T s r) hC) (hdst := hdst) (hsem := hsem) (k := k) (Q := Q)
    (q := Transfers.shareTokN (slotShare p) (2 * r.val + s.val)) (fs := yb) (Sd := filled p (2 * r.val + s.val)) (fd := f)
    (D := delivered c p T yb) (j := 2 * r.val + s.val) (u := 0) () units (units_eq o4 h4 o2 h2 (cellAt o h))
    (by rw [dstRow_set p s r o4 h4 o2 h2 e4 e2]) hj (Nat.zero_le _)
    (by
      unfold delivered
      rw [hsrcset]
      show _ ⊢ iprop(heldYs c (filled p (2 * r.val + s.val)) (fetchedRows T yb)
        ∗ heldYb c (rowSet (placeOf T (2 * r.val + s.val))) (Transfers.shareTokN (slotShare p) (2 * r.val + s.val)) yb)
      rw [hpl]
      exact sep_mono_left (Entails.of_eq (pointsTo_congr (copy_writes T hT yb p s r o4 h4 o2 h2 e4 e2 _ _ hoff f))))
  rw [hsrcset, ← hpl] at hdma
  iapply hdma $$ [Hy Hd HB]
  · isplitl [Hy]; · iexact Hy
    isplitl [Hd]; · iexact Hd
    iexact HB
  iintro HB
  iapply Hk
  isplitl [HT]; · iexact HT
  isplitl [HB]; · iexact HB
  isplitl [Hrd]; · iexact Hrd
  isplitl [Ho]; · unfold left; iexact Ho
  iexact Hlf

end Cert.Combine

end
-- ==== Proof.CombinePlaces.lean ====
/-
  The offsets, conditions and semaphores that the kernel computes from the block's number, in closed form.
-/
module

public import proofs.«01_k».proof.Proof.CombineIssue

@[expose] public section

set_option maxRecDepth 16384

noncomputable section

namespace Cert.Combine

open Cert.Kernel3Ideal Cert.Kernel3Ideal.Gen
open Idealize.ShloMosaic Idealize.ShloMosaic.TcCoe

/-! ## The slots of a block -/

/-- The slot that holds block `t`'s rows. -/
def thisSlot (t : Fin grid0.N) : Fin 2 := Fin.ofNat 2 t.val
/-- The other slot, which block `t + 1`'s rows go to. -/
def nextSlot (t : Fin grid0.N) : Fin 2 := Fin.ofNat 2 (t.val + 1)

theorem first_iff : ∀ t : Fin grid0.N, (k0_cond1 (grid0.coords t) = 1#1) = (t.val = 0) := by decide +kernel
theorem more_iff : ∀ t : Fin grid0.N, (k0_cond2 (grid0.coords t) = 1#1) = (t.val + 1 < 64) := by decide +kernel

theorem off7_eq : ∀ t : Fin grid0.N, k0_off7 (grid0.coords t) = ![(nextSlot t).val, 0, 0] := by decide +kernel
theorem off9_eq : ∀ t : Fin grid0.N, k0_off9 (grid0.coords t) = ![(nextSlot t).val] := by decide +kernel
theorem off10_eq : ∀ t : Fin grid0.N, k0_off10 (grid0.coords t) = ![(nextSlot t).val, 0, 0, 0] := by decide +kernel
theorem off14_eq : ∀ t : Fin grid0.N, k0_off14 (grid0.coords t) = ![(nextSlot t).val] := by decide +kernel
theorem off15_eq : ∀ t : Fin grid0.N, k0_off15 (grid0.coords t) = ![(nextSlot t).val, 1, 0, 0] := by decide +kernel
theorem off18_eq : ∀ t : Fin grid0.N, k0_off18 (grid0.coords t) = ![(thisSlot t).val] := by decide +kernel
theorem off19_eq : ∀ t : Fin grid0.N, k0_off19 (grid0.coords t) = ![(thisSlot t).val, 0, 0, 0] := by decide +kernel
theorem off20_eq : ∀ t : Fin grid0.N, k0_off20 (grid0.coords t) = ![(thisSlot t).val, 1, 0, 0] := by decide +kernel
theorem off21_eq : ∀ t : Fin grid0.N, k0_off21 (grid0.coords t) = ![(thisSlot t).val, 0, 0, 0] := by decide +kernel
theorem off22_eq : ∀ t : Fin grid0.N, k0_off22 (grid0.coords t) = ![(thisSlot t).val, 0, 1, 0] := by decide +kernel
theorem off23_eq : ∀ t : Fin grid0.N, k0_off23 (grid0.coords t) = ![(thisSlot t).val, 0, 2, 0] := by decide +kernel
theorem off24_eq : ∀ t : Fin grid0.N, k0_off24 (grid0.coords t) = ![(thisSlot t).val, 0, 3, 0] := by decide +kernel
theorem off25_eq : ∀ t : Fin grid0.N, k0_off25 (grid0.coords t) = ![(thisSlot t).val, 0, 4, 0] := by decide +kernel
theorem off26_eq : ∀ t : Fin grid0.N, k0_off26 (grid0.coords t) = ![(thisSlot t).val, 0, 5, 0] := by decide +kernel
theorem off27_eq : ∀ t : Fin grid0.N, k0_off27 (grid0.coords t) = ![(thisSlot t).val, 0, 6, 0] := by decide +kernel
theorem off28_eq : ∀ t : Fin grid0.N, k0_off28 (grid0.coords t) = ![(thisSlot t).val, 0, 7, 0] := by decide +kernel
theorem off29_eq : ∀ t : Fin grid0.N, k0_off29 (grid0.coords t) = ![(thisSlot t).val, 1, 0, 0] := by decide +kernel
theorem off30_eq : ∀ t : Fin grid0.N, k0_off30 (grid0.coords t) = ![(thisSlot t).val, 1, 1, 0] := by decide +kernel
theorem off31_eq : ∀ t : Fin grid0.N, k0_off31 (grid0.coords t) = ![(thisSlot t).val, 1, 2, 0] := by decide +kernel
theorem off32_eq : ∀ t : Fin grid0.N, k0_off32 (grid0.coords t) = ![(thisSlot t).val, 1, 3, 0] := by decide +kernel
theorem off33_eq : ∀ t : Fin grid0.N, k0_off33 (grid0.coords t) = ![(thisSlot t).val, 1, 4, 0] := by decide +kernel
theorem off34_eq : ∀ t : Fin grid0.N, k0_off34 (grid0.coords t) = ![(thisSlot t).val, 1, 5, 0] := by decide +kernel
theorem off35_eq : ∀ t : Fin grid0.N, k0_off35 (grid0.coords t) = ![(thisSlot t).val, 1, 6, 0] := by decide +kernel
theorem off36_eq : ∀ t : Fin grid0.N, k0_off36 (grid0.coords t) = ![(thisSlot t).val, 1, 7, 0] := by decide +kernel

/-! ## The trips of the loops -/

theorem off1_eq : ∀ k : Fin k0_t1_loop.trips, k0_off1 k = ![0, 0, k.val] := by decide +kernel
theorem off4_eq : ∀ k : Fin k0_t1_loop.trips, k0_off4 k = ![0, 1, k.val] := by decide +kernel
theorem off2_eq : ∀ k : Fin k0_t1_loop.trips, k0_off2 k = ![8 * k.val, 0] := by decide +kernel
theorem off5_eq : ∀ k : Fin k0_t1_loop.trips, k0_off5 k = ![8 * k.val, 0] := by decide +kernel
theorem off11_eq : ∀ k : Fin k0_t2_loop.trips, k0_off11 k = ![8 * k.val, 0] := by decide +kernel
theorem off16_eq : ∀ k : Fin k0_t2_loop.trips, k0_off16 k = ![8 * k.val, 0] := by decide +kernel

theorem iv_eq : ∀ k : Fin k0_t2_loop.trips, (BitVec.toNat (Scf.iv 0#32 1#32 k.val)) = k.val := by decide +kernel
theorem off8_eq (t : Fin grid0.N) (k : Fin k0_t2_loop.trips) : k0_off8 (grid0.coords t) k = ![(nextSlot t).val, 0, k.val] := by
  refine (show k0_off8 (grid0.coords t) k = ![k0_off9 (grid0.coords t) 0, 0, BitVec.toNat (Scf.iv 0#32 1#32 k.val)] from rfl).trans ?_
  rw [off9_eq, iv_eq]; rfl
theorem off13_eq (t : Fin grid0.N) (k : Fin k0_t2_loop.trips) : k0_off13 (grid0.coords t) k = ![(nextSlot t).val, 1, k.val] := by
  refine (show k0_off13 (grid0.coords t) k = ![k0_off9 (grid0.coords t) 0, 1, BitVec.toNat (Scf.iv 0#32 1#32 k.val)] from rfl).trans ?_
  rw [off9_eq, iv_eq]; rfl

/-! ## The rows a place names -/

theorem times8 (v : BitVec 32) (h : v.toNat < 135168) : (v * 8#32).toNat = 8 * v.toNat := by
  rw [BitVec.toNat_mul]
  show v.toNat * 8 % 4294967296 = 8 * v.toNat
  omega

theorem off3_eq (v : BitVec 32) (h : v.toNat < 135168) : k0_off3 v = ![8 * v.toNat, 0] := by
  refine (show k0_off3 v = ![(v * 8#32).toNat, 0] from rfl).trans ?_
  rw [times8 v h]
theorem off6_eq (v : BitVec 32) (h : v.toNat < 135168) : k0_off6 v = ![8 * v.toNat, 0] := off3_eq v h
theorem off12_eq (v : BitVec 32) (h : v.toNat < 135168) : k0_off12 v = ![8 * v.toNat, 0] := off3_eq v h
theorem off17_eq (v : BitVec 32) (h : v.toNat < 135168) : k0_off17 v = ![8 * v.toNat, 0] := off3_eq v h

theorem row_fits (v : BitVec 32) (h : v.toNat < 135168) (a : Fin 2) : (![8 * v.toNat, 0] : Fin 2 → ℕ) a + S8x128.size a ≤ S1081344x128.size a := by
  fin_cases a
  · show 8 * v.toNat + 8 ≤ 1081344
    omega
  · show 0 + 128 ≤ 128
    omega

theorem chk1_holds (i : grid0.Coords) (v : BitVec 32) (h : v.toNat < 135168) : k0_chk1 i v := by
  refine ⟨fun _ => ?_, fun _ a => ?_⟩
  · show 8 ∣ (v * 8#32).toNat
    rw [times8 v h]; exact Dvd.intro _ rfl
  · rw [off3_eq v h]; exact row_fits v h a
theorem chk2_holds (i : grid0.Coords) (v : BitVec 32) (h : v.toNat < 135168) : k0_chk2 i v := by
  refine ⟨fun _ => ?_, fun _ a => ?_⟩
  · show 8 ∣ (v * 8#32).toNat
    rw [times8 v h]; exact Dvd.intro _ rfl
  · rw [off6_eq v h]; exact row_fits v h a
theorem chk3_holds (i : grid0.Coords) (v : BitVec 32) (h : v.toNat < 135168) : k0_chk3 i v := by
  refine ⟨fun _ => ?_, fun _ a => ?_⟩
  · show 8 ∣ (v * 8#32).toNat
    rw [times8 v h]; exact Dvd.intro _ rfl
  · rw [off12_eq v h]; exact row_fits v h a
theorem chk4_holds (i : grid0.Coords) (v : BitVec 32) (h : v.toNat < 135168) : k0_chk4 i v := by
  refine ⟨fun _ => ?_, fun _ a => ?_⟩
  · show 8 ∣ (v * 8#32).toNat
    rw [times8 v h]; exact Dvd.intro _ rfl
  · rw [off17_eq v h]; exact row_fits v h a

theorem trips1 : k0_t1_loop.trips = 1024 := by decide +kernel
theorem trips2 : k0_t2_loop.trips = 1024 := by decide +kernel

end Cert.Combine

end
-- ==== Proof.CombineLoops.lean ====
/-
  The two loops that issue a block's copies: one trip issues the copies of one token's two choices.
-/
module

public import proofs.«01_k».proof.Proof.CombinePlaces
public import proofs.«01_k».proof.Proof.Gen.Kernel3Ideal.Skeleton

@[expose] public section

set_option maxRecDepth 16384

noncomputable section

namespace Cert.Combine

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- One step's program: read a place, check it, issue its copy, go on. -/
def stepThen {α : Type} (o1 : Fin 3 → ℕ) (h1 : ∀ a, o1 a + S1x1x1.size a ≤ S2x2x1024.size a)
    (C : BitVec 32 → Prop) (dC : ∀ v, Decidable (C v))
    (off : BitVec 32 → Fin 2 → ℕ) (inb : ∀ v, C v → ∀ a, off v a + S8x128.size a ≤ S1081344x128.size a)
    (o4 : Fin 4 → ℕ) (h4 : ∀ a, o4 a + S1x1x8192x128.size a ≤ S2x2x8192x128.size a)
    (o2 : Fin 2 → ℕ) (h2 : ∀ a, o2 a + S8x128.size a ≤ S8192x128.size a)
    (o : Fin 1 → ℕ) (h : ∀ a, o a + S1.size a ≤ S2.size a)
    (k : PUnit → Prog (TpuEff nD τ sig (Elt F) Λ₀ .tc) α) : Prog (TpuEff nD τ sig (Elt F) Λ₀ .tc) α := do
  let v : Elt F .i32 ← smemLoad Tb (Rect.unit (s := S2x2x1024) o1 S1x1x1.size h1) numel1_S1x1x1 rfl
  let w ← Prog.lift (TpuEff.assume (C v) (dC v))
  let u ← Prog.lift (.enqueueDma (srcRow (off v) (inb v w.down)) (.here (dstRow o4 h4 o2 h2)) (.dma (cellAt o h))
    (View.wordExact_bits rfl) (View.wordExact_bits rfl) ⟨Or.inl rfl, trivial⟩)
  k u

variable (c : Dev nD) (T : Places) (hT : T.Ok) (f : S2x2x8192x128.Idx → Elt F .f32)
    (yb : S1081344x128.Idx → Elt F .f32) (G : S2x2x1024.Idx → Elt F .i32)

theorem step_then (p s : Fin 2) (r : Fin 1024) (hT : T.Ok) (hG : G (ix3 p s r) = T s r)
    (o1 : Fin 3 → ℕ) (h1) (e1 : o1 = ![p.val, s.val, r.val]) (C : BitVec 32 → Prop) (dC) (hC : C (T s r))
    (off : BitVec 32 → Fin 2 → ℕ) (inb) (hoff : off (T s r) = ![8 * (T s r).toNat, 0])
    (o4 : Fin 4 → ℕ) (h4) (e4 : o4 = ![p.val, s.val, 0, 0]) (o2 : Fin 2 → ℕ) (h2) (e2 : o2 = ![8 * r.val, 0])
    (o : Fin 1 → ℕ) (h) (e : o = ![p.val])
    {α : Type} (k : PUnit → Prog (TpuEff nD τ sig (Elt F) Λ₀ .tc) α) (Q : α → sProp 𝕄) :
    iprop(heldTb c G ∗ issuing c p T f yb (2 * r.val + s.val))
      ⊢ iprop((iprop(heldTb c G ∗ issuing c p T f yb (2 * r.val + s.val + 1)) -∗ wp frame (wpE (defs₀ (F := F)) Variants.none (c : Thread nD τ) none) Set.univ (k ⟨⟩) Q)
        -∗ wp frame (wpE (defs₀ (F := F)) Variants.none (c : Thread nD τ) none) Set.univ (stepThen o1 h1 C dC off inb o4 h4 o2 h2 o h k) Q) :=
  issue_one c p s r T hT f yb G hG o1 h1 e1 C dC hC off inb hoff o4 h4 e4 o2 h2 e2 o h e numel1_S1x1x1 rfl
    (fun _ _ => View.wordExact_bits rfl) (View.wordExact_bits rfl) ⟨Or.inl rfl, trivial⟩ k Q

/-- Before trip `k` of a loop that issues slot `p`'s copies. -/
def issueAt (p : Fin 2) (k : ℕ) (_ : Unit) : sProp 𝕄 := iprop(heldTb c G ∗ issuing c p T f yb (2 * k))

variable (a1 : Memref sig .tc .vmem S1024x1024 .f32) (h1 : a1.IsWhole) (a2 : Memref sig .tc .vmem S1024x8 .f32) (h2 : a2.IsWhole)
  (a3 : Memref sig .tc .vmem S2x1024 .i32) (h3 : a3.IsWhole) (a4 : Memref sig .tc .vmem S2x1024 .i32) (h4 : a4.IsWhole)
  (a6 : Memref sig .tc .vmem S1024x1024 .f32) (h6 : a6.IsWhole)

/-- The first loop's region, on the launch's buffers. -/
abbrev firstBody (i : grid0.Coords) (hc : k0_cond1 i = 1#1) : Fin k0_t1_loop.trips → Unit → Prog (TpuEff nD τ sig (Elt F) Λ₀ .tc) Unit :=
  k0_t1_body i a1 h1 a2 h2 a3 h3 a4 h4 Yb (Memref.isWhole_whole _) a6 h6 Tb (Memref.isWhole_whole _) Ys (Memref.isWhole_whole _) cc0_scratch2 cc0_scratch3 hc

/-- The second loop's region, on the launch's buffers. -/
abbrev nextBody (i : grid0.Coords) (hc : k0_cond2 i = 1#1) : Fin k0_t2_loop.trips → Unit → Prog (TpuEff nD τ sig (Elt F) Λ₀ .tc) Unit :=
  k0_t2_body i a1 h1 a2 h2 a3 h3 a4 h4 Yb (Memref.isWhole_whole _) a6 h6 Tb (Memref.isWhole_whole _) Ys (Memref.isWhole_whole _) cc0_scratch2 cc0_scratch3 hc

/-- What follows a step is run from what the step leaves. -/
theorem after_step {P R A B : sProp 𝕄} (h : P ⊢ iprop((R -∗ A) -∗ B)) (hR : R ⊢ A) : P ⊢ B := by
  iintro HP
  iapply h $$ HP
  iintro HR
  iapply hR
  iexact HR

theorem firstBody_eq (i : grid0.Coords) (hc : k0_cond1 i = 1#1) (k : Fin k0_t1_loop.trips) (acc : Unit) :
    firstBody (F := F) a1 h1 a2 h2 a3 h3 a4 h4 a6 h6 i hc k acc
      = stepThen (k0_off1 k) (k0_off1_inb i k hc) (k0_chk1 i) (k0_chk1.dec i) k0_off3 (fun v hv => k0_off3_inb i v hv hc)
        ![0, 0, 0, 0] inb_S2x2x8192x128_S1x1x8192x128_0_0_0_0 (k0_off2 k) (k0_off2_inb i k hc) ![0] inb_S2_S1_0 fun _ =>
      stepThen (k0_off4 k) (k0_off4_inb i k hc) (k0_chk2 i) (k0_chk2.dec i) k0_off6 (fun v hv => k0_off6_inb i v hv hc)
        ![0, 1, 0, 0] inb_S2x2x8192x128_S1x1x8192x128_0_1_0_0 (k0_off5 k) (k0_off5_inb i k hc) ![0] inb_S2_S1_0 fun _ => pure ⟨⟩ := rfl

theorem nextBody_eq (i : grid0.Coords) (hc : k0_cond2 i = 1#1) (k : Fin k0_t2_loop.trips) (acc : Unit) :
    nextBody (F := F) a1 h1 a2 h2 a3 h3 a4 h4 a6 h6 i hc k acc
      = stepThen (k0_off8 i k) (k0_off8_inb _ k hc) (k0_chk3 i) (k0_chk3.dec _) k0_off12 (fun v hv => k0_off12_inb _ v hv hc)
        (k0_off10 i) (k0_off10_inb _ hc) (k0_off11 k) (k0_off11_inb _ k hc) (k0_off9 i) (k0_off9_inb _ hc) fun _ =>
      stepThen (k0_off13 i k) (k0_off13_inb _ k hc) (k0_chk4 i) (k0_chk4.dec _) k0_off17 (fun v hv => k0_off17_inb _ v hv hc)
        (k0_off15 i) (k0_off15_inb _ hc) (k0_off16 k) (k0_off16_inb _ k hc) (k0_off14 i) (k0_off14_inb _ hc) fun _ => pure ⟨⟩ := rfl

/-- One trip of the first loop issues the copies of one token of the first block, into slot 0. -/
theorem first_trip (hT : T.Ok) (hG : ∀ s r, G (ix3 0 s r) = T s r) (i : grid0.Coords) (hc : k0_cond1 i = 1#1) (k : Fin k0_t1_loop.trips) (acc : Unit) :
    issueAt c T f yb G 0 k.val acc ⊢ wp frame (wpE (defs₀ (F := F)) Variants.none (c : Thread nD τ) none) Set.univ
      (firstBody a1 h1 a2 h2 a3 h3 a4 h4 a6 h6 i hc k acc) (issueAt c T f yb G 0 (k.val + 1)) := by
  have hk : k.val < 1024 := lt_of_lt_of_eq k.isLt trips1
  rw [firstBody_eq]
  refine after_step (step_then c T f yb G 0 0 ⟨k.val, hk⟩ hT (hG 0 _) (k0_off1 k) (k0_off1_inb i k hc) (off1_eq k) (k0_chk1 i) (k0_chk1.dec i)
    (chk1_holds i _ (hT 0 _)) k0_off3 (fun v hv => k0_off3_inb i v hv hc) (off3_eq _ (hT 0 _))
    ![0, 0, 0, 0] inb_S2x2x8192x128_S1x1x8192x128_0_0_0_0 rfl (k0_off2 k) (k0_off2_inb i k hc) (off2_eq k) ![0] inb_S2_S1_0 rfl _ _) ?_
  refine after_step (step_then c T f yb G 0 1 ⟨k.val, hk⟩ hT (hG 1 _) (k0_off4 k) (k0_off4_inb i k hc) (off4_eq k) (k0_chk2 i) (k0_chk2.dec i)
    (chk2_holds i _ (hT 1 _)) k0_off6 (fun v hv => k0_off6_inb i v hv hc) (off6_eq _ (hT 1 _))
    ![0, 1, 0, 0] inb_S2x2x8192x128_S1x1x8192x128_0_1_0_0 rfl (k0_off5 k) (k0_off5_inb i k hc) (off5_eq k) ![0] inb_S2_S1_0 rfl _ _) ?_
  unfold issueAt
  rw [show 2 * (k.val + 1) = 2 * k.val + 1 + 1 by omega]
  iintro H
  rw [wp_pure]
  imodintro
  iexact H

/-- One trip of the second loop issues the copies of one token of the next block, into the other slot. -/
theorem next_trip (hT : T.Ok) (t : Fin grid0.N) (hG : ∀ s r, G (ix3 (nextSlot t) s r) = T s r) (hc : k0_cond2 (grid0.coords t) = 1#1) (k : Fin k0_t2_loop.trips) (acc : Unit) :
    issueAt c T f yb G (nextSlot t) k.val acc ⊢ wp frame (wpE (defs₀ (F := F)) Variants.none (c : Thread nD τ) none) Set.univ
      (nextBody a1 h1 a2 h2 a3 h3 a4 h4 a6 h6 (grid0.coords t) hc k acc) (issueAt c T f yb G (nextSlot t) (k.val + 1)) := by
  have hk : k.val < 1024 := lt_of_lt_of_eq k.isLt trips2
  rw [nextBody_eq]
  refine after_step (step_then c T f yb G (nextSlot t) 0 ⟨k.val, hk⟩ hT (hG 0 _) _ (k0_off8_inb _ k hc) (off8_eq t k) _ (k0_chk3.dec _)
    (chk3_holds _ _ (hT 0 _)) k0_off12 (fun v hv => k0_off12_inb _ v hv hc) (off12_eq _ (hT 0 _))
    _ (k0_off10_inb _ hc) (off10_eq t) _ (k0_off11_inb _ k hc) (off11_eq k) _ (k0_off9_inb _ hc) (off9_eq t) _ _) ?_
  refine after_step (step_then c T f yb G (nextSlot t) 1 ⟨k.val, hk⟩ hT (hG 1 _) _ (k0_off13_inb _ k hc) (off13_eq t k) _ (k0_chk4.dec _)
    (chk4_holds _ _ (hT 1 _)) k0_off17 (fun v hv => k0_off17_inb _ v hv hc) (off17_eq _ (hT 1 _))
    _ (k0_off15_inb _ hc) (off15_eq t) _ (k0_off16_inb _ k hc) (off16_eq k) _ (k0_off14_inb _ hc) (off14_eq t) _ _) ?_
  unfold issueAt
  rw [show 2 * (k.val + 1) = 2 * k.val + 1 + 1 by omega]
  iintro H
  rw [wp_pure]
  imodintro
  iexact H

end Cert.Combine

end
-- ==== Proof.CombineDrain.lean ====
/-
  A slot of the fetched rows between its uses: free, with its copies in flight, and landed. What starts the copies and what
  the two waits for them give back.
-/
module

public import proofs.«01_k».proof.Proof.CombineLoops

@[expose] public section

set_option maxRecDepth 16384

noncomputable section

namespace Cert.Combine

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Slots
variable (c : Dev nD) (p : Fin 2) (T : Places) (yb : S1081344x128.Idx → Elt F .f32)

/-- The semaphore of slot `p`'s copies at zero. -/
abbrev quiet : sProp 𝕄 := semVal ((c : Thread nD τ), SemLoc.dma (cell p)) 0

/-- Slot `p`, with its share of the experts' rows, between uses. -/
def free : sProp 𝕄 := iprop((∃ f, heldYs c (slotSet p) f) ∗ quiet c p ∗ heldYb c Finset.univ (slotShare p) yb)

/-- Slot `p` with all its copies issued and none waited for. -/
def inFlight : sProp 𝕄 :=
  iprop(copies c p T yb 2048 0 ∗ bigSep (Ring.rangeSet 2048 0 2048) (left c p T yb)
    ∗ heldYb c Finset.univ (Transfers.shareDrop (slotShare p) 2048) yb)

/-- Slot `p` with its copies landed. -/
def landed : sProp 𝕄 :=
  iprop(heldYs c (slotSet p) (fetchedRows T yb) ∗ quiet c p ∗ heldYb c Finset.univ (slotShare p) yb)

theorem slot_split (f : S2x2x8192x128.Idx → Elt F .f32) :
    (heldYs c (slotSet p) f : sProp 𝕄) = bigSep Finset.univ fun j : Fin 2048 => heldYs c (filled p j.val) f := by
  have h := pointsTo_biUnion (nD := nD) (τ := τ) (sig := sig) (Ix := Unit) (Val := Elt F) (Name := ℕ) (U := Pipeline.UD sig nD τ) (Lvl := ℕ)
    (ℓ := Ys.view.loc (c : Thread nD τ)) (q := fullShare) (f := f) (Finset.univ : Finset (Fin 2048)) (fun j : Fin 2048 => filled p j.val)
    (fun j _ j' _ h => filled_disjoint p j j' h)
  rw [filled_cover] at h
  exact h

theorem share_split :
    (heldYb c Finset.univ (slotShare p) yb : sProp 𝕄) ⊣⊢ iprop(heldYb c Finset.univ (Transfers.shareDrop (slotShare p) 2048) yb
      ∗ bigSep Finset.univ fun j : Fin 2048 => heldYb c Finset.univ (Transfers.shareTokN (slotShare p) j.val) yb) := by
  rw [Ring.bigSep_fin_eq_range 2048 _ (fun i => heldYb c Finset.univ (Transfers.shareTokN (slotShare p) i) yb) (fun _ _ => rfl)]
  exact Transfers.pointsTo_toks_range _ _

/-- A free slot is ready to have its first copy issued. -/
theorem free_start : free c p yb ⊢ iprop(|={Set.univ}=> ((∃ f, issuing c p T f yb 0) ∗ heldYb c Finset.univ (Transfers.shareDrop (slotShare p) 2048) yb) : sProp 𝕄) := by
  unfold free
  iintro ⟨⟨%f, Hs⟩, Hq, Hy⟩
  ihave Hy := (share_split c p yb).1 $$ Hy
  icases Hy with ⟨Hd, Hy⟩
  ihave Hs := (Entails.of_eq (slot_split c p f)) $$ Hs
  imod (Transfers.batch_alloc' (countersEmb (U := Pipeline.UD sig nD τ)) (c : Thread nD τ) () units (delivered c p T yb) (sm := .dma (cell p)) (E := Set.univ)) $$ Hq with HB
  imodintro
  isplitr [Hd]
  · iexists f
    unfold issuing
    rw [Ring.rangeSet_univ, Ring.bigSep_rangeSet_empty (le_refl 0)]
    isplitl [HB]; · iexact HB
    isplitl
    · iapply (show iprop((bigSep Finset.univ fun j : Fin 2048 => heldYs c (filled p j.val) f)
          ∗ bigSep Finset.univ fun j : Fin 2048 => heldYb c Finset.univ (Transfers.shareTokN (slotShare p) j.val) yb)
          ⊢ (bigSep Finset.univ (ready c p f yb) : sProp 𝕄) from Entails.of_eq (bigSep_sep' _ _ _).symm)
      isplitl [Hs]; · iexact Hs
      iexact Hy
    · iempintro
  · iexact Hd

/-- With the last copy issued the slot is in flight. -/
theorem issued_inFlight (f : S2x2x8192x128.Idx → Elt F .f32) :
    iprop(issuing c p T f yb 2048 ∗ heldYb c Finset.univ (Transfers.shareDrop (slotShare p) 2048) yb) ⊢ inFlight c p T yb := by
  unfold issuing inFlight
  iintro ⟨⟨HB, -, Hl⟩, Hd⟩
  isplitl [HB]; · iexact HB
  isplitl [Hl]; · iexact Hl
  iexact Hd

/-- Every copy's delivery, with what the copies left, is the slot landed. -/
theorem delivered_landed :
    iprop(bigSep Finset.univ (delivered c p T yb) ∗ quiet c p ∗ bigSep (Ring.rangeSet 2048 0 2048) (left c p T yb)
      ∗ heldYb c Finset.univ (Transfers.shareDrop (slotShare p) 2048) yb) ⊢ landed c p T yb := by
  have e1 : (bigSep Finset.univ (delivered c p T yb) : sProp 𝕄)
      = iprop((bigSep Finset.univ fun j : Fin 2048 => heldYs c (filled p j.val) (fetchedRows T yb))
        ∗ bigSep Finset.univ fun j : Fin 2048 => heldYb c (rowSet (placeOf T j.val)) (Transfers.shareTokN (slotShare p) j.val) yb) := bigSep_sep' _ _ _
  have e2 : iprop((bigSep Finset.univ fun j : Fin 2048 => heldYb c (rowSet (placeOf T j.val)) (Transfers.shareTokN (slotShare p) j.val) yb)
        ∗ bigSep Finset.univ (left c p T yb))
      = (bigSep Finset.univ fun j : Fin 2048 => iprop(heldYb c (rowSet (placeOf T j.val)) (Transfers.shareTokN (slotShare p) j.val) yb ∗ left c p T yb j) : sProp 𝕄) :=
    (bigSep_sep' _ _ _).symm
  have e3 : (bigSep Finset.univ fun j : Fin 2048 => iprop(heldYb c (rowSet (placeOf T j.val)) (Transfers.shareTokN (slotShare p) j.val) yb ∗ left c p T yb j) : sProp 𝕄)
      ⊢ bigSep Finset.univ fun j : Fin 2048 => heldYb c Finset.univ (Transfers.shareTokN (slotShare p) j.val) yb :=
    bigSep_mono fun j _ => (row_and_outside c (placeOf T j.val) _ yb).2
  rw [Ring.rangeSet_univ, e1, ← slot_split]
  unfold landed
  iintro ⟨⟨Hs, Hr⟩, Hq, Hl, Hd⟩
  isplitl [Hs]; · iexact Hs
  isplitl [Hq]; · iexact Hq
  iapply (share_split c p yb).2
  isplitl [Hd]; · iexact Hd
  iapply e3
  rw [← e2]
  isplitl [Hr]; · iexact Hr
  iexact Hl

/-- A landed slot is free again. -/
theorem landed_free : landed c p T yb ⊢ free c p yb := by
  unfold landed free
  iintro ⟨Hs, Hr⟩
  isplitl [Hs]; · iexists _; iexact Hs
  iexact Hr

end Slots

/-! ## The waits -/

/-- One choice's half of a slot, which a wait names. -/
abbrev halfSlot (o4 : Fin 4 → ℕ) (h4 : ∀ a, o4 a + S1x1x8192x128.size a ≤ S2x2x8192x128.size a) : Memref sig .tc .vmem S8192x128 .f32 :=
  (Ys.slice (Rect.unit (s := S2x2x8192x128) o4 S1x1x8192x128.size h4) (fun _ => rfl)).squeeze S8192x128 squeezes_S1x1x8192x128_S8192x128

theorem half_units (o4 : Fin 4 → ℕ) (h4) : (halfSlot o4 h4).view.dmaCredit = 1024 * units := by rfl

/-- The two waits of a block: each for the copies of one choice. -/
theorem two_waits (c : Dev nD) (p : Fin 2) (T : Places) (yb : S1081344x128.Idx → Elt F .f32)
    (o : Fin 1 → ℕ) (h) (e : o = ![p.val]) (o4 o4' : Fin 4 → ℕ) (h4) (h4')
    {sp : Space} {s' : Shape} {e' : EltTy} (srcw : Memref sig .tc sp s' e')
    (hs : srcw.view.WordExact) (hd : (halfSlot o4 h4).view.WordExact) (hd' : (halfSlot o4' h4').view.WordExact)
    {α : Type} (k : PUnit → Prog (TpuEff nD τ sig (Elt F) Λ₀ .tc) α) (Q : α → sProp 𝕄) :
    iprop(inFlight c p T yb ∗ ∃ W, owes (c : Thread nD τ) 0 W)
      ⊢ iprop((iprop(landed c p T yb ∗ ∃ W, owes (c : Thread nD τ) 0 W) -∗ wp frame (wpE (defs₀ (F := F)) Variants.none (c : Thread nD τ) none) Set.univ (k ⟨⟩) Q)
        -∗ wp frame (wpE (defs₀ (F := F)) Variants.none (c : Thread nD τ) none) Set.univ
          (.op (.waitDma2 (cellAt o h) srcw (halfSlot o4 h4) hs hd) fun _ =>
            .op (.waitDma2 (cellAt o h) srcw (halfSlot o4' h4') hs hd') k) Q) := by
  have hcell : cellAt o h = cell p := cellAt_eq p o h e
  unfold inFlight copies
  rw [← hcell]
  iintro ⟨⟨HB, Hl, Hd⟩, ⟨%W, HO⟩⟩ Hk
  iapply (Transfers.wp_waitBatchMul (defs := defs₀ (F := F)) (countersEmb (U := Pipeline.UD sig nD τ)) Variants.none (c : Thread nD τ) none
    (sem := cellAt o h) (srcw := srcw) (dstw := halfSlot o4 h4) (hsrc := hs) (hdst := hd) () (N := units) 1024 (half_units o4 h4)
    (D := delivered c p T yb) (j := 2048) (u := 0) (by decide) (W := W)) $$ [HB HO]
  · isplitl [HB]; · iexact HB
    iexact HO
  iintro ⟨HB, HO⟩
  iapply (Transfers.wp_waitBatchAll (defs := defs₀ (F := F)) (countersEmb (U := Pipeline.UD sig nD τ)) Variants.none (c : Thread nD τ) none
    (sem := cellAt o h) (srcw := srcw) (dstw := halfSlot o4' h4') (hsrc := hs) (hdst := hd') () (N := units) (J := 1024 * units) (half_units o4' h4')
    (by decide) (D := delivered c p T yb) (u := 0 + 1024 * units) (by decide) (W := insert (SemLoc.dma (cellAt o h), ()) W)) $$ [HB HO]
  · isplitl [HB]; · iexact HB
    iexact HO
  iintro ⟨HD, Hq, HO⟩
  iapply Hk
  isplitr [HO]
  · iapply delivered_landed
    isplitl [HD]; · iexact HD
    isplitl [Hq]; · rw [hcell]; iexact Hq
    isplitl [Hl]; · iexact Hl
    iexact Hd
  · iexists _; iexact HO

end Cert.Combine

end
-- ==== Proof.CombineTable.lean ====
/-
  The copy of one block's places to where the scalar unit reads them.
-/
module

public import proofs.«01_k».proof.Proof.CombineDrain

@[expose] public section

set_option maxRecDepth 16384

noncomputable section

namespace Cert.Combine

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A slot of the places' buffer. -/
abbrev placeSlot (o3 : Fin 3 → ℕ) (h3 : ∀ a, o3 a + S1x2x1024.size a ≤ S2x2x1024.size a) : Memref sig .tc .smem S2x1024 .i32 :=
  (Tb.slice (Rect.unit (s := S2x2x1024) o3 S1x2x1024.size h3) (fun _ => rfl)).squeeze S2x1024 squeezes_S1x2x1024_S2x1024

theorem placeSlot_emb (p s : Fin 2) (r : Fin 1024) (o3 : Fin 3 → ℕ) (h3) (e3 : o3 = ![p.val, 0, 0]) :
    (placeSlot o3 h3).view.emb (ix2 s r) = ix3 p s r := by
  subst e3
  have hq := reshapeEquiv_ix2_1ab squeezes_S1x2x1024_S2x1024.numel_eq s r
  refine (congrArg (fun z : S1x2x1024.Idx => (Rect.unit (s := S2x2x1024) ![p.val, 0, 0] S1x2x1024.size h3).emb z) hq).trans ?_
  funext a
  fin_cases a
  · refine Fin.ext ?_
    show p.val + 1 * 0 = p.val
    omega
  · refine Fin.ext ?_
    show 0 + 1 * s.val = s.val
    omega
  · refine Fin.ext ?_
    show 0 + 1 * r.val = r.val
    omega

/-- The semaphore of the places' copy. -/
abbrev tableCell : DmaSem sig := cc0_scratch2.sem

/-- The copy of a block's places and the wait for it. -/
theorem fetch_places (c : Dev nD) (p : Fin 2) (o3 : Fin 3 → ℕ) (h3) (e3 : o3 = ![p.val, 0, 0])
    (a : Memref sig .tc .vmem S2x1024 .i32) (fa : Buf (Elt F) (a.view.loc (c : Thread nD τ)))
    (hsrc : a.view.WordExact) (hdst : (placeSlot o3 h3).view.WordExact)
    (hsem : DmaTarget.Typed (nD := nD) (τ := τ) (p := .tc) .vmem (.dma tableCell) (.here (placeSlot o3 h3)))
    (hsrc' : a.view.WordExact) (hdst' : (placeSlot o3 h3).view.WordExact)
    {α : Type} (k : PUnit → Prog (TpuEff nD τ sig (Elt F) Λ₀ .tc) α) (Q : α → sProp 𝕄) :
    iprop((∃ G, heldTb c G) ∗ (a.view.loc (c : Thread nD τ) ↦[a.view.set]{fullShare} fa)
        ∗ semVal ((c : Thread nD τ), SemLoc.dma tableCell) 0 ∗ ∃ W, owes (c : Thread nD τ) 0 W)
      ⊢ iprop((iprop((∃ G, ⌜∀ s r, G (ix3 p s r) = a.view.read (Elt F) fa (ix2 s r)⌝ ∗ heldTb c G)
            ∗ (a.view.loc (c : Thread nD τ) ↦[a.view.set]{fullShare} fa)
            ∗ semVal ((c : Thread nD τ), SemLoc.dma tableCell) 0 ∗ ∃ W, owes (c : Thread nD τ) 0 W)
          -∗ wp frame (wpE (defs₀ (F := F)) Variants.none (c : Thread nD τ) none) Set.univ (k ⟨⟩) Q)
        -∗ wp frame (wpE (defs₀ (F := F)) Variants.none (c : Thread nD τ) none) Set.univ
          (.op (.enqueueDma a (.here (placeSlot o3 h3)) (.dma tableCell) hsrc hdst hsem) fun _ =>
            .op (.waitDma2 tableCell a (placeSlot o3 h3) hsrc' hdst') k) Q) := by
  iintro ⟨⟨%G, HT⟩, Ha, Hq, ⟨%W, HO⟩⟩ Hk
  let G' : S2x2x1024.Idx → Elt F .i32 := (placeSlot o3 h3).view.write (Elt F) G (a.view.read (Elt F) fa) Finset.univ
  have hG' : ∀ s r, G' (ix3 p s r) = a.view.read (Elt F) fa (ix2 s r) := fun s r => by
    rw [← placeSlot_emb p s r o3 h3 e3]
    exact View.write_emb_of_mem (v := (placeSlot o3 h3).view) G _ (Finset.mem_univ _)
  let D : Fin 1 → sProp 𝕄 := fun _ => iprop(heldTb c G' ∗ (a.view.loc (c : Thread nD τ) ↦[a.view.set]{fullShare} fa))
  haveI : ∀ t, BI.Storable (upEmb : UEmb _ 𝕄) (D t) := fun t => by
    show BI.Storable (upEmb : UEmb _ 𝕄) iprop(heldTb c G' ∗ (a.view.loc (c : Thread nD τ) ↦[a.view.set]{fullShare} fa)); infer_instance
  have hpos : 0 < (placeSlot o3 h3).view.dmaCredit := by
    show 0 < 256
    decide
  have hall : (bigSep Finset.univ D : sProp 𝕄) = D 0 := by
    rw [show (Finset.univ : Finset (Fin 1)) = {0} from rfl, bigSep_singleton]
  imod (Transfers.batch_alloc' (countersEmb (U := Pipeline.UD sig nD τ)) (c : Thread nD τ) () (placeSlot o3 h3).view.dmaCredit D (sm := .dma tableCell) (E := Set.univ)) $$ Hq with HB
  iapply (Transfers.wp_dmaBatch (defs := defs₀ (F := F)) (countersEmb (U := Pipeline.UD sig nD τ)) Variants.none (c : Thread nD τ) none
    (src := a) (via := .same) (dst := placeSlot o3 h3) (sm := .dma tableCell) (hsrc := hsrc) (hdst := hdst) (hsem := hsem)
    (k := fun _ => .op (.waitDma2 tableCell a (placeSlot o3 h3) hsrc' hdst') k) (Q := Q)
    (q := fullShare) (fs := fa) (Sd := Finset.univ) (fd := G) (D := D) (j := 0) (u := 0) () (placeSlot o3 h3).view.dmaCredit rfl
    (Finset.subset_univ _) Nat.one_pos (Nat.zero_le _) .rfl) $$ [Ha HT HB]
  · isplitl [Ha]; · iexact Ha
    isplitl [HT]; · iexact HT
    iexact HB
  iintro HB
  iapply (Transfers.wp_waitBatchAll (defs := defs₀ (F := F)) (countersEmb (U := Pipeline.UD sig nD τ)) Variants.none (c : Thread nD τ) none
    (sem := tableCell) (srcw := a) (dstw := placeSlot o3 h3) (hsrc := hsrc') (hdst := hdst') () (N := (placeSlot o3 h3).view.dmaCredit)
    (J := (placeSlot o3 h3).view.dmaCredit) rfl hpos (D := D) (u := 0) (by rw [Nat.mul_one, Nat.zero_add]) (W := W)) $$ [HB HO]
  · isplitl [HB]; · iexact HB
    iexact HO
  rw [hall]
  iintro ⟨⟨HT, Ha⟩, Hq, HO⟩
  iapply Hk
  isplitl [HT]
  · iexists G'
    isplitr; · ipureintro; exact hG'
    iexact HT
  isplitl [Ha]; · iexact Ha
  isplitl [Hq]; · iexact Hq
  iexists _; iexact HO

end Cert.Combine

end
-- ==== Proof.CombineBody.lean ====
/-
  The body of the combining kernel at one grid point: the copies of the first block's rows started where the point is the first,
  those of the next block's rows started where there is one, the waits for this block's, and the block of results stored.
-/
module

public import proofs.«01_k».proof.Proof.CombineTable

@[expose] public section

set_option maxRecDepth 16384

noncomputable section

namespace Cert.Combine

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Loads and the store -/

/-- What a load reads of the contents `x`. -/
abbrev readOf {s : Shape} {e : EltTy} (x : Vec F s e) (R : LoadRect s) : R.shape.Idx → Elt F e := fun y => x (R.idx y)

theorem load_owned (c : Dev nD) {sp : CoreSpace} {s : Shape} {e : EltTy} (a : Memref sig .tc sp s e) (R : LoadRect s) (hl : a.view.LoadsAt R)
    (q : PosShare TreeShare) (x : Vec F s e)
    {α : Type} (k : (R.shape.Idx → Elt F e) → Prog (TpuEff nD τ sig (Elt F) Λ₀ .tc) α) (Q : α → sProp 𝕄) :
    owns (c : Thread nD τ) a q x
      ⊢ iprop((owns (c : Thread nD τ) a q x -∗ wp frame (wpE (defs₀ (F := F)) Variants.none (c : Thread nD τ) none) Set.univ (k (readOf x R)) Q)
        -∗ wp frame (wpE (defs₀ (F := F)) Variants.none (c : Thread nD τ) none) Set.univ (.op (.load a R hl) k) Q) := by
  unfold owns
  iintro ⟨%f, %hf, H⟩ Hk
  subst hf
  iapply (wp_load (defs := defs₀ (F := F)) Variants.none (c : Thread nD τ) none Set.univ (m := a) (r := R) (hl := hl) (k := k) (q := q) (f := f)
    (S := a.view.set) (View.setOn_subset_set _ _)) $$ H
  iintro H
  iapply Hk
  iexists f
  isplitr; · ipureintro; rfl
  iexact H

/-- The store of a whole block leaves what was stored. -/
theorem store_owned (c : Dev nD) (a : Memref sig .tc .vmem S1024x1024 .f32) (x w : Vec F S1024x1024 .f32)
    (hx : (a.access (Rect.unit (s := S1024x1024) ![0, 0] S1024x1024.size inb_S1024x1024_S1024x1024_0_0)).Stores Finset.univ) (hm)
    {α : Type} (k : PUnit.{1} → Prog (TpuEff nD τ sig (Elt F) Λ₀ .tc) α) (Q : α → sProp 𝕄) :
    owns (c : Thread nD τ) a fullShare x
      ⊢ iprop((owns (c : Thread nD τ) a fullShare w -∗ wp frame (wpE (defs₀ (F := F)) Variants.none (c : Thread nD τ) none) Set.univ (k ⟨⟩) Q)
        -∗ wp frame (wpE (defs₀ (F := F)) Variants.none (c : Thread nD τ) none) Set.univ
          (.op (.store a (Rect.unit (s := S1024x1024) ![0, 0] S1024x1024.size inb_S1024x1024_S1024x1024_0_0) w Finset.univ hx hm) k) Q) := by
  unfold owns
  iintro ⟨%f, -, H⟩ Hk
  iapply (wp_store (defs := defs₀ (F := F)) Variants.none (c : Thread nD τ) none Set.univ (m := a)
    (r := Rect.unit (s := S1024x1024) ![0, 0] S1024x1024.size inb_S1024x1024_S1024x1024_0_0) (hx := hx) (hm := hm) (w := w) (Mk := Finset.univ) (k := k)
    (f := f) (S := a.view.set) ((View.setOn_subset_set _ _).trans (View.set_slice_subset _ _))) $$ H
  iintro H
  iapply Hk
  iexists _
  isplitr
  rotate_left
  · iexact H
  ipureintro
  funext y
  have e : a.view.emb y = (a.access (Rect.unit (s := S1024x1024) ![0, 0] S1024x1024.size inb_S1024x1024_S1024x1024_0_0)).emb y := by
    refine congrArg a.view.emb (funext fun b => Fin.ext ?_)
    show (y b).val = (![0, 0] : Fin 2 → ℕ) b + 1 * (y b).val
    fin_cases b
    · show (y 0).val = 0 + 1 * (y 0).val; omega
    · show (y 1).val = 0 + 1 * (y 1).val; omega
  have h := View.read_write_of_mem (v := a.access (Rect.unit (s := S1024x1024) ![0, 0] S1024x1024.size inb_S1024x1024_S1024x1024_0_0)) f w (Finset.mem_univ y)
  refine Eq.trans ?_ h
  show _root_.cast _ _ = _root_.cast _ _
  rw [e]

/-- Choice `s`'s lane group `q` of slot `p`: token `r`'s lanes lie at row `8 r + q`. -/
def lanesOf (Y : S2x2x8192x128.Idx → Elt F .f32) (p s : Fin 2) (q : Fin 8) : Vec F S1x1x1024x128 .f32 :=
  fun x => Y (ix4 p s ⟨8 * (x 2).val + q.val, by have h : (x 2).val < 1024 := (x 2).isLt; omega⟩ (x 3))

/-- A strided load of the fetched rows. -/
abbrev loadLanes {α : Type} (o : Fin 4 → ℕ) (h : ∀ a, S1x1x1024x128.size a = 0 ∨ o a + (![1, 1, 8, 1] : Fin 4 → ℕ) a * (S1x1x1024x128.size a - 1) < S2x2x8192x128.size a)
    (k : Vec F S1x1x1024x128 .f32 → Prog (TpuEff nD τ sig (Elt F) Λ₀ .tc) α) : Prog (TpuEff nD τ sig (Elt F) Λ₀ .tc) α :=
  .op (.load Ys (⟨o, S1x1x1024x128.size, ![1, 1, 8, 1], h⟩ : LoadRect S2x2x8192x128) (View.loadsAt_vmem h_S1x1x1024x128)) k

theorem load_lanes (c : Dev nD) (Y : S2x2x8192x128.Idx → Elt F .f32) (p s : Fin 2) (q : Fin 8) (o : Fin 4 → ℕ) (h) (e : o = ![p.val, s.val, q.val, 0])
    {α : Type} (k : Vec F S1x1x1024x128 .f32 → Prog (TpuEff nD τ sig (Elt F) Λ₀ .tc) α) (Q : α → sProp 𝕄) :
    heldYs c (slotSet p) Y
      ⊢ iprop((heldYs c (slotSet p) Y -∗ wp frame (wpE (defs₀ (F := F)) Variants.none (c : Thread nD τ) none) Set.univ (k (lanesOf Y p s q)) Q)
        -∗ wp frame (wpE (defs₀ (F := F)) Variants.none (c : Thread nD τ) none) Set.univ (loadLanes o h k) Q) := by
  subst e
  have hidx : ∀ x : S1x1x1024x128.Idx, (⟨![p.val, s.val, q.val, 0], S1x1x1024x128.size, ![1, 1, 8, 1], h⟩ : LoadRect S2x2x8192x128).idx x
      = ix4 p s ⟨8 * (x 2).val + q.val, by have h : (x 2).val < 1024 := (x 2).isLt; omega⟩ (x 3) := fun x => by
    have h0 : (x 0).val < 1 := (x 0).isLt
    have h1 : (x 1).val < 1 := (x 1).isLt
    funext a
    refine Fin.ext ?_
    fin_cases a
    · show p.val + 1 * (x 0).val = p.val; omega
    · show s.val + 1 * (x 1).val = s.val; omega
    · show q.val + 8 * (x 2).val = 8 * (x 2).val + q.val; omega
    · show 0 + 1 * (x 3).val = (x 3).val; omega
  have hval : View.readAt (Elt F) Ys.view (⟨![p.val, s.val, q.val, 0], S1x1x1024x128.size, ![1, 1, 8, 1], h⟩ : LoadRect S2x2x8192x128) Y = lanesOf Y p s q :=
    funext fun x => congrArg Y (hidx x)
  have hS : Ys.view.setOn (⟨![p.val, s.val, q.val, 0], S1x1x1024x128.size, ![1, 1, 8, 1], h⟩ : LoadRect S2x2x8192x128).set ⊆ slotSet p := by
    intro y hy
    obtain ⟨z, hz, rfl⟩ := Finset.mem_map.mp hy
    obtain ⟨j, rfl⟩ := LoadRect.exists_idx_of_mem _ hz
    rw [mem_slotSet]
    show ((LoadRect.idx _ j) 0).val = p.val
    rw [hidx j]
  have hw : heldYs c (slotSet p) Y
      ⊢ iprop((heldYs c (slotSet p) Y -∗ wp frame (wpE (defs₀ (F := F)) Variants.none (c : Thread nD τ) none) Set.univ
          (k (View.readAt (Elt F) Ys.view (⟨![p.val, s.val, q.val, 0], S1x1x1024x128.size, ![1, 1, 8, 1], h⟩ : LoadRect S2x2x8192x128) Y)) Q)
        -∗ wp frame (wpE (defs₀ (F := F)) Variants.none (c : Thread nD τ) none) Set.univ (loadLanes ![p.val, s.val, q.val, 0] h k) Q) :=
    wp_load (defs := defs₀ (F := F)) Variants.none (c : Thread nD τ) none Set.univ (m := Ys)
    (r := (⟨![p.val, s.val, q.val, 0], S1x1x1024x128.size, ![1, 1, 8, 1], h⟩ : LoadRect S2x2x8192x128)) (hl := View.loadsAt_vmem h_S1x1x1024x128)
    (k := k) (Q := Q) (q := fullShare) (f := Y) (S := slotSet p) hS
  rw [hval] at hw
  exact hw

/-! ## The copies of a block started -/

section Body
variable (c : Dev nD) (yb : S1081344x128.Idx → Elt F .f32)
variable (a1 : Memref sig .tc .vmem S1024x1024 .f32) (h1 : a1.IsWhole) (a2 : Memref sig .tc .vmem S1024x8 .f32) (h2 : a2.IsWhole)
  (a3 : Memref sig .tc .vmem S2x1024 .i32) (h3 : a3.IsWhole) (a4 : Memref sig .tc .vmem S2x1024 .i32) (h4 : a4.IsWhole)
  (a6 : Memref sig .tc .vmem S1024x1024 .f32) (h6 : a6.IsWhole)

/-- The table's buffers and semaphore between uses, and what the core owes. -/
def tableIdle : sProp 𝕄 :=
  iprop((∃ G, heldTb (F := F) c G) ∗ semVal ((c : Thread nD τ), SemLoc.dma tableCell) 0 ∗ ∃ W, owes (c : Thread nD τ) 0 W)

/-- The first branch: the first block's places copied to the table, and its copies started. -/
def firstThen (i : grid0.Coords) (hc : k0_cond1 i = 1#1) {α : Type} (k : PUnit.{1} → Prog (TpuEff nD τ sig (Elt F) Λ₀ .tc) α) :
    Prog (TpuEff nD τ sig (Elt F) Λ₀ .tc) α :=
  .op (.enqueueDma a3 (.here (placeSlot ![0, 0, 0] inb_S2x2x1024_S1x2x1024_0_0_0)) (.dma tableCell) h3.wordExact ((View.wordExact_bits rfl).reshape _ _) ⟨Or.inl rfl, trivial⟩) fun _ =>
  .op (.waitDma2 tableCell a3 (placeSlot ![0, 0, 0] inb_S2x2x1024_S1x2x1024_0_0_0) h3.wordExact ((View.wordExact_bits rfl).reshape _ _)) fun _ =>
  Scf.Loop.for k0_t1_loop (k0_t1_ok i hc) ⟨⟩ (firstBody a1 h1 a2 h2 a3 h3 a4 h4 a6 h6 i hc) >>= fun _ => k ⟨⟩

/-- The second branch: the same of the next block. -/
def nextThen (i : grid0.Coords) (hc : k0_cond2 i = 1#1) {α : Type} (k : PUnit.{1} → Prog (TpuEff nD τ sig (Elt F) Λ₀ .tc) α) :
    Prog (TpuEff nD τ sig (Elt F) Λ₀ .tc) α :=
  .op (.enqueueDma a4 (.here (placeSlot (k0_off7 i) (k0_off7_inb i hc))) (.dma tableCell) h4.wordExact ((View.wordExact_bits rfl).reshape _ _) ⟨Or.inl rfl, trivial⟩) fun _ =>
  .op (.waitDma2 tableCell a4 (placeSlot (k0_off7 i) (k0_off7_inb i hc)) h4.wordExact ((View.wordExact_bits rfl).reshape _ _)) fun _ =>
  Scf.Loop.for k0_t2_loop (k0_t2_ok i hc) ⟨⟩ (nextBody a1 h1 a2 h2 a3 h3 a4 h4 a6 h6 i hc) >>= fun _ => k ⟨⟩

theorem first_then (T : Places) (hT : T.Ok) (x : Vec F S2x1024 .i32) (hx : ∀ s r, x (ix2 s r) = T s r)
    (i : grid0.Coords) (hc : k0_cond1 i = 1#1) {α : Type} (k : PUnit.{1} → Prog (TpuEff nD τ sig (Elt F) Λ₀ .tc) α) (Q : α → sProp 𝕄) :
    iprop(tableIdle (F := F) c ∗ owns (c : Thread nD τ) a3 fullShare x ∗ free c 0 yb)
      ⊢ iprop((iprop(tableIdle (F := F) c ∗ owns (c : Thread nD τ) a3 fullShare x ∗ inFlight c 0 T yb)
          -∗ wp frame (wpE (defs₀ (F := F)) Variants.none (c : Thread nD τ) none) Set.univ (k ⟨⟩) Q)
        -∗ wp frame (wpE (defs₀ (F := F)) Variants.none (c : Thread nD τ) none) Set.univ (firstThen a1 h1 a2 h2 a3 h3 a4 h4 a6 h6 i hc k) Q) := by
  unfold tableIdle owns firstThen
  iintro ⟨⟨HT, Hq, HO⟩, ⟨%fa, %hfa, Ha⟩, Hf⟩ Hk
  iapply (fetch_places c 0 ![0, 0, 0] inb_S2x2x1024_S1x2x1024_0_0_0 rfl a3 fa h3.wordExact ((View.wordExact_bits rfl).reshape _ _) ⟨Or.inl rfl, trivial⟩
    h3.wordExact ((View.wordExact_bits rfl).reshape _ _) _ Q) $$ [HT Ha Hq HO]
  · isplitl [HT]; · iexact HT
    isplitl [Ha]; · iexact Ha
    isplitl [Hq]; · iexact Hq
    iexact HO
  iintro ⟨⟨%G, %hG, HT⟩, Ha, Hq, HO⟩
  have hG' : ∀ s r, G (ix3 0 s r) = T s r := fun s r => ((hG s r).trans (congrFun hfa _)).trans (hx s r)
  imod (free_start c 0 T yb) $$ Hf with ⟨⟨%f, Hi⟩, Hd⟩
  iapply (Scf.wp_for_bind frame (wpE (defs₀ (F := F)) Variants.none (c : Thread nD τ) none) Set.univ _ _ _ (k0_t1_ok i hc) ⟨⟩
    (firstBody a1 h1 a2 h2 a3 h3 a4 h4 a6 h6 i hc) (issueAt c T f yb G 0)
    (fun k acc => first_trip c T f yb G a1 h1 a2 h2 a3 h3 a4 h4 a6 h6 hT hG' i hc k acc)) $$ [HT Hi]
  · unfold issueAt
    isplitl [HT]; · iexact HT
    iexact Hi
  iintro %acc HI
  unfold issueAt
  icases HI with ⟨HT, Hi⟩
  iapply Hk
  isplitl [HT Hq HO]
  · isplitl [HT]; · iexists _; iexact HT
    isplitl [Hq]; · iexact Hq
    iexact HO
  isplitl [Ha]
  · iexists fa
    isplitr; · ipureintro; exact hfa
    iexact Ha
  iapply (issued_inFlight c 0 T yb f)
  isplitl [Hi]
  · iapply (Entails.of_eq (congrArg (issuing c 0 T f yb) (show 2 * k0_t1_loop.trips = 2048 from congrArg (2 * ·) trips1)))
    iexact Hi
  iexact Hd

theorem next_then (T : Places) (hT : T.Ok) (x : Vec F S2x1024 .i32) (hx : ∀ s r, x (ix2 s r) = T s r)
    (t : Fin grid0.N) (hc : k0_cond2 (grid0.coords t) = 1#1) {α : Type} (k : PUnit.{1} → Prog (TpuEff nD τ sig (Elt F) Λ₀ .tc) α) (Q : α → sProp 𝕄) :
    iprop(tableIdle (F := F) c ∗ owns (c : Thread nD τ) a4 fullShare x ∗ free c (nextSlot t) yb)
      ⊢ iprop((iprop(tableIdle (F := F) c ∗ owns (c : Thread nD τ) a4 fullShare x ∗ inFlight c (nextSlot t) T yb)
          -∗ wp frame (wpE (defs₀ (F := F)) Variants.none (c : Thread nD τ) none) Set.univ (k ⟨⟩) Q)
        -∗ wp frame (wpE (defs₀ (F := F)) Variants.none (c : Thread nD τ) none) Set.univ (nextThen a1 h1 a2 h2 a3 h3 a4 h4 a6 h6 (grid0.coords t) hc k) Q) := by
  unfold tableIdle owns nextThen
  iintro ⟨⟨HT, Hq, HO⟩, ⟨%fa, %hfa, Ha⟩, Hf⟩ Hk
  iapply (fetch_places c (nextSlot t) (k0_off7 (grid0.coords t)) (k0_off7_inb (grid0.coords t) hc) (off7_eq t) a4 fa h4.wordExact ((View.wordExact_bits rfl).reshape _ _) ⟨Or.inl rfl, trivial⟩
    h4.wordExact ((View.wordExact_bits rfl).reshape _ _) _ Q) $$ [HT Ha Hq HO]
  · isplitl [HT]; · iexact HT
    isplitl [Ha]; · iexact Ha
    isplitl [Hq]; · iexact Hq
    iexact HO
  iintro ⟨⟨%G, %hG, HT⟩, Ha, Hq, HO⟩
  have hG' : ∀ s r, G (ix3 (nextSlot t) s r) = T s r := fun s r => ((hG s r).trans (congrFun hfa _)).trans (hx s r)
  imod (free_start c (nextSlot t) T yb) $$ Hf with ⟨⟨%f, Hi⟩, Hd⟩
  iapply (Scf.wp_for_bind frame (wpE (defs₀ (F := F)) Variants.none (c : Thread nD τ) none) Set.univ _ _ _ (k0_t2_ok (grid0.coords t) hc) ⟨⟩
    (nextBody a1 h1 a2 h2 a3 h3 a4 h4 a6 h6 (grid0.coords t) hc) (issueAt c T f yb G (nextSlot t))
    (fun k acc => next_trip c T f yb G a1 h1 a2 h2 a3 h3 a4 h4 a6 h6 hT t hG' hc k acc)) $$ [HT Hi]
  · unfold issueAt
    isplitl [HT]; · iexact HT
    iexact Hi
  iintro %acc HI
  unfold issueAt
  icases HI with ⟨HT, Hi⟩
  iapply Hk
  isplitl [HT Hq HO]
  · isplitl [HT]; · iexists _; iexact HT
    isplitl [Hq]; · iexact Hq
    iexact HO
  isplitl [Ha]
  · iexists fa
    isplitr; · ipureintro; exact hfa
    iexact Ha
  iapply (issued_inFlight c (nextSlot t) T yb f)
  isplitl [Hi]
  · iapply (Entails.of_eq (congrArg (issuing c (nextSlot t) T f yb) (show 2 * k0_t2_loop.trips = 2048 from congrArg (2 * ·) trips2)))
    iexact Hi
  iexact Hd

end Body

end Cert.Combine

end
-- ==== Proof.CombinePoint.lean ====
/-
  The run of the combining kernel's body at one grid point: the copies of the first block's rows started where the point is the
  first, those of the next block's rows started where there is one, the waits for this block's, and the block of results stored.
-/
module

public import proofs.«01_k».proof.Proof.CombineBody

@[expose] public section

set_option maxRecDepth 16384

noncomputable section

namespace Cert.Combine

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (yb : S1081344x128.Idx → Elt F .f32)
variable (a1 : Memref sig .tc .vmem S1024x1024 .f32) (h1 : a1.IsWhole) (a2 : Memref sig .tc .vmem S1024x8 .f32) (h2 : a2.IsWhole)
  (a3 : Memref sig .tc .vmem S2x1024 .i32) (h3 : a3.IsWhole) (a4 : Memref sig .tc .vmem S2x1024 .i32) (h4 : a4.IsWhole)
  (a6 : Memref sig .tc .vmem S1024x1024 .f32) (h6 : a6.IsWhole)

/-! ## The first part: copies started, and those of this block waited for -/

/-- The number of this point's slot, as the body computes it. -/
def slotWord (i : grid0.Coords) : BitVec 32 :=
  let arg0 : BitVec 32 := BitVec.ofNat 32 (i 0).val
  let v1 : BitVec 32 := Scalar.select (Scalar.cmpi .eq 2#32 0#32) 1#32 2#32
  let v2 : BitVec 32 := Scalar.remsi arg0 v1
  Scalar.select (Scalar.andi (Scalar.xori (Scalar.cmpi .slt v2 0#32) (Scalar.cmpi .slt v1 0#32)) (Scalar.cmpi .ne v2 0#32)) (Scalar.addi v2 v1) v2

/-- The whole of a block of the router's weights. -/
abbrev routeRect : LoadRect S1024x8 := (Rect.unit (s := S1024x8) ![0, 0] S1024x8.size inb_S1024x8_S1024x8_0_0).toLoadRect
/-- The whole of a block of tokens. -/
abbrev tokenRect : LoadRect S1024x1024 := (Rect.unit (s := S1024x1024) ![0, 0] S1024x1024.size inb_S1024x1024_S1024x1024_0_0).toLoadRect

/-- The rows that a wait names as its source. -/
abbrev someRows : Memref sig .tc .hbm S8192x128 .f32 :=
  Yb.slice (Rect.unit (s := S1081344x128) ![0, 0] S8192x128.size inb_S1081344x128_S8192x128_0_0) (fun _ => rfl)

/-- The two waits and the load of the weights. -/
def waitThen (i : grid0.Coords) {α : Type} (k : Vec F S1024x8 .f32 → Prog (TpuEff nD τ sig (Elt F) Λ₀ .tc) α) : Prog (TpuEff nD τ sig (Elt F) Λ₀ .tc) α :=
  .op (.waitDma2 (cellAt (k0_off18 i) (k0_off18_inb i)) someRows (halfSlot (k0_off19 i) (k0_off19_inb i)) (View.wordExact_bits rfl) ((View.wordExact_bits rfl).reshape _ _)) fun _ =>
  .op (.waitDma2 (cellAt (k0_off18 i) (k0_off18_inb i)) someRows (halfSlot (k0_off20 i) (k0_off20_inb i)) (View.wordExact_bits rfl) ((View.wordExact_bits rfl).reshape _ _)) fun _ =>
  .op (.load a2 routeRect (View.loadsAt_vmem h_S1024x8)) k

/-- From the second branch on. -/
def midThen (i : grid0.Coords) {α : Type} (k : Vec F S1024x8 .f32 → Prog (TpuEff nD τ sig (Elt F) Λ₀ .tc) α) : Prog (TpuEff nD τ sig (Elt F) Λ₀ .tc) α :=
  if hc : k0_cond2 i = 1#1 then nextThen a1 h1 a2 h2 a3 h3 a4 h4 a6 h6 i hc (fun _ : PUnit.{1} => waitThen a2 i k) else waitThen a2 i k

theorem part1_eq (i : grid0.Coords) : k0_part1 (F := F) i a1 h1 a2 h2 a3 h3 a4 h4 Yb (Memref.isWhole_whole _) a6 h6 Tb (Memref.isWhole_whole _) Ys (Memref.isWhole_whole _) cc0_scratch2 cc0_scratch3
    = if hc : k0_cond1 i = 1#1 then firstThen a1 h1 a2 h2 a3 h3 a4 h4 a6 h6 i hc (fun _ : PUnit.{1} => midThen a1 h1 a2 h2 a3 h3 a4 h4 a6 h6 i fun v => pure ⟨slotWord i, v⟩)
      else midThen a1 h1 a2 h2 a3 h3 a4 h4 a6 h6 i fun v => pure ⟨slotWord i, v⟩ := by
  rw [k0_part1_eq_skeleton]
  unfold midThen
  by_cases hc : k0_cond1 i = 1#1 <;> by_cases hc2 : k0_cond2 i = 1#1 <;> unfold k0_part1_skel <;> simp only [hc, hc2, dif_pos, dif_neg, not_false_eq_true, ↓reduceDIte] <;> rfl

/-- The slots before point `t`. -/
def slotsBefore (t : Fin grid0.N) (T : Places) : sProp 𝕄 :=
  if t.val = 0 then iprop(free c 0 yb ∗ free c 1 yb) else iprop(inFlight c (thisSlot t) T yb ∗ free c (nextSlot t) yb)

/-- The other slot once the next block's copies are started, where there is a next block. -/
def slotAhead (t : Fin grid0.N) (T : Places) : sProp 𝕄 :=
  if t.val + 1 < 64 then inFlight c (nextSlot t) T yb else free c (nextSlot t) yb

variable (x2 : Vec F S1024x8 .f32) (x3 x4 : Vec F S2x1024 .i32) (T T' : Places) (t : Fin grid0.N)

theorem wait_then {α : Type} (k : Vec F S1024x8 .f32 → Prog (TpuEff nD τ sig (Elt F) Λ₀ .tc) α) (Q : α → sProp 𝕄) :
    iprop(tableIdle (F := F) c ∗ owns (c : Thread nD τ) a2 fullShare x2 ∗ inFlight c (thisSlot t) T yb)
      ⊢ iprop((iprop(tableIdle (F := F) c ∗ owns (c : Thread nD τ) a2 fullShare x2 ∗ landed c (thisSlot t) T yb)
          -∗ wp frame (wpE (defs₀ (F := F)) Variants.none (c : Thread nD τ) none) Set.univ (k (readOf x2 routeRect)) Q)
        -∗ wp frame (wpE (defs₀ (F := F)) Variants.none (c : Thread nD τ) none) Set.univ (waitThen a2 (grid0.coords t) k) Q) := by
  unfold tableIdle waitThen
  iintro ⟨⟨HT, Hq, HO⟩, H2, Hi⟩ Hk
  iapply (two_waits c (thisSlot t) T yb (k0_off18 (grid0.coords t)) (k0_off18_inb _) (off18_eq t) (k0_off19 (grid0.coords t)) (k0_off20 (grid0.coords t))
    (k0_off19_inb _) (k0_off20_inb _) someRows (View.wordExact_bits rfl) ((View.wordExact_bits rfl).reshape _ _) ((View.wordExact_bits rfl).reshape _ _) _ Q) $$ [Hi HO]
  · isplitl [Hi]; · iexact Hi
    iexact HO
  iintro ⟨Hl, HO⟩
  iapply (load_owned c a2 routeRect (View.loadsAt_vmem h_S1024x8) fullShare x2 k Q) $$ H2
  iintro H2
  iapply Hk
  isplitl [HT Hq HO]
  · isplitl [HT]; · iexact HT
    isplitl [Hq]; · iexact Hq
    iexact HO
  isplitl [H2]; · iexact H2
  iexact Hl

theorem mid_then (hT' : t.val + 1 < 64 → T'.Ok) (hx' : t.val + 1 < 64 → ∀ s r, x4 (ix2 s r) = T' s r)
    {α : Type} (k : Vec F S1024x8 .f32 → Prog (TpuEff nD τ sig (Elt F) Λ₀ .tc) α) (Q : α → sProp 𝕄) :
    iprop(tableIdle (F := F) c ∗ owns (c : Thread nD τ) a2 fullShare x2 ∗ owns (c : Thread nD τ) a4 fullShare x4 ∗ inFlight c (thisSlot t) T yb ∗ free c (nextSlot t) yb)
      ⊢ iprop((iprop(tableIdle (F := F) c ∗ owns (c : Thread nD τ) a2 fullShare x2 ∗ owns (c : Thread nD τ) a4 fullShare x4 ∗ landed c (thisSlot t) T yb ∗ slotAhead c yb t T')
          -∗ wp frame (wpE (defs₀ (F := F)) Variants.none (c : Thread nD τ) none) Set.univ (k (readOf x2 routeRect)) Q)
        -∗ wp frame (wpE (defs₀ (F := F)) Variants.none (c : Thread nD τ) none) Set.univ (midThen a1 h1 a2 h2 a3 h3 a4 h4 a6 h6 (grid0.coords t) k) Q) := by
  unfold midThen slotAhead
  by_cases hc : k0_cond2 (grid0.coords t) = 1#1
  · have ht : t.val + 1 < 64 := (more_iff t) ▸ hc
    rw [dif_pos hc, if_pos ht]
    iintro ⟨HI, H2, H4, Hi, Hf⟩ Hk
    iapply (next_then c yb a1 h1 a2 h2 a3 h3 a4 h4 a6 h6 T' (hT' ht) x4 (hx' ht) t hc _ Q) $$ [HI H4 Hf]
    · isplitl [HI]; · iexact HI
      isplitl [H4]; · iexact H4
      iexact Hf
    iintro ⟨HI, H4, Hn⟩
    iapply (wait_then c yb a2 x2 T t k Q) $$ [HI H2 Hi]
    · isplitl [HI]; · iexact HI
      isplitl [H2]; · iexact H2
      iexact Hi
    iintro ⟨HI, H2, Hl⟩
    iapply Hk
    isplitl [HI]; · iexact HI
    isplitl [H2]; · iexact H2
    isplitl [H4]; · iexact H4
    isplitl [Hl]; · iexact Hl
    iexact Hn
  · have ht : ¬ t.val + 1 < 64 := (more_iff t) ▸ hc
    rw [dif_neg hc, if_neg ht]
    iintro ⟨HI, H2, H4, Hi, Hf⟩ Hk
    iapply (wait_then c yb a2 x2 T t k Q) $$ [HI H2 Hi]
    · isplitl [HI]; · iexact HI
      isplitl [H2]; · iexact H2
      iexact Hi
    iintro ⟨HI, H2, Hl⟩
    iapply Hk
    isplitl [HI]; · iexact HI
    isplitl [H2]; · iexact H2
    isplitl [H4]; · iexact H4
    isplitl [Hl]; · iexact Hl
    iexact Hf

/-- The first part leaves this block's rows landed, and the next block's on their way. -/
theorem part1_run (hT : T.Ok) (hx : ∀ s r, x3 (ix2 s r) = T s r) (hT' : t.val + 1 < 64 → T'.Ok) (hx' : t.val + 1 < 64 → ∀ s r, x4 (ix2 s r) = T' s r)
    (Q : (Σ' (_ : BitVec 32), Vec F S1024x8 .f32) → sProp 𝕄) :
    iprop(tableIdle (F := F) c ∗ owns (c : Thread nD τ) a2 fullShare x2 ∗ owns (c : Thread nD τ) a3 fullShare x3 ∗ owns (c : Thread nD τ) a4 fullShare x4 ∗ slotsBefore c yb t T)
      ⊢ iprop((iprop(tableIdle (F := F) c ∗ owns (c : Thread nD τ) a2 fullShare x2 ∗ owns (c : Thread nD τ) a3 fullShare x3 ∗ owns (c : Thread nD τ) a4 fullShare x4
            ∗ landed c (thisSlot t) T yb ∗ slotAhead c yb t T') -∗ Q ⟨slotWord (grid0.coords t), readOf x2 routeRect⟩)
        -∗ wp frame (wpE (defs₀ (F := F)) Variants.none (c : Thread nD τ) none) Set.univ (k0_part1 (F := F) (grid0.coords t) a1 h1 a2 h2 a3 h3 a4 h4 Yb (Memref.isWhole_whole _) a6 h6 Tb (Memref.isWhole_whole _) Ys (Memref.isWhole_whole _) cc0_scratch2 cc0_scratch3) Q) := by
  rw [part1_eq]
  unfold slotsBefore
  by_cases hc : k0_cond1 (grid0.coords t) = 1#1
  · have ht : t.val = 0 := (first_iff t) ▸ hc
    have e0 : thisSlot t = 0 := by unfold thisSlot; rw [ht]; rfl
    have e1 : nextSlot t = 1 := by unfold nextSlot; rw [ht]; rfl
    rw [dif_pos hc, if_pos ht]
    iintro ⟨HI, H2, H3, H4, Hf, Hg⟩ Hk
    iapply (first_then c yb a1 h1 a2 h2 a3 h3 a4 h4 a6 h6 T hT x3 hx (grid0.coords t) hc _ Q) $$ [HI H3 Hf]
    · isplitl [HI]; · iexact HI
      isplitl [H3]; · iexact H3
      iexact Hf
    iintro ⟨HI, H3, Hi⟩
    iapply (mid_then c yb a1 h1 a2 h2 a3 h3 a4 h4 a6 h6 x2 x4 T T' t hT' hx' _ Q) $$ [HI H2 H4 Hi Hg]
    · rw [e0, e1]
      isplitl [HI]; · iexact HI
      isplitl [H2]; · iexact H2
      isplitl [H4]; · iexact H4
      isplitl [Hi]; · iexact Hi
      iexact Hg
    iintro ⟨HI, H2, H4, Hl, Hn⟩
    rw [wp_pure]
    imodintro
    iapply Hk
    isplitl [HI]; · iexact HI
    isplitl [H2]; · iexact H2
    isplitl [H3]; · iexact H3
    isplitl [H4]; · iexact H4
    isplitl [Hl]; · iexact Hl
    iexact Hn
  · have ht : ¬ t.val = 0 := (first_iff t) ▸ hc
    rw [dif_neg hc, if_neg ht]
    iintro ⟨HI, H2, H3, H4, Hi, Hg⟩ Hk
    iapply (mid_then c yb a1 h1 a2 h2 a3 h3 a4 h4 a6 h6 x2 x4 T T' t hT' hx' _ Q) $$ [HI H2 H4 Hi Hg]
    · isplitl [HI]; · iexact HI
      isplitl [H2]; · iexact H2
      isplitl [H4]; · iexact H4
      isplitl [Hi]; · iexact Hi
      iexact Hg
    iintro ⟨HI, H2, H4, Hl, Hn⟩
    rw [wp_pure]
    imodintro
    iapply Hk
    isplitl [HI]; · iexact HI
    isplitl [H2]; · iexact H2
    isplitl [H3]; · iexact H3
    isplitl [H4]; · iexact H4
    isplitl [Hl]; · iexact Hl
    iexact Hn

/-! ## The second part and the store -/

theorem part2_eq (i : grid0.Coords) (w : BitVec 32) : k0_part2 (F := F) i a1 h1 a2 h2 a3 h3 a4 h4 Yb (Memref.isWhole_whole _) a6 h6 Tb (Memref.isWhole_whole _) Ys (Memref.isWhole_whole _) cc0_scratch2 cc0_scratch3 w
    = (loadLanes (k0_off21 i) (k0_off21_inb i) fun v21 => loadLanes (k0_off22 i) (k0_off22_inb i) fun v22 => loadLanes (k0_off23 i) (k0_off23_inb i) fun v23 => loadLanes (k0_off24 i) (k0_off24_inb i) fun v24 => loadLanes (k0_off25 i) (k0_off25_inb i) fun v25 => loadLanes (k0_off26 i) (k0_off26_inb i) fun v26 => loadLanes (k0_off27 i) (k0_off27_inb i) fun v27 => loadLanes (k0_off28 i) (k0_off28_inb i) fun v28 => loadLanes (k0_off29 i) (k0_off29_inb i) fun v29 => loadLanes (k0_off30 i) (k0_off30_inb i) fun v30 =>
      pure ⟨k0_pay2 v21 v22 v23 v24 v25 v26 v27 v28, k0_pay3 v29, k0_pay4 v30⟩) := rfl

theorem main_eq (i : grid0.Coords) : cc0_moe_combine (F := F) i a1 h1 a2 h2 a3 h3 a4 h4 Yb (Memref.isWhole_whole _) a6 h6 Tb (Memref.isWhole_whole _) Ys (Memref.isWhole_whole _) cc0_scratch2 cc0_scratch3
    = (k0_part1 (F := F) i a1 h1 a2 h2 a3 h3 a4 h4 Yb (Memref.isWhole_whole _) a6 h6 Tb (Memref.isWhole_whole _) Ys (Memref.isWhole_whole _) cc0_scratch2 cc0_scratch3 >>= fun r => k0_part2 (F := F) i a1 h1 a2 h2 a3 h3 a4 h4 Yb (Memref.isWhole_whole _) a6 h6 Tb (Memref.isWhole_whole _) Ys (Memref.isWhole_whole _) cc0_scratch2 cc0_scratch3 r.1 >>= fun w =>
      loadLanes (k0_off31 i) (k0_off31_inb i) fun v31 => loadLanes (k0_off32 i) (k0_off32_inb i) fun v32 => loadLanes (k0_off33 i) (k0_off33_inb i) fun v33 => loadLanes (k0_off34 i) (k0_off34_inb i) fun v34 => loadLanes (k0_off35 i) (k0_off35_inb i) fun v35 => loadLanes (k0_off36 i) (k0_off36_inb i) fun v36 =>
      .op (.load a1 tokenRect (View.loadsAt_vmem h_S1024x1024)) fun v78 => .op (.load a6 tokenRect (View.loadsAt_vmem h_S1024x1024)) fun _ =>
      .op (.store a6 (Rect.unit (s := S1024x1024) ![0, 0] S1024x1024.size inb_S1024x1024_S1024x1024_0_0)
        (k0_pay1 r.2 w.1 w.2.1 w.2.2 v31 v32 v33 v34 v35 v36 v78) Finset.univ (View.stores_vmem_bits_univ h_S1024x1024 rfl) (.inl rfl)) fun _ => pure ⟨⟩) := rfl

/-- The block of results: from a block of tokens, the weights and the rows in a slot. -/
def combined (x1 : Vec F S1024x1024 .f32) (x2 : Vec F S1024x8 .f32) (Y : S2x2x8192x128.Idx → Elt F .f32) (p : Fin 2) : Vec F S1024x1024 .f32 :=
  k0_pay1 (readOf x2 routeRect) (k0_pay2 (lanesOf Y p 0 0) (lanesOf Y p 0 1) (lanesOf Y p 0 2) (lanesOf Y p 0 3) (lanesOf Y p 0 4) (lanesOf Y p 0 5) (lanesOf Y p 0 6) (lanesOf Y p 0 7))
    (k0_pay3 (lanesOf Y p 1 0)) (k0_pay4 (lanesOf Y p 1 1)) (lanesOf Y p 1 2) (lanesOf Y p 1 3) (lanesOf Y p 1 4) (lanesOf Y p 1 5) (lanesOf Y p 1 6) (lanesOf Y p 1 7) (readOf x1 tokenRect)

/-- The slots after point `t`. -/
def slotsAfter (t : Fin grid0.N) (T' : Places) : sProp 𝕄 := iprop(free c (thisSlot t) yb ∗ slotAhead c yb t T')

/-- The second part reads the first choice's rows and two lane groups of the second's. -/
theorem part2_run (w : BitVec 32) (Q : (Σ' (_ : FVec F S1024x1024 .f32) (_ : FVec F S1024x128 .f32), FVec F S1024x128 .f32) → sProp 𝕄) :
    heldYs c (slotSet (thisSlot t)) (fetchedRows T yb)
      ⊢ iprop((heldYs c (slotSet (thisSlot t)) (fetchedRows T yb) -∗ Q ⟨k0_pay2 (lanesOf (fetchedRows T yb) (thisSlot t) 0 0) (lanesOf (fetchedRows T yb) (thisSlot t) 0 1) (lanesOf (fetchedRows T yb) (thisSlot t) 0 2) (lanesOf (fetchedRows T yb) (thisSlot t) 0 3) (lanesOf (fetchedRows T yb) (thisSlot t) 0 4) (lanesOf (fetchedRows T yb) (thisSlot t) 0 5) (lanesOf (fetchedRows T yb) (thisSlot t) 0 6) (lanesOf (fetchedRows T yb) (thisSlot t) 0 7),
          k0_pay3 (lanesOf (fetchedRows T yb) (thisSlot t) 1 0), k0_pay4 (lanesOf (fetchedRows T yb) (thisSlot t) 1 1)⟩)
        -∗ wp frame (wpE (defs₀ (F := F)) Variants.none (c : Thread nD τ) none) Set.univ (k0_part2 (F := F) (grid0.coords t) a1 h1 a2 h2 a3 h3 a4 h4 Yb (Memref.isWhole_whole _) a6 h6 Tb (Memref.isWhole_whole _) Ys (Memref.isWhole_whole _) cc0_scratch2 cc0_scratch3 w) Q) := by
  rw [part2_eq]
  iintro Hy Hk
  iapply (load_lanes c (fetchedRows T yb) (thisSlot t) 0 0 _ (k0_off21_inb _) (off21_eq t) _ _) $$ Hy
  iintro Hy
  iapply (load_lanes c (fetchedRows T yb) (thisSlot t) 0 1 _ (k0_off22_inb _) (off22_eq t) _ _) $$ Hy
  iintro Hy
  iapply (load_lanes c (fetchedRows T yb) (thisSlot t) 0 2 _ (k0_off23_inb _) (off23_eq t) _ _) $$ Hy
  iintro Hy
  iapply (load_lanes c (fetchedRows T yb) (thisSlot t) 0 3 _ (k0_off24_inb _) (off24_eq t) _ _) $$ Hy
  iintro Hy
  iapply (load_lanes c (fetchedRows T yb) (thisSlot t) 0 4 _ (k0_off25_inb _) (off25_eq t) _ _) $$ Hy
  iintro Hy
  iapply (load_lanes c (fetchedRows T yb) (thisSlot t) 0 5 _ (k0_off26_inb _) (off26_eq t) _ _) $$ Hy
  iintro Hy
  iapply (load_lanes c (fetchedRows T yb) (thisSlot t) 0 6 _ (k0_off27_inb _) (off27_eq t) _ _) $$ Hy
  iintro Hy
  iapply (load_lanes c (fetchedRows T yb) (thisSlot t) 0 7 _ (k0_off28_inb _) (off28_eq t) _ _) $$ Hy
  iintro Hy
  iapply (load_lanes c (fetchedRows T yb) (thisSlot t) 1 0 _ (k0_off29_inb _) (off29_eq t) _ _) $$ Hy
  iintro Hy
  iapply (load_lanes c (fetchedRows T yb) (thisSlot t) 1 1 _ (k0_off30_inb _) (off30_eq t) _ _) $$ Hy
  iintro Hy
  rw [wp_pure]
  imodintro
  iapply Hk
  iexact Hy

/-- The body's run. -/
theorem body_run (x1 : Vec F S1024x1024 .f32) (hT : T.Ok) (hx : ∀ s r, x3 (ix2 s r) = T s r) (hT' : t.val + 1 < 64 → T'.Ok) (hx' : t.val + 1 < 64 → ∀ s r, x4 (ix2 s r) = T' s r)
    (Q : PUnit → sProp 𝕄) :
    iprop(tableIdle (F := F) c ∗ owns (c : Thread nD τ) a1 fullShare x1 ∗ owns (c : Thread nD τ) a2 fullShare x2 ∗ owns (c : Thread nD τ) a3 fullShare x3
        ∗ owns (c : Thread nD τ) a4 fullShare x4 ∗ (∃ d, owns (c : Thread nD τ) a6 fullShare d) ∗ slotsBefore c yb t T)
      ⊢ iprop((iprop(tableIdle (F := F) c ∗ owns (c : Thread nD τ) a1 fullShare x1 ∗ owns (c : Thread nD τ) a2 fullShare x2 ∗ owns (c : Thread nD τ) a3 fullShare x3
            ∗ owns (c : Thread nD τ) a4 fullShare x4 ∗ owns (c : Thread nD τ) a6 fullShare (combined x1 x2 (fetchedRows T yb) (thisSlot t)) ∗ slotsAfter c yb t T') -∗ Q ⟨⟩)
        -∗ wp frame (wpE (defs₀ (F := F)) Variants.none (c : Thread nD τ) none) Set.univ (cc0_moe_combine (F := F) (grid0.coords t) a1 h1 a2 h2 a3 h3 a4 h4 Yb (Memref.isWhole_whole _) a6 h6 Tb (Memref.isWhole_whole _) Ys (Memref.isWhole_whole _) cc0_scratch2 cc0_scratch3) Q) := by
  rw [main_eq, wp_bind]
  iintro ⟨HI, H1, H2, H3, H4, ⟨%d, H6⟩, Hs⟩ Hk
  iapply (part1_run c yb a1 h1 a2 h2 a3 h3 a4 h4 a6 h6 x2 x3 x4 T T' t hT hx hT' hx' _) $$ [HI H2 H3 H4 Hs]
  · isplitl [HI]; · iexact HI
    isplitl [H2]; · iexact H2
    isplitl [H3]; · iexact H3
    isplitl [H4]; · iexact H4
    iexact Hs
  iintro ⟨HI, H2, H3, H4, Hl, Hn⟩
  rw [wp_bind]
  unfold landed
  icases Hl with ⟨Hy, Hr⟩
  iapply (part2_run c yb a1 h1 a2 h2 a3 h3 a4 h4 a6 h6 T t _ _) $$ Hy
  iintro Hy
  iapply (load_lanes c (fetchedRows T yb) (thisSlot t) 1 2 _ (k0_off31_inb _) (off31_eq t) _ _) $$ Hy
  iintro Hy
  iapply (load_lanes c (fetchedRows T yb) (thisSlot t) 1 3 _ (k0_off32_inb _) (off32_eq t) _ _) $$ Hy
  iintro Hy
  iapply (load_lanes c (fetchedRows T yb) (thisSlot t) 1 4 _ (k0_off33_inb _) (off33_eq t) _ _) $$ Hy
  iintro Hy
  iapply (load_lanes c (fetchedRows T yb) (thisSlot t) 1 5 _ (k0_off34_inb _) (off34_eq t) _ _) $$ Hy
  iintro Hy
  iapply (load_lanes c (fetchedRows T yb) (thisSlot t) 1 6 _ (k0_off35_inb _) (off35_eq t) _ _) $$ Hy
  iintro Hy
  iapply (load_lanes c (fetchedRows T yb) (thisSlot t) 1 7 _ (k0_off36_inb _) (off36_eq t) _ _) $$ Hy
  iintro Hy
  iapply (load_owned c a1 tokenRect (View.loadsAt_vmem h_S1024x1024) fullShare x1 _ _) $$ H1
  iintro H1
  iapply (load_owned c a6 tokenRect (View.loadsAt_vmem h_S1024x1024) fullShare d _ _) $$ H6
  iintro H6
  iapply (store_owned c a6 d (combined x1 x2 (fetchedRows T yb) (thisSlot t)) (View.stores_vmem_bits_univ h_S1024x1024 rfl) (.inl rfl) _ _) $$ H6
  iintro H6
  rw [wp_pure]
  imodintro
  iapply Hk
  isplitl [HI]; · iexact HI
  isplitl [H1]; · iexact H1
  isplitl [H2]; · iexact H2
  isplitl [H3]; · iexact H3
  isplitl [H4]; · iexact H4
  isplitl [H6]; · iexact H6
  unfold slotsAfter
  isplitl [Hy Hr]
  · iapply (landed_free c (thisSlot t) T yb)
    unfold landed
    isplitl [Hy]; · iexact Hy
    iexact Hr
  iexact Hn

end Cert.Combine

end
-- ==== Proof.CombineRun.lean ====
/-
  The run of the combining kernel: the pipeline's proof data (each input buffer at its block, the output buffer at the block of
  results), what holds between two points (the slots of fetched rows), the body's obligation and the launch. Stated over any
  float values `F`, of arguments whose places are rows of the experts' rows.
-/
module

public import proofs.«01_k».proof.Proof.CombinePoint
public import proofs.«01_k».proof.Proof.Gen.Kernel3Ideal.Launch
public import Idealize.ShloMosaic.Lib.Claim
public import Idealize.ShloMosaic.Lib.Pipeline.TalkSched

@[expose] public section

set_option maxRecDepth 16384

noncomputable section

namespace Cert.Combine

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The places -/

/-- Block `n`'s places: the rows of its 1024 tokens' two choices. -/
def placesAt (D : S2x65536.Idx → BitVec 32) (n : ℕ) : Places := fun s r => D (ix2 s (⟨(1024 * n + r.val) % 65536, Nat.mod_lt _ (by decide)⟩ : Fin 65536))

/-- Every place is one of the experts' rows. -/
def RowsOk (D : S2x65536.Idx → BitVec 32) : Prop := ∀ y, (D y).toNat < 135168

theorem placesAt_ok (D : S2x65536.Idx → BitVec 32) (h : RowsOk D) (n : ℕ) : (placesAt D n).Ok := fun s r => h _

/-! ## Between two points -/

/-- The two slots before point `n`: free at the start and at the end, else this point's in flight and the other free. -/
def slotsAt (c : Dev nD) (yb : S1081344x128.Idx → Elt F .f32) (D : S2x65536.Idx → BitVec 32) (n : ℕ) : sProp 𝕄 :=
  if n % 64 = 0 then iprop(free c 0 yb ∗ free c 1 yb)
  else iprop(inFlight c (Fin.ofNat 2 n) (placesAt D n) yb ∗ free c (Fin.ofNat 2 (n + 1)) yb)

theorem slots_before (c : Dev nD) (yb : S1081344x128.Idx → Elt F .f32) (D : S2x65536.Idx → BitVec 32) (t : Fin grid0.N) :
    (slotsAt c yb D t.val : sProp 𝕄) = slotsBefore c yb t (placesAt D t.val) := by
  have ht : t.val < 64 := lt_of_lt_of_eq t.isLt N_0
  unfold slotsAt slotsBefore
  by_cases h : t.val = 0
  · rw [if_pos (by omega), if_pos h]
  · rw [if_neg (by omega), if_neg h]; rfl

theorem slots_after (c : Dev nD) (yb : S1081344x128.Idx → Elt F .f32) (D : S2x65536.Idx → BitVec 32) (t : Fin grid0.N) :
    slotsAfter c yb t (placesAt D (t.val + 1)) ⊢ (slotsAt c yb D (t.val + 1) : sProp 𝕄) := by
  have ht : t.val < 64 := lt_of_lt_of_eq t.isLt N_0
  unfold slotsAt slotsAfter slotAhead
  by_cases h : t.val + 1 < 64
  · rw [if_pos h, if_neg (by omega)]
    have e : (Fin.ofNat 2 (t.val + 1 + 1) : Fin 2) = thisSlot t := by
      refine Fin.ext ?_
      show (t.val + 1 + 1) % 2 = t.val % 2
      omega
    rw [e]
    iintro ⟨Hf, Hi⟩
    isplitl [Hi]; · iexact Hi
    iexact Hf
  · rw [if_neg h, if_pos (by omega)]
    have e : t.val = 63 := by omega
    have e0 : nextSlot t = 0 := by unfold nextSlot; rw [e]; rfl
    have e1 : thisSlot t = 1 := by unfold thisSlot; rw [e]; rfl
    rw [e0, e1]
    iintro ⟨Hf, Hi⟩
    isplitl [Hi]; · iexact Hi
    iexact Hf

/-- What holds before point `n` beside the staging buffers. -/
def between (c : Dev nD) (yb : S1081344x128.Idx → Elt F .f32) (D : S2x65536.Idx → BitVec 32) (n : ℕ) : sProp 𝕄 :=
  iprop((∃ r, prngReg c r) ∗ (∃ G, heldTb (F := F) c G) ∗ semVal ((c : Thread nD τ), SemLoc.dma tableCell) 0 ∗ slotsAt c yb D n)

/-- The kernel's own semaphores: the table's, and one for each slot. -/
def ownSem : Fin 3 → SemLoc sig := ![.dma tableCell, .dma (cell 0), .dma (cell 1)]

/-- The one array that the kernel reads by itself. -/
abbrev readHere : Finset (Ref sig .tc) := {main_arg3}

theorem ownSems_eq (c : Dev nD) : (Pipeline.ownSems0 (Ix := Unit) (Name := ℕ) (U := Pipeline.UD sig nD τ) (Lvl := ℕ) (Val := Elt F) (τ := τ) ownSem c : sProp 𝕄)
    = iprop(semVal ((c : Thread nD τ), SemLoc.dma tableCell) 0 ∗ quiet c 0 ∗ quiet c 1) :=
  Pipeline.ownSems0_eq_of_list c ownSem [0, 1, 2] (by decide) (by decide)

theorem two_free (c : Dev nD) (yb : S1081344x128.Idx → Elt F .f32) :
    (iprop((∃ f, heldYs c Finset.univ f) ∗ quiet c 0 ∗ quiet c 1 ∗ heldYb c Finset.univ fullShare yb) : sProp 𝕄) ⊣⊢ iprop(free c 0 yb ∗ free c 1 yb) := by
  have hY : (heldYb c Finset.univ fullShare yb : sProp 𝕄) ⊣⊢ iprop(heldYb c Finset.univ (slotShare 0) yb ∗ heldYb c Finset.univ (slotShare 1) yb) :=
    pointsTo_share (PosShare.mem_left_op_right _)
  have hS : ∀ f, (heldYs c Finset.univ f : sProp 𝕄) ⊣⊢ iprop(heldYs c (slotSet 0) f ∗ heldYs c (slotSet 1) f) := fun f => by
    have h := pointsTo_union (nD := nD) (τ := τ) (sig := sig) (Ix := Unit) (Val := Elt F) (Name := ℕ) (U := Pipeline.UD sig nD τ) (Lvl := ℕ)
      (ℓ := Ys.view.loc (c : Thread nD τ)) (q := fullShare) (f := f) slots_disjoint
    rw [slots_cover] at h
    exact h
  constructor
  · unfold free
    iintro ⟨⟨%f, Hs⟩, Hq0, Hq1, Hy⟩
    ihave Hy := hY.1 $$ Hy
    icases Hy with ⟨Hy0, Hy1⟩
    ihave Hs := (hS f).1 $$ Hs
    icases Hs with ⟨Hs0, Hs1⟩
    isplitl [Hs0 Hq0 Hy0]
    · isplitl [Hs0]; · iexists f; iexact Hs0
      isplitl [Hq0]; · iexact Hq0
      iexact Hy0
    · isplitl [Hs1]; · iexists f; iexact Hs1
      isplitl [Hq1]; · iexact Hq1
      iexact Hy1
  · unfold free
    iintro ⟨⟨⟨%f0, Hs0⟩, Hq0, Hy0⟩, ⟨⟨%f1, Hs1⟩, Hq1, Hy1⟩⟩
    let g : S2x2x8192x128.Idx → Elt F .f32 := fun y => if (y 0).val = 0 then f0 y else f1 y
    have e0 : (heldYs c (slotSet 0) f0 : sProp 𝕄) = heldYs c (slotSet 0) g :=
      pointsTo_congr fun y hy => (if_pos ((mem_slotSet 0 y).mp hy)).symm
    have e1 : (heldYs c (slotSet 1) f1 : sProp 𝕄) = heldYs c (slotSet 1) g :=
      pointsTo_congr fun y hy => (if_neg (fun h => by have h' := (mem_slotSet 1 y).mp hy; rw [h] at h'; exact absurd h' (by decide))).symm
    ihave Hs0 := (Entails.of_eq e0) $$ Hs0
    ihave Hs1 := (Entails.of_eq e1) $$ Hs1
    isplitl [Hs0 Hs1]
    · iexists g
      iapply (hS g).2
      isplitl [Hs0]; · iexact Hs0
      iexact Hs1
    isplitl [Hq0]; · iexact Hq0
    isplitl [Hq1]; · iexact Hq1
    iapply hY.2
    isplitl [Hy0]; · iexact Hy0
    iexact Hy1

variable (m : (ℓ : Loc nD τ sig) → Buf (Elt F) ℓ) (ρ : Dev nD → PrngReg)

/-- The buffers as launched. -/
abbrev entry (c : Dev nD) (b : Ref sig .tc) : Buf (Elt F) ((c : Thread nD τ).loc b) := m ((c : Thread nD τ).loc b)
/-- The places as launched. -/
abbrev placesArg (c : Dev nD) : S2x65536.Idx → BitVec 32 := m ((c : Thread nD τ).loc main_arg2)
/-- The experts' rows as launched. -/
abbrev rowsArg (c : Dev nD) : S1081344x128.Idx → Elt F .f32 := m ((c : Thread nD τ).loc main_arg3)

theorem handed_eq (c : Dev nD) : (Pipeline.ΦD ownSem spec0 readHere (entry m) c : sProp 𝕄)
    = iprop(((∃ f, heldYs c Finset.univ f) ∗ (∃ G, heldTb (F := F) c G)) ∗ (∃ r, prngReg c r)
        ∗ (semVal ((c : Thread nD τ), SemLoc.dma tableCell) 0 ∗ quiet c 0 ∗ quiet c 1) ∗ heldYb c Finset.univ fullShare (rowsArg m c)) := by
  rw [Pipeline.ΦD_eq, scopedRest0_eq, ownSems_eq, bigSep_singleton]; rfl

theorem handed_in (c : Dev nD) (D : S2x65536.Idx → BitVec 32) : (Pipeline.ΦD ownSem spec0 readHere (entry m) c : sProp 𝕄) ⊢ between c (rowsArg m c) D 0 := by
  rw [handed_eq]
  unfold between slotsAt
  rw [if_pos rfl]
  iintro ⟨⟨Hs, HG⟩, Hp, ⟨Ht, Hq0, Hq1⟩, Hy⟩
  isplitl [Hp]; · iexact Hp
  isplitl [HG]; · iexact HG
  isplitl [Ht]; · iexact Ht
  iapply (two_free c (rowsArg m c)).1
  isplitl [Hs]; · iexact Hs
  isplitl [Hq0]; · iexact Hq0
  isplitl [Hq1]; · iexact Hq1
  iexact Hy

theorem handed_out (c : Dev nD) (D : S2x65536.Idx → BitVec 32) : between c (rowsArg m c) D 64 ⊢ (Pipeline.ΦD ownSem spec0 readHere (entry m) c : sProp 𝕄) := by
  rw [handed_eq]
  unfold between slotsAt
  rw [if_pos rfl]
  iintro ⟨Hp, HG, Ht, Hf⟩
  ihave Hf := (two_free c (rowsArg m c)).2 $$ Hf
  icases Hf with ⟨Hs, Hq0, Hq1, Hy⟩
  isplitl [Hs HG]
  · isplitl [Hs]; · iexact Hs
    iexact HG
  isplitl [Hp]; · iexact Hp
  isplitl [Ht Hq0 Hq1]
  · isplitl [Ht]; · iexact Ht
    isplitl [Hq0]; · iexact Hq0
    iexact Hq1
  iexact Hy

/-! ## The blocks -/

/-- Window `w`'s block at point `t`, of its array as launched. -/
def blkAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

theorem index2 : ∀ t : Fin grid0.N, cc0_transform_2 (grid0.coords t) = ![0, t.val] := by decide +kernel
theorem index3 : ∀ t : Fin grid0.N, cc0_transform_3 (grid0.coords t) = ![0, min (t.val + 1) 63] := by decide +kernel
theorem index0 : ∀ t : Fin grid0.N, cc0_transform_0 (grid0.coords t) = ![t.val, 0] := by decide +kernel
theorem index1 : ∀ t : Fin grid0.N, cc0_transform_1 (grid0.coords t) = ![t.val, 0] := by decide +kernel
theorem index4 : ∀ t : Fin grid0.N, cc0_transform_5 (grid0.coords t) = ![t.val, 0] := by decide +kernel

theorem emb_places (t : Fin cfg0.N) (s : Fin 2) (r : Fin 1024) : ((cfg0.win 2).blk t).view.emb (ix2 s r)
    = (ix2 s (⟨(1024 * t.val + r.val) % 65536, Nat.mod_lt _ (by decide)⟩ : Fin 65536) : S2x65536.Idx) := by
  have ht : t.val < 64 := lt_of_lt_of_eq t.isLt N_0
  funext a
  refine Fin.ext ?_
  refine (Pipeline.Window.rect_emb_val (cfg0.win 2) t _ a).trans ?_
  have e : (cfg0.win 2).index t = ![0, t.val] := index2 t
  rw [congrFun e a]
  match a with
  | ⟨0, _⟩ => show 0 * 2 + s.val = s.val; omega
  | ⟨1, _⟩ => show t.val * 1024 + r.val = (1024 * t.val + r.val) % 65536; have := r.isLt; omega

theorem emb_next (t : Fin cfg0.N) (h : t.val + 1 < 64) (s : Fin 2) (r : Fin 1024) : ((cfg0.win 3).blk t).view.emb (ix2 s r)
    = (ix2 s (⟨(1024 * (t.val + 1) + r.val) % 65536, Nat.mod_lt _ (by decide)⟩ : Fin 65536) : S2x65536.Idx) := by
  funext a
  refine Fin.ext ?_
  refine (Pipeline.Window.rect_emb_val (cfg0.win 3) t _ a).trans ?_
  have e : (cfg0.win 3).index t = ![0, min (t.val + 1) 63] := index3 t
  rw [congrFun e a, Nat.min_eq_left (by omega)]
  match a with
  | ⟨0, _⟩ => show 0 * 2 + s.val = s.val; omega
  | ⟨1, _⟩ => show (t.val + 1) * 1024 + r.val = (1024 * (t.val + 1) + r.val) % 65536; have := r.isLt; omega

theorem blk_places (c : Dev nD) (t : Fin cfg0.N) (s : Fin 2) (r : Fin 1024) :
    (blkAt m c 2 t : Vec F S2x1024 .i32) (ix2 s r) = placesAt (placesArg m c) t.val s r :=
  congrArg (placesArg m c) (emb_places t s r)
theorem blk_next (c : Dev nD) (t : Fin cfg0.N) (h : t.val + 1 < 64) (s : Fin 2) (r : Fin 1024) :
    (blkAt m c 3 t : Vec F S2x1024 .i32) (ix2 s r) = placesAt (placesArg m c) (t.val + 1) s r :=
  congrArg (placesArg m c) (emb_next t h s r)

/-- What the body leaves in the output's buffer at point `t`. -/
def outAt (c : Dev nD) (t : Fin cfg0.N) : Vec F S1024x1024 .f32 :=
  combined (blkAt m c 0 t) (blkAt m c 1 t) (fetchedRows (placesAt (placesArg m c) t.val) (rowsArg m c)) (thisSlot t)

/-- The pipeline's proof data. -/
def data (_ : Fin 1) (c : Dev nD) : Dat τ (Elt F) Unit ℕ (Pipeline.UD sig nD τ) ℕ cfg0 c where
  A w := entry m c (Pipeline.arrRef spec0 w)
  after w t := match w with
    | ⟨0, _⟩ => blkAt m c 0 t
    | ⟨1, _⟩ => blkAt m c 1 t
    | ⟨2, _⟩ => blkAt m c 2 t
    | ⟨3, _⟩ => blkAt m c 3 t
    | ⟨4, _⟩ => outAt m c t
  Φ t := between c (rowsArg m c) (placesArg m c) t.val
  q w := Pipeline.shareOf spec0 w
  owed _ := 0

theorem data_A (c : Dev nD) (w : Fin cfg0.W) : (data m 0 c).A w = entry m c (Pipeline.arrRef spec0 w) := by dsimp only [data]

section Leaves
variable (c : Dev nD) (t : Fin cfg0.N)

theorem holds_before : (data m 0 c).Φ t.castSucc = between c (rowsArg m c) (placesArg m c) t.val := by
  dsimp only [data]; exact Pipeline.Dat.Φ_castSucc (fun n _ => between c (rowsArg m c) (placesArg m c) n) t
theorem holds_after : (data m 0 c).Φ t.succ = between c (rowsArg m c) (placesArg m c) (t.val + 1) := by dsimp only [data]; rfl

theorem leaves0 : (data m 0 c).after 0 t = blkAt m c 0 t := by dsimp only [data]; try rfl
theorem leaves1 : (data m 0 c).after 1 t = blkAt m c 1 t := by dsimp only [data]; try rfl
theorem leaves2 : (data m 0 c).after 2 t = blkAt m c 2 t := by dsimp only [data]; try rfl
theorem leaves3 : (data m 0 c).after 3 t = blkAt m c 3 t := by dsimp only [data]; try rfl
theorem leaves4 : (data m 0 c).after 4 t = outAt m c t := by dsimp only [data]; try rfl

theorem finds0 (d) : (data m 0 c).before 0 t d = blkAt m c 0 t :=
  ((data m 0 c).before_in_eq_fetched 0 rfl (fun _ => rfl) (fun _ _ _ => rfl)
    (fun t => by rw [leaves0]; unfold Dat.blockOf blkAt; rw [data_A]; try rfl) t d).trans
    (by unfold Dat.fetched Dat.blockOf blkAt; rw [data_A]; try rfl)
theorem finds1 (d) : (data m 0 c).before 1 t d = blkAt m c 1 t :=
  ((data m 0 c).before_in_eq_fetched 1 rfl (fun _ => rfl) (fun _ _ _ => rfl)
    (fun t => by rw [leaves1]; unfold Dat.blockOf blkAt; rw [data_A]; try rfl) t d).trans
    (by unfold Dat.fetched Dat.blockOf blkAt; rw [data_A]; try rfl)
theorem finds2 (d) : (data m 0 c).before 2 t d = blkAt m c 2 t :=
  ((data m 0 c).before_in_eq_fetched 2 rfl (fun _ => rfl) (fun _ _ _ => rfl)
    (fun t => by rw [leaves2]; unfold Dat.blockOf blkAt; rw [data_A]; try rfl) t d).trans
    (by unfold Dat.fetched Dat.blockOf blkAt; rw [data_A]; try rfl)
theorem finds3 (d) : (data m 0 c).before 3 t d = blkAt m c 3 t :=
  ((data m 0 c).before_in_eq_fetched 3 rfl (fun _ => rfl) (fun _ _ _ => rfl)
    (fun t => by rw [leaves3]; unfold Dat.blockOf blkAt; rw [data_A]; try rfl) t d).trans
    (by unfold Dat.fetched Dat.blockOf blkAt; rw [data_A]; try rfl)
abbrev stg0 : Memref sig .tc .vmem S1024x1024 .f32 := win0_0.stage (cfg0.slots t 0)
abbrev stgW0 : (stg0 t).IsWhole := hstage0_0 ((cfg0.slots t 0).cast nbuf0_0)
abbrev stg1 : Memref sig .tc .vmem S1024x8 .f32 := win0_1.stage (cfg0.slots t 1)
abbrev stgW1 : (stg1 t).IsWhole := hstage0_1 ((cfg0.slots t 1).cast nbuf0_1)
abbrev stg2 : Memref sig .tc .vmem S2x1024 .i32 := win0_2.stage (cfg0.slots t 2)
abbrev stgW2 : (stg2 t).IsWhole := hstage0_2 ((cfg0.slots t 2).cast nbuf0_2)
abbrev stg3 : Memref sig .tc .vmem S2x1024 .i32 := win0_3.stage (cfg0.slots t 3)
abbrev stgW3 : (stg3 t).IsWhole := hstage0_3 ((cfg0.slots t 3).cast nbuf0_3)
abbrev stg4 : Memref sig .tc .vmem S1024x1024 .f32 := win0_4.stage (cfg0.slots t 4)
abbrev stgW4 : (stg4 t).IsWhole := hstage0_4 ((cfg0.slots t 4).cast nbuf0_4)

/-- The kernel's body at point `t`. -/
abbrev bodyAt : Prog (TpuEff nD τ sig (Elt F) Λ₀ .tc) PUnit :=
  cc0_moe_combine (grid0.coords t) (stg0 t) (stgW0 t) (stg1 t) (stgW1 t) (stg2 t) (stgW2 t) (stg3 t) (stgW3 t) Yb (Memref.isWhole_whole _) (stg4 t) (stgW4 t)
    Tb (Memref.isWhole_whole _) Ys (Memref.isWhole_whole _) cc0_scratch2 cc0_scratch3

theorem body_row : defs₀ (F := F) .tc cfg0.body (cfg0.bodyArgs t (cfg0.slots t)) = bodyAt t := by
  unfold defs₀; rw [Defs.onTc_tc]

/-- The buffers as the body finds them, with what holds between the points and what is owed. -/
def startOf : sProp 𝕄 :=
  iprop((data m 0 c).Φ t.castSucc ∗ (data m 0 c).owesAt () t.castSucc
    ∗ (∃ d, owns (c : Thread nD τ) (stg0 t) fullShare ((data m 0 c).before 0 t d))
    ∗ (∃ d, owns (c : Thread nD τ) (stg1 t) fullShare ((data m 0 c).before 1 t d))
    ∗ (∃ d, owns (c : Thread nD τ) (stg2 t) fullShare ((data m 0 c).before 2 t d))
    ∗ (∃ d, owns (c : Thread nD τ) (stg3 t) fullShare ((data m 0 c).before 3 t d))
    ∗ (∃ d, owns (c : Thread nD τ) (stg4 t) fullShare ((data m 0 c).before 4 t d)))

/-- The buffers as the body leaves them. -/
def finishOf : sProp 𝕄 :=
  iprop((data m 0 c).Φ t.succ ∗ (data m 0 c).owesAt () t.succ
    ∗ owns (c : Thread nD τ) (stg0 t) fullShare ((data m 0 c).after 0 t)
    ∗ owns (c : Thread nD τ) (stg1 t) fullShare ((data m 0 c).after 1 t)
    ∗ owns (c : Thread nD τ) (stg2 t) fullShare ((data m 0 c).after 2 t)
    ∗ owns (c : Thread nD τ) (stg3 t) fullShare ((data m 0 c).after 3 t)
    ∗ owns (c : Thread nD τ) (stg4 t) fullShare ((data m 0 c).after 4 t))

/-- The body takes the one to the other. -/
theorem body_sound (hO : RowsOk (placesArg m c)) : startOf m c t
    ⊢ wp frame (wpE (defs₀ (F := F)) Variants.none c none) Set.univ (bodyAt t) (fun _ => finishOf m c t) := by
  unfold startOf finishOf
  simp only [finds0, finds1, finds2, finds3]
  rw [holds_before, holds_after, leaves0, leaves1, leaves2, leaves3, leaves4]
  unfold between
  rw [slots_before]
  iintro ⟨⟨Hp, HG, Hq, Hs⟩, Ho, ⟨%d0, H0⟩, ⟨%d1, H1⟩, ⟨%d2, H2⟩, ⟨%d3, H3⟩, ⟨%d4, H4⟩⟩
  ihave Ho := (TalkSites.owesAt_elim (data m 0 c) () t.castSucc 0 rfl) $$ Ho
  iapply (body_run c (rowsArg m c) (stg0 t) (stgW0 t) (stg1 t) (stgW1 t) (stg2 t) (stgW2 t) (stg3 t) (stgW3 t) (stg4 t) (stgW4 t)
    (blkAt m c 1 t) (blkAt m c 2 t) (blkAt m c 3 t) (placesAt (placesArg m c) t.val) (placesAt (placesArg m c) (t.val + 1)) t (blkAt m c 0 t)
    (placesAt_ok _ hO _) (blk_places m c t) (fun _ => placesAt_ok _ hO _) (blk_next m c t) _) $$ [HG Hq Ho H0 H1 H2 H3 H4 Hs]
  · isplitl [HG Hq Ho]
    · unfold tableIdle
      isplitl [HG]; · iexact HG
      isplitl [Hq]; · iexact Hq
      iexact Ho
    isplitl [H0]; · iexact H0
    isplitl [H1]; · iexact H1
    isplitl [H2]; · iexact H2
    isplitl [H3]; · iexact H3
    isplitl [H4]; · iexists _; iexact H4
    iexact Hs
  unfold tableIdle
  iintro ⟨⟨HG, Hq, ⟨%W, HO⟩⟩, H0, H1, H2, H3, H4, Hs⟩
  isplitl [Hp HG Hq Hs]
  · isplitl [Hp]; · iexact Hp
    isplitl [HG]; · iexact HG
    isplitl [Hq]; · iexact Hq
    iapply (slots_after c (rowsArg m c) (placesArg m c) t)
    iexact Hs
  isplitl [HO]
  · iapply (TalkSites.owesAt_intro (data m 0 c) () t.succ 0 rfl rfl W)
    iexact HO
  isplitl [H0]; · iexact H0
  isplitl [H1]; · iexact H1
  isplitl [H2]; · iexact H2
  isplitl [H3]; · iexact H3
  iexact H4

end Leaves

theorem body_obligation (c : Dev nD) (hO : RowsOk (placesArg m c)) :
    BodyObligation (data (F := F) m 0 c) (defs₀ (F := F)) Variants.none () Set.univ := fun t => by
  rw [bigSep_W0, bigSep_W0, body_row]
  exact triple_restated (body_sound m c t hO) rfl .rfl fun _ => .rfl

theorem main_to_region : Pipeline.HMain (Ix := Unit) (Name := ℕ) (U := Pipeline.UD sig nD τ) (Lvl := ℕ) cfgs 0 defs₀ Variants.none m (main (F := F)) (entry m) :=
  Pipeline.hmain_region cfgs 0 defs₀ Variants.none m main fun c => main_chain c

-- the implicit arguments of the launch rule are found by unfolding plain definitions in their types
set_option backward.isDefEq.respectTransparency.types false in
/-- Every execution of the program ends, with every array of the pipeline at what its proof data say, every other buffer as
launched, and every semaphore at zero. -/
theorem run_launch (hO : ∀ c, RowsOk (placesArg m c)) : θ_run defs (onTc (τ := τ) (main (F := F))) (s₀ m ρ)
    (fun r => Pipeline.FramePost cfgs (data m) 0 (entry m) r ∧ r.2.sem = fun _ => 0) :=
  Pipeline.θ_run_frame_dma_shared (Q' := _) cfgs (data m) (0 : Fin 1) launch₀0 ownSem defs₀ Variants.none (by decide) readHere (by decide) m ρ main
    (hbody := fun c => (body_obligation m c (hO c)).loose) (hq := fun c w _ => rfl)
    (howed := fun _ _ => rfl) (V := entry m) (hmain := main_to_region m) (hA := data_A m)
    (hin := fun c => handed_in m c _) (hout := fun c => handed_out m c _)

/-- What a run leaves: the four arguments as launched, the result at what the pipeline's last write-back leaves, and no
semaphore raised. -/
theorem run_main (hO : ∀ c, RowsOk (placesArg m c)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v0) = (data m 0 c).arrAt 4 cfg0.N)
      ∧ r.2.sem = fun _ => 0) := by
  refine (θ_run defs _ _).mono (fun r h => ⟨fun c => ⟨?_, ?_, ?_, ?_, ?_⟩, h.2⟩) (run_launch m ρ hO)
  · exact ((h.1 c).1 0).trans (((data m 0 c).arrAt_in 0 rfl _).trans (data_A m c 0))
  · exact ((h.1 c).1 1).trans (((data m 0 c).arrAt_in 1 rfl _).trans (data_A m c 1))
  · exact ((h.1 c).1 2).trans (((data m 0 c).arrAt_in 2 rfl _).trans (data_A m c 2))
  · exact (h.1 c).2 main_arg3 (by decide : main_arg3 ∈ Pipeline.restRefs sig spec0)
  · exact (h.1 c).1 4

end Cert.Combine

end
-- ==== Proof.CombineValue.lean ====
/-
  What the combining kernel's result holds, entry by entry over any float values: the token's own entry, plus the entry of its
  first choice's row times that choice's weight, plus the same of its second choice.
-/
module

public import proofs.«01_k».proof.Proof.CombineRun
public import Idealize.ShloMosaic.Lib.Pipeline.ValueKit
public import Idealize.ShloMosaic.Lib.Pipeline.Value

@[expose] public section

set_option maxRecDepth 16384

noncomputable section

namespace Cert.Combine

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One block -/

/-- A load of a whole block reads the block. -/
theorem read_route (x : Vec F S1024x8 .f32) (y : S1024x8.Idx) : readOf x routeRect y = x y := by
  refine congrArg x (funext fun a => Fin.ext ?_)
  match a with
  | ⟨0, _⟩ => show 0 + 1 * (y 0).val = (y 0).val; omega
  | ⟨1, _⟩ => show 0 + 1 * (y 1).val = (y 1).val; omega
theorem read_token (x : Vec F S1024x1024 .f32) (y : S1024x1024.Idx) : readOf x tokenRect y = x y := by
  refine congrArg x (funext fun a => Fin.ext ?_)
  match a with
  | ⟨0, _⟩ => show 0 + 1 * (y 0).val = (y 0).val; omega
  | ⟨1, _⟩ => show 0 + 1 * (y 1).val = (y 1).val; omega

/-- Entry `(r, k)` of the rows fetched for choice `s` into slot `p`. -/
def gotEntry (Y : S2x2x8192x128.Idx → Elt F .f32) (p s : Fin 2) (r k : Fin 1024) : Elt F .f32 :=
  Y (ValueIdx.ix4 p s (⟨8 * r.val + k.val / 128, by have := r.isLt; have := k.isLt; omega⟩ : Fin 8192) (⟨k.val % 128, Nat.mod_lt _ (by decide)⟩ : Fin 128))

/-- Eight lane groups side by side are the fetched rows of 1024 columns. -/
theorem side_by_side (Y : S2x2x8192x128.Idx → Elt F .f32) (p s : Fin 2) (r k : Fin 1024) :
    k0_pay2 (lanesOf Y p s 0) (lanesOf Y p s 1) (lanesOf Y p s 2) (lanesOf Y p s 3) (lanesOf Y p s 4) (lanesOf Y p s 5) (lanesOf Y p s 6) (lanesOf Y p s 7) (ValueIdx.ix2 r k)
      = gotEntry Y p s r k := by
  have hr := r.isLt
  have hk := k.isLt
  refine (concatenate_ofFn_apply (t := S1024x1024) (s₁ := S1024x128) 1 (fun q : Fin 8 => shapeCast S1024x128 (lanesOf Y p s q) shapeCasts_S1x1x1024x128_S1024x128)
    concatenates_S1024x128_S1024x128_S1024x128_S1024x128_S1024x128_S1024x128_S1024x128_S1024x128_S1024x1024_d1 rfl 128 rfl (ValueIdx.ix2 r k)
    ⟨k.val / 128, by omega⟩ rfl (ValueIdx.ix2 r (⟨k.val % 128, Nat.mod_lt _ (by decide)⟩ : Fin 128)) rfl (fun b hb => ?_)).trans ?_
  · match b with
    | ⟨0, _⟩ => rfl
    | ⟨1, _⟩ => exact absurd rfl hb
  · exact shapeCast_apply _ shapeCasts_S1x1x1024x128_S1024x128 _ (ValueIdx.ix4 (0 : Fin 1) (0 : Fin 1) r (⟨k.val % 128, Nat.mod_lt _ (by decide)⟩ : Fin 128)) (by
      rewrite [Shape.rowMajor_val_four, Shape.rowMajor_val_two]
      show ((0 * 1 + 0) * 1024 + r.val) * 128 + k.val % 128 = r.val * 128 + k.val % 128
      omega)

/-- A weight's column spread over a block. -/
theorem spread_weight (o : Fin 8) (x : Vec F S1024x8 .f32) (h : S1024x8.Slices ![0, o.val] S1024x1) (r k : Fin 1024) :
    broadcastTo S1024x1024 (extractStridedSlice S1024x1 ![0, o.val] x h) broadcasts_S1024x1_S1024x1024 (ValueIdx.ix2 r k) = x (ValueIdx.ix2 r o) := by
  refine (broadcastTo_apply _ broadcasts_S1024x1_S1024x1024 (ValueIdx.ix2 r k) (ValueIdx.ix2 r (0 : Fin 1)) (fun a => ?_)).trans
    (extractStridedSlice_apply ![0, o.val] x h (ValueIdx.ix2 r (0 : Fin 1)) (ValueIdx.ix2 r o) (fun a => ?_))
  · match a with
    | ⟨0, _⟩ => show r.val = if (1024 : ℕ) = 1 then 0 else r.val; rw [if_neg (by decide)]
    | ⟨1, _⟩ => show 0 = if (1 : ℕ) = 1 then 0 else k.val; rw [if_pos rfl]
  · match a with
    | ⟨0, _⟩ => show r.val = 0 + r.val; omega
    | ⟨1, _⟩ => show o.val = o.val + 0; omega

/-- A block's result at an entry. -/
theorem combined_apply (x1 : Vec F S1024x1024 .f32) (x2 : Vec F S1024x8 .f32) (Y : S2x2x8192x128.Idx → Elt F .f32) (p : Fin 2) (r k : Fin 1024) :
    combined x1 x2 Y p (ValueIdx.ix2 r k)
      = FloatOps.addf (FloatOps.addf (x1 (ValueIdx.ix2 r k)) (FloatOps.mulf (x2 (ValueIdx.ix2 r (2 : Fin 8))) (gotEntry Y p 0 r k)))
          (FloatOps.mulf (x2 (ValueIdx.ix2 r (3 : Fin 8))) (gotEntry Y p 1 r k)) := by
  have hx : readOf x1 tokenRect = x1 := funext (read_token x1)
  have hw : readOf x2 routeRect = x2 := funext (read_route x2)
  unfold combined
  rw [hx, hw]
  have h2 := spread_weight 2 x2 slices_S1024x8_o0_2_S1024x1 r k
  have h3 := spread_weight 3 x2 slices_S1024x8_o0_3_S1024x1 r k
  have g0 := side_by_side Y p 0 r k
  have g1 := side_by_side Y p 1 r k
  refine congrArg₂ FloatOps.addf (congrArg₂ FloatOps.addf rfl (congrArg₂ FloatOps.mulf h2 g0)) (congrArg₂ FloatOps.mulf h3 g1)

/-- A fetched entry is an entry of the experts' rows. -/
theorem got_fetched (T : Places) (yb : S1081344x128.Idx → Elt F .f32) (p s : Fin 2) (r k : Fin 1024) (n : ℕ) (hn : (T s r).toNat = n) (h : n < 135168) :
    gotEntry (fetchedRows T yb) p s r k
      = yb (ValueIdx.ix2 (⟨8 * n + k.val / 128, by have := k.isLt; omega⟩ : Fin 1081344) (⟨k.val % 128, Nat.mod_lt _ (by decide)⟩ : Fin 128)) := by
  have hr := r.isLt; have hk := k.isLt; have hs := s.isLt
  unfold gotEntry fetchedRows
  refine congrArg yb (funext fun a => Fin.ext ?_)
  match a with
  | ⟨0, _⟩ =>
    show (8 * placeOf T (2 * ((8 * r.val + k.val / 128) / 8) + s.val) + (8 * r.val + k.val / 128) % 8) % 1081344 = 8 * n + k.val / 128
    rw [show (8 * r.val + k.val / 128) / 8 = r.val by omega, placeOf_eq, hn]
    omega
  | ⟨1, _⟩ => rfl

/-! ## The array -/

variable (m : (ℓ : Loc nD τ sig) → Buf (Elt F) ℓ) (c : Dev nD) (t : Fin cfg0.N)

/-- The tokens and the router's weights as launched. -/
abbrev tokensArg : S65536x1024.Idx → Elt F .f32 := m ((c : Thread nD τ).loc main_arg0)
abbrev routeArg : S65536x8.Idx → Elt F .f32 := m ((c : Thread nD τ).loc main_arg1)

/-- Entry `k` of the row of 1024 at place `w`, in the layout of 128 columns. -/
def rowEntry (yb : S1081344x128.Idx → Elt F .f32) (w : BitVec 32) (k : Fin 1024) : Elt F .f32 :=
  yb (ValueIdx.ix2 (⟨(8 * w.toNat + k.val / 128) % 1081344, Nat.mod_lt _ (by decide)⟩ : Fin 1081344) (⟨k.val % 128, Nat.mod_lt _ (by decide)⟩ : Fin 128))

/-- The answer: a token's entry and its two weighted choices, added in the kernel's order. -/
def answer (h : S65536x1024.Idx → Elt F .f32) (w : S65536x8.Idx → Elt F .f32) (D : S2x65536.Idx → BitVec 32) (yb : S1081344x128.Idx → Elt F .f32) :
    S65536x1024.Idx → Elt F .f32 := fun j =>
  FloatOps.addf (FloatOps.addf (h j) (FloatOps.mulf (w (ValueIdx.ix2 (⟨(j 0).val, (j 0).isLt⟩ : Fin 65536) (2 : Fin 8))) (rowEntry yb (D (ValueIdx.ix2 (0 : Fin 2) (⟨(j 0).val, (j 0).isLt⟩ : Fin 65536))) ⟨(j 1).val, (j 1).isLt⟩)))
    (FloatOps.mulf (w (ValueIdx.ix2 (⟨(j 0).val, (j 0).isLt⟩ : Fin 65536) (3 : Fin 8))) (rowEntry yb (D (ValueIdx.ix2 (1 : Fin 2) (⟨(j 0).val, (j 0).isLt⟩ : Fin 65536))) ⟨(j 1).val, (j 1).isLt⟩))

/-- Row `r` of block `t`. -/
def tokenAt (r : Fin 1024) : Fin 65536 := ⟨1024 * t.val + r.val, by have h : t.val < 64 := lt_of_lt_of_eq t.isLt N_0; have := r.isLt; omega⟩

theorem emb_tokens (r k : Fin 1024) : ((cfg0.win 0).blk t).view.emb (ValueIdx.ix2 r k) = (ValueIdx.ix2 (tokenAt t r) k : S65536x1024.Idx) := by
  funext a
  refine Fin.ext ?_
  refine (Pipeline.Window.rect_emb_val (cfg0.win 0) t _ a).trans ?_
  have e : (cfg0.win 0).index t = ![t.val, 0] := index0 t
  rw [congrFun e a]
  match a with
  | ⟨0, _⟩ => show t.val * 1024 + r.val = 1024 * t.val + r.val; omega
  | ⟨1, _⟩ => show 0 * 1024 + k.val = k.val; omega

theorem emb_route (r : Fin 1024) (o : Fin 8) : ((cfg0.win 1).blk t).view.emb (ValueIdx.ix2 r o) = (ValueIdx.ix2 (tokenAt t r) o : S65536x8.Idx) := by
  funext a
  refine Fin.ext ?_
  refine (Pipeline.Window.rect_emb_val (cfg0.win 1) t _ a).trans ?_
  have e : (cfg0.win 1).index t = ![t.val, 0] := index1 t
  rw [congrFun e a]
  match a with
  | ⟨0, _⟩ => show t.val * 1024 + r.val = 1024 * t.val + r.val; omega
  | ⟨1, _⟩ => show 0 * 8 + o.val = o.val; omega

theorem emb_result (r k : Fin 1024) : ((cfg0.win 4).blk t).view.emb (ValueIdx.ix2 r k) = (ValueIdx.ix2 (tokenAt t r) k : S65536x1024.Idx) := by
  funext a
  refine Fin.ext ?_
  refine (Pipeline.Window.rect_emb_val (cfg0.win 4) t _ a).trans ?_
  have e : (cfg0.win 4).index t = ![t.val, 0] := index4 t
  rw [congrFun e a]
  match a with
  | ⟨0, _⟩ => show t.val * 1024 + r.val = 1024 * t.val + r.val; omega
  | ⟨1, _⟩ => show 0 * 1024 + k.val = k.val; omega

/-- A fetched entry of block `t` is the entry of the row at its token's place. -/
theorem got_row (hO : RowsOk (placesArg m c)) (s : Fin 2) (p : Fin 2) (r k : Fin 1024) :
    gotEntry (fetchedRows (placesAt (placesArg m c) t.val) (rowsArg m c)) p s r k
      = rowEntry (rowsArg m c) (placesArg m c (ValueIdx.ix2 s (tokenAt t r))) k := by
  have ht : t.val < 64 := lt_of_lt_of_eq t.isLt N_0
  have hr := r.isLt; have hk := k.isLt
  have e : placesAt (placesArg m c) t.val s r = placesArg m c (ValueIdx.ix2 s (tokenAt t r)) :=
    congrArg (fun i : Fin 65536 => placesArg m c (ValueIdx.ix2 s i)) (Fin.ext (show (1024 * t.val + r.val) % 65536 = 1024 * t.val + r.val by omega))
  have hl := hO (ValueIdx.ix2 s (tokenAt t r))
  refine (got_fetched _ _ p s r k _ (congrArg BitVec.toNat e) hl).trans ?_
  unfold rowEntry
  refine congrArg (rowsArg m c) (funext fun a => Fin.ext ?_)
  match a with
  | ⟨0, _⟩ =>
    show 8 * (placesArg m c (ValueIdx.ix2 s (tokenAt t r))).toNat + k.val / 128 = (8 * (placesArg m c (ValueIdx.ix2 s (tokenAt t r))).toNat + k.val / 128) % 1081344
    omega
  | ⟨1, _⟩ => rfl

abbrev answerOf : S65536x1024.Idx → Elt F .f32 := answer (tokensArg m c) (routeArg m c) (placesArg m c) (rowsArg m c)

/-- What a point leaves in the output's buffer, at the array's entries. -/
theorem out_answer (hO : RowsOk (placesArg m c)) (r k : Fin 1024) : outAt m c t (ValueIdx.ix2 r k) = answerOf m c (ValueIdx.ix2 (tokenAt t r) k) := by
  unfold outAt
  rw [combined_apply, got_row m c t hO, got_row m c t hO]
  have h0 : (blkAt m c 0 t : Vec F S1024x1024 .f32) (ValueIdx.ix2 r k) = tokensArg m c (ValueIdx.ix2 (tokenAt t r) k) := congrArg (tokensArg m c) (emb_tokens t r k)
  have h2 : (blkAt m c 1 t : Vec F S1024x8 .f32) (ValueIdx.ix2 r (2 : Fin 8)) = routeArg m c (ValueIdx.ix2 (tokenAt t r) (2 : Fin 8)) := congrArg (routeArg m c) (emb_route t r 2)
  have h3 : (blkAt m c 1 t : Vec F S1024x8 .f32) (ValueIdx.ix2 r (3 : Fin 8)) = routeArg m c (ValueIdx.ix2 (tokenAt t r) (3 : Fin 8)) := congrArg (routeArg m c) (emb_route t r 3)
  exact congrArg₂ FloatOps.addf (congrArg₂ FloatOps.addf h0 (congrArg₂ FloatOps.mulf h2 rfl)) (congrArg₂ FloatOps.mulf h3 rfl)

/-- Every block is written back. -/
theorem written_back : ∀ t : Fin grid0.N, (cfg0.win 4).flush t = true := by decide +kernel

/-- An entry lies in the block of its own token. -/
theorem in_block (i : S65536x1024.Idx) (hv : t.val = (i 0).val / 1024) : i ∈ ((cfg0.win 4).blk t).view.set := by
  have h0 : (i 0).val < 65536 := (i 0).isLt
  have h1 : (i 1).val < 1024 := (i 1).isLt
  have hy : ((cfg0.win 4).blk t).view.emb (ValueIdx.ix2 (⟨(i 0).val % 1024, by omega⟩ : Fin 1024) (⟨(i 1).val, h1⟩ : Fin 1024)) = i := by
    refine (emb_result t _ _).trans ?_
    funext a
    refine Fin.ext ?_
    match a with
    | ⟨0, _⟩ => show 1024 * t.val + (i 0).val % 1024 = (i 0).val; rw [hv]; omega
    | ⟨1, _⟩ => rfl
  exact hy ▸ View.emb_mem_set _ _

/-- The result array after the run. -/
theorem array_value (hO : RowsOk (placesArg m c)) : (data m 0 c).arrAt 4 cfg0.N = answerOf m c := by
  refine Pipeline.Dat.arrAt_eq_of_emb (data m 0 c) (4 : Fin 5) (answerOf m c) (fun t _ y => ?_) (fun i => ?_)
  · have hy : y = (ValueIdx.ix2 (⟨(y 0).val, (y 0).isLt⟩ : Fin 1024) (⟨(y 1).val, (y 1).isLt⟩ : Fin 1024) : S1024x1024.Idx) := ValueIdx.eq_ix2 y
    refine (congrFun (leaves4 m c t) y).trans ?_
    refine (congrArg (outAt m c t) hy).trans ?_
    refine (out_answer m c t hO _ _).trans ?_
    refine congrArg (answerOf m c) ?_
    exact (emb_result t _ _).symm.trans (congrArg ((cfg0.win 4).blk t).view.emb hy.symm)
  · have h0 : (i 0).val < 65536 := (i 0).isLt
    have h1 : (i 1).val < 1024 := (i 1).isLt
    exact ⟨⟨(i 0).val / 1024, lt_of_lt_of_eq (by omega : (i 0).val / 1024 < 64) N_0.symm⟩, written_back _, in_block _ i rfl⟩

end Cert.Combine

end
-- ==== Proof.CombineRef.lean ====
/-
  The reference of the combining kernel, entry by entry over any float values: where every place is a row of the experts'
  rows, its two row look-ups read the rows at the places.
-/
module

public import proofs.«01_k».proof.Proof.CombineValue
public import proofs.«01_k».proof.Proof.Gen.Reference3Ideal.Read
public import Idealize.ShloMosaic.Lib.Routing.Ops
public import Idealize.ShloMosaic.Lib.DynamicIndex

@[expose] public section

set_option maxRecDepth 16384

noncomputable section

namespace Cert.Combine

open Cert.Reference3Ideal Cert.Reference3Ideal.Gen Cert.Reference3Ideal.Read
open Idealize.ShloMosaic Idealize.ShloMosaic.TcCoe
open Idealize.SL.Sem

variable {F : FTy → Type} [FloatOps F]

/-- A word below 135168 is not negative. -/
theorem toInt_nonneg (w : BitVec 32) (h : w.toNat < 135168) : 0 ≤ w.toInt := by
  rw [BitVec.toInt_eq_toNat_cond]
  split <;> omega

/-- The first look-up's index of token `r`: its first place. -/
theorem index_first (D : S2x65536.Idx → BitVec 32) (hO : RowsOk D) (r : Fin 65536) :
    val_main_v9 (F := F) D (ValueIdx.ix2 r (0 : Fin 1)) = D (ValueIdx.ix2 (0 : Fin 2) r) := by
  have hr := r.isLt
  have e : val_main_v3 (F := F) D (idx_main_v9 (ValueIdx.ix2 r (0 : Fin 1))) = D (ValueIdx.ix2 (0 : Fin 2) r) := by
    rw [val_main_v3_apply, val_main_v2_apply]
    refine congrArg D (funext fun a => Fin.ext ?_)
    match a with
    | ⟨0, _⟩ => rfl
    | ⟨1, _⟩ => show r.val % 65536 = r.val; omega
  rw [val_main_v9_apply]
  refine Eq.trans ?_ e
  exact select_slt_zero_of_nonneg (val_main_v3 (F := F) D) _ _ _ (by rw [e]; exact toInt_nonneg _ (hO _))

/-- The second look-up's index of token `r`: its second place. -/
theorem index_second (D : S2x65536.Idx → BitVec 32) (hO : RowsOk D) (r : Fin 65536) :
    val_main_v21 (F := F) D (ValueIdx.ix2 r (0 : Fin 1)) = D (ValueIdx.ix2 (1 : Fin 2) r) := by
  have hr := r.isLt
  have e : val_main_v15 (F := F) D (idx_main_v21 (ValueIdx.ix2 r (0 : Fin 1))) = D (ValueIdx.ix2 (1 : Fin 2) r) := by
    rw [val_main_v15_apply, val_main_v14_apply]
    refine congrArg D (funext fun a => Fin.ext ?_)
    match a with
    | ⟨0, _⟩ => rfl
    | ⟨1, _⟩ => show r.val % 65536 = r.val; omega
  rw [val_main_v21_apply]
  refine Eq.trans ?_ e
  exact select_slt_zero_of_nonneg (val_main_v15 (F := F) D) _ _ _ (by rw [e]; exact toInt_nonneg _ (hO _))

/-- A look-up at an index that holds a place reads the row at that place. -/
theorem looked_up (yb : S1081344x128.Idx → Elt F .f32) (idx : S65536x1.Idx → BitVec 32) (r : Fin 65536) (k : Fin 1024) (w : BitVec 32)
    (hi : idx (ValueIdx.ix2 r (0 : Fin 1)) = w) (hw : w.toNat < 135168) :
    Host.gather gather_S135168x1024_S65536x1_S65536x1024_1_0_n_n_0_1_11024 (val_main_v0 (F := F) yb) idx (ValueIdx.ix2 r k) = rowEntry yb w k := by
  have hk := k.isLt
  refine (Routing.gather_row gather_S135168x1024_S65536x1_S65536x1024_1_0_n_n_0_1_11024 rfl rfl rfl rfl rfl (val_main_v0 (F := F) yb) idx r k
    (⟨w.toNat, hw⟩ : Fin 135168) (hi.trans (by rw [BitVec.ofNat_toNat, BitVec.setWidth_eq])) (by norm_num)).trans ?_
  rw [val_main_v0_apply]
  unfold rowEntry
  refine congrArg yb (funext fun a => Fin.ext ?_)
  match a with
  | ⟨0, _⟩ =>
    show (w.toNat * 1024 + k.val) / 128 = (8 * w.toNat + k.val / 128) % 1081344
    omega
  | ⟨1, _⟩ =>
    show (w.toNat * 1024 + k.val) % 128 = k.val % 128
    omega

/-- The reference's result at an entry: the token's entry and the sum of its two weighted choices. -/
theorem ref_apply (h : S65536x1024.Idx → Elt F .f32) (w : S65536x8.Idx → Elt F .f32) (D : S2x65536.Idx → BitVec 32) (yb : S1081344x128.Idx → Elt F .f32)
    (hO : RowsOk D) (r : Fin 65536) (k : Fin 1024) :
    val_main_v26 (F := F) h w D yb (ValueIdx.ix2 r k)
      = FloatOps.addf (h (ValueIdx.ix2 r k)) (FloatOps.addf
          (FloatOps.mulf (w (ValueIdx.ix2 r (2 : Fin 8))) (rowEntry yb (D (ValueIdx.ix2 (0 : Fin 2) r)) k))
          (FloatOps.mulf (w (ValueIdx.ix2 r (3 : Fin 8))) (rowEntry yb (D (ValueIdx.ix2 (1 : Fin 2) r)) k))) := by
  have w2 : val_main_v11 (F := F) w (ValueIdx.ix2 r k) = w (ValueIdx.ix2 r (2 : Fin 8)) := by
    rw [val_main_v11_apply, val_main_v1_apply]
    refine congrArg w (funext fun a => Fin.ext ?_)
    match a with
    | ⟨0, _⟩ => rfl
    | ⟨1, _⟩ => rfl
  have w3 : val_main_v23 (F := F) w (ValueIdx.ix2 r k) = w (ValueIdx.ix2 r (3 : Fin 8)) := by
    rw [val_main_v23_apply, val_main_v13_apply]
    refine congrArg w (funext fun a => Fin.ext ?_)
    match a with
    | ⟨0, _⟩ => rfl
    | ⟨1, _⟩ => rfl
  have g0 : val_main_v10 (F := F) D yb (ValueIdx.ix2 r k) = rowEntry yb (D (ValueIdx.ix2 (0 : Fin 2) r)) k :=
    looked_up yb _ r k _ (index_first (F := F) D hO r) (hO _)
  have g1 : val_main_v22 (F := F) D yb (ValueIdx.ix2 r k) = rowEntry yb (D (ValueIdx.ix2 (1 : Fin 2) r)) k :=
    looked_up yb _ r k _ (index_second (F := F) D hO r) (hO _)
  rw [val_main_v26_apply, val_main_v25_apply, val_main_v12_apply, val_main_v24_apply, w2, w3, g0, g1]

/-- Over the extended reals the reference's result is the kernel's: the three terms add up in either order. -/
theorem ref_value (h : S65536x1024.Idx → Elt Ideal .f32) (w : S65536x8.Idx → Elt Ideal .f32) (D : S2x65536.Idx → BitVec 32) (yb : S1081344x128.Idx → Elt Ideal .f32)
    (hO : RowsOk D) : val_main_v26 (F := Ideal) h w D yb = answer (F := Ideal) h w D yb := by
  funext j
  have hj : j = (ValueIdx.ix2 (⟨(j 0).val, (j 0).isLt⟩ : Fin 65536) (⟨(j 1).val, (j 1).isLt⟩ : Fin 1024) : S65536x1024.Idx) := ValueIdx.eq_ix2 j
  refine (congrArg (val_main_v26 (F := Ideal) h w D yb) hj).trans ((ref_apply h w D yb hO _ _).trans ?_)
  refine Eq.trans ?_ (congrArg (answer (F := Ideal) h w D yb) hj).symm
  exact (add_assoc (G := EReal) _ _ _).symm

end Cert.Combine

end
-- ==== Proof.CombineClaims.lean ====
/-
  The claims of the combining kernel: from places that are rows of the experts' rows its three programs run, and the kernel's
  result and the reference's are the same array over the extended reals.
-/
module

public import proofs.«01_k».proof.Defs
public import proofs.«01_k».proof.Proof.CombineRef
public import proofs.«01_k».proof.Proof.Gen.Kernel3
public import Idealize.ShloMosaic.Lib.WordCmp
public import Idealize.ShloMosaic.Lib.Quiescent

@[expose] public section

set_option maxRecDepth 16384

noncomputable section

namespace Cert.Combine

open Idealize.ShloMosaic Idealize.ShloMosaic.TcCoe Idealize.ShloMosaic.Tactic
open Idealize.SL.Sem

instance preFacts : Cert.Pre_rows_of_experts.Facts := ⟨by decide⟩

/-- The precondition bounds every place. -/
theorem rows_ok {F : FTy → Type} [FloatOps F] (x0 : FVec F Cert.Kernel3Ideal.S65536x1024 .f32) (x1 : FVec F Cert.Kernel3Ideal.S65536x8 .f32)
    (D : IVec Cert.Kernel3Ideal.S2x65536 32) (x3 : FVec F Cert.Kernel3Ideal.S1081344x128 .f32)
    (h : Cert.Pre_rows_of_experts.fn (F := F) x0 x1 D x3 = fun _ => 1#1) : RowsOk D := by
  intro y
  have hb : IntOp.andi (IntOp.cmpi .sge (D y) 0#32) (IntOp.cmpi .slt (D y) 135168#32) = 1#1 := congrFun h y
  generalize D y = w at hb ⊢
  rw [WordCmp.cmpi_sge_eq, WordCmp.cmpi_slt_eq, WordCmp.andi_ofBool] at hb
  have hz : (0#32 : BitVec 32).toInt = 0 := by decide
  have hm : (135168#32 : BitVec 32).toInt = 135168 := by decide
  rw [hz, hm] at hb
  have h2 : (decide (0 ≤ w.toInt) && decide (w.toInt < 135168)) = true := by
    cases hd : (decide (0 ≤ w.toInt) && decide (w.toInt < 135168))
    · rw [hd] at hb; exact absurd hb (by decide)
    · rfl
  rw [Bool.and_eq_true, decide_eq_true_eq, decide_eq_true_eq] at h2
  have hw := w.isLt
  rw [BitVec.toInt_eq_toNat_cond] at h2
  split at h2 <;> omega

/-- The idealised kernel runs. -/
theorem frame_kernelIdeal : Cert.quiescent_Kernel3Ideal (hKernel3Ideal := Cert.Kernel3Ideal.Gen.facts) (hPre_rows_of_experts := preFacts) := fun m ρ hpre =>
  (θ_run Cert.Kernel3Ideal.defs _ _).mono
    (fun r h => ⟨fun c => ⟨(h.1 c).1, (h.1 c).2.1, (h.1 c).2.2.1, (h.1 c).2.2.2.1⟩, h.2⟩)
    (run_main (F := Ideal) m ρ fun c => rows_ok _ _ _ _ (hpre c))

/-- The idealised kernel's text runs over the float words. -/
def RunsOverWords : Prop :=
  ∀ (m : (ℓ : Loc Cert.Kernel3Ideal.nD Cert.Kernel3Ideal.τ Cert.Kernel3Ideal.sig) → Buf (Elt Bits) ℓ) (g : Dev Cert.Kernel3Ideal.nD → PrngReg),
    (∀ c : Dev Cert.Kernel3Ideal.nD, Cert.Pre_rows_of_experts.fn (F := Bits) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3)) = fun _ => 1#1) →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

theorem runs_over_words : RunsOverWords := fun m ρ hpre =>
  (θ_run Cert.Kernel3Ideal.defs _ _).mono
    (fun r h => ⟨fun c => ⟨(h.1 c).1, (h.1 c).2.1, (h.1 c).2.2.1, (h.1 c).2.2.2.1⟩, h.2⟩)
    (run_main (F := Bits) m ρ fun c => rows_ok _ _ _ _ (hpre c))

/-- The two statements are one: the programs differ in nothing but the names of their modules. -/
theorem kernel_frame_eq : RunsOverWords = Cert.quiescent_Kernel3 (hKernel3 := Cert.Kernel3.Gen.facts) (hPre_rows_of_experts := preFacts) := by sl_kernel_rfl

/-- The kernel runs. -/
theorem frame_kernel : Cert.quiescent_Kernel3 (hKernel3 := Cert.Kernel3.Gen.facts) (hPre_rows_of_experts := preFacts) := kernel_frame_eq ▸ runs_over_words

/-- The reference runs: its own run, and it has no semaphore. -/
theorem frame_reference : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- Both runs end with the same result. -/
theorem algebraic : Cert.algebraic_Kernel3Ideal_Reference3Ideal (hKernel3Ideal := Cert.Kernel3Ideal.Gen.facts)
    (hReference3Ideal := Cert.Reference3Ideal.Gen.facts) (hPre_rows_of_experts := preFacts) := by
  intro m g m' g' hpre hargs
  have hO : ∀ c, RowsOk (placesArg m c) := fun c => rows_ok _ _ _ _ (hpre c)
  refine ⟨fun c => answerOf m c, ?_, ?_⟩
  · refine (θ_run Cert.Kernel3Ideal.defs _ _).mono (fun r h c => ?_) (run_main (F := Ideal) m g hO)
    obtain ⟨h0, h1, h2, h3, hr⟩ := h.1 c
    exact ⟨hr.trans (array_value m c (hO c)), h0, h1, h2, h3⟩
  · refine (θ_run Cert.Reference3Ideal.defs _ _).mono (fun r h c => ?_) (Cert.Reference3Ideal.Value.run (F := Ideal) m' g')
    obtain ⟨hr, h0⟩ := h c
    refine ⟨?_, h0⟩
    obtain ⟨e0, e1, e2, e3⟩ := hargs c
    refine hr.trans ((Cert.Reference3Ideal.Read.val_main_v26_eq _ _ _ _).trans ?_)
    rw [e0, e1, e2, e3]
    exact ref_value _ _ _ _ (hO c)

end Cert.Combine

end
-- ==== Proof.RankCount.lean ====
/-
  The ranking's arithmetic: how many of the tokens before a given one chose an expert, over the natural numbers; that the
  numbers add, and that they are small enough to be words.
-/
module

public import Idealize.ShloMosaic.PureOps.Ideal.Laws
public import Idealize.ShloMosaic.Lib.Pipeline.Value
public import Idealize.ShloMosaic.Lib.ValueIdxCore

@[expose] public section

noncomputable section

namespace Cert.Ranks

open Idealize.ShloMosaic
open scoped BigOperators

/-- One where a choice is the expert `e`. -/
def bit (w : BitVec 32) (e : ℕ) : ℕ := if BitVec.ofNat 32 e = w then 1 else 0

theorem bit_le (w : BitVec 32) (e : ℕ) : bit w e ≤ 1 := by
  unfold bit
  split <;> omega

/-- The two choices of 65536 tokens. -/
abbrev Choices : Type := (⟨2, ![2, 65536]⟩ : Shape).Idx → BitVec 32

/-- One where choice `c` of token `r` is the expert `e`. -/
def hit (E : Choices) (c : Fin 2) (e r : ℕ) : ℕ := if h : r < 65536 then bit (E (ValueIdx.ix2 c (⟨r, h⟩ : Fin 65536))) e else 0

theorem hit_of_lt (E : Choices) (c : Fin 2) (e : ℕ) (r : Fin 65536) : hit E c e r.val = bit (E (ValueIdx.ix2 c r)) e := dif_pos r.isLt

theorem hit_le (E : Choices) (c : Fin 2) (e r : ℕ) : hit E c e r ≤ 1 := by
  unfold hit
  split
  · exact bit_le _ _
  · omega

/-- How many of a token's two choices are the expert `e`. -/
def chosen (E : Choices) (e r : ℕ) : ℕ := hit E 0 e r + hit E 1 e r

/-- How many choices of the first `n` tokens are the expert `e`. -/
def before (E : Choices) (e n : ℕ) : ℕ := ∑ r ∈ Finset.range n, chosen E e r

theorem before_zero (E : Choices) (e : ℕ) : before E e 0 = 0 := rfl

theorem before_succ (E : Choices) (e n : ℕ) : before E e (n + 1) = before E e n + chosen E e n := Finset.sum_range_succ _ _

theorem before_add (E : Choices) (e n k : ℕ) : before E e (n + k) = before E e n + ∑ j ∈ Finset.range k, chosen E e (n + j) := by
  induction k with
  | zero => rfl
  | succ k ih => rw [← Nat.add_assoc, before_succ, ih, Finset.sum_range_succ, Nat.add_assoc]

theorem before_le (E : Choices) (e n : ℕ) : before E e n ≤ 2 * n := by
  induction n with
  | zero => exact Nat.le_refl 0
  | succ n ih =>
    have h0 := hit_le E 0 e n
    have h1 := hit_le E 1 e n
    have hc : chosen E e n = hit E 0 e n + hit E 1 e n := rfl
    rw [before_succ]
    omega

/-- The rank of choice `c` of token `r`: how many choices of earlier tokens are the same expert, 0 for a choice that is none of
the sixteen. -/
def rank (E : Choices) (c : Fin 2) (r : ℕ) : ℕ := ∑ e : Fin 16, hit E c e.val r * before E e.val r

theorem rank_lt (E : Choices) (c : Fin 2) (r : ℕ) (hr : r < 65536) : rank E c r < 2 ^ 31 := by
  have h : rank E c r ≤ ∑ e : Fin 16, 131072 := by
    unfold rank
    refine Finset.sum_le_sum fun e _ => ?_
    have h1 := hit_le E c e.val r
    have h2 := before_le E e.val r
    calc hit E c e.val r * before E e.val r ≤ 1 * before E e.val r := Nat.mul_le_mul_right _ h1
      _ ≤ 131072 := by omega
  rw [Finset.sum_const, Finset.card_univ, Fintype.card_fin, smul_eq_mul] at h
  omega

/-! ## Natural numbers among the extended reals -/

/-- A natural number as an extended real. -/
def num (n : ℕ) : EReal := ((n : ℝ) : EReal)

theorem num_zero : num 0 = 0 := by
  unfold num
  rw [Nat.cast_zero, EReal.coe_zero]

theorem num_one : num 1 = 1 := by
  unfold num
  rw [Nat.cast_one, EReal.coe_one]

theorem num_add (a b : ℕ) : num (a + b) = num a + num b := by
  unfold num
  rw [Nat.cast_add, EReal.coe_add]

theorem num_mul (a b : ℕ) : num (a * b) = num a * num b := by
  unfold num
  rw [Nat.cast_mul, EReal.coe_mul]

theorem num_sum {ι : Type} (s : Finset ι) (f : ι → ℕ) : num (∑ i ∈ s, f i) = ∑ i ∈ s, num (f i) := by
  classical
  induction s using Finset.induction_on with
  | empty => rw [Finset.sum_empty, Finset.sum_empty, num_zero]
  | insert a s ha ih => rw [Finset.sum_insert ha, Finset.sum_insert ha, num_add, ih]

/-- A small natural number is truncated to its own word. -/
theorem fptosi_num (n : ℕ) (h : n < 2 ^ 31) : Ideal.fptosi 32 (num n) = BitVec.ofNat 32 n := by
  have hn : (0 : ℝ) ≤ (n : ℝ) := Nat.cast_nonneg n
  unfold Ideal.fptosi num
  rw [Ideal.toIntClamped_coe, if_pos hn, Int.floor_natCast]
  have e : max (-((2 ^ (32 - 1) : ℕ) : ℤ)) (min (((2 ^ (32 - 1) : ℕ) : ℤ) - 1) (n : ℤ)) = (n : ℤ) := by
    norm_num
    omega
  rw [e]
  exact BitVec.ofInt_natCast 32 n

/-! ## Words -/

theorem cmpi_eq_one (x y : BitVec 32) : IntOp.cmpi .eq x y = if x = y then 1#1 else 0#1 := by
  unfold IntOp.cmpi
  by_cases h : x = y
  · rw [if_pos h, h]
    show BitVec.ofBool (y == y) = 1#1
    rw [beq_self_eq_true]
    rfl
  · rw [if_neg h]
    show BitVec.ofBool (x == y) = 0#1
    rw [beq_eq_false_iff_ne.mpr h]
    rfl

theorem setWidth_cmpi (w : BitVec 32) (e : ℕ) : (IntOp.cmpi .eq (BitVec.ofNat 32 e) w).setWidth 32 = BitVec.ofNat 32 (bit w e) := by
  rw [cmpi_eq_one]
  unfold bit
  split <;> rfl

theorem cmpi_comm (x y : BitVec 32) : IntOp.cmpi .eq x y = IntOp.cmpi .eq y x := by
  rw [cmpi_eq_one, cmpi_eq_one]
  exact if_congr eq_comm rfl rfl

/-- The 0/1 word as a float is the 0/1 number. -/
theorem sitofp_bit (w : BitVec 32) (e : ℕ) : ((((BitVec.ofNat 32 (bit w e)).toInt : ℝ)) : EReal) = num (bit w e) := by
  unfold bit num
  split
  · have h : (BitVec.ofNat 32 1).toInt = 1 := by decide
    rw [h, Int.cast_one, Nat.cast_one]
  · have h : (BitVec.ofNat 32 0).toInt = 0 := by decide
    rw [h, Int.cast_zero, Nat.cast_zero]

/-- A number kept where a choice is the expert, and 0 elsewhere, is the product with the 0/1 number. -/
theorem select_bit (w : BitVec 32) (e n : ℕ) : Scalar.select (IntOp.cmpi .eq (BitVec.ofNat 32 e) w) (num n) (0 : EReal) = num (bit w e * n) := by
  rw [cmpi_eq_one]
  unfold bit Scalar.select
  by_cases h : BitVec.ofNat 32 e = w
  · rw [if_pos h, if_pos h, if_pos (show (1#1 : BitVec 1) = 1 from rfl), Nat.one_mul]
  · rw [if_neg h, if_neg h, if_neg (by decide), Nat.zero_mul, num_zero]

/-- A sum over all places of the terms before one. -/
theorem sum_below (n : ℕ) (f : ℕ → ℕ) (k : ℕ) (hk : k ≤ n) :
    (∑ j : Fin n, f j.val * (if j.val < k then 1 else 0)) = ∑ j ∈ Finset.range k, f j := by
  rw [Fin.sum_univ_eq_sum_range (fun j => f j * (if j < k then 1 else 0)) n]
  have e : ∀ j ∈ Finset.range n, f j * (if j < k then 1 else 0) = if j < k then f j else 0 := fun j _ => by
    split
    · exact Nat.mul_one _
    · exact Nat.mul_zero _
  rw [Finset.sum_congr rfl e, ← Finset.sum_filter]
  refine Finset.sum_congr (Finset.ext fun j => ?_) fun _ _ => rfl
  rw [Finset.mem_filter, Finset.mem_range, Finset.mem_range]
  omega

/-- A small natural's word, as a number. -/
theorem small_float (n : ℕ) (h : n < 2 ^ 31) : ((((BitVec.ofNat 32 n).toInt : ℝ)) : EReal) = num n := by
  have e : (BitVec.ofNat 32 n).toNat = n := by rw [BitVec.toNat_ofNat, Nat.mod_eq_of_lt (by omega)]
  have h2 : (BitVec.ofNat 32 n).toInt = (n : ℤ) := by rw [BitVec.toInt_eq_toNat_of_lt (by omega), e]
  unfold num
  rw [h2, Int.cast_natCast]

/-- A list's sum over a range is the sum over the range. -/
theorem range_sum (f : ℕ → ℕ) (n : ℕ) : ((List.range n).map f).sum = ∑ i ∈ Finset.range n, f i := by
  induction n with
  | zero => rfl
  | succ n ih => rw [List.range_succ, List.map_append, List.sum_append, ih, Finset.sum_range_succ, List.map_singleton, List.sum_singleton]

/-! ## The two answers -/

/-- Every choice's rank among the choices of its expert. -/
def ranksAnswer (E : Choices) : (⟨2, ![2, 65536]⟩ : Shape).Idx → BitVec 32 := fun i => BitVec.ofNat 32 (rank E (i 0) (i 1).val)

/-- Every expert's count, in each of its row's lanes. -/
def countsAnswer (E : Choices) : (⟨2, ![16, 128]⟩ : Shape).Idx → EReal := fun i => num (before E (i 0).val 65536)

end Cert.Ranks

end
-- ==== Proof.RankBlock.lean ====
/-
  What the ranking body computes of one block of 1024 tokens, entry by entry over the extended reals: both 0/1 tables, the counts
  before each token, the two rows of ranks, and the counts carried on.
-/
module

public import proofs.«01_k».proof.Proof.RankCount
public import proofs.«01_k».proof.Proof.Gen.Kernel4Ideal.Value
public import Idealize.ShloMosaic.Lib.MatmulPlain
public import Idealize.ShloMosaic.Lib.Pipeline.ValueKit

@[expose] public section

set_option maxRecDepth 16384

noncomputable section

namespace Cert.Ranks

open Cert.Kernel4Ideal Cert.Kernel4Ideal.Gen
open Idealize.ShloMosaic Idealize.ShloMosaic.TcCoe
open Idealize.SL.Sem
open scoped BigOperators

/-- A vector cast to its own shape is itself. -/
theorem cast_self {s : Shape} {α : Type} (x : s.Idx → α) (h : s.ShapeCasts s) : shapeCast s x h = x :=
  funext fun j => shapeCast_apply x h j j rfl

variable (v4 v7 : Vec Ideal S1x1024 .i32)

/-- A row of choices, repeated for each expert. -/
theorem rows_apply (v : Vec Ideal S1x1024 .i32) (e : Fin 16) (k : Fin 1024) :
    broadcastTo S16x1024 v broadcasts_S1x1024_S16x1024 (ValueIdx.ix2 e k) = v (ValueIdx.ix2 (0 : Fin 1) k) :=
  broadcastTo_apply v broadcasts_S1x1024_S16x1024 _ _ (fun a => by
    match a with
    | ⟨0, _⟩ => exact (if_pos (show (1 : ℕ) = 1 from rfl)).symm
    | ⟨1, _⟩ => exact (if_neg (show ¬ (1024 : ℕ) = 1 by decide)).symm)

theorem first_mask (e : Fin 16) (k : Fin 1024) :
    k0_pay3 v4 (ValueIdx.ix2 e k) = IntOp.cmpi .eq (BitVec.ofNat 32 e.val) (v4 (ValueIdx.ix2 (0 : Fin 1) k)) := by
  show IntOp.cmpi .eq (BitVec.ofNat 32 (0 * 16 + e.val)) (broadcastTo S16x1024 v4 broadcasts_S1x1024_S16x1024 (ValueIdx.ix2 e k)) = _
  rw [rows_apply, Nat.zero_mul, Nat.zero_add]

theorem second_mask (e : Fin 16) (k : Fin 1024) :
    k0_pay4 v7 (ValueIdx.ix2 e k) = IntOp.cmpi .eq (BitVec.ofNat 32 e.val) (v7 (ValueIdx.ix2 (0 : Fin 1) k)) :=
  first_mask v7 e k

/-- How many of the token's two choices are the expert. -/
theorem both_apply (e : Fin 16) (k : Fin 1024) :
    k0_pay5 v4 v7 (ValueIdx.ix2 e k) = num (bit (v4 (ValueIdx.ix2 (0 : Fin 1) k)) e.val + bit (v7 (ValueIdx.ix2 (0 : Fin 1) k)) e.val) := by
  show ((((k0_pay3 v4 (ValueIdx.ix2 e k)).setWidth 32).toInt : ℝ) : EReal) + ((((k0_pay4 v7 (ValueIdx.ix2 e k)).setWidth 32).toInt : ℝ) : EReal) = _
  rw [first_mask, second_mask, setWidth_cmpi, setWidth_cmpi, sitofp_bit, sitofp_bit, num_add]

/-- One column, repeated for each token. -/
theorem column_apply (v : Vec Ideal S16x1 .f32) (e : Fin 16) (k : Fin 1024) :
    broadcastTo S16x1024 v broadcasts_S16x1_S16x1024 (ValueIdx.ix2 e k) = v (ValueIdx.ix2 e (0 : Fin 1)) :=
  broadcastTo_apply v broadcasts_S16x1_S16x1024 _ _ (fun a => by
    match a with
    | ⟨0, _⟩ => exact (if_neg (show ¬ (16 : ℕ) = 1 by decide)).symm
    | ⟨1, _⟩ => exact (if_pos (show (1 : ℕ) = 1 from rfl)).symm)

/-- The count before a token: the carried one and the block's earlier tokens. -/
theorem count_apply (T : Vec Ideal S1024x1024 .bf16) (v19 : Vec Ideal S16x1 .f32) (e : Fin 16) (k : Fin 1024) (a : ℕ) (f : ℕ → ℕ)
    (hT : ∀ j k : Fin 1024, T (ValueIdx.ix2 j k) = num (if j.val < k.val then 1 else 0))
    (ha : v19 (ValueIdx.ix2 e (0 : Fin 1)) = num a)
    (hf : ∀ j : Fin 1024, bit (v4 (ValueIdx.ix2 (0 : Fin 1) j)) e.val + bit (v7 (ValueIdx.ix2 (0 : Fin 1) j)) e.val = f j.val) :
    k0_pay6 v4 v7 T v19 (ValueIdx.ix2 e k) = num (a + ∑ j ∈ Finset.range k.val, f j) := by
  have hk := k.isLt
  have hz : (constant (F := Ideal) S16x1024 .f32 0x00000000#32 : S16x1024.Idx → EReal) (ValueIdx.ix2 e k) = 0 := Ideal.ofBits_zero_f32
  have hm : matmul dot_S16x1024_S1024x1024_S16x1024_1_0_0_1_n_n none (truncf .bf16 (k0_pay5 v4 v7) bitsLt_bf16_f32 : FVec Ideal S16x1024 .bf16)
      (shapeCast S1024x1024 T shapeCasts_S1024x1024_S1024x1024 : FVec Ideal S1024x1024 .bf16) (constant S16x1024 .f32 0x00000000#32) (ValueIdx.ix2 e k)
      = num (∑ j ∈ Finset.range k.val, f j) := by
    rw [cast_self]
    refine (Ideal.matmul_plain_apply (M := 16) (K := 1024) (N := 1024) none _ _ _ e k).trans ?_
    rw [hz, zero_add, ← sum_below 1024 f k.val (by omega), num_sum]
    refine Finset.sum_congr rfl fun j _ => ?_
    rw [num_mul, ← hf j]
    exact congrArg₂ (· * ·) (both_apply v4 v7 e j) (hT j k)
  show (matmul dot_S16x1024_S1024x1024_S16x1024_1_0_0_1_n_n none (truncf .bf16 (k0_pay5 v4 v7) bitsLt_bf16_f32 : FVec Ideal S16x1024 .bf16)
      (shapeCast S1024x1024 T shapeCasts_S1024x1024_S1024x1024 : FVec Ideal S1024x1024 .bf16) (constant S16x1024 .f32 0x00000000#32) (ValueIdx.ix2 e k) : EReal)
    + broadcastTo S16x1024 v19 broadcasts_S16x1_S16x1024 (ValueIdx.ix2 e k) = _
  rw [hm, column_apply, ha, ← num_add, Nat.add_comm]

/-- A row of ranks: of the counts under each token the one of its choice's expert, as a word. -/
theorem row_of_ranks (M : IVec S16x1024 1) (P : FVec Ideal S16x1024 .f32) (k : Fin 1024) (w : BitVec 32) (n : Fin 16 → ℕ)
    (hM : ∀ e : Fin 16, M (ValueIdx.ix2 e k) = IntOp.cmpi .eq (BitVec.ofNat 32 e.val) w) (hP : ∀ e : Fin 16, P (ValueIdx.ix2 e k) = num (n e))
    (hs : (∑ e : Fin 16, bit w e.val * n e) < 2 ^ 31) :
    fptosi 32 (shapeCast S1x1024 (multiReduction .add [0] S1024 (select M P (broadcast S16x1024 (Scalar.ofBits (F := Ideal) .f32 0x00000000#32)))
      0x00000000#32 reduces_S16x1024_S1024 (.inl rfl) rfl) shapeCasts_S1024_S1x1024) (ValueIdx.ix2 (0 : Fin 1) k)
      = BitVec.ofNat 32 (∑ e : Fin 16, bit w e.val * n e) := by
  have each : ∀ e : Fin 16, select M P (broadcast S16x1024 (Scalar.ofBits (F := Ideal) .f32 0x00000000#32)) (reduces_S16x1024_S1024.lift (ValueIdx.ix1 k) e)
      = num (bit w e.val * n e) := fun e => by
    have hi : reduces_S16x1024_S1024.lift (ValueIdx.ix1 k) e = ValueIdx.ix2 e k := funext fun a => Fin.ext (by
      match a with
      | ⟨0, _⟩ => rfl
      | ⟨1, _⟩ => rfl)
    rw [hi]
    show Scalar.select (M (ValueIdx.ix2 e k)) (P (ValueIdx.ix2 e k)) (Ideal.ofBits .f32 0x00000000#32) = _
    rw [hM e, hP e, Ideal.ofBits_zero_f32]
    exact select_bit w e.val (n e)
  have h : shapeCast S1x1024 (multiReduction .add [0] S1024 (select M P (broadcast S16x1024 (Scalar.ofBits (F := Ideal) .f32 0x00000000#32)))
      0x00000000#32 reduces_S16x1024_S1024 (.inl rfl) rfl) shapeCasts_S1024_S1x1024 (ValueIdx.ix2 (0 : Fin 1) k)
      = num (∑ e : Fin 16, bit w e.val * n e) := by
    refine (shapeCast_apply _ shapeCasts_S1024_S1x1024 _ (ValueIdx.ix1 k) (by
      rewrite [Shape.rowMajor_val_one, Shape.rowMajor_val_two]
      show k.val = 0 * 1024 + k.val
      omega)).trans ?_
    refine (Ideal.multiReduction_add_single (s := S16x1024) (a := 0) _ _ reduces_S16x1024_S1024 (.inl rfl) rfl (ValueIdx.ix1 k)).trans ?_
    rw [num_sum]
    exact Finset.sum_congr rfl fun e _ => each e
  show Ideal.fptosi 32 _ = _
  rw [h]
  exact fptosi_num _ hs

/-- The counts carried on: what was carried and the block's own. -/
theorem carried_apply (v34 : Vec Ideal S16x128 .f32) (e : Fin 16) (l : Fin 128) (a : ℕ) (f : ℕ → ℕ)
    (ha : v34 (ValueIdx.ix2 e l) = num a)
    (hf : ∀ j : Fin 1024, bit (v4 (ValueIdx.ix2 (0 : Fin 1) j)) e.val + bit (v7 (ValueIdx.ix2 (0 : Fin 1) j)) e.val = f j.val) :
    k0_pay1 (k0_pay5 v4 v7) v34 (ValueIdx.ix2 e l) = num (a + ∑ j ∈ Finset.range 1024, f j) := by
  have h : broadcastTo S16x128 (shapeCast S16x1 (multiReduction .add [1] S16 (k0_pay5 v4 v7) 0x00000000#32 reduces_S16x1024_S16 (.inl rfl) rfl)
      shapeCasts_S16_S16x1) broadcasts_S16x1_S16x128 (ValueIdx.ix2 e l) = num (∑ j ∈ Finset.range 1024, f j) := by
    refine (broadcastTo_apply _ broadcasts_S16x1_S16x128 _ (ValueIdx.ix2 e (0 : Fin 1)) (fun a => by
      match a with
      | ⟨0, _⟩ => exact (if_neg (show ¬ (16 : ℕ) = 1 by decide)).symm
      | ⟨1, _⟩ => exact (if_pos (show (1 : ℕ) = 1 from rfl)).symm)).trans ?_
    refine (shapeCast_apply _ shapeCasts_S16_S16x1 _ (ValueIdx.ix1 e) (by
      rewrite [Shape.rowMajor_val_one, Shape.rowMajor_val_two]
      show e.val = e.val * 1 + 0
      omega)).trans ?_
    refine (Ideal.multiReduction_add_single (s := S16x1024) (a := 1) _ _ reduces_S16x1024_S16 (.inl rfl) rfl (ValueIdx.ix1 e)).trans ?_
    rw [← Fin.sum_univ_eq_sum_range f 1024, num_sum]
    refine Finset.sum_congr rfl fun j _ => ?_
    have hi : reduces_S16x1024_S16.lift (ValueIdx.ix1 e) j = ValueIdx.ix2 e (j : Fin 1024) := funext fun a => Fin.ext (by
      match a with
      | ⟨0, _⟩ => rfl
      | ⟨1, _⟩ => rfl)
    rw [hi]
    exact (both_apply v4 v7 e j).trans (congrArg num (hf j))
  unfold k0_pay1
  rw [cast_self]
  show v34 (ValueIdx.ix2 e l) + broadcastTo S16x128 (shapeCast S16x1 (multiReduction .add [1] S16 (k0_pay5 v4 v7) 0x00000000#32 reduces_S16x1024_S16 (.inl rfl) rfl)
      shapeCasts_S16_S16x1) broadcasts_S16x1_S16x128 (ValueIdx.ix2 e l) = _
  rw [ha, h, num_add]

/-- Nothing is carried into the first block. -/
theorem none_carried (i : S16x128.Idx) : k0_pay2 (F := Ideal) i = num 0 := by
  unfold k0_pay2
  rw [cast_self, num_zero]
  exact Ideal.ofBits_zero_f32

/-- The block of ranks, row by row. -/
theorem ranks_block (v19 : Vec Ideal S16x1 .f32) (T : Vec Ideal S1024x1024 .bf16) (A : Fin 16 → ℕ) (f : Fin 16 → ℕ → ℕ)
    (hT : ∀ j k : Fin 1024, T (ValueIdx.ix2 j k) = num (if j.val < k.val then 1 else 0))
    (hA : ∀ e : Fin 16, v19 (ValueIdx.ix2 e (0 : Fin 1)) = num (A e))
    (hf : ∀ (e : Fin 16) (j : Fin 1024), bit (v4 (ValueIdx.ix2 (0 : Fin 1) j)) e.val + bit (v7 (ValueIdx.ix2 (0 : Fin 1) j)) e.val = f e j.val)
    (r : Fin 2) (k : Fin 1024) (w : BitVec 32) (hw : w = if r.val = 0 then v4 (ValueIdx.ix2 (0 : Fin 1) k) else v7 (ValueIdx.ix2 (0 : Fin 1) k))
    (hs : (∑ e : Fin 16, bit w e.val * (A e + ∑ j ∈ Finset.range k.val, f e j)) < 2 ^ 31) :
    View.canon (Val := Elt Ideal) (e := .i32) [⟨Rect.unit ![1, 0] ![1, 1024] inb_S2x1024_S1x1024_1_0, k0_pay8 v4 v7 T v19⟩,
      ⟨Rect.unit ![0, 0] ![1, 1024] inb_S2x1024_S1x1024_0_0, k0_pay7 v4 v7 T v19⟩] (ValueIdx.ix2 r k)
      = BitVec.ofNat 32 (∑ e : Fin 16, bit w e.val * (A e + ∑ j ∈ Finset.range k.val, f e j)) := by
  have hcount : ∀ e : Fin 16, k0_pay6 v4 v7 T v19 (ValueIdx.ix2 e k) = num (A e + ∑ j ∈ Finset.range k.val, f e j) := fun e =>
    count_apply v4 v7 T v19 e k (A e) (f e) hT (hA e) (hf e)
  canon_tiles x h
  · have hx : x = ValueIdx.ix2 (0 : Fin 1) k := funext fun a => Fin.ext (by
      match a with
      | ⟨0, _⟩ => exact Nat.lt_one_iff.mp x0_lt
      | ⟨1, _⟩ => exact h1.symm)
    have hr : ¬ r.val = 0 := by
      have h0' : r.val = 1 + (x 0).val := h0
      omega
    rw [if_neg hr] at hw
    rw [hx]
    exact row_of_ranks (k0_pay4 v7) (k0_pay6 v4 v7 T v19) k w _ (fun e => by rw [hw]; exact second_mask v7 e k) hcount hs
  · have hx : x = ValueIdx.ix2 (0 : Fin 1) k := funext fun a => Fin.ext (by
      match a with
      | ⟨0, _⟩ => exact Nat.lt_one_iff.mp x0_lt
      | ⟨1, _⟩ => exact h1.symm)
    have hr : r.val = 0 := by
      have h0' : r.val = (x 0).val := h0
      omega
    rw [if_pos hr] at hw
    rw [hx]
    exact row_of_ranks (k0_pay3 v4) (k0_pay6 v4 v7 T v19) k w _ (fun e => by rw [hw]; exact first_mask v4 e k) hcount hs

end Cert.Ranks

end
-- ==== Proof.RankArray.lean ====
/-
  The two arrays the ranking kernel leaves, over the extended reals: the counts carried from block to block by induction on the
  blocks, the rank of every choice, and the counts after the last block.
-/
module

public import proofs.«01_k».proof.Proof.RankBlock
public import Idealize.ShloMosaic.Lib.StableHlo

@[expose] public section

set_option maxRecDepth 16384

noncomputable section

namespace Cert.Ranks

open Cert.Kernel4Ideal Cert.Kernel4Ideal.Gen Cert.Kernel4Ideal.Value
open Idealize.ShloMosaic Idealize.ShloMosaic.TcCoe Idealize.ShloMosaic.Tactic
open Idealize.SL.Sem
open scoped BigOperators

variable (m : (ℓ : Loc nD τ sig) → Buf (Elt Ideal) ℓ) (c : Dev nD)

/-- The choices, as launched. -/
abbrev choices : Choices := m ((c.tc : Thread nD τ).loc main_arg0)

/-! ## The blocks -/

theorem step_lt (t : Fin cfg0.N) : t.val < 64 := lt_of_lt_of_eq t.isLt N_0

theorem coords_step (t : Fin cfg0.N) : (grid0.coords t 0).val = t.val := by
  have h := Pipeline.Grid.coords_val (G := grid0) t 0 (S := 1) (B := 64) rfl rfl
  have ht := step_lt t
  rw [h]; omega

/-- Token `k` of a grid point's 1024. -/
def tokenIn (t : Fin cfg0.N) (k : Fin 1024) : Fin 65536 := ⟨1024 * t.val + k.val, by have := step_lt t; have := k.isLt; omega⟩

theorem step_word (t : Fin cfg0.N) : (BitVec.ofNat 32 (grid0.coords t 0).val).toNat = t.val := by
  rw [coords_step, BitVec.toNat_ofNat, Nat.mod_eq_of_lt (by have := step_lt t; omega)]

theorem blk_choices (t : Fin cfg0.N) (r : Fin 2) (k : Fin 1024) :
    (iblk m c 0 t : Vec Ideal S2x1024 .i32) (ValueIdx.ix2 r k) = choices m c (ValueIdx.ix2 r (tokenIn t k)) := by
  have e : V m c (Pipeline.arrRef spec0 0) = choices m c := V_main_arg0 m c
  refine (congrFun e (((cfg0.win 0).blk t).view.emb (ValueIdx.ix2 r k))).trans (congrArg (choices m c) (funext fun a => Fin.ext ?_))
  refine (Pipeline.Window.rect_emb_val (cfg0.win 0) t _ a).trans ?_
  match a with
  | ⟨0, _⟩ =>
    show (0#32 : BitVec 32).toNat * 2 + r.val = r.val
    rw [BitVec.toNat_zero]; omega
  | ⟨1, _⟩ =>
    show (BitVec.ofNat 32 (grid0.coords t 0).val).toNat * 1024 + k.val = 1024 * t.val + k.val
    rw [step_word]; omega

/-- The triangular matrix the program makes before the call. -/
def triangle : FVec Ideal S1024x1024 .f32 :=
  select (cmpi .sge (addi (iotaInDim S1024x1024 32 0) (broadcastInDim S1024x1024 ![] bcast_S_S1024x1024 (constantI S_ 32 0#32))) (iotaInDim S1024x1024 32 1))
    (broadcastInDim S1024x1024 ![] bcast_S_S1024x1024 (constant (F := Ideal) S_ .f32 0x00000000#32))
    (broadcastInDim S1024x1024 ![] bcast_S_S1024x1024 (constant (F := Ideal) S_ .f32 0x3F800000#32))

set_option maxHeartbeats 4000000 in
theorem host_triangle : V m c main_v2 = truncf .bf16 (triangle) bitsLt_bf16_f32 := by
  unfold V
  simp only [hostOps0, hostOps0_1, hostOps0_2, StableHlo.TRef.binary, StableHlo.TRef.nullary, StableHlo.TRef.ternary, StableHlo.TRef.unary, StableHlo.TRef.toBuf,
    StableHlo.TRef.ofBuf, cast_eq, List.flatten_cons, List.flatten_nil, List.append_nil, List.cons_append, List.nil_append]
  after_results_simp <;> rfl

theorem small_toInt (n : ℕ) (h : n < 1024) : (BitVec.ofNat 32 n).toInt = (n : ℤ) := by
  have e : (BitVec.ofNat 32 n).toNat = n := by rw [BitVec.toNat_ofNat, Nat.mod_eq_of_lt (by omega)]
  rw [BitVec.toInt_eq_toNat_of_lt (by omega), e]

/-- One above the diagonal, zero elsewhere. -/
theorem triangle_apply (j k : Fin 1024) : triangle (ValueIdx.ix2 j k) = num (if j.val < k.val then 1 else 0) := by
  have hj := j.isLt
  have hk := k.isLt
  show Scalar.select (IntOp.cmpi .sge (BitVec.ofNat 32 j.val + 0#32) (BitVec.ofNat 32 k.val)) (Ideal.ofBits .f32 0x00000000#32) (Ideal.ofBits .f32 0x3F800000#32) = _
  have h1 : (BitVec.ofNat 32 j.val).toInt = (j.val : ℤ) := by
    exact small_toInt _ (by omega)
  have h2 : (BitVec.ofNat 32 k.val).toInt = (k.val : ℤ) := by
    exact small_toInt _ (by omega)
  rw [BitVec.add_zero, WordCmp.cmpi_sge_eq, h1, h2, Ideal.ofBits_zero_f32, Ideal.ofBits_one_f32]
  unfold Scalar.select
  by_cases h : j.val < k.val
  · rw [if_pos h, decide_eq_false (by omega), num_one]
    rfl
  · rw [if_neg h, decide_eq_true (by omega), num_zero]
    rfl

theorem blk_triangle (t : Fin cfg0.N) (j k : Fin 1024) :
    (iblk m c 1 t : Vec Ideal S1024x1024 .bf16) (ValueIdx.ix2 j k) = num (if j.val < k.val then 1 else 0) := by
  have e : V m c (Pipeline.arrRef spec0 1) = (triangle : FVec Ideal S1024x1024 .f32) := host_triangle m c
  refine (congrFun e (((cfg0.win 1).blk t).view.emb (ValueIdx.ix2 j k))).trans ((congrArg triangle (funext fun a => Fin.ext ?_)).trans (triangle_apply j k))
  refine (Pipeline.Window.rect_emb_val (cfg0.win 1) t _ a).trans ?_
  match a with
  | ⟨0, _⟩ =>
    show (0#32 : BitVec 32).toNat * 1024 + j.val = j.val
    rw [BitVec.toNat_zero]; omega
  | ⟨1, _⟩ =>
    show (0#32 : BitVec 32).toNat * 1024 + k.val = k.val
    rw [BitVec.toNat_zero]; omega

/-- The two rows of a block of choices. -/
abbrev firsts (t : Fin cfg0.N) : Vec Ideal S1x1024 .i32 := View.ld (iblk m c 0 t) (Rect.unit ![0, 0] ![1, 1024] inb_S2x1024_S1x1024_0_0)
abbrev seconds (t : Fin cfg0.N) : Vec Ideal S1x1024 .i32 := View.ld (iblk m c 0 t) (Rect.unit ![1, 0] ![1, 1024] inb_S2x1024_S1x1024_1_0)

theorem firsts_apply (t : Fin cfg0.N) (k : Fin 1024) : firsts m c t (ValueIdx.ix2 (0 : Fin 1) k) = choices m c (ValueIdx.ix2 (0 : Fin 2) (tokenIn t k)) :=
  (View.ld_unit_apply_of (iblk m c 0 t) _ _ _ _ (ValueIdx.ix2 (0 : Fin 2) k : S2x1024.Idx) (fun a => by
    match a with
    | ⟨0, _⟩ => rfl
    | ⟨1, _⟩ => exact (Nat.zero_add _).symm)).trans (blk_choices m c t 0 k)

theorem seconds_apply (t : Fin cfg0.N) (k : Fin 1024) : seconds m c t (ValueIdx.ix2 (0 : Fin 1) k) = choices m c (ValueIdx.ix2 (1 : Fin 2) (tokenIn t k)) :=
  (View.ld_unit_apply_of (iblk m c 0 t) _ _ _ _ (ValueIdx.ix2 (1 : Fin 2) k : S2x1024.Idx) (fun a => by
    match a with
    | ⟨0, _⟩ => rfl
    | ⟨1, _⟩ => exact (Nat.zero_add _).symm)).trans (blk_choices m c t 1 k)

/-- How many of a block's token's choices are the expert. -/
theorem both_chosen (t : Fin cfg0.N) (e : ℕ) (j : Fin 1024) :
    bit (firsts m c t (ValueIdx.ix2 (0 : Fin 1) j)) e + bit (seconds m c t (ValueIdx.ix2 (0 : Fin 1) j)) e = chosen (choices m c) e (1024 * t.val + j.val) := by
  rw [firsts_apply, seconds_apply]
  unfold chosen
  exact congrArg₂ (· + ·) (hit_of_lt (choices m c) 0 e (tokenIn t j)).symm (hit_of_lt (choices m c) 1 e (tokenIn t j)).symm

/-! ## The counts carried -/

/-- What is carried into a block: the counts of the tokens before it. -/
def carriedIn (t : Fin cfg0.N) (v : Vec Ideal S16x128 .f32) : Prop :=
  ∀ (e : Fin 16) (l : Fin 128), v (ValueIdx.ix2 e l) = num (before (choices m c) e.val (1024 * t.val))

/-- What a block carries on, from what was carried into it. -/
theorem carry_step (t : Fin cfg0.N) (v : Vec Ideal S16x128 .f32) (hv : carriedIn m c t v) (e : Fin 16) (l : Fin 128) :
    k0_pay1 (k0_pay5 (firsts m c t) (seconds m c t)) v (ValueIdx.ix2 e l) = num (before (choices m c) e.val (1024 * (t.val + 1))) := by
  rw [carried_apply (firsts m c t) (seconds m c t) v e l _ (fun j => chosen (choices m c) e.val (1024 * t.val + j)) (hv e l) (fun j => both_chosen m c t e.val j), ← before_add, Nat.mul_add, Nat.mul_one]

/-- A block's ranks, from a column of what was carried into it. -/
theorem ranks_step (t : Fin cfg0.N) (v19 : Vec Ideal S16x1 .f32)
    (hv : ∀ e : Fin 16, v19 (ValueIdx.ix2 e (0 : Fin 1)) = num (before (choices m c) e.val (1024 * t.val))) (r : Fin 2) (k : Fin 1024) :
    View.canon (Val := Elt Ideal) (e := .i32) [⟨Rect.unit ![1, 0] ![1, 1024] inb_S2x1024_S1x1024_1_0, k0_pay8 (firsts m c t) (seconds m c t) (iblk m c 1 t) v19⟩,
      ⟨Rect.unit ![0, 0] ![1, 1024] inb_S2x1024_S1x1024_0_0, k0_pay7 (firsts m c t) (seconds m c t) (iblk m c 1 t) v19⟩] (ValueIdx.ix2 r k)
      = BitVec.ofNat 32 (rank (choices m c) r (tokenIn t k).val) := by
  have hw : choices m c (ValueIdx.ix2 r (tokenIn t k))
      = if r.val = 0 then firsts m c t (ValueIdx.ix2 (0 : Fin 1) k) else seconds m c t (ValueIdx.ix2 (0 : Fin 1) k) := by
    rw [firsts_apply, seconds_apply]
    match r with
    | ⟨0, _⟩ => rfl
    | ⟨1, _⟩ => rfl
  have hsum : (∑ e : Fin 16, bit (choices m c (ValueIdx.ix2 r (tokenIn t k))) e.val
      * (before (choices m c) e.val (1024 * t.val) + ∑ j ∈ Finset.range k.val, chosen (choices m c) e.val (1024 * t.val + j)))
      = rank (choices m c) r (tokenIn t k).val := by
    unfold rank
    refine Finset.sum_congr rfl fun e _ => congrArg₂ (· * ·) (hit_of_lt (choices m c) r e.val (tokenIn t k)).symm ?_
    exact (before_add (choices m c) e.val (1024 * t.val) k.val).symm
  refine (ranks_block (firsts m c t) (seconds m c t) v19 (iblk m c 1 t) (fun e => before (choices m c) e.val (1024 * t.val))
    (fun e j => chosen (choices m c) e.val (1024 * t.val + j)) (blk_triangle m c t) hv (fun e j => both_chosen m c t e.val j) r k _ hw ?_).trans
    (congrArg (BitVec.ofNat 32) hsum)
  rw [hsum]
  exact rank_lt _ _ _ (tokenIn t k).isLt

theorem carried_first (t : Fin cfg0.N) (h : t.val % 64 = 0) : carriedIn m c t (k0_pay2 (F := Ideal)) := fun e l => by
  have ht := step_lt t
  have h0 : 1024 * t.val = 0 := by omega
  rw [h0, before_zero]
  exact none_carried _

/-- The counts after a block. -/
theorem carry_at : ∀ (n : ℕ) (hn : n < cfg0.N) (e : Fin 16) (l : Fin 128),
    (outsAt0 m c n hn).2.2 (ValueIdx.ix2 e l) = num (before (choices m c) e.val (1024 * (n + 1)))
  | 0, hn, e, l => by
    have h : (outsAt0 m c 0 hn).2.2 = k0_pay1 (k0_pay5 (firsts m c ⟨0, hn⟩) (seconds m c ⟨0, hn⟩)) (k0_pay2 (F := Ideal)) := by
      rw [outsAt0_A m c ⟨0, hn⟩ rfl]; frame_out; rfl
    rw [h]
    exact carry_step m c ⟨0, hn⟩ _ (carried_first m c ⟨0, hn⟩ rfl) e l
  | n + 1, hn, e, l => by
    have hN : n + 1 < 64 := lt_of_lt_of_eq hn N_0
    have hm : ¬ (n + 1) % 64 = 0 := by omega
    have h : (outsAt0 m c (n + 1) hn).2.2 = k0_pay1 (k0_pay5 (firsts m c ⟨n + 1, hn⟩) (seconds m c ⟨n + 1, hn⟩)) (outsAt0 m c n (Nat.lt_of_succ_lt hn)).2.2 := by
      rw [outsAt0_B m c ⟨n + 1, hn⟩ hm]; frame_out
      exact congrArg (k0_pay1 _) (Memref.IsWhole.read_unread _ _)
    rw [h]
    exact carry_step m c ⟨n + 1, hn⟩ _ (fun e l => carry_at n (Nat.lt_of_succ_lt hn) e l) e l

/-- The counts written after a block are those carried on. -/
theorem counts_at (t : Fin cfg0.N) : (outsAt0 m c t.val t.isLt).2.1 = (outsAt0 m c t.val t.isLt).2.2 := by
  by_cases h : t.val % 64 = 0
  · have h1 : (outsAt0 m c t.val t.isLt).2.1 = k0_pay1 (k0_pay5 (firsts m c t) (seconds m c t)) (k0_pay2 (F := Ideal)) := by
      rw [outsAt0_A m c t h]; frame_out; rfl
    have h2 : (outsAt0 m c t.val t.isLt).2.2 = k0_pay1 (k0_pay5 (firsts m c t) (seconds m c t)) (k0_pay2 (F := Ideal)) := by
      rw [outsAt0_A m c t h]; frame_out; rfl
    rw [h1, h2]
  · have h1 : (outsAt0 m c t.val t.isLt).2.1 = k0_pay1 (k0_pay5 (firsts m c t) (seconds m c t)) (outsAt0 m c (t.val - 1) (Nat.lt_of_le_of_lt (Nat.sub_le _ _) t.isLt)).2.2 := by
      rw [outsAt0_B m c t h]; frame_out
      exact congrArg (k0_pay1 _) (Memref.IsWhole.read_unread _ _)
    have h2 : (outsAt0 m c t.val t.isLt).2.2 = k0_pay1 (k0_pay5 (firsts m c t) (seconds m c t)) (outsAt0 m c (t.val - 1) (Nat.lt_of_le_of_lt (Nat.sub_le _ _) t.isLt)).2.2 := by
      rw [outsAt0_B m c t h]; frame_out
      exact congrArg (k0_pay1 _) (Memref.IsWhole.read_unread _ _)
    rw [h1, h2]

/-- The first column of the zeros carried into the first block. -/
theorem first_column (t : Fin cfg0.N) (h : t.val % 64 = 0) (e : Fin 16) :
    (View.whole cc0_scratch0).readCov (Val := Elt Ideal) [(⟨Rect.unit ![0, 0] ![16, 128] inb_S16x128_S16x128_0_0, k0_pay2 (F := Ideal)⟩ : View.Piece (Elt Ideal) S16x128 .f32)]
      (Rect.unit (s := S16x128) ![0, 0] ![16, 1] inb_S16x128_S16x1_0_0).toLoadRect (ValueIdx.ix2 e (0 : Fin 1))
      = num (before (choices m c) e.val (1024 * t.val)) := by
  have h0 : (![0, 0] : Fin 2 → ℕ) = fun _ => 0 := funext fun a => by fin_cases a <;> rfl
  refine (congrFun (View.readCov_eq_canon_ld (Val := Elt Ideal) (View.whole cc0_scratch0)
    [(⟨Rect.unit ![0, 0] ![16, 128] inb_S16x128_S16x128_0_0, k0_pay2 (F := Ideal)⟩ : View.Piece (Elt Ideal) S16x128 .f32)]
    (Rect.unit (s := S16x128) ![0, 0] ![16, 1] inb_S16x128_S16x1_0_0) (fun y => ⟨_, List.mem_cons_self, by
      have hu : (Rect.unit (s := S16x128) ![0, 0] S16x128.size inb_S16x128_S16x128_0_0) = Rect.whole S16x128 := by
        unfold Rect.whole
        congr 1
      show y ∈ (Rect.unit (s := S16x128) ![0, 0] S16x128.size inb_S16x128_S16x128_0_0).set
      rw [hu, Rect.set_whole]; exact Finset.mem_univ y⟩)) (ValueIdx.ix2 e (0 : Fin 1) : S16x1.Idx)).trans ?_
  refine (congrArg (fun v : Vec Ideal S16x128 .f32 => View.ld v (Rect.unit ![0, 0] ![16, 1] inb_S16x128_S16x1_0_0) (ValueIdx.ix2 e (0 : Fin 1)))
    (View.canon_cons_unit_zero (Val := Elt Ideal) (S := S16x128) (e := .f32) h0 inb_S16x128_S16x128_0_0 (k0_pay2 (F := Ideal)) [])).trans ?_
  refine (View.ld_unit_apply_of _ _ _ _ _ (ValueIdx.ix2 e (0 : Fin 128) : S16x128.Idx) (fun a => by
      match a with
      | ⟨0, _⟩ => exact (Nat.zero_add _).symm
      | ⟨1, _⟩ => rfl)).trans (carried_first m c t h e 0)

/-- A block's ranks. -/
theorem ranks_at (t : Fin cfg0.N) (r : Fin 2) (k : Fin 1024) :
    (outsAt0 m c t.val t.isLt).1 (ValueIdx.ix2 r k) = BitVec.ofNat 32 (rank (choices m c) r (tokenIn t k).val) := by
  by_cases h : t.val % 64 = 0
  · rw [outsAt0_A m c t h]; frame_out
    refine ranks_step m c t _ (fun e => ?_) r k
    exact first_column m c t h e
  · rw [outsAt0_B m c t h]; frame_out
    refine ranks_step m c t _ (fun e => ?_) r k
    refine (congrFun (congrArg (fun v : Vec Ideal S16x128 .f32 => View.ld v (Rect.unit ![0, 0] ![16, 1] inb_S16x128_S16x1_0_0)) (Memref.IsWhole.read_unread _ _))
      (ValueIdx.ix2 e (0 : Fin 1))).trans ?_
    refine (View.ld_unit_apply_of _ _ _ _ _ (ValueIdx.ix2 e (0 : Fin 128) : S16x128.Idx) (fun a => by
      match a with
      | ⟨0, _⟩ => exact (Nat.zero_add _).symm
      | ⟨1, _⟩ => rfl)).trans ((carry_at m c (t.val - 1) _ e 0).trans (congrArg (fun n => num (before (choices m c) e.val (1024 * n))) ?_))
    have := step_lt t
    omega

/-! ## The arrays -/

/-- The ranks written. -/
theorem ranks_value : G2 m c = ranksAnswer (choices m c) := by
  funext i
  have h0 : (i 0).val < 2 := (i 0).isLt
  have h1 : (i 1).val < 65536 := (i 1).isLt
  have hq : pt2Of i = (i 1).val / 1024 := by
    show 64 * ((i 0).val / 2 - 0) + 1 * ((i 1).val / 1024 - 0) = _
    omega
  have hp : pt2Of i < cfg0.N := by
    rw [hq]
    exact lt_of_lt_of_eq (by omega) N_0.symm
  have hl : loc2Of i = ValueIdx.ix2 (i 0 : Fin 2) (⟨(i 1).val % 1024, Nat.mod_lt _ (by decide)⟩ : Fin 1024) := funext fun a => Fin.ext (by
    match a with
    | ⟨0, _⟩ => exact Nat.mod_eq_of_lt h0
    | ⟨1, _⟩ => rfl)
  unfold G2
  rw [dif_pos hp, ← outsAt0_sweep m c (pt2Of i) hp, hl]
  refine (ranks_at m c ⟨pt2Of i, hp⟩ (i 0) _).trans (congrArg (fun n => BitVec.ofNat 32 (rank (choices m c) (i 0) n)) ?_)
  show 1024 * pt2Of i + (i 1).val % 1024 = (i 1).val
  rw [hq]
  omega

/-- The counts written. -/
theorem counts_value : G3 m c = countsAnswer (choices m c) := by
  funext i
  have h0 : (i 0).val < 16 := (i 0).isLt
  have h1 : (i 1).val < 128 := (i 1).isLt
  have hq : pt3Of i = 63 := by
    unfold pt3Of run3Of
    omega
  have hp : pt3Of i < cfg0.N := by
    rw [hq]
    exact lt_of_lt_of_eq (by decide) N_0.symm
  have hl : loc3Of i = ValueIdx.ix2 (i 0 : Fin 16) (i 1 : Fin 128) := funext fun a => Fin.ext (by
    match a with
    | ⟨0, _⟩ => exact Nat.mod_eq_of_lt h0
    | ⟨1, _⟩ => exact Nat.mod_eq_of_lt h1)
  unfold G3
  rw [dif_pos hp, ← outsAt0_sweep m c (pt3Of i) hp, hl]
  refine (congrFun (counts_at m c ⟨pt3Of i, hp⟩) _).trans ((carry_at m c (pt3Of i) hp (i 0) (i 1)).trans
    (congrArg (fun n => num (before (choices m c) (i 0).val n)) ?_))
  rw [hq]

end Cert.Ranks

end
-- ==== Proof.RankRef.lean ====
/-
  The ranking's reference, read entry by entry: its zeros and ones, their sum over a token's two choices, the running sums along the
  tokens, and the sums that give the ranks and the counts, all of them words of small naturals.
-/
module

public import proofs.«01_k».proof.Proof.Gen.Reference4Ideal.Read
public import proofs.«01_k».proof.Proof.RankCount
public import Idealize.ShloMosaic.Lib.Routing.Ops

@[expose] public section

set_option maxRecDepth 16384

noncomputable section

namespace Cert.Ranks

open Cert.Reference4Ideal Cert.Reference4Ideal.Gen Cert.Reference4Ideal.Read
open Idealize.ShloMosaic Idealize.ShloMosaic.TcCoe
open scoped BigOperators

/-! ## Sums of words -/

theorem fold_words {ι : Type} [DecidableEq ι] (s : Finset ι) (g : ι → BitVec 32) (f : ι → ℕ) (hg : ∀ i, g i = BitVec.ofNat 32 (f i)) :
    s.fold IntOp.addi 0#32 g = BitVec.ofNat 32 (∑ i ∈ s, f i) := by
  induction s using Finset.induction_on with
  | empty => rfl
  | insert a s ha ih =>
    rw [Finset.fold_insert ha, Finset.sum_insert ha, ih, hg a, BitVec.ofNat_add]
    rfl

/-- A sum over one axis of words that hold naturals holds the naturals' sum. -/
theorem reduce_words {s t u : Shape} {a : Fin s.rank} (x : IVec s 32) (init : IVec u 32) (h' : s.ReducesTo [a] t) (h : s.Reduces [a] t) (hu : 0 < u.numel)
    (hinit : ∀ i, init i = 0#32) (j : t.Idx) (f : Fin (s.size a) → ℕ) (hx : ∀ k, x (h.lift j k) = BitVec.ofNat 32 (f k)) :
    Host.reduce IntOp.addi x init h' hu j = BitVec.ofNat 32 (∑ k, f k) := by
  rw [Host.reduce_eq_fold_single IntOp.addi x init h' h hu j, hinit]
  exact fold_words Finset.univ _ f hx

/-- Running sums along the second axis: a window of one row and the whole width, padded low by one less. -/
theorem cumsum_along {R N w : ℕ} (hN : w + 1 = N) (x : IVec ⟨2, ![R, N]⟩ 32) (f : ℕ → ℕ → ℕ)
    (hx : ∀ (r : Fin R) (i : Fin N), x (ValueIdx.ix2 r i) = BitVec.ofNat 32 (f r.val i.val)) (init : IVec ⟨0, ![]⟩ 32) (hinit : ∀ i, init i = 0#32)
    (h : (⟨2, ![R, N]⟩ : Shape).ReduceWindows (![1, N] : Fin 2 → Nat) ![1, 1] ![0, w] ![0, 0] ⟨2, ![R, N]⟩) (hu : 0 < (⟨0, ![]⟩ : Shape).numel) (r : Fin R)
    (j : Fin N) :
    Host.reduceWindow IntOp.addi ![1, N] ![1, 1] ![0, w] ![0, 0] x init h hu (ValueIdx.ix2 r j)
      = BitVec.ofNat 32 (∑ i ∈ Finset.range (j.val + 1), f r.val i) := by
  subst hN
  have hv : init (Shape.Idx.first hu) = BitVec.ofNat 32 0 := hinit _
  have hj := j.isLt
  have hr := r.isLt
  unfold Host.reduceWindow
  refine (Routing.foldl_addi_ofNat _ _ (fun n => if w ≤ j.val + n.val then f r.val (j.val + n.val - w) else 0) (fun n _ => ?_) _ 0 hv).trans ?_
  · have hw0 : ((Routing.shape2 1 (w + 1)).rowMajor.symm n 0).val = 0 := by rw [Routing.symm2]; rfl
    have hw1 : ((Routing.shape2 1 (w + 1)).rowMajor.symm n 1).val = n.val := by rw [Routing.symm2]; rfl
    have hn : n.val < w + 1 := (n.cast (Routing.numel2 _)).isLt
    dsimp only
    split
    · next hin =>
      have h1 := hin 1
      change w ≤ j.val * 1 + ((Routing.shape2 1 (w + 1)).rowMajor.symm n 1).val
        ∧ j.val * 1 + ((Routing.shape2 1 (w + 1)).rowMajor.symm n 1).val - w < w + 1 at h1
      rw [hw1] at h1
      rw [if_pos (by omega)]
      refine (congrArg x (funext fun a => Fin.ext ?_)).trans (hx r ⟨j.val + n.val - w, by omega⟩)
      match a with
      | ⟨0, _⟩ =>
        show r.val * 1 + ((Routing.shape2 1 (w + 1)).rowMajor.symm n 0).val - 0 = r.val
        rw [hw0]
        omega
      | ⟨1, _⟩ =>
        show j.val * 1 + ((Routing.shape2 1 (w + 1)).rowMajor.symm n 1).val - w = j.val + n.val - w
        rw [hw1, Nat.mul_one]
    · next hin =>
      rw [if_neg fun hle => hin fun a => by
        match a with
        | ⟨0, _⟩ =>
          show 0 ≤ r.val * 1 + ((Routing.shape2 1 (w + 1)).rowMajor.symm n 0).val ∧ r.val * 1 + ((Routing.shape2 1 (w + 1)).rowMajor.symm n 0).val - 0 < R
          rw [hw0]
          omega
        | ⟨1, _⟩ =>
          show w ≤ j.val * 1 + ((Routing.shape2 1 (w + 1)).rowMajor.symm n 1).val
            ∧ j.val * 1 + ((Routing.shape2 1 (w + 1)).rowMajor.symm n 1).val - w < w + 1
          rw [hw1]
          omega]
      exact hv
  · rw [Nat.zero_add, Routing.map_finRange_val _ (fun n => if w ≤ j.val + n then f r.val (j.val + n - w) else 0)]
    refine congrArg (BitVec.ofNat 32) (((congrArg (fun M => ((List.range M).map fun n => if w ≤ j.val + n then f r.val (j.val + n - w) else 0).sum)
      (Routing.numel2 (w + 1))).trans (Routing.sum_window (f r.val) w j.val (by omega))).trans ?_)
    exact range_sum _ _

/-! ## The stages -/

variable (E : Choices)

theorem hit_word (c : Fin 2) (e : Fin 16) (r : Fin 65536) : val_main_v6 (F := Ideal) E (ValueIdx.ix3 c e r) = BitVec.ofNat 32 (hit E c e.val r.val) := by
  rw [val_main_v6_apply, val_main_v5_apply, val_main_v3_apply, val_main_v0_apply, val_main_v4_apply, val_main_v2_apply, val_main_v1_apply, cmpi_comm, hit_of_lt]
  refine (setWidth_cmpi _ _).trans (congrArg (fun i => BitVec.ofNat 32 (bit (E i) e.val)) (funext fun a => ?_))
  match a with
  | ⟨0, _⟩ => rfl
  | ⟨1, _⟩ => rfl

theorem over_choices : S2x16x65536.Reduces [0] S16x65536 := by decide
theorem over_experts : S2x16x65536.Reduces [1] S2x65536 := by decide
theorem over_tokens : S16x65536.Reduces [1] S16 := by decide

theorem chosen_word (e : Fin 16) (r : Fin 65536) : val_main_v7 (F := Ideal) E (ValueIdx.ix2 e r) = BitVec.ofNat 32 (chosen E e.val r.val) := by
  unfold val_main_v7
  refine (reduce_words _ _ _ over_choices _ (fun _ => rfl) _ (fun k : Fin 2 => hit E k e.val r.val) (fun k => ?_)).trans (congrArg (BitVec.ofNat 32) (Fin.sum_univ_two _))
  refine (congrArg (val_main_v6 (F := Ideal) E) (funext fun a => Fin.ext ?_)).trans (hit_word E k e r)
  match a with
  | ⟨0, _⟩ => rfl
  | ⟨1, _⟩ => rfl
  | ⟨2, _⟩ => rfl

theorem upto_word (e : Fin 16) (r : Fin 65536) : val_main_v8 (F := Ideal) E (ValueIdx.ix2 e r) = BitVec.ofNat 32 (before E e.val (r.val + 1)) := by
  unfold val_main_v8
  exact cumsum_along (R := 16) (N := 65536) (w := 65535) rfl _ (fun e r => chosen E e r) (fun e r => chosen_word E e r) _ (fun _ => rfl) _ _ e r

theorem before_word (e : Fin 16) (r : Fin 65536) : val_main_v9 (F := Ideal) E (ValueIdx.ix2 e r) = BitVec.ofNat 32 (before E e.val r.val) := by
  rw [val_main_v9_apply, upto_word, chosen_word, before_succ, BitVec.ofNat_add]
  exact BitVec.add_sub_cancel _ _

theorem product_word (c : Fin 2) (e : Fin 16) (r : Fin 65536) :
    val_main_v12 (F := Ideal) E (ValueIdx.ix3 c e r) = BitVec.ofNat 32 (hit E c e.val r.val * before E e.val r.val) := by
  rw [val_main_v12_apply, hit_word, val_main_v11_apply, val_main_v10_apply, BitVec.ofNat_mul]
  refine congrArg (BitVec.ofNat 32 (hit E c e.val r.val) * ·) ((congrArg (val_main_v9 (F := Ideal) E) (funext fun a => ?_)).trans (before_word E e r))
  match a with
  | ⟨0, _⟩ => rfl
  | ⟨1, _⟩ => rfl

theorem rank_word (c : Fin 2) (r : Fin 65536) : val_main_v13 (F := Ideal) E (ValueIdx.ix2 c r) = BitVec.ofNat 32 (rank E c r.val) := by
  unfold val_main_v13
  refine reduce_words _ _ _ over_experts _ (fun _ => rfl) _ (fun e : Fin 16 => hit E c e.val r.val * before E e.val r.val) (fun k => ?_)
  refine (congrArg (val_main_v12 (F := Ideal) E) (funext fun a => Fin.ext ?_)).trans (product_word E c k r)
  match a with
  | ⟨0, _⟩ => rfl
  | ⟨1, _⟩ => rfl
  | ⟨2, _⟩ => rfl

theorem count_word (e : Fin 16) (i : S16.Idx) (hi : (i 0).val = e.val) : val_main_v14 (F := Ideal) E i = BitVec.ofNat 32 (before E e.val 65536) := by
  unfold val_main_v14
  refine (reduce_words _ _ _ over_tokens _ (fun _ => rfl) _ (fun r : Fin 65536 => chosen E e.val r.val) (fun k => ?_)).trans
    (congrArg (BitVec.ofNat 32) (Fin.sum_univ_eq_sum_range (fun r => chosen E e.val r) 65536))
  refine (congrArg (val_main_v7 (F := Ideal) E) (funext fun a => Fin.ext ?_)).trans (chosen_word E e k)
  match a with
  | ⟨0, _⟩ => exact hi
  | ⟨1, _⟩ => rfl

/-! ## The results -/

theorem ref_ranks : val_main_v13 (F := Ideal) E = ranksAnswer E := by
  funext i
  refine (congrArg (val_main_v13 (F := Ideal) E) (?_ : i = ValueIdx.ix2 (i 0 : Fin 2) (i 1 : Fin 65536))).trans (rank_word E (i 0) (i 1))
  exact funext fun a => by
    match a with
    | ⟨0, _⟩ => rfl
    | ⟨1, _⟩ => rfl

theorem ref_counts : val_main_v17 (F := Ideal) E = countsAnswer E := by
  funext i
  have hb := before_le E (i 0).val 65536
  rw [val_main_v17_apply, val_main_v16_apply, val_main_v15_apply, count_word E (i 0) _ rfl]
  exact small_float _ (lt_of_le_of_lt hb (by decide))

end Cert.Ranks

end
-- ==== Proof.RankClaims.lean ====
/-
  The ranking's equation: the kernel's ranks and counts and the reference's are the same arrays over the extended reals; and the
  reference's own run.
-/
module

public import proofs.«01_k».proof.Defs
public import proofs.«01_k».proof.Proof.Gen.Kernel4Ideal.Value
public import proofs.«01_k».proof.Proof.Gen.Reference4Ideal.Run
public import proofs.«01_k».proof.Proof.RankArray
public import proofs.«01_k».proof.Proof.RankRef
public import Idealize.ShloMosaic.Lib.Quiescent

@[expose] public section

set_option maxRecDepth 16384

noncomputable section

namespace Cert.Ranks

open Idealize.ShloMosaic Idealize.ShloMosaic.TcCoe Idealize.ShloMosaic.Tactic
open Idealize.SL.Sem

/-- The reference runs, keeps its argument and has no semaphore. -/
theorem frame_reference : Cert.quiescent_Reference4Ideal (hReference4Ideal := Cert.Reference4Ideal.Gen.facts) := fun m ρ _ =>
  (θ_run Cert.Reference4Ideal.defs _ _).mono
    (fun r h => ⟨fun c => (h c).2.2, sem_eq_zero_of_no_sems (by decide) r.2⟩)
    (Cert.Reference4Ideal.Value.run (F := Ideal) m ρ)

/-- Both runs end with the same ranks and the same counts. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => ranksAnswer (choices m c), fun c => countsAnswer (choices m c), ?_, ?_⟩
  · refine (θ_run Cert.Kernel4Ideal.defs _ _).mono (fun r h c => ?_) (Cert.Kernel4Ideal.Value.run m g)
    obtain ⟨h0, h1, hk⟩ := h c
    exact ⟨h0.trans (ranks_value m c), h1.trans (counts_value m c), hk⟩
  · refine (θ_run Cert.Reference4Ideal.defs _ _).mono (fun r h c => ?_) (Cert.Reference4Ideal.Value.run (F := Ideal) m' g')
    obtain ⟨h0, h1, hk⟩ := h c
    have e0 := hargs c
    refine ⟨?_, ?_, hk⟩
    · refine h0.trans ((Cert.Reference4Ideal.Read.val_main_v13_eq _).trans ?_)
      rw [e0]
      exact ref_ranks _
    · refine h1.trans ((Cert.Reference4Ideal.Read.val_main_v17_eq _).trans ?_)
      rw [e0]
      exact ref_counts _

end Cert.Ranks

end
-- ==== Proof.lean ====
/-
  The claim, assembled: for each of the four calls the three frames (Frames, Same, RefFrame; the generated ones and FfnAlgebraic;
  CombineClaims; the generated ones and RankClaims), that no rewrite was made, and the equation (Algebraic, FfnAlgebraic, CombineClaims,
  RankClaims).
-/
module

public import proofs.«01_k».proof.Defs
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Frame
public import proofs.«01_k».proof.Proof.Gen.Kernel4Ideal.Value
public import proofs.«01_k».proof.Proof.Gen.Kernel4
public import proofs.«01_k».proof.Proof.Gen.Kernel4.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Same
public import proofs.«01_k».proof.Proof.RefFrame
public import proofs.«01_k».proof.Proof.Algebraic
public import proofs.«01_k».proof.Proof.FfnAlgebraic
public import proofs.«01_k».proof.Proof.CombineClaims
public import proofs.«01_k».proof.Proof.RankClaims
public import Idealize.ShloMosaic.Adequacy
public import Idealize.ShloMosaic.Init

@[expose] public section

noncomputable section

namespace Cert.Proof

open Idealize.ShloMosaic Idealize.SL.Sem Cert.Experts

/-- For the experts' call, for the dense layer's, for the combining one and for the ranking of the choices: the kernel's run, its ideal form's and the
reference's; that the ideal form is the same text; and that the results are the same arrays over the extended reals, the experts'
when the counts are ones that the routing can give, the combining kernel's when every place is one of the experts' rows. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts, Cert.Experts.preFacts, Cert.Combine.preFacts,
    frame_kernel, frame_kernelIdeal, fun m g _ => frame_kernelIdeal m g trivial,
    frame_reference, fun m g _ => frame_reference m g trivial,
    fun m g _ => Cert.Kernel2.Gen.frame m g, fun m g _ => Cert.Kernel2Ideal.Gen.frame m g, Cert.Ffn.frame_reference,
    Cert.Combine.frame_kernel, Cert.Combine.frame_kernelIdeal, Cert.Combine.frame_reference,
    fun m g _ => Cert.Combine.frame_reference m g trivial,
    fun m g _ => Cert.Kernel4.Gen.frame m g, fun m g _ => Cert.Kernel4Ideal.Gen.frame m g, Cert.Ranks.frame_reference,
    trivial, algebraic, trivial, Cert.Ffn.algebraic, trivial, Cert.Combine.algebraic,
    trivial, Cert.Ranks.algebraic⟩

end Cert.Proof

end
